-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v62) = v0 c
          ∧ r.2.mem ((c.tc : Thread Cert.Reference9Ideal.nD Cert.Reference9Ideal.τ).loc Cert.Reference9Ideal.main_v94) = v1 c
          ∧ r.2.mem ((c.tc : Thread Cert.Reference9Ideal.nD Cert.Reference9Ideal.τ).loc Cert.Reference9Ideal.main_v95) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite4 : Cert.Pre_finite4.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
-- ==== Pre_finite.lean ====
abbrev S9216x1024 : Shape := ⟨2, ![9216, 1024]⟩
abbrev S9216x512 : Shape := ⟨2, ![9216, 512]⟩
abbrev S_ : Shape := ⟨0, ![]⟩

class Facts : Prop where
  bcast_S_S9216x1024 : S_.BroadcastsInDim S9216x1024 (![] : Fin 0 → Fin S9216x1024.rank)
  bcast_S_S9216x512 : S_.BroadcastsInDim S9216x512 (![] : Fin 0 → Fin S9216x512.rank)

variable [Facts]

def fn {F : FTy → Type} [FloatOps F] (main_arg0 : FVec F S9216x1024 .f32) (main_arg1 : FVec F S9216x1024 .f32) (main_arg2 : FVec F S9216x512 .f32) (main_arg3 : FVec F S9216x512 .f32) : IVec S9216x1024 1 × IVec S9216x1024 1 × IVec S9216x512 1 × IVec S9216x512 1 :=
  let main_v0 : FVec F S9216x1024 .f32 := Host.absf main_arg0
  let main_cst : FVec F S_ .f32 := constant S_ .f32 0x7F800000#32
  let main_v1 : FVec F S9216x1024 .f32 := broadcastInDim S9216x1024 ![] bcast_S_S9216x1024 main_cst
  let main_v2 : IVec S9216x1024 1 := cmpf .olt main_v0 main_v1
  let main_v3 : FVec F S9216x1024 .f32 := Host.absf main_arg1
  let main_cst_0 : FVec F S_ .f32 := constant S_ .f32 0x7F800000#32
  let main_v4 : FVec F S9216x1024 .f32 := broadcastInDim S9216x1024 ![] bcast_S_S9216x1024 main_cst_0
  let main_v5 : IVec S9216x1024 1 := cmpf .olt main_v3 main_v4
  let main_v6 : FVec F S9216x512 .f32 := Host.absf main_arg2
  let main_cst_1 : FVec F S_ .f32 := constant S_ .f32 0x7F800000#32
  let main_v7 : FVec F S9216x512 .f32 := broadcastInDim S9216x512 ![] bcast_S_S9216x512 main_cst_1
  let main_v8 : IVec S9216x512 1 := cmpf .olt main_v6 main_v7
  let main_v9 : FVec F S9216x512 .f32 := Host.absf main_arg3
  let main_cst_2 : FVec F S_ .f32 := constant S_ .f32 0x7F800000#32
  let main_v10 : FVec F S9216x512 .f32 := broadcastInDim S9216x512 ![] bcast_S_S9216x512 main_cst_2
  let main_v11 : IVec S9216x512 1 := cmpf .olt main_v9 main_v10
  (main_v2, main_v5, main_v8, main_v11)
-- ==== Pre_finite10.lean ====
abbrev S9216x1024 : Shape := ⟨2, ![9216, 1024]⟩
abbrev S9216x512 : Shape := ⟨2, ![9216, 512]⟩
abbrev S_ : Shape := ⟨0, ![]⟩

class Facts : Prop where
  bcast_S_S9216x1024 : S_.BroadcastsInDim S9216x1024 (![] : Fin 0 → Fin S9216x1024.rank)

variable [Facts]

def fn {F : FTy → Type} [FloatOps F] (main_arg0 : FVec F S9216x1024 .f32) (main_arg1 : FVec F S9216x1024 .f32) (main_arg2 : FVec F S9216x512 .f32) : IVec S9216x1024 1 × IVec S9216x1024 1 :=
  let main_v0 : FVec F S9216x1024 .f32 := Host.absf main_arg0
  let main_cst : FVec F S_ .f32 := constant S_ .f32 0x7F800000#32
  let main_v1 : FVec F S9216x1024 .f32 := broadcastInDim S9216x1024 ![] bcast_S_S9216x1024 main_cst
  let main_v2 : IVec S9216x1024 1 := cmpf .olt main_v0 main_v1
  let main_v3 : FVec F S9216x1024 .f32 := Host.absf main_arg1
  let main_cst_0 : FVec F S_ .f32 := constant S_ .f32 0x7F800000#32
  let main_v4 : FVec F S9216x1024 .f32 := broadcastInDim S9216x1024 ![] bcast_S_S9216x1024 main_cst_0
  let main_v5 : IVec S9216x1024 1 := cmpf .olt main_v3 main_v4
  (main_v2, main_v5)
-- ==== Pre_finite4.lean ====
abbrev S9216x5632 : Shape := ⟨2, ![9216, 5632]⟩
abbrev S2816x1024 : Shape := ⟨2, ![2816, 1024]⟩
abbrev S9216x1024 : Shape := ⟨2, ![9216, 1024]⟩
abbrev S_ : Shape := ⟨0, ![]⟩

class Facts : Prop where
  bcast_S_S9216x5632 : S_.BroadcastsInDim S9216x5632 (![] : Fin 0 → Fin S9216x5632.rank)
  bcast_S_S2816x1024 : S_.BroadcastsInDim S2816x1024 (![] : Fin 0 → Fin S2816x1024.rank)
  bcast_S_S9216x1024 : S_.BroadcastsInDim S9216x1024 (![] : Fin 0 → Fin S9216x1024.rank)

variable [Facts]

def fn {F : FTy → Type} [FloatOps F] (main_arg0 : FVec F S9216x5632 .f32) (main_arg1 : FVec F S2816x1024 .f32) (main_arg2 : FVec F S9216x1024 .f32) : IVec S9216x5632 1 × IVec S2816x1024 1 × IVec S9216x1024 1 :=
  let main_v0 : FVec F S9216x5632 .f32 := Host.absf main_arg0
  let main_cst : FVec F S_ .f32 := constant S_ .f32 0x7F800000#32
  let main_v1 : FVec F S9216x5632 .f32 := broadcastInDim S9216x5632 ![] bcast_S_S9216x5632 main_cst
  let main_v2 : IVec S9216x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S9216x1024 .f32 := Host.absf main_arg2
  let main_cst_1 : FVec F S_ .f32 := constant S_ .f32 0x7F800000#32
  let main_v7 : FVec F S9216x1024 .f32 := broadcastInDim S9216x1024 ![] bcast_S_S9216x1024 main_cst_1
  let main_v8 : IVec S9216x1024 1 := cmpf .olt main_v6 main_v7
  (main_v2, main_v5, main_v8)
-- ==== Kernel.lean ====
abbrev S9216x1024 : Shape := ⟨2, ![9216, 1024]⟩
abbrev S9216x512 : Shape := ⟨2, ![9216, 512]⟩
abbrev S4x2304x8x128 : Shape := ⟨4, ![4, 2304, 8, 128]⟩
abbrev S4x2304x8x64 : Shape := ⟨4, ![4, 2304, 8, 64]⟩
abbrev S4x256x8x128 : Shape := ⟨4, ![4, 256, 8, 128]⟩
abbrev S4x256x8x64 : Shape := ⟨4, ![4, 256, 8, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x256x8x1 : Shape := ⟨4, ![4, 256, 8, 1]⟩
abbrev S4x2048x8x128 : Shape := ⟨4, ![4, 2048, 8, 128]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x64 : Shape := ⟨4, ![4, 2048, 8, 64]⟩
abbrev S4x2048x8x1 : Shape := ⟨4, ![4, 2048, 8, 1]⟩
abbrev S4x2304x8x1 : Shape := ⟨4, ![4, 2304, 8, 1]⟩
abbrev S256x256 : Shape := ⟨2, ![256, 256]⟩
abbrev S2304x256 : Shape := ⟨2, ![2304, 256]⟩
abbrev S2304x128 : Shape := ⟨2, ![2304, 128]⟩
abbrev S256x128 : Shape := ⟨2, ![256, 128]⟩
abbrev S256x2304 : Shape := ⟨2, ![256, 2304]⟩
abbrev S128x2304 : Shape := ⟨2, ![128, 2304]⟩
abbrev S256 : Shape := ⟨1, ![256]⟩
abbrev S256x1 : Shape := ⟨2, ![256, 1]⟩
abbrev S128x256 : Shape := ⟨2, ![128, 256]⟩

abbrev nBuf : Space → Nat
  | .hbm => 56
  | .vmem => 20
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x512, .f32⟩
  | .hbm, ⟨3, _⟩ => ⟨S9216x512, .f32⟩
  | .hbm, ⟨4, _⟩ => ⟨S4x2304x8x128, .f32⟩
  | .hbm, ⟨5, _⟩ => ⟨S4x2304x8x128, .f32⟩
  | .hbm, ⟨6, _⟩ => ⟨S4x2304x8x64, .f32⟩
  | .hbm, ⟨7, _⟩ => ⟨S4x256x8x128, .f32⟩
  | .hbm, ⟨8, _⟩ => ⟨S4x256x8x128, .f32⟩
  | .hbm, ⟨9, _⟩ => ⟨S4x256x8x64, .f32⟩
  | .hbm, ⟨10, _⟩ => ⟨S4x8x256x256, .f32⟩
  | .hbm, ⟨11, _⟩ => ⟨S_, .f32⟩
  | .hbm, ⟨12, _⟩ => ⟨S4x8x256, .f32⟩
  | .hbm, ⟨13, _⟩ => ⟨S4x8x256x1, .f32⟩
  | .hbm, ⟨14, _⟩ => ⟨S4x8x256x256, .f32⟩
  | .hbm, ⟨15, _⟩ => ⟨S4x8x256x256, .f32⟩
  | .hbm, ⟨16, _⟩ => ⟨S4x8x256x256, .f32⟩
  | .hbm, ⟨17, _⟩ => ⟨S_, .f32⟩
  | .hbm, ⟨18, _⟩ => ⟨S4x8x256, .f32⟩
  | .hbm, ⟨19, _⟩ => ⟨S4x8x256x1, .f32⟩
  | .hbm, ⟨20, _⟩ => ⟨S4x8x256x256, .f32⟩
  | .hbm, ⟨21, _⟩ => ⟨S4x8x256x256, .f32⟩
  | .hbm, ⟨22, _⟩ => ⟨S4x8x64x256, .f32⟩
  | .hbm, ⟨23, _⟩ => ⟨S4x256x8x64, .f32⟩
  | .hbm, ⟨24, _⟩ => ⟨S4x8x256x1, .f32⟩
  | .hbm, ⟨25, _⟩ => ⟨S4x8x256x1, .f32⟩
  | .hbm, ⟨26, _⟩ => ⟨S4x256x8x1, .f32⟩
  | .hbm, ⟨27, _⟩ => ⟨S4x2048x8x128, .f32⟩
  | .hbm, ⟨28, _⟩ => ⟨S4x8x2048x2304, .f32⟩
  | .hbm, ⟨29, _⟩ => ⟨S_, .f32⟩
  | .hbm, ⟨30, _⟩ => ⟨S4x8x2048, .f32⟩
  | .hbm, ⟨31, _⟩ => ⟨S4x8x2048x1, .f32⟩
  | .hbm, ⟨32, _⟩ => ⟨S4x8x2048x2304, .f32⟩
  | .hbm, ⟨33, _⟩ => ⟨S4x8x2048x2304, .f32⟩
  | .hbm, ⟨34, _⟩ => ⟨S4x8x2048x2304, .f32⟩
  | .hbm, ⟨35, _⟩ => ⟨S_, .f32⟩
  | .hbm, ⟨36, _⟩ => ⟨S4x8x2048, .f32⟩
  | .hbm, ⟨37, _⟩ => ⟨S4x8x2048x1, .f32⟩
  | .hbm, ⟨38, _⟩ => ⟨S4x8x2048x2304, .f32⟩
  | .hbm, ⟨39, _⟩ => ⟨S4x8x2048x2304, .f32⟩
  | .hbm, ⟨40, _⟩ => ⟨S4x8x64x2048, .f32⟩
  | .hbm, ⟨41, _⟩ => ⟨S4x2048x8x64, .f32⟩
  | .hbm, ⟨42, _⟩ => ⟨S4x8x2048x1, .f32⟩
  | .hbm, ⟨43, _⟩ => ⟨S4x8x2048x1, .f32⟩
  | .hbm, ⟨44, _⟩ => ⟨S4x2048x8x1, .f32⟩
  | .hbm, ⟨45, _⟩ => ⟨S4x2304x8x64, .f32⟩
  | .hbm, ⟨46, _⟩ => ⟨S9216x512, .f32⟩
  | .hbm, ⟨47, _⟩ => ⟨S4x2304x8x1, .f32⟩
  | .hbm, ⟨48, _⟩ => ⟨S4x2304x8x64, .f32⟩
  | .hbm, ⟨49, _⟩ => ⟨S9216x512, .f32⟩
  | .hbm, ⟨50, _⟩ => ⟨S9216x1024, .bf16⟩
  | .hbm, ⟨51, _⟩ => ⟨S9216x1024, .bf16⟩
  | .hbm, ⟨52, _⟩ => ⟨S9216x512, .bf16⟩
  | .hbm, ⟨53, _⟩ => ⟨S9216x1024, .f32⟩
  | .hbm, ⟨54, _⟩ => ⟨S9216x1024, .f32⟩
  | .hbm, ⟨55, _⟩ => ⟨S9216x512, .f32⟩
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x256, .f32⟩
  | .local _ .vmem, ⟨13, _⟩ => ⟨S256x256, .f32⟩
  | .local _ .vmem, ⟨14, _⟩ => ⟨S2304x256, .f32⟩
  | .local _ .vmem, ⟨15, _⟩ => ⟨S2304x256, .f32⟩
  | .local _ .vmem, ⟨16, _⟩ => ⟨S2304x128, .f32⟩
  | .local _ .vmem, ⟨17, _⟩ => ⟨S2304x128, .f32⟩
  | .local _ .vmem, ⟨18, _⟩ => ⟨S256x2304, .f32⟩
  | .local _ .vmem, ⟨19, _⟩ => ⟨S128x2304, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45_0 : Ref sig .tc := ⟨.hbm, 53, rfl⟩
abbrev main_v45_1 : Ref sig .tc := ⟨.hbm, 54, rfl⟩
abbrev main_v45_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 9], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c0_i32_3 : BitVec 32 := 0#32
  let v6 : BitVec 1 := Scalar.cmpi .sgt arg2 c0_i32_3
  let v7 : BitVec 32 := Scalar.extui v6
  let c0_i32_4 : BitVec 32 := 0#32
  let v8 : BitVec 1 := Scalar.cmpi .ne v7 c0_i32_4
  v8

def k0_cond4 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2304x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S9216x1024 : Shape := ⟨2, ![9216, 1024]⟩
abbrev S9216x512 : Shape := ⟨2, ![9216, 512]⟩
abbrev S4x2304x8x128 : Shape := ⟨4, ![4, 2304, 8, 128]⟩
abbrev S4x2304x8x64 : Shape := ⟨4, ![4, 2304, 8, 64]⟩
abbrev S4x256x8x128 : Shape := ⟨4, ![4, 256, 8, 128]⟩
abbrev S4x256x8x64 : Shape := ⟨4, ![4, 256, 8, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x2048x8x128 : Shape := ⟨4, ![4, 2048, 8, 128]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x64 : Shape := ⟨4, ![4, 2048, 8, 64]⟩
abbrev S4x8x64x2304 : Shape := ⟨4, ![4, 8, 64, 2304]⟩
abbrev S4x8x2304x128 : Shape := ⟨4, ![4, 8, 2304, 128]⟩
abbrev S4x8x2048x128 : Shape := ⟨4, ![4, 8, 2048, 128]⟩
abbrev S4x8x256x128 : Shape := ⟨4, ![4, 8, 256, 128]⟩

abbrev nBuf : Space → Nat
  | .hbm => 156
  | .vmem => 0
  | .smem => 0
  | _ => 0

abbrev hbmTy0_0 (i : Nat) : BufTy := match i % 128 with
  | 0 => ⟨S9216x1024, .f32⟩
  | 1 => ⟨S9216x1024, .f32⟩
  | 2 => ⟨S9216x512, .f32⟩
  | 3 => ⟨S9216x512, .f32⟩
  | 4 => ⟨S4x2304x8x128, .f32⟩
  | 5 => ⟨S4x2304x8x128, .f32⟩
  | 6 => ⟨S4x2304x8x64, .f32⟩
  | 7 => ⟨S4x256x8x128, .f32⟩
  | 8 => ⟨S4x256x8x128, .f32⟩
  | 9 => ⟨S4x256x8x64, .f32⟩
  | 10 => ⟨S4x8x256x256, .f32⟩
  | 11 => ⟨S_, .f32⟩
  | 12 => ⟨S4x8x256, .f32⟩
  | 13 => ⟨S4x8x256x1, .f32⟩
  | 14 => ⟨S4x8x256x256, .f32⟩
  | 15 => ⟨S4x8x256x256, .i1⟩
  | 16 => ⟨S4x8x256x256, .f32⟩
  | 17 => ⟨S_, .f32⟩
  | 18 => ⟨S4x8x256, .f32⟩
  | 19 => ⟨S_, .f32⟩
  | 20 => ⟨S4x8x256, .f32⟩
  | 21 => ⟨S4x8x256, .f32⟩
  | 22 => ⟨S_, .f32⟩
  | 23 => ⟨S4x8x256, .f32⟩
  | 24 => ⟨S4x8x256, .i1⟩
  | 25 => ⟨S_, .f32⟩
  | 26 => ⟨S4x8x256, .f32⟩
  | 27 => ⟨S4x8x256, .i1⟩
  | 28 => ⟨S_, .f32⟩
  | 29 => ⟨S4x8x256, .f32⟩
  | 30 => ⟨S_, .f32⟩
  | 31 => ⟨S4x8x256, .f32⟩
  | 32 => ⟨S_, .f32⟩
  | 33 => ⟨S4x8x256, .f32⟩
  | 34 => ⟨S4x8x256, .f32⟩
  | 35 => ⟨S4x8x256, .f32⟩
  | 36 => ⟨S4x8x256x1, .f32⟩
  | 37 => ⟨S4x8x256x256, .f32⟩
  | 38 => ⟨S4x8x256x256, .f32⟩
  | 39 => ⟨S4x8x256x256, .f32⟩
  | 40 => ⟨S_, .f32⟩
  | 41 => ⟨S4x8x256, .f32⟩
  | 42 => ⟨S4x8x256x1, .f32⟩
  | 43 => ⟨S4x8x256x256, .f32⟩
  | 44 => ⟨S4x8x256x256, .f32⟩
  | 45 => ⟨S4x8x256x1, .f32⟩
  | 46 => ⟨S_, .f32⟩
  | 47 => ⟨S4x8x256x1, .f32⟩
  | 48 => ⟨S4x8x256x1, .f32⟩
  | 49 => ⟨S4x8x64x256, .f32⟩
  | 50 => ⟨S4x256x8x64, .f32⟩
  | 51 => ⟨S4x2048x8x128, .f32⟩
  | 52 => ⟨S4x8x2048x2304, .f32⟩
  | 53 => ⟨S_, .f32⟩
  | 54 => ⟨S4x8x2048, .f32⟩
  | 55 => ⟨S4x8x2048x1, .f32⟩
  | 56 => ⟨S4x8x2048x2304, .f32⟩
  | 57 => ⟨S4x8x2048x2304, .i1⟩
  | 58 => ⟨S4x8x2048x2304, .f32⟩
  | 59 => ⟨S_, .f32⟩
  | 60 => ⟨S4x8x2048, .f32⟩
  | 61 => ⟨S_, .f32⟩
  | 62 => ⟨S4x8x2048, .f32⟩
  | 63 => ⟨S4x8x2048, .f32⟩
  | 64 => ⟨S_, .f32⟩
  | 65 => ⟨S4x8x2048, .f32⟩
  | 66 => ⟨S4x8x2048, .i1⟩
  | 67 => ⟨S_, .f32⟩
  | 68 => ⟨S4x8x2048, .f32⟩
  | 69 => ⟨S4x8x2048, .i1⟩
  | 70 => ⟨S_, .f32⟩
  | 71 => ⟨S4x8x2048, .f32⟩
  | 72 => ⟨S_, .f32⟩
  | 73 => ⟨S4x8x2048, .f32⟩
  | 74 => ⟨S_, .f32⟩
  | 75 => ⟨S4x8x2048, .f32⟩
  | 76 => ⟨S4x8x2048, .f32⟩
  | 77 => ⟨S4x8x2048, .f32⟩
  | 78 => ⟨S4x8x2048x1, .f32⟩
  | 79 => ⟨S4x8x2048x2304, .f32⟩
  | 80 => ⟨S4x8x2048x2304, .f32⟩
  | 81 => ⟨S4x8x2048x2304, .f32⟩
  | 82 => ⟨S_, .f32⟩
  | 83 => ⟨S4x8x2048, .f32⟩
  | 84 => ⟨S4x8x2048x1, .f32⟩
  | 85 => ⟨S4x8x2048x2304, .f32⟩
  | 86 => ⟨S4x8x2048x2304, .f32⟩
  | 87 => ⟨S4x8x2048x1, .f32⟩
  | 88 => ⟨S_, .f32⟩
  | 89 => ⟨S4x8x2048x1, .f32⟩
  | 90 => ⟨S4x8x2048x1, .f32⟩
  | 91 => ⟨S4x8x64x2048, .f32⟩
  | 92 => ⟨S4x2048x8x64, .f32⟩
  | 93 => ⟨S4x2304x8x64, .f32⟩
  | 94 => ⟨S9216x512, .f32⟩
  | 95 => ⟨S4x2304x8x64, .f32⟩
  | 96 => ⟨S4x256x8x64, .f32⟩
  | 97 => ⟨S4x2048x8x64, .f32⟩
  | 98 => ⟨S4x8x64x2048, .f32⟩
  | 99 => ⟨S4x8x2048x2304, .f32⟩
  | 100 => ⟨S4x8x64x2304, .f32⟩
  | 101 => ⟨S4x2304x8x64, .f32⟩
  | 102 => ⟨S4x8x2048x2304, .f32⟩
  | 103 => ⟨S4x8x2048x2304, .f32⟩
  | 104 => ⟨S4x8x2048x2304, .f32⟩
  | 105 => ⟨S_, .f32⟩
  | 106 => ⟨S4x8x2048, .f32⟩
  | 107 => ⟨S4x8x2048x1, .f32⟩
  | 108 => ⟨S4x8x2048x1, .f32⟩
  | 109 => ⟨S4x8x2048x2304, .f32⟩
  | 110 => ⟨S4x8x2048x2304, .f32⟩
  | 111 => ⟨S_, .f32⟩
  | 112 => ⟨S4x8x2048, .f32⟩
  | 113 => ⟨S4x8x2048x2304, .f32⟩
  | 114 => ⟨S4x8x2048x2304, .f32⟩
  | 115 => ⟨S4x8x2048x2304, .f32⟩
  | 116 => ⟨S4x8x2304x128, .f32⟩
  | 117 => ⟨S4x2304x8x128, .f32⟩
  | 118 => ⟨S4x8x2048x128, .f32⟩
  | 119 => ⟨S4x2048x8x128, .f32⟩
  | 120 => ⟨S_, .f32⟩
  | 121 => ⟨S4x2304x8x128, .f32⟩
  | 122 => ⟨S4x8x64x256, .f32⟩
  | 123 => ⟨S4x8x256x256, .f32⟩
  | 124 => ⟨S4x8x64x256, .f32⟩
  | 125 => ⟨S4x256x8x64, .f32⟩
  | 126 => ⟨S4x8x256x256, .f32⟩
  | 127 => ⟨S4x8x256x256, .f32⟩
  | _ => ⟨S9216x1024, .f32⟩

abbrev hbmTy0_1 (i : Nat) : BufTy := match i % 128 with
  | 0 => ⟨S4x8x256x256, .f32⟩
  | 1 => ⟨S_, .f32⟩
  | 2 => ⟨S4x8x256, .f32⟩
  | 3 => ⟨S4x8x256x1, .f32⟩
  | 4 => ⟨S4x8x256x1, .f32⟩
  | 5 => ⟨S4x8x256x256, .f32⟩
  | 6 => ⟨S4x8x256x256, .f32⟩
  | 7 => ⟨S_, .f32⟩
  | 8 => ⟨S4x8x256, .f32⟩
  | 9 => ⟨S4x8x256x256, .f32⟩
  | 10 => ⟨S4x8x256x256, .f32⟩
  | 11 => ⟨S4x8x256x256, .f32⟩
  | 12 => ⟨S4x8x256x128, .f32⟩
  | 13 => ⟨S4x256x8x128, .f32⟩
  | 14 => ⟨S4x8x256x128, .f32⟩
  | 15 => ⟨S4x256x8x128, .f32⟩
  | 16 => ⟨S_, .f32⟩
  | 17 => ⟨S4x2304x8x64, .f32⟩
  | 18 => ⟨S4x2304x8x64, .f32⟩
  | 19 => ⟨S_, .f32⟩
  | 20 => ⟨S4x2304x8x128, .f32⟩
  | 21 => ⟨S4x2304x8x128, .f32⟩
  | 22 => ⟨S_, .f32⟩
  | 23 => ⟨S4x2304x8x128, .f32⟩
  | 24 => ⟨S4x2304x8x128, .f32⟩
  | 25 => ⟨S9216x512, .f32⟩
  | 26 => ⟨S9216x1024, .f32⟩
  | 27 => ⟨S9216x1024, .f32⟩
  | _ => ⟨S9216x1024, .f32⟩

abbrev hbmTy (i : Nat) : BufTy := match i / 128 with
  | 0 => hbmTy0_0 i
  | 1 => hbmTy0_1 i
  | _ => ⟨S9216x1024, .f32⟩

abbrev bufTy : (tb : Table) → Fin (tcTables nBuf tb) → BufTy
  | .hbm, ⟨i, _⟩ => hbmTy i
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_cst_15 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_18 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_19 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_20 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_21 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_22 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_23 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_24 : Ref sig .tc := ⟨.hbm, 144, rfl⟩
abbrev main_v115 : Ref sig .tc := ⟨.hbm, 145, rfl⟩
abbrev main_v116 : Ref sig .tc := ⟨.hbm, 146, rfl⟩
abbrev main_cst_25 : Ref sig .tc := ⟨.hbm, 147, rfl⟩
abbrev main_v117 : Ref sig .tc := ⟨.hbm, 148, rfl⟩
abbrev main_v118 : Ref sig .tc := ⟨.hbm, 149, rfl⟩
abbrev main_cst_26 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩

abbrev nD : Nat := 1
abbrev τ : Topo := Topo.v7x

variable {F : FTy → Type} [FloatOps F]
-- ==== Kernel2.lean ====
abbrev S9216x5632 : Shape := ⟨2, ![9216, 5632]⟩
abbrev S9216x1024 : Shape := ⟨2, ![9216, 1024]⟩
abbrev S36x8x1024 : Shape := ⟨3, ![36, 8, 1024]⟩
abbrev S5632x1024 : Shape := ⟨2, ![5632, 1024]⟩
abbrev S256x2816 : Shape := ⟨2, ![256, 2816]⟩
abbrev S256x1024 : Shape := ⟨2, ![256, 1024]⟩
abbrev S1x8x1024 : Shape := ⟨3, ![1, 8, 1024]⟩
abbrev S2816x1024 : Shape := ⟨2, ![2816, 1024]⟩
abbrev S8x1024 : Shape := ⟨2, ![8, 1024]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S9216x5632, .f32⟩
  | .hbm, ⟨1, _⟩ => ⟨S9216x1024, .f32⟩
  | .hbm, ⟨2, _⟩ => ⟨S36x8x1024, .f32⟩
  | .hbm, ⟨3, _⟩ => ⟨S9216x5632, .bf16⟩
  | .hbm, ⟨4, _⟩ => ⟨S5632x1024, .f32⟩
  | .local _ .vmem, ⟨0, _⟩ => ⟨S256x2816, .bf16⟩
  | .local _ .vmem, ⟨1, _⟩ => ⟨S256x2816, .bf16⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S2816x1024, .f32⟩
  | .local _ .vmem, ⟨7, _⟩ => ⟨S2816x1024, .f32⟩
  | _, _ => ⟨S9216x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2816x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S9216x5632 : Shape := ⟨2, ![9216, 5632]⟩
abbrev S9216x1024 : Shape := ⟨2, ![9216, 1024]⟩
abbrev S36x8x1024 : Shape := ⟨3, ![36, 8, 1024]⟩
abbrev S_ : Shape := ⟨0, ![]⟩
abbrev S5632x1024 : Shape := ⟨2, ![5632, 1024]⟩
abbrev S36x256x1024 : Shape := ⟨3, ![36, 256, 1024]⟩
abbrev S36x1x1024 : Shape := ⟨3, ![36, 1, 1024]⟩
abbrev S36x1024 : Shape := ⟨2, ![36, 1024]⟩

abbrev nBuf : Space → Nat
  | .hbm => 22
  | .vmem => 0
  | .smem => 0
  | _ => 0

abbrev bufTy : (tb : Table) → Fin (tcTables nBuf tb) → BufTy
  | .hbm, ⟨0, _⟩ => ⟨S9216x5632, .f32⟩
  | .hbm, ⟨1, _⟩ => ⟨S9216x1024, .f32⟩
  | .hbm, ⟨2, _⟩ => ⟨S36x8x1024, .f32⟩
  | .hbm, ⟨3, _⟩ => ⟨S_, .f32⟩
  | .hbm, ⟨4, _⟩ => ⟨S5632x1024, .f32⟩
  | .hbm, ⟨5, _⟩ => ⟨S36x256x1024, .f32⟩
  | .hbm, ⟨6, _⟩ => ⟨S36x1x1024, .f32⟩
  | .hbm, ⟨7, _⟩ => ⟨S36x1024, .f32⟩
  | .hbm, ⟨8, _⟩ => ⟨S36x1x1024, .f32⟩
  | .hbm, ⟨9, _⟩ => ⟨S_, .f32⟩
  | .hbm, ⟨10, _⟩ => ⟨S36x1x1024, .f32⟩
  | .hbm, ⟨11, _⟩ => ⟨S36x1x1024, .f32⟩
  | .hbm, ⟨12, _⟩ => ⟨S36x256x1024, .f32⟩
  | .hbm, ⟨13, _⟩ => ⟨S36x256x1024, .f32⟩
  | .hbm, ⟨14, _⟩ => ⟨S36x1x1024, .f32⟩
  | .hbm, ⟨15, _⟩ => ⟨S36x1024, .f32⟩
  | .hbm, ⟨16, _⟩ => ⟨S36x1x1024, .f32⟩
  | .hbm, ⟨17, _⟩ => ⟨S36x256x1024, .f32⟩
  | .hbm, ⟨18, _⟩ => ⟨S36x256x1024, .f32⟩
  | .hbm, ⟨19, _⟩ => ⟨S9216x1024, .f32⟩
  | .hbm, ⟨20, _⟩ => ⟨S9216x5632, .f32⟩
  | .hbm, ⟨21, _⟩ => ⟨S5632x1024, .f32⟩
  | _, _ => ⟨S9216x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel3.lean ====
abbrev S9216x5632 : Shape := ⟨2, ![9216, 5632]⟩
abbrev S5632x1024 : Shape := ⟨2, ![5632, 1024]⟩
abbrev S9216x1024 : Shape := ⟨2, ![9216, 1024]⟩
abbrev S36x8x1024 : Shape := ⟨3, ![36, 8, 1024]⟩
abbrev S256x5632 : Shape := ⟨2, ![256, 5632]⟩
abbrev S256x1024 : Shape := ⟨2, ![256, 1024]⟩
abbrev S1x8x1024 : Shape := ⟨3, ![1, 8, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S9216x5632, .f32⟩
  | .hbm, ⟨1, _⟩ => ⟨S5632x1024, .f32⟩
  | .hbm, ⟨2, _⟩ => ⟨S9216x1024, .f32⟩
  | .hbm, ⟨3, _⟩ => ⟨S36x8x1024, .f32⟩
  | .hbm, ⟨4, _⟩ => ⟨S9216x1024, .f32⟩
  | .hbm, ⟨5, _⟩ => ⟨S9216x5632, .bf16⟩
  | .hbm, ⟨6, _⟩ => ⟨S5632x1024, .bf16⟩
  | .hbm, ⟨7, _⟩ => ⟨S9216x1024, .f32⟩
  | .hbm, ⟨8, _⟩ => ⟨S36x8x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x8x1024, .f32⟩
  | .local _ .vmem, ⟨6, _⟩ => ⟨S1x8x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x8x1024, .f32⟩
  | .local _ .vmem, ⟨12, _⟩ => ⟨S1x8x1024, .f32⟩
  | _, _ => ⟨S9216x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S9216x5632 : Shape := ⟨2, ![9216, 5632]⟩
abbrev S5632x1024 : Shape := ⟨2, ![5632, 1024]⟩
abbrev S9216x1024 : Shape := ⟨2, ![9216, 1024]⟩
abbrev S36x8x1024 : Shape := ⟨3, ![36, 8, 1024]⟩
abbrev S36x256x1024 : Shape := ⟨3, ![36, 256, 1024]⟩
abbrev S36x1x1024 : Shape := ⟨3, ![36, 1, 1024]⟩
abbrev S36x1024 : Shape := ⟨2, ![36, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S9216x5632, .f32⟩
  | .hbm, ⟨1, _⟩ => ⟨S5632x1024, .f32⟩
  | .hbm, ⟨2, _⟩ => ⟨S9216x1024, .f32⟩
  | .hbm, ⟨3, _⟩ => ⟨S36x8x1024, .f32⟩
  | .hbm, ⟨4, _⟩ => ⟨S9216x1024, .f32⟩
  | .hbm, ⟨5, _⟩ => ⟨S36x256x1024, .f32⟩
  | .hbm, ⟨6, _⟩ => ⟨S36x1x1024, .f32⟩
  | .hbm, ⟨7, _⟩ => ⟨S36x1024, .f32⟩
  | .hbm, ⟨8, _⟩ => ⟨S36x1x1024, .f32⟩
  | .hbm, ⟨9, _⟩ => ⟨S_, .f32⟩
  | .hbm, ⟨10, _⟩ => ⟨S36x1x1024, .f32⟩
  | .hbm, ⟨11, _⟩ => ⟨S36x1x1024, .f32⟩
  | .hbm, ⟨12, _⟩ => ⟨S36x256x1024, .f32⟩
  | .hbm, ⟨13, _⟩ => ⟨S36x256x1024, .f32⟩
  | .hbm, ⟨14, _⟩ => ⟨S36x1x1024, .f32⟩
  | .hbm, ⟨15, _⟩ => ⟨S36x1024, .f32⟩
  | .hbm, ⟨16, _⟩ => ⟨S36x1x1024, .f32⟩
  | .hbm, ⟨17, _⟩ => ⟨S36x256x1024, .f32⟩
  | .hbm, ⟨18, _⟩ => ⟨S36x256x1024, .f32⟩
  | .hbm, ⟨19, _⟩ => ⟨S9216x1024, .f32⟩
  | .hbm, ⟨20, _⟩ => ⟨S9216x5632, .f32⟩
  | .hbm, ⟨21, _⟩ => ⟨S9216x1024, .f32⟩
  | .hbm, ⟨22, _⟩ => ⟨S36x256x1024, .f32⟩
  | .hbm, ⟨23, _⟩ => ⟨S_, .f32⟩
  | .hbm, ⟨24, _⟩ => ⟨S36x1024, .f32⟩
  | .hbm, ⟨25, _⟩ => ⟨S36x1x1024, .f32⟩
  | .hbm, ⟨26, _⟩ => ⟨S_, .f32⟩
  | .hbm, ⟨27, _⟩ => ⟨S36x1024, .f32⟩
  | .hbm, ⟨28, _⟩ => ⟨S36x1x1024, .f32⟩
  | .hbm, ⟨29, _⟩ => ⟨S_, .f32⟩
  | .hbm, ⟨30, _⟩ => ⟨S36x8x1024, .f32⟩
  | .hbm, ⟨31, _⟩ => ⟨S36x256x1024, .f32⟩
  | .hbm, ⟨32, _⟩ => ⟨S_, .f32⟩
  | .hbm, ⟨33, _⟩ => ⟨S36x1024, .f32⟩
  | .hbm, ⟨34, _⟩ => ⟨S36x1x1024, .f32⟩
  | .hbm, ⟨35, _⟩ => ⟨S36x256x1024, .f32⟩
  | .hbm, ⟨36, _⟩ => ⟨S36x256x1024, .f32⟩
  | .hbm, ⟨37, _⟩ => ⟨S_, .f32⟩
  | .hbm, ⟨38, _⟩ => ⟨S36x1024, .f32⟩
  | .hbm, ⟨39, _⟩ => ⟨S36x1x1024, .f32⟩
  | .hbm, ⟨40, _⟩ => ⟨S_, .f32⟩
  | .hbm, ⟨41, _⟩ => ⟨S36x8x1024, .f32⟩
  | .hbm, ⟨42, _⟩ => ⟨S36x8x1024, .f32⟩
  | .hbm, ⟨43, _⟩ => ⟨S9216x1024, .f32⟩
  | .hbm, ⟨44, _⟩ => ⟨S9216x1024, .f32⟩
  | _, _ => ⟨S9216x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S9216x5632 : Shape := ⟨2, ![9216, 5632]⟩
abbrev S2816x1024 : Shape := ⟨2, ![2816, 1024]⟩
abbrev S9216x1024 : Shape := ⟨2, ![9216, 1024]⟩
abbrev S256x2816 : Shape := ⟨2, ![256, 2816]⟩
abbrev S1408x1024 : Shape := ⟨2, ![1408, 1024]⟩
abbrev S256x1024 : Shape := ⟨2, ![256, 1024]⟩
abbrev S256x1408 : Shape := ⟨2, ![256, 1408]⟩

abbrev nBuf : Space → Nat
  | .hbm => 7
  | .vmem => 10
  | .smem => 0
  | _ => 0

abbrev bufTy : (tb : Table) → Fin (tcTables nBuf tb) → BufTy
  | .hbm, ⟨0, _⟩ => ⟨S9216x5632, .f32⟩
  | .hbm, ⟨1, _⟩ => ⟨S2816x1024, .f32⟩
  | .hbm, ⟨2, _⟩ => ⟨S9216x1024, .f32⟩
  | .hbm, ⟨3, _⟩ => ⟨S9216x5632, .bf16⟩
  | .hbm, ⟨4, _⟩ => ⟨S2816x1024, .bf16⟩
  | .hbm, ⟨5, _⟩ => ⟨S9216x5632, .bf16⟩
  | .hbm, ⟨6, _⟩ => ⟨S2816x1024, .f32⟩
  | .local _ .vmem, ⟨0, _⟩ => ⟨S256x2816, .bf16⟩
  | .local _ .vmem, ⟨1, _⟩ => ⟨S256x2816, .bf16⟩
  | .local _ .vmem, ⟨2, _⟩ => ⟨S1408x1024, .bf16⟩
  | .local _ .vmem, ⟨3, _⟩ => ⟨S1408x1024, .bf16⟩
  | .local _ .vmem, ⟨4, _⟩ => ⟨S256x1024, .f32⟩
  | .local _ .vmem, ⟨5, _⟩ => ⟨S256x1024, .f32⟩
  | .local _ .vmem, ⟨6, _⟩ => ⟨S256x2816, .bf16⟩
  | .local _ .vmem, ⟨7, _⟩ => ⟨S256x2816, .bf16⟩
  | .local _ .vmem, ⟨8, _⟩ => ⟨S1408x1024, .f32⟩
  | .local _ .vmem, ⟨9, _⟩ => ⟨S1408x1024, .f32⟩
  | _, _ => ⟨S9216x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S9216x5632 : Shape := ⟨2, ![9216, 5632]⟩
abbrev S2816x1024 : Shape := ⟨2, ![2816, 1024]⟩
abbrev S9216x1024 : Shape := ⟨2, ![9216, 1024]⟩
abbrev S9216x2x2x1408 : Shape := ⟨4, ![9216, 2, 2, 1408]⟩
abbrev S9216x2x1x1408 : Shape := ⟨4, ![9216, 2, 1, 1408]⟩
abbrev S9216x2x1408 : Shape := ⟨3, ![9216, 2, 1408]⟩
abbrev S9216x2816 : Shape := ⟨2, ![9216, 2816]⟩
abbrev S_ : Shape := ⟨0, ![]⟩
abbrev S1024x2816 : Shape := ⟨2, ![1024, 2816]⟩

abbrev nBuf : Space → Nat
  | .hbm => 45
  | .vmem => 0
  | .smem => 0
  | _ => 0

abbrev bufTy : (tb : Table) → Fin (tcTables nBuf tb) → BufTy
  | .hbm, ⟨0, _⟩ => ⟨S9216x5632, .f32⟩
  | .hbm, ⟨1, _⟩ => ⟨S2816x1024, .f32⟩
  | .hbm, ⟨2, _⟩ => ⟨S9216x1024, .f32⟩
  | .hbm, ⟨3, _⟩ => ⟨S9216x2x2x1408, .f32⟩
  | .hbm, ⟨4, _⟩ => ⟨S9216x2x1x1408, .f32⟩
  | .hbm, ⟨5, _⟩ => ⟨S9216x2x1408, .f32⟩
  | .hbm, ⟨6, _⟩ => ⟨S9216x2816, .f32⟩
  | .hbm, ⟨7, _⟩ => ⟨S9216x2x1x1408, .f32⟩
  | .hbm, ⟨8, _⟩ => ⟨S9216x2x1408, .f32⟩
  | .hbm, ⟨9, _⟩ => ⟨S9216x2816, .f32⟩
  | .hbm, ⟨10, _⟩ => ⟨S9216x2816, .f32⟩
  | .hbm, ⟨11, _⟩ => ⟨S9216x2816, .f32⟩
  | .hbm, ⟨12, _⟩ => ⟨S_, .f32⟩
  | .hbm, ⟨13, _⟩ => ⟨S9216x2816, .f32⟩
  | .hbm, ⟨14, _⟩ => ⟨S9216x2816, .f32⟩
  | .hbm, ⟨15, _⟩ => ⟨S_, .f32⟩
  | .hbm, ⟨16, _⟩ => ⟨S9216x2816, .f32⟩
  | .hbm, ⟨17, _⟩ => ⟨S9216x2816, .f32⟩
  | .hbm, ⟨18, _⟩ => ⟨S_, .f32⟩
  | .hbm, ⟨19, _⟩ => ⟨S9216x2816, .f32⟩
  | .hbm, ⟨20, _⟩ => ⟨S9216x2816, .f32⟩
  | .hbm, ⟨21, _⟩ => ⟨S9216x2816, .f32⟩
  | .hbm, ⟨22, _⟩ => ⟨S9216x2816, .f32⟩
  | .hbm, ⟨23, _⟩ => ⟨S9216x2816, .f32⟩
  | .hbm, ⟨24, _⟩ => ⟨S9216x1024, .f32⟩
  | .hbm, ⟨25, _⟩ => ⟨S1024x2816, .f32⟩
  | .hbm, ⟨26, _⟩ => ⟨S2816x1024, .f32⟩
  | .hbm, ⟨27, _⟩ => ⟨S9216x2816, .f32⟩
  | .hbm, ⟨28, _⟩ => ⟨S9216x2816, .f32⟩
  | .hbm, ⟨29, _⟩ => ⟨S9216x2816, .f32⟩
  | .hbm, ⟨30, _⟩ => ⟨S9216x2816, .f32⟩
  | .hbm, ⟨31, _⟩ => ⟨S9216x2816, .f32⟩
  | .hbm, ⟨32, _⟩ => ⟨S9216x2816, .f32⟩
  | .hbm, ⟨33, _⟩ => ⟨S9216x2816, .f32⟩
  | .hbm, ⟨34, _⟩ => ⟨S9216x2x1408, .f32⟩
  | .hbm, ⟨35, _⟩ => ⟨S9216x2x1x1408, .f32⟩
  | .hbm, ⟨36, _⟩ => ⟨S_, .f32⟩
  | .hbm, ⟨37, _⟩ => ⟨S9216x2x2x1408, .f32⟩
  | .hbm, ⟨38, _⟩ => ⟨S9216x2x1408, .f32⟩
  | .hbm, ⟨39, _⟩ => ⟨S9216x2x1x1408, .f32⟩
  | .hbm, ⟨40, _⟩ => ⟨S_, .f32⟩
  | .hbm, ⟨41, _⟩ => ⟨S9216x2x2x1408, .f32⟩
  | .hbm, ⟨42, _⟩ => ⟨S9216x2x2x1408, .f32⟩
  | .hbm, ⟨43, _⟩ => ⟨S9216x5632, .f32⟩
  | .hbm, ⟨44, _⟩ => ⟨S9216x5632, .bf16⟩
  | _, _ => ⟨S9216x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== Kernel5.lean ====
abbrev S9216x2048 : Shape := ⟨2, ![9216, 2048]⟩
abbrev S9216x1024 : Shape := ⟨2, ![9216, 1024]⟩
abbrev S36x8x1024 : Shape := ⟨3, ![36, 8, 1024]⟩
abbrev S2048x1024 : Shape := ⟨2, ![2048, 1024]⟩
abbrev S256x2048 : Shape := ⟨2, ![256, 2048]⟩
abbrev S256x1024 : Shape := ⟨2, ![256, 1024]⟩
abbrev S1x8x1024 : Shape := ⟨3, ![1, 8, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S9216x1024, .f32⟩
  | .hbm, ⟨2, _⟩ => ⟨S36x8x1024, .f32⟩
  | .hbm, ⟨3, _⟩ => ⟨S9216x2048, .bf16⟩
  | .hbm, ⟨4, _⟩ => ⟨S2048x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S2048x1024, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference5Ideal.lean ====
abbrev S9216x2048 : Shape := ⟨2, ![9216, 2048]⟩
abbrev S9216x1024 : Shape := ⟨2, ![9216, 1024]⟩
abbrev S36x8x1024 : Shape := ⟨3, ![36, 8, 1024]⟩
abbrev S_ : Shape := ⟨0, ![]⟩
abbrev S2048x1024 : Shape := ⟨2, ![2048, 1024]⟩
abbrev S36x256x1024 : Shape := ⟨3, ![36, 256, 1024]⟩
abbrev S36x1x1024 : Shape := ⟨3, ![36, 1, 1024]⟩
abbrev S36x1024 : Shape := ⟨2, ![36, 1024]⟩

abbrev nBuf : Space → Nat
  | .hbm => 22
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x1024, .f32⟩
  | .hbm, ⟨2, _⟩ => ⟨S36x8x1024, .f32⟩
  | .hbm, ⟨3, _⟩ => ⟨S_, .f32⟩
  | .hbm, ⟨4, _⟩ => ⟨S2048x1024, .f32⟩
  | .hbm, ⟨5, _⟩ => ⟨S36x256x1024, .f32⟩
  | .hbm, ⟨6, _⟩ => ⟨S36x1x1024, .f32⟩
  | .hbm, ⟨7, _⟩ => ⟨S36x1024, .f32⟩
  | .hbm, ⟨8, _⟩ => ⟨S36x1x1024, .f32⟩
  | .hbm, ⟨9, _⟩ => ⟨S_, .f32⟩
  | .hbm, ⟨10, _⟩ => ⟨S36x1x1024, .f32⟩
  | .hbm, ⟨11, _⟩ => ⟨S36x1x1024, .f32⟩
  | .hbm, ⟨12, _⟩ => ⟨S36x256x1024, .f32⟩
  | .hbm, ⟨13, _⟩ => ⟨S36x256x1024, .f32⟩
  | .hbm, ⟨14, _⟩ => ⟨S36x1x1024, .f32⟩
  | .hbm, ⟨15, _⟩ => ⟨S36x1024, .f32⟩
  | .hbm, ⟨16, _⟩ => ⟨S36x1x1024, .f32⟩
  | .hbm, ⟨17, _⟩ => ⟨S36x256x1024, .f32⟩
  | .hbm, ⟨18, _⟩ => ⟨S36x256x1024, .f32⟩
  | .hbm, ⟨19, _⟩ => ⟨S9216x1024, .f32⟩
  | .hbm, ⟨20, _⟩ => ⟨S9216x2048, .f32⟩
  | .hbm, ⟨21, _⟩ => ⟨S2048x1024, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel6.lean ====
abbrev S9216x2048 : Shape := ⟨2, ![9216, 2048]⟩
abbrev S2048x1024 : Shape := ⟨2, ![2048, 1024]⟩
abbrev S9216x1024 : Shape := ⟨2, ![9216, 1024]⟩
abbrev S36x8x1024 : Shape := ⟨3, ![36, 8, 1024]⟩
abbrev S256x2048 : Shape := ⟨2, ![256, 2048]⟩
abbrev S256x1024 : Shape := ⟨2, ![256, 1024]⟩
abbrev S1x8x1024 : Shape := ⟨3, ![1, 8, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S9216x2048, .f32⟩
  | .hbm, ⟨1, _⟩ => ⟨S2048x1024, .f32⟩
  | .hbm, ⟨2, _⟩ => ⟨S9216x1024, .f32⟩
  | .hbm, ⟨3, _⟩ => ⟨S36x8x1024, .f32⟩
  | .hbm, ⟨4, _⟩ => ⟨S9216x1024, .f32⟩
  | .hbm, ⟨5, _⟩ => ⟨S9216x2048, .bf16⟩
  | .hbm, ⟨6, _⟩ => ⟨S2048x1024, .bf16⟩
  | .hbm, ⟨7, _⟩ => ⟨S9216x1024, .f32⟩
  | .hbm, ⟨8, _⟩ => ⟨S36x8x1024, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S1x8x1024, .f32⟩
  | .local _ .vmem, ⟨6, _⟩ => ⟨S1x8x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x8x1024, .f32⟩
  | .local _ .vmem, ⟨12, _⟩ => ⟨S1x8x1024, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S9216x2048 : Shape := ⟨2, ![9216, 2048]⟩
abbrev S2048x1024 : Shape := ⟨2, ![2048, 1024]⟩
abbrev S9216x1024 : Shape := ⟨2, ![9216, 1024]⟩
abbrev S36x8x1024 : Shape := ⟨3, ![36, 8, 1024]⟩
abbrev S36x256x1024 : Shape := ⟨3, ![36, 256, 1024]⟩
abbrev S36x1x1024 : Shape := ⟨3, ![36, 1, 1024]⟩
abbrev S36x1024 : Shape := ⟨2, ![36, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2048x1024, .f32⟩
  | .hbm, ⟨2, _⟩ => ⟨S9216x1024, .f32⟩
  | .hbm, ⟨3, _⟩ => ⟨S36x8x1024, .f32⟩
  | .hbm, ⟨4, _⟩ => ⟨S9216x1024, .f32⟩
  | .hbm, ⟨5, _⟩ => ⟨S36x256x1024, .f32⟩
  | .hbm, ⟨6, _⟩ => ⟨S36x1x1024, .f32⟩
  | .hbm, ⟨7, _⟩ => ⟨S36x1024, .f32⟩
  | .hbm, ⟨8, _⟩ => ⟨S36x1x1024, .f32⟩
  | .hbm, ⟨9, _⟩ => ⟨S_, .f32⟩
  | .hbm, ⟨10, _⟩ => ⟨S36x1x1024, .f32⟩
  | .hbm, ⟨11, _⟩ => ⟨S36x1x1024, .f32⟩
  | .hbm, ⟨12, _⟩ => ⟨S36x256x1024, .f32⟩
  | .hbm, ⟨13, _⟩ => ⟨S36x256x1024, .f32⟩
  | .hbm, ⟨14, _⟩ => ⟨S36x1x1024, .f32⟩
  | .hbm, ⟨15, _⟩ => ⟨S36x1024, .f32⟩
  | .hbm, ⟨16, _⟩ => ⟨S36x1x1024, .f32⟩
  | .hbm, ⟨17, _⟩ => ⟨S36x256x1024, .f32⟩
  | .hbm, ⟨18, _⟩ => ⟨S36x256x1024, .f32⟩
  | .hbm, ⟨19, _⟩ => ⟨S9216x1024, .f32⟩
  | .hbm, ⟨20, _⟩ => ⟨S9216x2048, .f32⟩
  | .hbm, ⟨21, _⟩ => ⟨S9216x1024, .f32⟩
  | .hbm, ⟨22, _⟩ => ⟨S36x256x1024, .f32⟩
  | .hbm, ⟨23, _⟩ => ⟨S_, .f32⟩
  | .hbm, ⟨24, _⟩ => ⟨S36x1024, .f32⟩
  | .hbm, ⟨25, _⟩ => ⟨S36x1x1024, .f32⟩
  | .hbm, ⟨26, _⟩ => ⟨S_, .f32⟩
  | .hbm, ⟨27, _⟩ => ⟨S36x1024, .f32⟩
  | .hbm, ⟨28, _⟩ => ⟨S36x1x1024, .f32⟩
  | .hbm, ⟨29, _⟩ => ⟨S_, .f32⟩
  | .hbm, ⟨30, _⟩ => ⟨S36x8x1024, .f32⟩
  | .hbm, ⟨31, _⟩ => ⟨S36x256x1024, .f32⟩
  | .hbm, ⟨32, _⟩ => ⟨S_, .f32⟩
  | .hbm, ⟨33, _⟩ => ⟨S36x1024, .f32⟩
  | .hbm, ⟨34, _⟩ => ⟨S36x1x1024, .f32⟩
  | .hbm, ⟨35, _⟩ => ⟨S36x256x1024, .f32⟩
  | .hbm, ⟨36, _⟩ => ⟨S36x256x1024, .f32⟩
  | .hbm, ⟨37, _⟩ => ⟨S_, .f32⟩
  | .hbm, ⟨38, _⟩ => ⟨S36x1024, .f32⟩
  | .hbm, ⟨39, _⟩ => ⟨S36x1x1024, .f32⟩
  | .hbm, ⟨40, _⟩ => ⟨S_, .f32⟩
  | .hbm, ⟨41, _⟩ => ⟨S36x8x1024, .f32⟩
  | .hbm, ⟨42, _⟩ => ⟨S36x8x1024, .f32⟩
  | .hbm, ⟨43, _⟩ => ⟨S9216x1024, .f32⟩
  | .hbm, ⟨44, _⟩ => ⟨S9216x1024, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel7.lean ====
abbrev S9216x1024 : Shape := ⟨2, ![9216, 1024]⟩
abbrev S36x8x1024 : Shape := ⟨3, ![36, 8, 1024]⟩
abbrev S5632x1024 : Shape := ⟨2, ![5632, 1024]⟩
abbrev S9216x5632 : Shape := ⟨2, ![9216, 5632]⟩
abbrev S256x1024 : Shape := ⟨2, ![256, 1024]⟩
abbrev S1x8x1024 : Shape := ⟨3, ![1, 8, 1024]⟩
abbrev S256x5632 : Shape := ⟨2, ![256, 5632]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S5632x1024, .f32⟩
  | .hbm, ⟨3, _⟩ => ⟨S5632x1024, .bf16⟩
  | .hbm, ⟨4, _⟩ => ⟨S9216x5632, .bf16⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S5632x1024, .bf16⟩
  | .local _ .vmem, ⟨5, _⟩ => ⟨S256x5632, .bf16⟩
  | .local _ .vmem, ⟨6, _⟩ => ⟨S256x5632, .bf16⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S9216x1024 : Shape := ⟨2, ![9216, 1024]⟩
abbrev S36x8x1024 : Shape := ⟨3, ![36, 8, 1024]⟩
abbrev S5632x1024 : Shape := ⟨2, ![5632, 1024]⟩
abbrev S36x256x1024 : Shape := ⟨3, ![36, 256, 1024]⟩
abbrev S36x1x1024 : Shape := ⟨3, ![36, 1, 1024]⟩
abbrev S36x1024 : Shape := ⟨2, ![36, 1024]⟩
abbrev S_ : Shape := ⟨0, ![]⟩
abbrev S9216x5632 : Shape := ⟨2, ![9216, 5632]⟩

abbrev nBuf : Space → Nat
  | .hbm => 20
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S5632x1024, .f32⟩
  | .hbm, ⟨3, _⟩ => ⟨S36x256x1024, .f32⟩
  | .hbm, ⟨4, _⟩ => ⟨S36x1x1024, .f32⟩
  | .hbm, ⟨5, _⟩ => ⟨S36x1024, .f32⟩
  | .hbm, ⟨6, _⟩ => ⟨S36x1x1024, .f32⟩
  | .hbm, ⟨7, _⟩ => ⟨S_, .f32⟩
  | .hbm, ⟨8, _⟩ => ⟨S36x1x1024, .f32⟩
  | .hbm, ⟨9, _⟩ => ⟨S36x1x1024, .f32⟩
  | .hbm, ⟨10, _⟩ => ⟨S36x256x1024, .f32⟩
  | .hbm, ⟨11, _⟩ => ⟨S36x256x1024, .f32⟩
  | .hbm, ⟨12, _⟩ => ⟨S36x1x1024, .f32⟩
  | .hbm, ⟨13, _⟩ => ⟨S36x1024, .f32⟩
  | .hbm, ⟨14, _⟩ => ⟨S36x1x1024, .f32⟩
  | .hbm, ⟨15, _⟩ => ⟨S36x256x1024, .f32⟩
  | .hbm, ⟨16, _⟩ => ⟨S36x256x1024, .f32⟩
  | .hbm, ⟨17, _⟩ => ⟨S9216x1024, .f32⟩
  | .hbm, ⟨18, _⟩ => ⟨S9216x5632, .f32⟩
  | .hbm, ⟨19, _⟩ => ⟨S9216x5632, .bf16⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel8.lean ====
abbrev S9216x1024 : Shape := ⟨2, ![9216, 1024]⟩
abbrev S36x8x1024 : Shape := ⟨3, ![36, 8, 1024]⟩
abbrev S2048x1024 : Shape := ⟨2, ![2048, 1024]⟩
abbrev S9216x2048 : Shape := ⟨2, ![9216, 2048]⟩
abbrev S256x1024 : Shape := ⟨2, ![256, 1024]⟩
abbrev S1x8x1024 : Shape := ⟨3, ![1, 8, 1024]⟩
abbrev S256x2048 : Shape := ⟨2, ![256, 2048]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S2048x1024, .f32⟩
  | .hbm, ⟨3, _⟩ => ⟨S2048x1024, .bf16⟩
  | .hbm, ⟨4, _⟩ => ⟨S9216x2048, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S2048x1024, .bf16⟩
  | .local _ .vmem, ⟨5, _⟩ => ⟨S256x2048, .f32⟩
  | .local _ .vmem, ⟨6, _⟩ => ⟨S256x2048, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S9216x1024 : Shape := ⟨2, ![9216, 1024]⟩
abbrev S36x8x1024 : Shape := ⟨3, ![36, 8, 1024]⟩
abbrev S2048x1024 : Shape := ⟨2, ![2048, 1024]⟩
abbrev S36x256x1024 : Shape := ⟨3, ![36, 256, 1024]⟩
abbrev S36x1x1024 : Shape := ⟨3, ![36, 1, 1024]⟩
abbrev S36x1024 : Shape := ⟨2, ![36, 1024]⟩
abbrev S_ : Shape := ⟨0, ![]⟩
abbrev S9216x2048 : Shape := ⟨2, ![9216, 2048]⟩

abbrev nBuf : Space → Nat
  | .hbm => 19
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S36x8x1024, .f32⟩
  | .hbm, ⟨2, _⟩ => ⟨S2048x1024, .f32⟩
  | .hbm, ⟨3, _⟩ => ⟨S36x256x1024, .f32⟩
  | .hbm, ⟨4, _⟩ => ⟨S36x1x1024, .f32⟩
  | .hbm, ⟨5, _⟩ => ⟨S36x1024, .f32⟩
  | .hbm, ⟨6, _⟩ => ⟨S36x1x1024, .f32⟩
  | .hbm, ⟨7, _⟩ => ⟨S_, .f32⟩
  | .hbm, ⟨8, _⟩ => ⟨S36x1x1024, .f32⟩
  | .hbm, ⟨9, _⟩ => ⟨S36x1x1024, .f32⟩
  | .hbm, ⟨10, _⟩ => ⟨S36x256x1024, .f32⟩
  | .hbm, ⟨11, _⟩ => ⟨S36x256x1024, .f32⟩
  | .hbm, ⟨12, _⟩ => ⟨S36x1x1024, .f32⟩
  | .hbm, ⟨13, _⟩ => ⟨S36x1024, .f32⟩
  | .hbm, ⟨14, _⟩ => ⟨S36x1x1024, .f32⟩
  | .hbm, ⟨15, _⟩ => ⟨S36x256x1024, .f32⟩
  | .hbm, ⟨16, _⟩ => ⟨S36x256x1024, .f32⟩
  | .hbm, ⟨17, _⟩ => ⟨S9216x1024, .f32⟩
  | .hbm, ⟨18, _⟩ => ⟨S9216x2048, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel9.lean ====
abbrev S9216x5632 : Shape := ⟨2, ![9216, 5632]⟩
abbrev S8x5632 : Shape := ⟨2, ![8, 5632]⟩
abbrev S1x5632 : Shape := ⟨2, ![1, 5632]⟩
abbrev S2816x1024 : Shape := ⟨2, ![2816, 1024]⟩
abbrev S9216x1024 : Shape := ⟨2, ![9216, 1024]⟩
abbrev S36x8x1024 : Shape := ⟨3, ![36, 8, 1024]⟩
abbrev S1x1024 : Shape := ⟨2, ![1, 1024]⟩
abbrev S256x2816 : Shape := ⟨2, ![256, 2816]⟩
abbrev S16x2816 : Shape := ⟨2, ![16, 2816]⟩
abbrev S8x2816 : Shape := ⟨2, ![8, 2816]⟩
abbrev S1x2816 : Shape := ⟨2, ![1, 2816]⟩
abbrev S1408x1024 : Shape := ⟨2, ![1408, 1024]⟩
abbrev S256x1024 : Shape := ⟨2, ![256, 1024]⟩
abbrev S1x8x1024 : Shape := ⟨3, ![1, 8, 1024]⟩
abbrev S256x1408 : Shape := ⟨2, ![256, 1408]⟩
abbrev S8x1024 : Shape := ⟨2, ![8, 1024]⟩
abbrev S256 : Shape := ⟨1, ![256]⟩
abbrev S256x1 : Shape := ⟨2, ![256, 1]⟩

abbrev nBuf : Space → Nat
  | .hbm => 13
  | .vmem => 25
  | .smem => 0
  | _ => 0

abbrev bufTy : (tb : Table) → Fin (tcTables nBuf tb) → BufTy
  | .hbm, ⟨0, _⟩ => ⟨S9216x5632, .f32⟩
  | .hbm, ⟨1, _⟩ => ⟨S8x5632, .f32⟩
  | .hbm, ⟨2, _⟩ => ⟨S1x5632, .f32⟩
  | .hbm, ⟨3, _⟩ => ⟨S2816x1024, .f32⟩
  | .hbm, ⟨4, _⟩ => ⟨S9216x1024, .f32⟩
  | .hbm, ⟨5, _⟩ => ⟨S36x8x1024, .f32⟩
  | .hbm, ⟨6, _⟩ => ⟨S1x1024, .f32⟩
  | .hbm, ⟨7, _⟩ => ⟨S1x1024, .f32⟩
  | .hbm, ⟨8, _⟩ => ⟨S9216x5632, .bf16⟩
  | .hbm, ⟨9, _⟩ => ⟨S2816x1024, .bf16⟩
  | .hbm, ⟨10, _⟩ => ⟨S9216x1024, .f32⟩
  | .hbm, ⟨11, _⟩ => ⟨S9216x1024, .f32⟩
  | .hbm, ⟨12, _⟩ => ⟨S9216x5632, .bf16⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S16x2816, .bf16⟩
  | .local _ .vmem, ⟨5, _⟩ => ⟨S16x2816, .bf16⟩
  | .local _ .vmem, ⟨6, _⟩ => ⟨S8x2816, .f32⟩
  | .local _ .vmem, ⟨7, _⟩ => ⟨S8x2816, .f32⟩
  | .local _ .vmem, ⟨8, _⟩ => ⟨S1x2816, .f32⟩
  | .local _ .vmem, ⟨9, _⟩ => ⟨S1x2816, .f32⟩
  | .local _ .vmem, ⟨10, _⟩ => ⟨S1408x1024, .bf16⟩
  | .local _ .vmem, ⟨11, _⟩ => ⟨S1408x1024, .bf16⟩
  | .local _ .vmem, ⟨12, _⟩ => ⟨S256x1024, .f32⟩
  | .local _ .vmem, ⟨13, _⟩ => ⟨S256x1024, .f32⟩
  | .local _ .vmem, ⟨14, _⟩ => ⟨S1x8x1024, .f32⟩
  | .local _ .vmem, ⟨15, _⟩ => ⟨S1x8x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x2816, .bf16⟩
  | .local _ .vmem, ⟨23, _⟩ => ⟨S256x2816, .bf16⟩
  | .local _ .vmem, ⟨24, _⟩ => ⟨S256x1024, .f32⟩
  | _, _ => ⟨S9216x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![36, 2], ![false, false]⟩

def k0_cond2 (i : grid0.Coords) : BitVec 1 :=
  let arg1 : BitVec 32 := BitVec.ofNat 32 (i 1).val
  let c1_i32_22 : BitVec 32 := 1#32
  let v75 : BitVec 1 := Scalar.cmpi .eq arg1 c1_i32_22
  let v76 : BitVec 32 := Scalar.extui v75
  let c0_i32_23 : BitVec 32 := 0#32
  let v77 : BitVec 1 := Scalar.cmpi .ne v76 c0_i32_23
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c575_i32 : BitVec 32 := 575#32
  let v2 : BitVec 32 := Scalar.minsi v1 c575_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference9Ideal.lean ====
abbrev S9216x5632 : Shape := ⟨2, ![9216, 5632]⟩
abbrev S8x5632 : Shape := ⟨2, ![8, 5632]⟩
abbrev S1x5632 : Shape := ⟨2, ![1, 5632]⟩
abbrev S2816x1024 : Shape := ⟨2, ![2816, 1024]⟩
abbrev S9216x1024 : Shape := ⟨2, ![9216, 1024]⟩
abbrev S36x8x1024 : Shape := ⟨3, ![36, 8, 1024]⟩
abbrev S1x1024 : Shape := ⟨2, ![1, 1024]⟩
abbrev S4x2304x5632 : Shape := ⟨3, ![4, 2304, 5632]⟩
abbrev S4x256x5632 : Shape := ⟨3, ![4, 256, 5632]⟩
abbrev S_ : Shape := ⟨0, ![]⟩
abbrev S4x1x5632 : Shape := ⟨3, ![4, 1, 5632]⟩
abbrev S4x258x5632 : Shape := ⟨3, ![4, 258, 5632]⟩
abbrev S1x1x5632 : Shape := ⟨3, ![1, 1, 5632]⟩
abbrev S4x2048x5632 : Shape := ⟨3, ![4, 2048, 5632]⟩
abbrev S4x2050x5632 : Shape := ⟨3, ![4, 2050, 5632]⟩
abbrev S9216x2x2x1408 : Shape := ⟨4, ![9216, 2, 2, 1408]⟩
abbrev S9216x2x1x1408 : Shape := ⟨4, ![9216, 2, 1, 1408]⟩
abbrev S9216x2x1408 : Shape := ⟨3, ![9216, 2, 1408]⟩
abbrev S9216x2816 : Shape := ⟨2, ![9216, 2816]⟩
abbrev S36x1x1024 : Shape := ⟨3, ![36, 1, 1024]⟩
abbrev S36x1024 : Shape := ⟨2, ![36, 1024]⟩
abbrev S36x256x1024 : Shape := ⟨3, ![36, 256, 1024]⟩
abbrev S9216 : Shape := ⟨1, ![9216]⟩
abbrev S9216x1 : Shape := ⟨2, ![9216, 1]⟩

abbrev nBuf : Space → Nat
  | .hbm => 122
  | .vmem => 0
  | .smem => 0
  | _ => 0

abbrev bufTy : (tb : Table) → Fin (tcTables nBuf tb) → BufTy
  | .hbm, ⟨0, _⟩ => ⟨S9216x5632, .f32⟩
  | .hbm, ⟨1, _⟩ => ⟨S8x5632, .f32⟩
  | .hbm, ⟨2, _⟩ => ⟨S1x5632, .f32⟩
  | .hbm, ⟨3, _⟩ => ⟨S2816x1024, .f32⟩
  | .hbm, ⟨4, _⟩ => ⟨S9216x1024, .f32⟩
  | .hbm, ⟨5, _⟩ => ⟨S36x8x1024, .f32⟩
  | .hbm, ⟨6, _⟩ => ⟨S1x1024, .f32⟩
  | .hbm, ⟨7, _⟩ => ⟨S1x1024, .f32⟩
  | .hbm, ⟨8, _⟩ => ⟨S4x2304x5632, .f32⟩
  | .hbm, ⟨9, _⟩ => ⟨S4x256x5632, .f32⟩
  | .hbm, ⟨10, _⟩ => ⟨S_, .f32⟩
  | .hbm, ⟨11, _⟩ => ⟨S4x1x5632, .f32⟩
  | .hbm, ⟨12, _⟩ => ⟨S4x258x5632, .f32⟩
  | .hbm, ⟨13, _⟩ => ⟨S4x256x5632, .f32⟩
  | .hbm, ⟨14, _⟩ => ⟨S1x5632, .f32⟩
  | .hbm, ⟨15, _⟩ => ⟨S1x1x5632, .f32⟩
  | .hbm, ⟨16, _⟩ => ⟨S4x256x5632, .f32⟩
  | .hbm, ⟨17, _⟩ => ⟨S4x256x5632, .f32⟩
  | .hbm, ⟨18, _⟩ => ⟨S_, .f32⟩
  | .hbm, ⟨19, _⟩ => ⟨S4x256x5632, .f32⟩
  | .hbm, ⟨20, _⟩ => ⟨S4x256x5632, .f32⟩
  | .hbm, ⟨21, _⟩ => ⟨S4x256x5632, .f32⟩
  | .hbm, ⟨22, _⟩ => ⟨S1x5632, .f32⟩
  | .hbm, ⟨23, _⟩ => ⟨S1x1x5632, .f32⟩
  | .hbm, ⟨24, _⟩ => ⟨S4x256x5632, .f32⟩
  | .hbm, ⟨25, _⟩ => ⟨S4x256x5632, .f32⟩
  | .hbm, ⟨26, _⟩ => ⟨S4x256x5632, .f32⟩
  | .hbm, ⟨27, _⟩ => ⟨S4x256x5632, .f32⟩
  | .hbm, ⟨28, _⟩ => ⟨S1x5632, .f32⟩
  | .hbm, ⟨29, _⟩ => ⟨S1x1x5632, .f32⟩
  | .hbm, ⟨30, _⟩ => ⟨S4x256x5632, .f32⟩
  | .hbm, ⟨31, _⟩ => ⟨S4x256x5632, .f32⟩
  | .hbm, ⟨32, _⟩ => ⟨S4x256x5632, .f32⟩
  | .hbm, ⟨33, _⟩ => ⟨S1x1x5632, .f32⟩
  | .hbm, ⟨34, _⟩ => ⟨S4x256x5632, .f32⟩
  | .hbm, ⟨35, _⟩ => ⟨S4x256x5632, .f32⟩
  | .hbm, ⟨36, _⟩ => ⟨S4x2048x5632, .f32⟩
  | .hbm, ⟨37, _⟩ => ⟨S_, .f32⟩
  | .hbm, ⟨38, _⟩ => ⟨S4x1x5632, .f32⟩
  | .hbm, ⟨39, _⟩ => ⟨S4x2050x5632, .f32⟩
  | .hbm, ⟨40, _⟩ => ⟨S4x2048x5632, .f32⟩
  | .hbm, ⟨41, _⟩ => ⟨S1x5632, .f32⟩
  | .hbm, ⟨42, _⟩ => ⟨S1x1x5632, .f32⟩
  | .hbm, ⟨43, _⟩ => ⟨S4x2048x5632, .f32⟩
  | .hbm, ⟨44, _⟩ => ⟨S4x2048x5632, .f32⟩
  | .hbm, ⟨45, _⟩ => ⟨S_, .f32⟩
  | .hbm, ⟨46, _⟩ => ⟨S4x2048x5632, .f32⟩
  | .hbm, ⟨47, _⟩ => ⟨S4x2048x5632, .f32⟩
  | .hbm, ⟨48, _⟩ => ⟨S4x2048x5632, .f32⟩
  | .hbm, ⟨49, _⟩ => ⟨S1x5632, .f32⟩
  | .hbm, ⟨50, _⟩ => ⟨S1x1x5632, .f32⟩
  | .hbm, ⟨51, _⟩ => ⟨S4x2048x5632, .f32⟩
  | .hbm, ⟨52, _⟩ => ⟨S4x2048x5632, .f32⟩
  | .hbm, ⟨53, _⟩ => ⟨S4x2048x5632, .f32⟩
  | .hbm, ⟨54, _⟩ => ⟨S4x2048x5632, .f32⟩
  | .hbm, ⟨55, _⟩ => ⟨S1x5632, .f32⟩
  | .hbm, ⟨56, _⟩ => ⟨S1x1x5632, .f32⟩
  | .hbm, ⟨57, _⟩ => ⟨S4x2048x5632, .f32⟩
  | .hbm, ⟨58, _⟩ => ⟨S4x2048x5632, .f32⟩
  | .hbm, ⟨59, _⟩ => ⟨S4x2048x5632, .f32⟩
  | .hbm, ⟨60, _⟩ => ⟨S1x1x5632, .f32⟩
  | .hbm, ⟨61, _⟩ => ⟨S4x2048x5632, .f32⟩
  | .hbm, ⟨62, _⟩ => ⟨S4x2048x5632, .f32⟩
  | .hbm, ⟨63, _⟩ => ⟨S4x2304x5632, .f32⟩
  | .hbm, ⟨64, _⟩ => ⟨S9216x5632, .f32⟩
  | .hbm, ⟨65, _⟩ => ⟨S9216x2x2x1408, .f32⟩
  | .hbm, ⟨66, _⟩ => ⟨S9216x2x1x1408, .f32⟩
  | .hbm, ⟨67, _⟩ => ⟨S9216x2x1408, .f32⟩
  | .hbm, ⟨68, _⟩ => ⟨S9216x2816, .f32⟩
  | .hbm, ⟨69, _⟩ => ⟨S9216x2x1x1408, .f32⟩
  | .hbm, ⟨70, _⟩ => ⟨S9216x2x1408, .f32⟩
  | .hbm, ⟨71, _⟩ => ⟨S9216x2816, .f32⟩
  | .hbm, ⟨72, _⟩ => ⟨S9216x2816, .f32⟩
  | .hbm, ⟨73, _⟩ => ⟨S9216x2816, .f32⟩
  | .hbm, ⟨74, _⟩ => ⟨S_, .f32⟩
  | .hbm, ⟨75, _⟩ => ⟨S9216x2816, .f32⟩
  | .hbm, ⟨76, _⟩ => ⟨S9216x2816, .f32⟩
  | .hbm, ⟨77, _⟩ => ⟨S_, .f32⟩
  | .hbm, ⟨78, _⟩ => ⟨S9216x2816, .f32⟩
  | .hbm, ⟨79, _⟩ => ⟨S9216x2816, .f32⟩
  | .hbm, ⟨80, _⟩ => ⟨S9216x2816, .f32⟩
  | .hbm, ⟨81, _⟩ => ⟨S9216x2816, .f32⟩
  | .hbm, ⟨82, _⟩ => ⟨S9216x1024, .f32⟩
  | .hbm, ⟨83, _⟩ => ⟨S_, .f32⟩
  | .hbm, ⟨84, _⟩ => ⟨S9216x1024, .f32⟩
  | .hbm, ⟨85, _⟩ => ⟨S9216x1024, .f32⟩
  | .hbm, ⟨86, _⟩ => ⟨S36x1x1024, .f32⟩
  | .hbm, ⟨87, _⟩ => ⟨S36x1024, .f32⟩
  | .hbm, ⟨88, _⟩ => ⟨S36x1x1024, .f32⟩
  | .hbm, ⟨89, _⟩ => ⟨S36x256x1024, .f32⟩
  | .hbm, ⟨90, _⟩ => ⟨S36x256x1024, .f32⟩
  | .hbm, ⟨91, _⟩ => ⟨S36x256x1024, .f32⟩
  | .hbm, ⟨92, _⟩ => ⟨S9216x1024, .f32⟩
  | .hbm, ⟨93, _⟩ => ⟨S9216x1024, .f32⟩
  | .hbm, ⟨94, _⟩ => ⟨S_, .f32⟩
  | .hbm, ⟨95, _⟩ => ⟨S9216, .f32⟩
  | .hbm, ⟨96, _⟩ => ⟨S9216x1, .f32⟩
  | .hbm, ⟨97, _⟩ => ⟨S_, .f32⟩
  | .hbm, ⟨98, _⟩ => ⟨S9216x1, .f32⟩
  | .hbm, ⟨99, _⟩ => ⟨S9216x1, .f32⟩
  | .hbm, ⟨100, _⟩ => ⟨S9216x1024, .f32⟩
  | .hbm, ⟨101, _⟩ => ⟨S9216x1024, .f32⟩
  | .hbm, ⟨102, _⟩ => ⟨S9216x1024, .f32⟩
  | .hbm, ⟨103, _⟩ => ⟨S_, .f32⟩
  | .hbm, ⟨104, _⟩ => ⟨S9216, .f32⟩
  | .hbm, ⟨105, _⟩ => ⟨S9216x1, .f32⟩
  | .hbm, ⟨106, _⟩ => ⟨S_, .f32⟩
  | .hbm, ⟨107, _⟩ => ⟨S9216x1, .f32⟩
  | .hbm, ⟨108, _⟩ => ⟨S9216x1, .f32⟩
  | .hbm, ⟨109, _⟩ => ⟨S9216x1024, .f32⟩
  | .hbm, ⟨110, _⟩ => ⟨S9216x1024, .f32⟩
  | .hbm, ⟨111, _⟩ => ⟨S_, .f32⟩
  | .hbm, ⟨112, _⟩ => ⟨S9216x1, .f32⟩
  | .hbm, ⟨113, _⟩ => ⟨S9216x1, .f32⟩
  | .hbm, ⟨114, _⟩ => ⟨S9216x1, .f32⟩
  | .hbm, ⟨115, _⟩ => ⟨S9216x1024, .f32⟩
  | .hbm, ⟨116, _⟩ => ⟨S9216x1024, .f32⟩
  | .hbm, ⟨117, _⟩ => ⟨S9216x1024, .f32⟩
  | .hbm, ⟨118, _⟩ => ⟨S9216x1024, .f32⟩
  | .hbm, ⟨119, _⟩ => ⟨S9216x1024, .f32⟩
  | .hbm, ⟨120, _⟩ => ⟨S9216x1024, .f32⟩
  | .hbm, ⟨121, _⟩ => ⟨S9216x5632, .bf16⟩
  | _, _ => ⟨S9216x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_3 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_4 : Ref sig .tc := ⟨.hbm, 94, rfl⟩
abbrev main_v73 : Ref sig .tc := ⟨.hbm, 95, rfl⟩
abbrev main_v74 : Ref sig .tc := ⟨.hbm, 96, rfl⟩
abbrev main_cst_5 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_6 : Ref sig .tc := ⟨.hbm, 103, rfl⟩
abbrev main_v80 : Ref sig .tc := ⟨.hbm, 104, rfl⟩
abbrev main_v81 : Ref sig .tc := ⟨.hbm, 105, rfl⟩
abbrev main_cst_7 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_8 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩

abbrev nD : Nat := 1
abbrev τ : Topo := Topo.v7x

variable {F : FTy → Type} [FloatOps F]
-- ==== Kernel10.lean ====
abbrev S9216x1024 : Shape := ⟨2, ![9216, 1024]⟩
abbrev S9216x512 : Shape := ⟨2, ![9216, 512]⟩
abbrev S256x256 : Shape := ⟨2, ![256, 256]⟩
abbrev S2304x256 : Shape := ⟨2, ![2304, 256]⟩
abbrev S2304x128 : Shape := ⟨2, ![2304, 128]⟩
abbrev S256x128 : Shape := ⟨2, ![256, 128]⟩
abbrev S256 : Shape := ⟨1, ![256]⟩
abbrev S256x1 : Shape := ⟨2, ![256, 1]⟩
abbrev S256x2304 : Shape := ⟨2, ![256, 2304]⟩

abbrev nBuf : Space → Nat
  | .hbm => 8
  | .vmem => 10
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x512, .f32⟩
  | .hbm, ⟨3, _⟩ => ⟨S9216x1024, .bf16⟩
  | .hbm, ⟨4, _⟩ => ⟨S9216x1024, .bf16⟩
  | .hbm, ⟨5, _⟩ => ⟨S9216x512, .bf16⟩
  | .hbm, ⟨6, _⟩ => ⟨S9216x512, .f32⟩
  | .hbm, ⟨7, _⟩ => ⟨S9216x512, .f32⟩
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference10Ideal.lean ====
abbrev S9216x1024 : Shape := ⟨2, ![9216, 1024]⟩
abbrev S9216x512 : Shape := ⟨2, ![9216, 512]⟩
abbrev S4x2304x8x128 : Shape := ⟨4, ![4, 2304, 8, 128]⟩
abbrev S4x2304x8x64 : Shape := ⟨4, ![4, 2304, 8, 64]⟩
abbrev S4x256x8x128 : Shape := ⟨4, ![4, 256, 8, 128]⟩
abbrev S4x256x8x64 : Shape := ⟨4, ![4, 256, 8, 64]⟩
abbrev S4x8x256x256 : Shape := ⟨4, ![4, 8, 256, 256]⟩
abbrev S_ : Shape := ⟨0, ![]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x256x8x1 : Shape := ⟨4, ![4, 256, 8, 1]⟩
abbrev S4x2048x8x128 : Shape := ⟨4, ![4, 2048, 8, 128]⟩
abbrev S4x8x2048x2304 : Shape := ⟨4, ![4, 8, 2048, 2304]⟩
abbrev S4x8x2048 : Shape := ⟨3, ![4, 8, 2048]⟩
abbrev S4x8x2048x1 : Shape := ⟨4, ![4, 8, 2048, 1]⟩
abbrev S4x8x64x2048 : Shape := ⟨4, ![4, 8, 64, 2048]⟩
abbrev S4x2048x8x64 : Shape := ⟨4, ![4, 2048, 8, 64]⟩
abbrev S4x2048x8x1 : Shape := ⟨4, ![4, 2048, 8, 1]⟩
abbrev S4x2304x8x1 : Shape := ⟨4, ![4, 2304, 8, 1]⟩

abbrev nBuf : Space → Nat
  | .hbm => 49
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216x1024, .f32⟩
  | .hbm, ⟨2, _⟩ => ⟨S9216x512, .f32⟩
  | .hbm, ⟨3, _⟩ => ⟨S4x2304x8x128, .f32⟩
  | .hbm, ⟨4, _⟩ => ⟨S4x2304x8x128, .f32⟩
  | .hbm, ⟨5, _⟩ => ⟨S4x2304x8x64, .f32⟩
  | .hbm, ⟨6, _⟩ => ⟨S4x256x8x128, .f32⟩
  | .hbm, ⟨7, _⟩ => ⟨S4x256x8x128, .f32⟩
  | .hbm, ⟨8, _⟩ => ⟨S4x256x8x64, .f32⟩
  | .hbm, ⟨9, _⟩ => ⟨S4x8x256x256, .f32⟩
  | .hbm, ⟨10, _⟩ => ⟨S_, .f32⟩
  | .hbm, ⟨11, _⟩ => ⟨S4x8x256, .f32⟩
  | .hbm, ⟨12, _⟩ => ⟨S4x8x256x1, .f32⟩
  | .hbm, ⟨13, _⟩ => ⟨S4x8x256x256, .f32⟩
  | .hbm, ⟨14, _⟩ => ⟨S4x8x256x256, .f32⟩
  | .hbm, ⟨15, _⟩ => ⟨S4x8x256x256, .f32⟩
  | .hbm, ⟨16, _⟩ => ⟨S_, .f32⟩
  | .hbm, ⟨17, _⟩ => ⟨S4x8x256, .f32⟩
  | .hbm, ⟨18, _⟩ => ⟨S4x8x256x1, .f32⟩
  | .hbm, ⟨19, _⟩ => ⟨S4x8x256x256, .f32⟩
  | .hbm, ⟨20, _⟩ => ⟨S4x8x256x256, .f32⟩
  | .hbm, ⟨21, _⟩ => ⟨S4x8x64x256, .f32⟩
  | .hbm, ⟨22, _⟩ => ⟨S4x256x8x64, .f32⟩
  | .hbm, ⟨23, _⟩ => ⟨S4x8x256x1, .f32⟩
  | .hbm, ⟨24, _⟩ => ⟨S4x8x256x1, .f32⟩
  | .hbm, ⟨25, _⟩ => ⟨S4x256x8x1, .f32⟩
  | .hbm, ⟨26, _⟩ => ⟨S4x2048x8x128, .f32⟩
  | .hbm, ⟨27, _⟩ => ⟨S4x8x2048x2304, .f32⟩
  | .hbm, ⟨28, _⟩ => ⟨S_, .f32⟩
  | .hbm, ⟨29, _⟩ => ⟨S4x8x2048, .f32⟩
  | .hbm, ⟨30, _⟩ => ⟨S4x8x2048x1, .f32⟩
  | .hbm, ⟨31, _⟩ => ⟨S4x8x2048x2304, .f32⟩
  | .hbm, ⟨32, _⟩ => ⟨S4x8x2048x2304, .f32⟩
  | .hbm, ⟨33, _⟩ => ⟨S4x8x2048x2304, .f32⟩
  | .hbm, ⟨34, _⟩ => ⟨S_, .f32⟩
  | .hbm, ⟨35, _⟩ => ⟨S4x8x2048, .f32⟩
  | .hbm, ⟨36, _⟩ => ⟨S4x8x2048x1, .f32⟩
  | .hbm, ⟨37, _⟩ => ⟨S4x8x2048x2304, .f32⟩
  | .hbm, ⟨38, _⟩ => ⟨S4x8x2048x2304, .f32⟩
  | .hbm, ⟨39, _⟩ => ⟨S4x8x64x2048, .f32⟩
  | .hbm, ⟨40, _⟩ => ⟨S4x2048x8x64, .f32⟩
  | .hbm, ⟨41, _⟩ => ⟨S4x8x2048x1, .f32⟩
  | .hbm, ⟨42, _⟩ => ⟨S4x8x2048x1, .f32⟩
  | .hbm, ⟨43, _⟩ => ⟨S4x2048x8x1, .f32⟩
  | .hbm, ⟨44, _⟩ => ⟨S4x2304x8x1, .f32⟩
  | .hbm, ⟨45, _⟩ => ⟨S4x2304x8x64, .f32⟩
  | .hbm, ⟨46, _⟩ => ⟨S4x2304x8x64, .f32⟩
  | .hbm, ⟨47, _⟩ => ⟨S9216x512, .f32⟩
  | .hbm, ⟨48, _⟩ => ⟨S9216x512, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Proof.Reals.lean ====
/- The attention's gradient over the real numbers: the formulas both programs are compared with, and the passage from
   extended reals to reals. Rows, keys and lanes are natural numbers here; every sum has its literal extent. -/
module

public import Idealize.ShloMosaic.Lib.Pipeline.ValueKit

@[expose] public section

set_option maxRecDepth 16384

noncomputable section

namespace Cert.Attn
open Idealize.ShloMosaic

/-- A finite sum of reals, cast to the extended reals, is the sum of the casts. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The running maximum of reals from minus infinity, over a set with an element, is a real. -/
theorem fold_max_real {ι : Type*} (s : Finset ι) (hs : s.Nonempty) (f : ι → ℝ) :
    ∃ m : ℝ, Finset.fold max (⊥ : EReal) (fun i => ((f i : ℝ) : EReal)) s = (m : EReal) := by
  classical
  induction hs using Finset.Nonempty.cons_induction with
  | singleton a => exact ⟨f a, by simp⟩
  | cons a s ha hs ih =>
    obtain ⟨m, hm⟩ := ih
    exact ⟨max (f a) m, by rw [Finset.fold_cons, hm]; exact (EReal.coe_strictMono.monotone.map_max).symm⟩

/-- The word of minus infinity is minus infinity. -/
theorem neg_inf : Ideal.ofBits .f32 0xFF800000#32 = (⊥ : EReal) := by simp [Ideal.ofBits, Ideal.ieee]

/-- A quotient of reals with a nonzero divisor is the real quotient. -/
theorem div_real (x y : ℝ) (h : y ≠ 0) : Ideal.div (x : EReal) (y : EReal) = ((x / y : ℝ) : EReal) := by
  rw [Ideal.div_coe h, ← EReal.coe_mul, mul_one_div]

/-! ## One head of one sample: rows `r`, keys `k`, lanes of the whole arrays -/

section Formulas
variable (Q K V D : ℕ → ℕ → ℝ) (b h : ℕ)

/-- The score of row `r` against key `k`. -/
def S (r k : ℕ) : ℝ := ∑ d : Fin 128, Q (b * 2304 + r) (h * 128 + d.val) * K (b * 2304 + k) (h * 128 + d.val)
/-- The sum of the exponentials of a row's first `n` scores. -/
def Z (n r : ℕ) : ℝ := ∑ k : Fin n, Real.exp (S Q K b h r k.val)
/-- The softmax of row `r` over its first `n` keys, at key `k`. -/
def Pr (n r k : ℕ) : ℝ := Real.exp (S Q K b h r k) / Z Q K b h n r
/-- The result's gradient against the values of key `k`. -/
def DP (r k : ℕ) : ℝ := ∑ e : Fin 64, D (b * 2304 + r) (h * 64 + e.val) * V (b * 2304 + k) (h * 64 + e.val)
/-- The mean of `DP` under the row's softmax. -/
def W (n r : ℕ) : ℝ := ∑ k : Fin n, Pr Q K b h n r k.val * DP V D b h r k.val
/-- The gradient of the score of row `r` against key `k`. -/
def DS (n r k : ℕ) : ℝ := Pr Q K b h n r k * (DP V D b h r k - W Q K V D b h n r)
/-- The attention's result at row `r`, lane `e` of the head. -/
def O (n r e : ℕ) : ℝ := ∑ k : Fin n, Pr Q K b h n r k.val * V (b * 2304 + k.val) (h * 64 + e)

theorem Z_pos (n r : ℕ) (hn : 0 < n) : 0 < Z Q K b h n r := by
  unfold Z
  haveI : Nonempty (Fin n) := ⟨⟨0, hn⟩⟩
  exact Finset.sum_pos (fun _ _ => Real.exp_pos _) Finset.univ_nonempty

/-- The mean of `DP` is the gradient against the attention's own result. -/
theorem sum_D_O (n r : ℕ) : ∑ e : Fin 64, D (b * 2304 + r) (h * 64 + e.val) * O Q K V b h n r e.val = W Q K V D b h n r := by
  unfold O W DP
  simp only [Finset.mul_sum]
  rw [Finset.sum_comm]
  refine Finset.sum_congr rfl fun k _ => Finset.sum_congr rfl fun e _ => by ring

/-- Subtracting the logarithm of the row's sum before the exponential is the softmax. -/
theorem exp_sub_log (n r k : ℕ) (hn : 0 < n) : Real.exp (S Q K b h r k - Real.log (Z Q K b h n r)) = Pr Q K b h n r k := by
  rw [Real.exp_sub, Real.exp_log (Z_pos Q K b h n r hn), Pr]

/-- The row's sum after the shift by any `m`. -/
theorem Z_shift (n r : ℕ) (m : ℝ) : ∑ k : Fin n, Real.exp (S Q K b h r k.val - m) = Z Q K b h n r / Real.exp m := by
  simp only [Real.exp_sub, Z, Finset.sum_div]

/-- The logarithm of the row's sum, from the shifted sum. -/
theorem log_shift (n r : ℕ) (hn : 0 < n) (m : ℝ) :
    m + Real.log (∑ k : Fin n, Real.exp (S Q K b h r k.val - m)) = Real.log (Z Q K b h n r) := by
  rw [Z_shift, Real.log_div (Z_pos Q K b h n r hn).ne' (Real.exp_ne_zero m), Real.log_exp]; ring

/-- The softmax, from the shifted exponentials. -/
theorem Pr_shift (n r k : ℕ) (m : ℝ) :
    Real.exp (S Q K b h r k - m) / (∑ k : Fin n, Real.exp (S Q K b h r k.val - m)) = Pr Q K b h n r k := by
  rw [Z_shift, Real.exp_sub, Pr, div_div_div_cancel_right₀ (Real.exp_ne_zero m)]

/-- The shifted sum is positive. -/
theorem Zs_pos (n r : ℕ) (hn : 0 < n) (m : ℝ) : 0 < ∑ k : Fin n, Real.exp (S Q K b h r k.val - m) := by
  rw [Z_shift]; exact div_pos (Z_pos Q K b h n r hn) (Real.exp_pos m)

/-- The correction of the softmax's gradient, as differentiation of the shifted quotient writes it. -/
theorem neg_w (n r : ℕ) (hn : 0 < n) (m : ℝ) :
    -(∑ y : Fin n, DP V D b h r y.val * (1 / ((∑ t : Fin n, Real.exp (S Q K b h r t.val - m)) * (∑ t : Fin n, Real.exp (S Q K b h r t.val - m)))) * Real.exp (S Q K b h r y.val - m))
      = -(W Q K V D b h n r / ∑ t : Fin n, Real.exp (S Q K b h r t.val - m)) := by
  have hz := (Zs_pos Q K b h n r hn m).ne'
  unfold W
  rw [Finset.sum_div]
  refine congrArg Neg.neg (Finset.sum_congr rfl fun y _ => ?_)
  rw [← Pr_shift Q K b h n r y.val m]
  field_simp

/-- The gradient of a score, as differentiation of the shifted quotient writes it. -/
theorem ds_shift (n r y : ℕ) (hn : 0 < n) (m : ℝ) :
    (DP V D b h r y / (∑ t : Fin n, Real.exp (S Q K b h r t.val - m)) + -(W Q K V D b h n r / ∑ t : Fin n, Real.exp (S Q K b h r t.val - m))) * Real.exp (S Q K b h r y - m)
      = DS Q K V D b h n r y := by
  have hz := (Zs_pos Q K b h n r hn m).ne'
  unfold DS
  rw [← Pr_shift Q K b h n r y m]
  field_simp
  ring

end Formulas

end Cert.Attn
end
-- ==== Proof.HostChain.lean ====
module

public import proofs.«01_k».proof.Proof.Gen.KernelIdeal.Frame
public import Idealize.ShloMosaic.Lib.Pipeline.ValueKit
public import proofs.«01_k».proof.Proof.Reals

@[expose] public section

set_option maxRecDepth 16384

noncomputable section

namespace Cert.KernelIdeal
namespace Chain
open Cert.KernelIdeal Idealize.ShloMosaic Idealize.ShloMosaic.TcCoe Idealize.SL.Sem Cert.Attn
open Facts₀ Facts

/-- The number of keys a row attends to. -/
def NK (r : ℕ) : ℕ := if r < 256 then 256 else 2304

/-- `0 = stablehlo.reshape %arg0` of the program, as a function of the arguments. -/
def hv0 (q k : FVec Ideal S9216x1024 .f32) (v d : FVec Ideal S9216x512 .f32) : FVec Ideal S4x2304x8x128 .f32 := shapeCast S4x2304x8x128 q shapeCasts_S9216x1024_S4x2304x8x128
/-- `1 = stablehlo.reshape %arg1` of the program, as a function of the arguments. -/
def hv1 (q k : FVec Ideal S9216x1024 .f32) (v d : FVec Ideal S9216x512 .f32) : FVec Ideal S4x2304x8x128 .f32 := shapeCast S4x2304x8x128 k shapeCasts_S9216x1024_S4x2304x8x128
/-- `2 = stablehlo.reshape %arg2` of the program, as a function of the arguments. -/
def hv2 (q k : FVec Ideal S9216x1024 .f32) (v d : FVec Ideal S9216x512 .f32) : FVec Ideal S4x2304x8x64 .f32 := shapeCast S4x2304x8x64 v shapeCasts_S9216x512_S4x2304x8x64
/-- `3 = stablehlo.slice %0 [0:4` of the program, as a function of the arguments. -/
def hv3 (q k : FVec Ideal S9216x1024 .f32) (v d : FVec Ideal S9216x512 .f32) : FVec Ideal S4x256x8x128 .f32 := ((extractStridedSlice S4x256x8x128 ![0, 0, 0, 0] · slices_S4x2304x8x128_S4x256x8x128_0_0_0_0)) (hv0 q k v d)
/-- `4 = stablehlo.slice %1 [0:4` of the program, as a function of the arguments. -/
def hv4 (q k : FVec Ideal S9216x1024 .f32) (v d : FVec Ideal S9216x512 .f32) : FVec Ideal S4x256x8x128 .f32 := ((extractStridedSlice S4x256x8x128 ![0, 0, 0, 0] · slices_S4x2304x8x128_S4x256x8x128_0_0_0_0)) (hv1 q k v d)
/-- `5 = stablehlo.slice %2 [0:4` of the program, as a function of the arguments. -/
def hv5 (q k : FVec Ideal S9216x1024 .f32) (v d : FVec Ideal S9216x512 .f32) : FVec Ideal S4x256x8x64 .f32 := ((extractStridedSlice S4x256x8x64 ![0, 0, 0, 0] · slices_S4x2304x8x64_S4x256x8x64_0_0_0_0)) (hv2 q k v d)
/-- `6 = stablehlo.dot_general %3` of the program, as a function of the arguments. -/
def hv6 (q k : FVec Ideal S9216x1024 .f32) (v d : FVec Ideal S9216x512 .f32) : FVec Ideal S4x8x256x256 .f32 := ((fun l r => Host.dotGeneral dot_S4x256x8x128_S4x256x8x128_S4x8x256x256_3_3_1_1_02_02 none l r)) (hv3 q k v d) (hv4 q k v d)
/-- `cst = stablehlo.constant` of the program, as a function of the arguments. -/
def hcst (q k : FVec Ideal S9216x1024 .f32) (v d : FVec Ideal S9216x512 .f32) : FVec Ideal S_ .f32 := (constant S_ .f32 0xFF800000#32)
/-- `7 = stablehlo.reduce(%6 init: %cst) applies stablehlo.maximum across dimensions = [3]` of the program, as a function of the arguments. -/
def hv7 (q k : FVec Ideal S9216x1024 .f32) (v d : FVec Ideal S9216x512 .f32) : FVec Ideal S4x8x256 .f32 := ((fun x v => Host.reduce FloatOps.maximumf x v reducesTo_S4x8x256x256_S4x8x256_d3 h_S_)) (hv6 q k v d) (hcst q k v d)
/-- `8 = stablehlo.broadcast_in_dim %7` of the program, as a function of the arguments. -/
def hv8 (q k : FVec Ideal S9216x1024 .f32) (v d : FVec Ideal S9216x512 .f32) : FVec Ideal S4x8x256x1 .f32 := (broadcastInDim S4x8x256x1 ![0, 1, 2] bcast_S4x8x256_S4x8x256x1_0_1_2) (hv7 q k v d)
/-- `9 = stablehlo.broadcast_in_dim %8` of the program, as a function of the arguments. -/
def hv9 (q k : FVec Ideal S9216x1024 .f32) (v d : FVec Ideal S9216x512 .f32) : FVec Ideal S4x8x256x256 .f32 := (broadcastInDim S4x8x256x256 ![0, 1, 2, 3] bcast_S4x8x256x1_S4x8x256x256_0_1_2_3) (hv8 q k v d)
/-- `10 = stablehlo.subtract %6` of the program, as a function of the arguments. -/
def hv10 (q k : FVec Ideal S9216x1024 .f32) (v d : FVec Ideal S9216x512 .f32) : FVec Ideal S4x8x256x256 .f32 := (subf) (hv6 q k v d) (hv9 q k v d)
/-- `11 = stablehlo.exponential %10` of the program, as a function of the arguments. -/
def hv11 (q k : FVec Ideal S9216x1024 .f32) (v d : FVec Ideal S9216x512 .f32) : FVec Ideal S4x8x256x256 .f32 := (Host.exp) (hv10 q k v d)
/-- `cst_0 = stablehlo.constant` of the program, as a function of the arguments. -/
def hcst_0 (q k : FVec Ideal S9216x1024 .f32) (v d : FVec Ideal S9216x512 .f32) : FVec Ideal S_ .f32 := (constant S_ .f32 0x00000000#32)
/-- `12 = stablehlo.reduce(%11 init: %cst_0) applies stablehlo.add across dimensions = [3]` of the program, as a function of the arguments. -/
def hv12 (q k : FVec Ideal S9216x1024 .f32) (v d : FVec Ideal S9216x512 .f32) : FVec Ideal S4x8x256 .f32 := ((fun x v => Host.reduceAdd x v reducesTo_S4x8x256x256_S4x8x256_d3 h_S_)) (hv11 q k v d) (hcst_0 q k v d)
/-- `13 = stablehlo.broadcast_in_dim %12` of the program, as a function of the arguments. -/
def hv13 (q k : FVec Ideal S9216x1024 .f32) (v d : FVec Ideal S9216x512 .f32) : FVec Ideal S4x8x256x1 .f32 := (broadcastInDim S4x8x256x1 ![0, 1, 2] bcast_S4x8x256_S4x8x256x1_0_1_2) (hv12 q k v d)
/-- `14 = stablehlo.broadcast_in_dim %13` of the program, as a function of the arguments. -/
def hv14 (q k : FVec Ideal S9216x1024 .f32) (v d : FVec Ideal S9216x512 .f32) : FVec Ideal S4x8x256x256 .f32 := (broadcastInDim S4x8x256x256 ![0, 1, 2, 3] bcast_S4x8x256x1_S4x8x256x256_0_1_2_3) (hv13 q k v d)
/-- `15 = stablehlo.divide %11` of the program, as a function of the arguments. -/
def hv15 (q k : FVec Ideal S9216x1024 .f32) (v d : FVec Ideal S9216x512 .f32) : FVec Ideal S4x8x256x256 .f32 := (Host.divf) (hv11 q k v d) (hv14 q k v d)
/-- `16 = stablehlo.dot_general %5` of the program, as a function of the arguments. -/
def hv16 (q k : FVec Ideal S9216x1024 .f32) (v d : FVec Ideal S9216x512 .f32) : FVec Ideal S4x8x64x256 .f32 := ((fun l r => Host.dotGeneral dot_S4x256x8x64_S4x8x256x256_S4x8x64x256_1_3_3_2_02_01 none l r)) (hv5 q k v d) (hv15 q k v d)
/-- `17 = stablehlo.transpose %16` of the program, as a function of the arguments. -/
def hv17 (q k : FVec Ideal S9216x1024 .f32) (v d : FVec Ideal S9216x512 .f32) : FVec Ideal S4x256x8x64 .f32 := ((transpose S4x256x8x64 [0, 3, 1, 2] · transposes_S4x8x64x256_S4x256x8x64_0_3_1_2)) (hv16 q k v d)
/-- `18 = stablehlo.log %13` of the program, as a function of the arguments. -/
def hv18 (q k : FVec Ideal S9216x1024 .f32) (v d : FVec Ideal S9216x512 .f32) : FVec Ideal S4x8x256x1 .f32 := (Host.log) (hv13 q k v d)
/-- `19 = stablehlo.add %8` of the program, as a function of the arguments. -/
def hv19 (q k : FVec Ideal S9216x1024 .f32) (v d : FVec Ideal S9216x512 .f32) : FVec Ideal S4x8x256x1 .f32 := (addf) (hv8 q k v d) (hv18 q k v d)
/-- `20 = stablehlo.transpose %19` of the program, as a function of the arguments. -/
def hv20 (q k : FVec Ideal S9216x1024 .f32) (v d : FVec Ideal S9216x512 .f32) : FVec Ideal S4x256x8x1 .f32 := ((transpose S4x256x8x1 [0, 2, 1, 3] · transposes_S4x8x256x1_S4x256x8x1_0_2_1_3)) (hv19 q k v d)
/-- `21 = stablehlo.slice %0 [0:4` of the program, as a function of the arguments. -/
def hv21 (q k : FVec Ideal S9216x1024 .f32) (v d : FVec Ideal S9216x512 .f32) : FVec Ideal S4x2048x8x128 .f32 := ((extractStridedSlice S4x2048x8x128 ![0, 256, 0, 0] · slices_S4x2304x8x128_S4x2048x8x128_0_256_0_0)) (hv0 q k v d)
/-- `22 = stablehlo.dot_general %21` of the program, as a function of the arguments. -/
def hv22 (q k : FVec Ideal S9216x1024 .f32) (v d : FVec Ideal S9216x512 .f32) : FVec Ideal S4x8x2048x2304 .f32 := ((fun l r => Host.dotGeneral dot_S4x2048x8x128_S4x2304x8x128_S4x8x2048x2304_3_3_1_1_02_02 none l r)) (hv21 q k v d) (hv1 q k v d)
/-- `cst_1 = stablehlo.constant` of the program, as a function of the arguments. -/
def hcst_1 (q k : FVec Ideal S9216x1024 .f32) (v d : FVec Ideal S9216x512 .f32) : FVec Ideal S_ .f32 := (constant S_ .f32 0xFF800000#32)
/-- `23 = stablehlo.reduce(%22 init: %cst_1) applies stablehlo.maximum across dimensions = [3]` of the program, as a function of the arguments. -/
def hv23 (q k : FVec Ideal S9216x1024 .f32) (v d : FVec Ideal S9216x512 .f32) : FVec Ideal S4x8x2048 .f32 := ((fun x v => Host.reduce FloatOps.maximumf x v reducesTo_S4x8x2048x2304_S4x8x2048_d3 h_S_)) (hv22 q k v d) (hcst_1 q k v d)
/-- `24 = stablehlo.broadcast_in_dim %23` of the program, as a function of the arguments. -/
def hv24 (q k : FVec Ideal S9216x1024 .f32) (v d : FVec Ideal S9216x512 .f32) : FVec Ideal S4x8x2048x1 .f32 := (broadcastInDim S4x8x2048x1 ![0, 1, 2] bcast_S4x8x2048_S4x8x2048x1_0_1_2) (hv23 q k v d)
/-- `25 = stablehlo.broadcast_in_dim %24` of the program, as a function of the arguments. -/
def hv25 (q k : FVec Ideal S9216x1024 .f32) (v d : FVec Ideal S9216x512 .f32) : FVec Ideal S4x8x2048x2304 .f32 := (broadcastInDim S4x8x2048x2304 ![0, 1, 2, 3] bcast_S4x8x2048x1_S4x8x2048x2304_0_1_2_3) (hv24 q k v d)
/-- `26 = stablehlo.subtract %22` of the program, as a function of the arguments. -/
def hv26 (q k : FVec Ideal S9216x1024 .f32) (v d : FVec Ideal S9216x512 .f32) : FVec Ideal S4x8x2048x2304 .f32 := (subf) (hv22 q k v d) (hv25 q k v d)
/-- `27 = stablehlo.exponential %26` of the program, as a function of the arguments. -/
def hv27 (q k : FVec Ideal S9216x1024 .f32) (v d : FVec Ideal S9216x512 .f32) : FVec Ideal S4x8x2048x2304 .f32 := (Host.exp) (hv26 q k v d)
/-- `cst_2 = stablehlo.constant` of the program, as a function of the arguments. -/
def hcst_2 (q k : FVec Ideal S9216x1024 .f32) (v d : FVec Ideal S9216x512 .f32) : FVec Ideal S_ .f32 := (constant S_ .f32 0x00000000#32)
/-- `28 = stablehlo.reduce(%27 init: %cst_2) applies stablehlo.add across dimensions = [3]` of the program, as a function of the arguments. -/
def hv28 (q k : FVec Ideal S9216x1024 .f32) (v d : FVec Ideal S9216x512 .f32) : FVec Ideal S4x8x2048 .f32 := ((fun x v => Host.reduceAdd x v reducesTo_S4x8x2048x2304_S4x8x2048_d3 h_S_)) (hv27 q k v d) (hcst_2 q k v d)
/-- `29 = stablehlo.broadcast_in_dim %28` of the program, as a function of the arguments. -/
def hv29 (q k : FVec Ideal S9216x1024 .f32) (v d : FVec Ideal S9216x512 .f32) : FVec Ideal S4x8x2048x1 .f32 := (broadcastInDim S4x8x2048x1 ![0, 1, 2] bcast_S4x8x2048_S4x8x2048x1_0_1_2) (hv28 q k v d)
/-- `30 = stablehlo.broadcast_in_dim %29` of the program, as a function of the arguments. -/
def hv30 (q k : FVec Ideal S9216x1024 .f32) (v d : FVec Ideal S9216x512 .f32) : FVec Ideal S4x8x2048x2304 .f32 := (broadcastInDim S4x8x2048x2304 ![0, 1, 2, 3] bcast_S4x8x2048x1_S4x8x2048x2304_0_1_2_3) (hv29 q k v d)
/-- `31 = stablehlo.divide %27` of the program, as a function of the arguments. -/
def hv31 (q k : FVec Ideal S9216x1024 .f32) (v d : FVec Ideal S9216x512 .f32) : FVec Ideal S4x8x2048x2304 .f32 := (Host.divf) (hv27 q k v d) (hv30 q k v d)
/-- `32 = stablehlo.dot_general %2` of the program, as a function of the arguments. -/
def hv32 (q k : FVec Ideal S9216x1024 .f32) (v d : FVec Ideal S9216x512 .f32) : FVec Ideal S4x8x64x2048 .f32 := ((fun l r => Host.dotGeneral dot_S4x2304x8x64_S4x8x2048x2304_S4x8x64x2048_1_3_3_2_02_01 none l r)) (hv2 q k v d) (hv31 q k v d)
/-- `33 = stablehlo.transpose %32` of the program, as a function of the arguments. -/
def hv33 (q k : FVec Ideal S9216x1024 .f32) (v d : FVec Ideal S9216x512 .f32) : FVec Ideal S4x2048x8x64 .f32 := ((transpose S4x2048x8x64 [0, 3, 1, 2] · transposes_S4x8x64x2048_S4x2048x8x64_0_3_1_2)) (hv32 q k v d)
/-- `34 = stablehlo.log %29` of the program, as a function of the arguments. -/
def hv34 (q k : FVec Ideal S9216x1024 .f32) (v d : FVec Ideal S9216x512 .f32) : FVec Ideal S4x8x2048x1 .f32 := (Host.log) (hv29 q k v d)
/-- `35 = stablehlo.add %24` of the program, as a function of the arguments. -/
def hv35 (q k : FVec Ideal S9216x1024 .f32) (v d : FVec Ideal S9216x512 .f32) : FVec Ideal S4x8x2048x1 .f32 := (addf) (hv24 q k v d) (hv34 q k v d)
/-- `36 = stablehlo.transpose %35` of the program, as a function of the arguments. -/
def hv36 (q k : FVec Ideal S9216x1024 .f32) (v d : FVec Ideal S9216x512 .f32) : FVec Ideal S4x2048x8x1 .f32 := ((transpose S4x2048x8x1 [0, 2, 1, 3] · transposes_S4x8x2048x1_S4x2048x8x1_0_2_1_3)) (hv35 q k v d)
/-- `37 = stablehlo.concatenate %17` of the program, as a function of the arguments. -/
def hv37 (q k : FVec Ideal S9216x1024 .f32) (v d : FVec Ideal S9216x512 .f32) : FVec Ideal S4x2304x8x64 .f32 := ((fun a b => concatenate S4x2304x8x64 1 [⟨S4x256x8x64, a⟩, ⟨S4x2048x8x64, b⟩] concatenates_S4x256x8x64_S4x2048x8x64_S4x2304x8x64_d1)) (hv17 q k v d) (hv33 q k v d)
/-- `38 = stablehlo.reshape %37` of the program, as a function of the arguments. -/
def hv38 (q k : FVec Ideal S9216x1024 .f32) (v d : FVec Ideal S9216x512 .f32) : FVec Ideal S9216x512 .f32 := shapeCast S9216x512 (hv37 q k v d) shapeCasts_S4x2304x8x64_S9216x512
/-- `39 = stablehlo.concatenate %20` of the program, as a function of the arguments. -/
def hv39 (q k : FVec Ideal S9216x1024 .f32) (v d : FVec Ideal S9216x512 .f32) : FVec Ideal S4x2304x8x1 .f32 := ((fun a b => concatenate S4x2304x8x1 1 [⟨S4x256x8x1, a⟩, ⟨S4x2048x8x1, b⟩] concatenates_S4x256x8x1_S4x2048x8x1_S4x2304x8x1_d1)) (hv20 q k v d) (hv36 q k v d)
/-- `40 = stablehlo.broadcast_in_dim %39` of the program, as a function of the arguments. -/
def hv40 (q k : FVec Ideal S9216x1024 .f32) (v d : FVec Ideal S9216x512 .f32) : FVec Ideal S4x2304x8x64 .f32 := (broadcastInDim S4x2304x8x64 ![0, 1, 2, 3] bcast_S4x2304x8x1_S4x2304x8x64_0_1_2_3) (hv39 q k v d)
/-- `41 = stablehlo.reshape %40` of the program, as a function of the arguments. -/
def hv41 (q k : FVec Ideal S9216x1024 .f32) (v d : FVec Ideal S9216x512 .f32) : FVec Ideal S9216x512 .f32 := shapeCast S9216x512 (hv40 q k v d) shapeCasts_S4x2304x8x64_S9216x512

/-- The shift plus the logarithm of the shifted sum is the logarithm of the sum. -/
theorem log_real (n : ℕ) (hn : 0 < n) (Q K : ℕ → ℕ → ℝ) (b h r : ℕ) (m : ℝ) :
    (m : EReal) + Ideal.log ((∑ t : Fin n, Real.exp (S Q K b h r t.val - m) : ℝ) : EReal) = ((Real.log (Z Q K b h n r) : ℝ) : EReal) := by
  rw [Ideal.log_coe, if_neg (not_le.mpr (Zs_pos Q K b h n r hn _)), ← EReal.coe_add, log_shift Q K b h n r hn]

/-- The printed sum of a row's maximum and the logarithm of its sum, read at one place. -/
theorem log_ctx (X Y : FVec Ideal S4x8x256 .f32) (b : Fin 4) (r : Fin 256) (h : Fin 8) (u : Fin 1) :
    (transpose S4x256x8x1 [0, 2, 1, 3] (addf (broadcastInDim S4x8x256x1 ![0, 1, 2] bcast_S4x8x256_S4x8x256x1_0_1_2 X)
      (Host.log (broadcastInDim S4x8x256x1 ![0, 1, 2] bcast_S4x8x256_S4x8x256x1_0_1_2 Y))) transposes_S4x8x256x1_S4x256x8x1_0_2_1_3) (ix4 b r h u)
      = X (ix3 b h r) + Ideal.log (Y (ix3 b h r)) := by
  pointwise

/-- The printed sum of a row's maximum and the logarithm of its sum, read at one place. -/
theorem log_lat (X Y : FVec Ideal S4x8x2048 .f32) (b : Fin 4) (r : Fin 2048) (h : Fin 8) (u : Fin 1) :
    (transpose S4x2048x8x1 [0, 2, 1, 3] (addf (broadcastInDim S4x8x2048x1 ![0, 1, 2] bcast_S4x8x2048_S4x8x2048x1_0_1_2 X)
      (Host.log (broadcastInDim S4x8x2048x1 ![0, 1, 2] bcast_S4x8x2048_S4x8x2048x1_0_1_2 Y))) transposes_S4x8x2048x1_S4x2048x8x1_0_2_1_3) (ix4 b r h u)
      = X (ix3 b h r) + Ideal.log (Y (ix3 b h r)) := by
  pointwise

variable (q k : FVec Ideal S9216x1024 .f32) (v d : FVec Ideal S9216x512 .f32) (Q K V D : ℕ → ℕ → ℝ)
  (hq : ∀ i j, q (ix2 i j) = ((Q i.val j.val : ℝ) : EReal)) (hk : ∀ i j, k (ix2 i j) = ((K i.val j.val : ℝ) : EReal))
  (hv : ∀ i j, v (ix2 i j) = ((V i.val j.val : ℝ) : EReal)) (hd : ∀ i j, d (ix2 i j) = ((D i.val j.val : ℝ) : EReal))

include hq hk hv hd in
theorem hv0_at (b : Fin 4) (r : Fin 2304) (h : Fin 8) (e : Fin 128) :
    hv0 q k v d (ix4 b r h e) = ((Q (b.val * 2304 + r.val) (h.val * 128 + e.val) : ℝ) : EReal) := by
  unfold hv0
  pointwise
  simp only [hq]

include hq hk hv hd in
theorem hv1_at (b : Fin 4) (r : Fin 2304) (h : Fin 8) (e : Fin 128) :
    hv1 q k v d (ix4 b r h e) = ((K (b.val * 2304 + r.val) (h.val * 128 + e.val) : ℝ) : EReal) := by
  unfold hv1
  pointwise
  simp only [hk]

include hq hk hv hd in
theorem hv2_at (b : Fin 4) (r : Fin 2304) (h : Fin 8) (e : Fin 64) :
    hv2 q k v d (ix4 b r h e) = ((V (b.val * 2304 + r.val) (h.val * 64 + e.val) : ℝ) : EReal) := by
  unfold hv2
  pointwise
  simp only [hv]

include hq hk hv hd in
theorem hv3_at (b : Fin 4) (r : Fin 256) (h : Fin 8) (e : Fin 128) :
    hv3 q k v d (ix4 b r h e) = ((Q (b.val * 2304 + r.val) (h.val * 128 + e.val) : ℝ) : EReal) := by
  unfold hv3
  pointwise
  simp only [hv0_at q k v d Q K V D hq hk hv hd]

include hq hk hv hd in
theorem hv4_at (b : Fin 4) (r : Fin 256) (h : Fin 8) (e : Fin 128) :
    hv4 q k v d (ix4 b r h e) = ((K (b.val * 2304 + r.val) (h.val * 128 + e.val) : ℝ) : EReal) := by
  unfold hv4
  pointwise
  simp only [hv1_at q k v d Q K V D hq hk hv hd]

include hq hk hv hd in
theorem hv5_at (b : Fin 4) (r : Fin 256) (h : Fin 8) (e : Fin 64) :
    hv5 q k v d (ix4 b r h e) = ((V (b.val * 2304 + r.val) (h.val * 64 + e.val) : ℝ) : EReal) := by
  unfold hv5
  pointwise
  simp only [hv2_at q k v d Q K V D hq hk hv hd]

include hq hk hv hd in
theorem hv6_at (b : Fin 4) (h : Fin 8) (r : Fin 256) (y : Fin 256) :
    hv6 q k v d (ix4 b h r y) = ((S Q K b.val h.val r.val y.val : ℝ) : EReal) := by
  unfold hv6
  pointwise
  simp only [hv3_at q k v d Q K V D hq hk hv hd, hv4_at q k v d Q K V D hq hk hv hd, ← EReal.coe_mul, ← EReal.coe_add, ← EReal.coe_sub, ← EReal.coe_neg, coe_sum, Ideal.exp_coe]
  try rfl

/-- The maximum of a row's scores. -/
def hMc (q k : FVec Ideal S9216x1024 .f32) (v d : FVec Ideal S9216x512 .f32) (b : Fin 4) (h : Fin 8) (r : Fin 256) : ℝ := (hv7 q k v d (ix3 b h r)).toReal
include hq hk hv hd in
theorem hv7_at (b : Fin 4) (h : Fin 8) (r : Fin 256) :
    hv7 q k v d (ix3 b h r) = ((hMc q k v d b h r : ℝ) : EReal) := by
  have : ∃ x : ℝ, hv7 q k v d (ix3 b h r) = (x : EReal) := by
    unfold hv7 hcst
    pointwise
    simp only [hv6_at q k v d Q K V D hq hk hv hd, neg_inf]
    exact fold_max_real _ Finset.univ_nonempty _
  obtain ⟨x, hx⟩ := this
  unfold hMc
  rw [hx, EReal.toReal_coe]

include hq hk hv hd in
theorem hv11_at (b : Fin 4) (h : Fin 8) (r : Fin 256) (y : Fin 256) :
    hv11 q k v d (ix4 b h r y) = ((Real.exp (S Q K b.val h.val r.val y.val - hMc q k v d b h r) : ℝ) : EReal) := by
  unfold hv11 hv10 hv9 hv8
  pointwise
  simp only [hv6_at q k v d Q K V D hq hk hv hd, hv7_at q k v d Q K V D hq hk hv hd, ← EReal.coe_mul, ← EReal.coe_add, ← EReal.coe_sub, ← EReal.coe_neg, coe_sum, Ideal.exp_coe]
  try rfl

include hq hk hv hd in
theorem hv12_at (b : Fin 4) (h : Fin 8) (r : Fin 256) :
    hv12 q k v d (ix3 b h r) = ((∑ t : Fin 256, Real.exp (S Q K b.val h.val r.val t.val - hMc q k v d b h r) : ℝ) : EReal) := by
  unfold hv12 hcst_0
  pointwise
  simp only [hv11_at q k v d Q K V D hq hk hv hd, ← EReal.coe_mul, ← EReal.coe_add, ← EReal.coe_sub, ← EReal.coe_neg, coe_sum, Ideal.exp_coe]
  try rfl

include hq hk hv hd in
theorem hv15_at (b : Fin 4) (h : Fin 8) (r : Fin 256) (y : Fin 256) :
    hv15 q k v d (ix4 b h r y) = ((Pr Q K b.val h.val 256 r.val y.val : ℝ) : EReal) := by
  unfold hv15 hv14 hv13
  pointwise
  simp only [hv11_at q k v d Q K V D hq hk hv hd, hv12_at q k v d Q K V D hq hk hv hd]
  rw [Attn.div_real _ _ (Zs_pos Q K b.val h.val 256 r.val (by omega) _).ne', Pr_shift]

include hq hk hv hd in
theorem hv17_at (b : Fin 4) (r : Fin 256) (h : Fin 8) (e : Fin 64) :
    hv17 q k v d (ix4 b r h e) = ((O Q K V b.val h.val 256 r.val e.val : ℝ) : EReal) := by
  unfold hv17 hv16
  pointwise
  simp only [hv5_at q k v d Q K V D hq hk hv hd, hv15_at q k v d Q K V D hq hk hv hd, ← EReal.coe_mul, ← EReal.coe_add, ← EReal.coe_sub, ← EReal.coe_neg, coe_sum, Ideal.exp_coe]
  exact congrArg _ (Finset.sum_congr rfl fun y _ => mul_comm _ _)

include hq hk hv hd in
theorem hv20_at (b : Fin 4) (r : Fin 256) (h : Fin 8) (u : Fin 1) :
    hv20 q k v d (ix4 b r h u) = ((Real.log (Z Q K b.val h.val 256 r.val) : ℝ) : EReal) := by
  refine (log_ctx (hv7 q k v d) (hv12 q k v d) b r h u).trans ?_
  rw [hv7_at q k v d Q K V D hq hk hv hd, hv12_at q k v d Q K V D hq hk hv hd]
  exact log_real 256 (by omega) Q K b.val h.val r.val _

include hq hk hv hd in
theorem hv21_at (b : Fin 4) (r : Fin 2048) (h : Fin 8) (e : Fin 128) :
    hv21 q k v d (ix4 b r h e) = ((Q (b.val * 2304 + (256 + r.val)) (h.val * 128 + e.val) : ℝ) : EReal) := by
  unfold hv21
  pointwise
  simp only [hv0_at q k v d Q K V D hq hk hv hd]

include hq hk hv hd in
theorem hv22_at (b : Fin 4) (h : Fin 8) (r : Fin 2048) (y : Fin 2304) :
    hv22 q k v d (ix4 b h r y) = ((S Q K b.val h.val (256 + r.val) y.val : ℝ) : EReal) := by
  unfold hv22
  pointwise
  simp only [hv21_at q k v d Q K V D hq hk hv hd, hv1_at q k v d Q K V D hq hk hv hd, ← EReal.coe_mul, ← EReal.coe_add, ← EReal.coe_sub, ← EReal.coe_neg, coe_sum, Ideal.exp_coe]
  try rfl

/-- The maximum of a row's scores. -/
def hMl (q k : FVec Ideal S9216x1024 .f32) (v d : FVec Ideal S9216x512 .f32) (b : Fin 4) (h : Fin 8) (r : Fin 2048) : ℝ := (hv23 q k v d (ix3 b h r)).toReal
include hq hk hv hd in
theorem hv23_at (b : Fin 4) (h : Fin 8) (r : Fin 2048) :
    hv23 q k v d (ix3 b h r) = ((hMl q k v d b h r : ℝ) : EReal) := by
  have : ∃ x : ℝ, hv23 q k v d (ix3 b h r) = (x : EReal) := by
    unfold hv23 hcst_1
    pointwise
    simp only [hv22_at q k v d Q K V D hq hk hv hd, neg_inf]
    exact fold_max_real _ Finset.univ_nonempty _
  obtain ⟨x, hx⟩ := this
  unfold hMl
  rw [hx, EReal.toReal_coe]

include hq hk hv hd in
theorem hv27_at (b : Fin 4) (h : Fin 8) (r : Fin 2048) (y : Fin 2304) :
    hv27 q k v d (ix4 b h r y) = ((Real.exp (S Q K b.val h.val (256 + r.val) y.val - hMl q k v d b h r) : ℝ) : EReal) := by
  unfold hv27 hv26 hv25 hv24
  pointwise
  simp only [hv22_at q k v d Q K V D hq hk hv hd, hv23_at q k v d Q K V D hq hk hv hd, ← EReal.coe_mul, ← EReal.coe_add, ← EReal.coe_sub, ← EReal.coe_neg, coe_sum, Ideal.exp_coe]
  try rfl

include hq hk hv hd in
theorem hv28_at (b : Fin 4) (h : Fin 8) (r : Fin 2048) :
    hv28 q k v d (ix3 b h r) = ((∑ t : Fin 2304, Real.exp (S Q K b.val h.val (256 + r.val) t.val - hMl q k v d b h r) : ℝ) : EReal) := by
  unfold hv28 hcst_2
  pointwise
  simp only [hv27_at q k v d Q K V D hq hk hv hd, ← EReal.coe_mul, ← EReal.coe_add, ← EReal.coe_sub, ← EReal.coe_neg, coe_sum, Ideal.exp_coe]
  try rfl

include hq hk hv hd in
theorem hv31_at (b : Fin 4) (h : Fin 8) (r : Fin 2048) (y : Fin 2304) :
    hv31 q k v d (ix4 b h r y) = ((Pr Q K b.val h.val 2304 (256 + r.val) y.val : ℝ) : EReal) := by
  unfold hv31 hv30 hv29
  pointwise
  simp only [hv27_at q k v d Q K V D hq hk hv hd, hv28_at q k v d Q K V D hq hk hv hd]
  rw [Attn.div_real _ _ (Zs_pos Q K b.val h.val 2304 (256 + r.val) (by omega) _).ne', Pr_shift]

include hq hk hv hd in
theorem hv33_at (b : Fin 4) (r : Fin 2048) (h : Fin 8) (e : Fin 64) :
    hv33 q k v d (ix4 b r h e) = ((O Q K V b.val h.val 2304 (256 + r.val) e.val : ℝ) : EReal) := by
  unfold hv33 hv32
  pointwise
  simp only [hv2_at q k v d Q K V D hq hk hv hd, hv31_at q k v d Q K V D hq hk hv hd, ← EReal.coe_mul, ← EReal.coe_add, ← EReal.coe_sub, ← EReal.coe_neg, coe_sum, Ideal.exp_coe]
  exact congrArg _ (Finset.sum_congr rfl fun y _ => mul_comm _ _)

end Chain
end Cert.KernelIdeal
end
-- ==== Proof.HostChain2.lean ====
module

public import proofs.«01_k».proof.Proof.Gen.KernelIdeal.Frame
public import Idealize.ShloMosaic.Lib.Pipeline.ValueKit
public import proofs.«01_k».proof.Proof.HostChain

@[expose] public section

set_option maxRecDepth 16384

noncomputable section

namespace Cert.KernelIdeal
namespace Chain
open Cert.KernelIdeal Idealize.ShloMosaic Idealize.ShloMosaic.TcCoe Idealize.SL.Sem Cert.Attn
open Facts₀ Facts

variable (q k : FVec Ideal S9216x1024 .f32) (v d : FVec Ideal S9216x512 .f32) (Q K V D : ℕ → ℕ → ℝ)
  (hq : ∀ i j, q (ix2 i j) = ((Q i.val j.val : ℝ) : EReal)) (hk : ∀ i j, k (ix2 i j) = ((K i.val j.val : ℝ) : EReal))
  (hv : ∀ i j, v (ix2 i j) = ((V i.val j.val : ℝ) : EReal)) (hd : ∀ i j, d (ix2 i j) = ((D i.val j.val : ℝ) : EReal))

include hq hk hv hd in
theorem hv36_at (b : Fin 4) (r : Fin 2048) (h : Fin 8) (u : Fin 1) :
    hv36 q k v d (ix4 b r h u) = ((Real.log (Z Q K b.val h.val 2304 (256 + r.val)) : ℝ) : EReal) := by
  refine (log_lat (hv23 q k v d) (hv28 q k v d) b r h u).trans ?_
  rw [hv23_at q k v d Q K V D hq hk hv hd, hv28_at q k v d Q K V D hq hk hv hd]
  exact log_real 2304 (by omega) Q K b.val h.val (256 + r.val) _

include hq hk hv hd in
theorem hv37_at (b : Fin 4) (r : Fin 2304) (h : Fin 8) (e : Fin 64) :
    hv37 q k v d (ix4 b r h e) = ((O Q K V b.val h.val (NK r.val) r.val e.val : ℝ) : EReal) := by
  unfold hv37
  pointwise
  simp only [hv17_at q k v d Q K V D hq hk hv hd, hv33_at q k v d Q K V D hq hk hv hd]
  unfold NK
  by_cases hr : r.val < 256
  · rw [dif_pos hr, if_pos hr]
  · rw [dif_neg hr, if_neg hr, show 256 + (r.val - 256) = r.val by omega]

include hq hk hv hd in
theorem hv38_at (i : Fin 9216) (j : Fin 512) :
    hv38 q k v d (ix2 i j) = ((O Q K V (i.val / 2304) (j.val / 64) (NK (i.val % 2304)) (i.val % 2304) (j.val % 64) : ℝ) : EReal) := by
  unfold hv38
  pointwise
  simp only [hv37_at q k v d Q K V D hq hk hv hd]

include hq hk hv hd in
theorem hv39_at (b : Fin 4) (r : Fin 2304) (h : Fin 8) (u : Fin 1) :
    hv39 q k v d (ix4 b r h u) = ((Real.log (Z Q K b.val h.val (NK r.val) r.val) : ℝ) : EReal) := by
  unfold hv39
  pointwise
  simp only [hv20_at q k v d Q K V D hq hk hv hd, hv36_at q k v d Q K V D hq hk hv hd]
  unfold NK
  by_cases hr : r.val < 256
  · rw [dif_pos hr, if_pos hr]
  · rw [dif_neg hr, if_neg hr, show 256 + (r.val - 256) = r.val by omega]

include hq hk hv hd in
theorem hv41_at (i : Fin 9216) (j : Fin 512) :
    hv41 q k v d (ix2 i j) = ((Real.log (Z Q K (i.val / 2304) (j.val / 64) (NK (i.val % 2304)) (i.val % 2304)) : ℝ) : EReal) := by
  unfold hv41 hv40
  pointwise
  simp only [hv39_at q k v d Q K V D hq hk hv hd]

end Chain
end Cert.KernelIdeal
end
-- ==== Proof.Entry.lean ====
module

public import proofs.«01_k».proof.Proof.Gen.KernelIdeal.Value
public import Idealize.ShloMosaic.Lib.Pipeline.ValueKit
public import proofs.«01_k».proof.Proof.HostChain2

@[expose] public section

set_option maxRecDepth 16384

noncomputable section

namespace Cert.KernelIdeal
namespace Entry
open Cert.KernelIdeal Idealize.ShloMosaic Idealize.ShloMosaic.TcCoe Idealize.SL.Sem Cert.Attn
open Facts₀ Facts Cert.KernelIdeal.Gen Cert.KernelIdeal.Chain

/-- Which block each window reads or writes at a point. -/
theorem idx : ∀ t : Fin cfg0.N,
    win0_0.index t = ![t.val / 36 * 9 + t.val % 9, t.val / 9 % 4] ∧
    win0_1.index t = ![t.val / 36, t.val / 9 % 4] ∧
    win0_2.index t = ![t.val / 36, t.val / 9 % 4] ∧
    win0_3.index t = ![t.val / 36 * 9 + t.val % 9, t.val / 9 % 4] ∧
    win0_4.index t = ![t.val / 36 * 9 + t.val % 9, t.val / 9 % 4] ∧
    win0_5.index t = ![t.val / 36 * 9 + t.val % 9, t.val / 9 % 4] ∧
    win0_6.index t = ![t.val / 36 * 9 + t.val % 9, t.val / 9 % 4] ∧
    win0_7.index t = ![t.val / 36, t.val / 9 % 4] ∧
    win0_8.index t = ![t.val / 36, t.val / 9 % 4] :=
  (by decide +kernel : ∀ t : Fin grid0.N, _)

/-- The arguments of the program on a device. -/
abbrev aq (m : (ℓ : Loc nD τ sig) → Buf (Elt Ideal) ℓ) (c : Dev nD) : FVec Ideal S9216x1024 .f32 := m ((c : Thread nD τ).loc main_arg0)
abbrev ak (m : (ℓ : Loc nD τ sig) → Buf (Elt Ideal) ℓ) (c : Dev nD) : FVec Ideal S9216x1024 .f32 := m ((c : Thread nD τ).loc main_arg1)
abbrev av (m : (ℓ : Loc nD τ sig) → Buf (Elt Ideal) ℓ) (c : Dev nD) : FVec Ideal S9216x512 .f32 := m ((c : Thread nD τ).loc main_arg2)
abbrev ad (m : (ℓ : Loc nD τ sig) → Buf (Elt Ideal) ℓ) (c : Dev nD) : FVec Ideal S9216x512 .f32 := m ((c : Thread nD τ).loc main_arg3)

variable (m : (ℓ : Loc nD τ sig) → Buf (Elt Ideal) ℓ) (c : Dev nD) (Q K V' D : ℕ → ℕ → ℝ)
  (hq : ∀ i j, aq m c (ix2 i j) = ((Q i.val j.val : ℝ) : EReal)) (hk : ∀ i j, ak m c (ix2 i j) = ((K i.val j.val : ℝ) : EReal))
  (hv : ∀ i j, av m c (ix2 i j) = ((V' i.val j.val : ℝ) : EReal)) (hd : ∀ i j, ad m c (ix2 i j) = ((D i.val j.val : ℝ) : EReal))

/-- The output array the call receives. -/
theorem V38 : (V (F := Ideal) m c main_v38 : FVec Ideal S9216x512 .f32) = hv38 (aq m c) (ak m c) (av m c) (ad m c) := by
  entry_read
  rfl

set_option maxRecDepth 200000 in
/-- The row log-sum array the call receives. -/
theorem V41 : (V (F := Ideal) m c main_v41 : FVec Ideal S9216x512 .f32) = hv41 (aq m c) (ak m c) (av m c) (ad m c) := by
  entry_read
  rfl

include hq in
/-- An operand array of the call, entry by entry. -/
theorem V42_at (i : Fin 9216) (j : Fin 1024) :
    (V (F := Ideal) m c main_v42 : FVec Ideal S9216x1024 .bf16) (ix2 i j) = ((Q i.val j.val : ℝ) : EReal) := by
  entry_read
  pointwise
  exact hq i j

include hk in
/-- An operand array of the call, entry by entry. -/
theorem V43_at (i : Fin 9216) (j : Fin 1024) :
    (V (F := Ideal) m c main_v43 : FVec Ideal S9216x1024 .bf16) (ix2 i j) = ((K i.val j.val : ℝ) : EReal) := by
  entry_read
  pointwise
  exact hk i j

include hv in
/-- An operand array of the call, entry by entry. -/
theorem V44_at (i : Fin 9216) (j : Fin 512) :
    (V (F := Ideal) m c main_v44 : FVec Ideal S9216x512 .bf16) (ix2 i j) = ((V' i.val j.val : ℝ) : EReal) := by
  entry_read
  pointwise
  exact hv i j

include hq in
/-- Window 0's block at a point, entry by entry. -/
theorem blk0 (t : Fin cfg0.N) (r : Fin 256) (l : Fin 256) :
    (iblk (F := Ideal) m c 0 t : FVec Ideal S256x256 .bf16) (ix2 r l) = ((Q (t.val / 36 * 2304 + (t.val % 9 * 256 + r.val)) (t.val / 9 % 4 * 256 + l.val) : ℝ) : EReal) := by
  have ht : t.val < 144 := lt_of_lt_of_eq t.isLt N_0
  have e : (win0_0.blk t).view.emb (ix2 r l) = ix2 (⟨t.val / 36 * 2304 + (t.val % 9 * 256 + r.val), by omega⟩ : Fin 9216) (⟨t.val / 9 % 4 * 256 + l.val, by omega⟩ : Fin 1024) := by
    blk_ext [idx t]
  blk_simp [iblk, idx t]
  rw [e]
  exact V42_at m c Q hq _ _

include hk in
/-- Window 1's block at a point, entry by entry. -/
theorem blk1 (t : Fin cfg0.N) (r : Fin 2304) (l : Fin 256) :
    (iblk (F := Ideal) m c 1 t : FVec Ideal S2304x256 .bf16) (ix2 r l) = ((K (t.val / 36 * 2304 + r.val) (t.val / 9 % 4 * 256 + l.val) : ℝ) : EReal) := by
  have ht : t.val < 144 := lt_of_lt_of_eq t.isLt N_0
  have e : (win0_1.blk t).view.emb (ix2 r l) = ix2 (⟨t.val / 36 * 2304 + r.val, by omega⟩ : Fin 9216) (⟨t.val / 9 % 4 * 256 + l.val, by omega⟩ : Fin 1024) := by
    blk_ext [idx t]
  blk_simp [iblk, idx t]
  rw [e]
  exact V43_at m c K hk _ _

include hv in
/-- Window 2's block at a point, entry by entry. -/
theorem blk2 (t : Fin cfg0.N) (r : Fin 2304) (l : Fin 128) :
    (iblk (F := Ideal) m c 2 t : FVec Ideal S2304x128 .bf16) (ix2 r l) = ((V' (t.val / 36 * 2304 + r.val) (t.val / 9 % 4 * 128 + l.val) : ℝ) : EReal) := by
  have ht : t.val < 144 := lt_of_lt_of_eq t.isLt N_0
  have e : (win0_2.blk t).view.emb (ix2 r l) = ix2 (⟨t.val / 36 * 2304 + r.val, by omega⟩ : Fin 9216) (⟨t.val / 9 % 4 * 128 + l.val, by omega⟩ : Fin 512) := by
    blk_ext [idx t]
  blk_simp [iblk, idx t]
  rw [e]
  exact V44_at m c V' hv _ _

include hd in
/-- Window 5's block at a point, entry by entry. -/
theorem blk5 (t : Fin cfg0.N) (r : Fin 256) (l : Fin 128) :
    (iblk (F := Ideal) m c 5 t : FVec Ideal S256x128 .f32) (ix2 r l) = ((D (t.val / 36 * 2304 + (t.val % 9 * 256 + r.val)) (t.val / 9 % 4 * 128 + l.val) : ℝ) : EReal) := by
  have ht : t.val < 144 := lt_of_lt_of_eq t.isLt N_0
  have e : (win0_5.blk t).view.emb (ix2 r l) = ix2 (⟨t.val / 36 * 2304 + (t.val % 9 * 256 + r.val), by omega⟩ : Fin 9216) (⟨t.val / 9 % 4 * 128 + l.val, by omega⟩ : Fin 512) := by
    blk_ext [idx t]
  blk_simp [iblk, idx t]
  rw [e]
  exact hd _ _

include hq hk hv hd in
/-- Window 3's block: the saved output of the tile's rows, two heads wide. -/
theorem blk3 (t : Fin cfg0.N) (r : Fin 256) (l : Fin 128) :
    (iblk (F := Ideal) m c 3 t : FVec Ideal S256x128 .f32) (ix2 r l)
      = ((O Q K V' (t.val / 36) (t.val / 9 % 4 * 2 + l.val / 64) (NK (t.val % 9 * 256 + r.val)) (t.val % 9 * 256 + r.val) (l.val % 64) : ℝ) : EReal) := by
  have ht : t.val < 144 := lt_of_lt_of_eq t.isLt N_0
  have e : (win0_3.blk t).view.emb (ix2 r l) = ix2 (⟨t.val / 36 * 2304 + (t.val % 9 * 256 + r.val), by omega⟩ : Fin 9216) (⟨t.val / 9 % 4 * 128 + l.val, by omega⟩ : Fin 512) := by
    blk_ext [idx t]
  blk_simp [iblk, idx t]
  rw [e]
  refine (congrFun (V38 m c) _).trans ?_
  rw [hv38_at _ _ _ _ Q K V' D hq hk hv hd]
  congr 2 <;> (dsimp only; first | omega | (congr 1; omega))

include hq hk hv hd in
/-- Window 4's block: the saved log-sum of the tile's rows, two heads wide. -/
theorem blk4 (t : Fin cfg0.N) (r : Fin 256) (l : Fin 128) :
    (iblk (F := Ideal) m c 4 t : FVec Ideal S256x128 .f32) (ix2 r l)
      = ((Real.log (Z Q K (t.val / 36) (t.val / 9 % 4 * 2 + l.val / 64) (NK (t.val % 9 * 256 + r.val)) (t.val % 9 * 256 + r.val)) : ℝ) : EReal) := by
  have ht : t.val < 144 := lt_of_lt_of_eq t.isLt N_0
  have e : (win0_4.blk t).view.emb (ix2 r l) = ix2 (⟨t.val / 36 * 2304 + (t.val % 9 * 256 + r.val), by omega⟩ : Fin 9216) (⟨t.val / 9 % 4 * 128 + l.val, by omega⟩ : Fin 512) := by
    blk_ext [idx t]
  blk_simp [iblk, idx t]
  rw [e]
  refine (congrFun (V41 m c) _).trans ?_
  rw [hv41_at _ _ _ _ Q K V' D hq hk hv hd]
  congr 3 <;> (dsimp only; first | omega | (congr 1; omega))

end Entry
end Cert.KernelIdeal
end
-- ==== Proof.Body.lean ====
/- What one grid point of the attention's backward call computes from its blocks, over the reals: the block of the
   query gradient, and what is added to the two transposed accumulators. -/
module

public import proofs.«01_k».proof.Proof.Gen.KernelIdeal.Frame
public import Idealize.ShloMosaic.Lib.Pipeline.ValueKit
public import Idealize.ShloMosaic.Lib.Pipeline.ReadBack
public import proofs.«01_k».proof.Proof.Reals

@[expose] public section

set_option maxRecDepth 16384

noncomputable section

namespace Cert.KernelIdeal.Body
open Cert.Attn (coe_sum)
open Cert.KernelIdeal Cert.KernelIdeal.Gen Idealize.ShloMosaic Idealize.ShloMosaic.TcCoe Idealize.SL.Sem

/-- The word of the mask "the lane is one of the first 64" flipped twice: the first head's lanes. -/
theorem mask0 (x : Fin 128) : IntOp.xori (IntOp.xori (IntOp.cmpi CmpIPredicate.slt (BitVec.ofNat 32 x.val) 64#32) 1#1) 1#1
    = if x.val < 64 then 1#1 else 0#1 := by
  revert x; decide +kernel
/-- The word of the same mask flipped once: the second head's lanes. -/
theorem mask1 (x : Fin 128) : IntOp.xori (IntOp.xori (IntOp.cmpi CmpIPredicate.slt (BitVec.ofNat 32 x.val) 64#32) 0#1) 1#1
    = if x.val < 64 then 0#1 else 1#1 := by
  revert x; decide +kernel

theorem select_one (x y : EReal) : Scalar.select 1#1 x y = x := by simp [Scalar.select]
theorem select_zero (x y : EReal) : Scalar.select 0#1 x y = y := by simp [Scalar.select]

/-- A sum over 128 lanes that keeps the first head's 64. -/
theorem sum_mask0 (f : Fin 128 → EReal) : ∑ x : Fin 128, Scalar.select (IntOp.xori (IntOp.xori (IntOp.cmpi CmpIPredicate.slt (BitVec.ofNat 32 x.val) 64#32) 1#1) 1#1) (f x) 0
    = ∑ e : Fin 64, f ⟨0 * 64 + e.val, by omega⟩ := by
  simp only [mask0]
  rw [Fin.sum_univ_two_halves 64 64 rfl]
  simp [Scalar.select]
/-- A sum over 128 lanes that keeps the second head's 64. -/
theorem sum_mask1 (f : Fin 128 → EReal) : ∑ x : Fin 128, Scalar.select (IntOp.xori (IntOp.xori (IntOp.cmpi CmpIPredicate.slt (BitVec.ofNat 32 x.val) 64#32) 0#1) 1#1) (f x) 0
    = ∑ e : Fin 64, f ⟨1 * 64 + e.val, by omega⟩ := by
  simp only [mask1]
  rw [Fin.sum_univ_two_halves 64 64 rfl]
  simp [Scalar.select]

section Formulas
variable (X0 X1 X2 X3 X4 X5 : ℕ → ℕ → ℝ)
/-- A block's score of row `r` against key `k` in the block's head `h` (0 or 1). -/
def bS (h r k : ℕ) : ℝ := ∑ d : Fin 128, X0 r (h * 128 + d.val) * X1 k (h * 128 + d.val)
/-- The exponential of the score less the row's saved logarithm. -/
def bP (h r k : ℕ) : ℝ := Real.exp (bS X0 X1 h r k - X4 r (h * 64))
/-- The score's gradient, as the block computes it. -/
def bDS (h r k : ℕ) : ℝ := bP X0 X1 X4 h r k *
  (∑ e : Fin 64, X5 r (h * 64 + e.val) * X2 k (h * 64 + e.val) - ∑ e : Fin 64, X5 r (h * 64 + e.val) * X3 r (h * 64 + e.val))
/-- What a point adds to the transposed key gradient at lane `a` and key `k`. -/
def add0 (a k : ℕ) : ℝ := ∑ r : Fin 256, X0 r.val a * bDS X0 X1 X2 X3 X4 X5 (a / 128) r.val k
/-- What a point adds to the transposed value gradient at lane `e` and key `k`. -/
def add1 (e k : ℕ) : ℝ := ∑ r : Fin 256, X5 r.val e * bP X0 X1 X4 (e / 64) r.val k
end Formulas

/-- An index under the newest store reads that store. -/
theorem canon_hit {A B o p m n : ℕ} {e : EltTy} (inb) (w) (L : List (View.Piece (Elt Ideal) (⟨2, ![A, B]⟩ : Shape) e)) (a : Fin A) (k : Fin B)
    (x : Fin m) (y : Fin n) (hx : a.val = o + x.val) (hy : k.val = p + y.val) :
    View.canon (⟨Rect.unit (s := (⟨2, ![A, B]⟩ : Shape)) ![o, p] ![m, n] inb, w⟩ :: L) (ix2 a k) = w (ix2 x y) := by
  rw [← View.canon_cons_emb (Rect.unit (s := (⟨2, ![A, B]⟩ : Shape)) ![o, p] ![m, n] inb) w L (ix2 x y)]
  congr 1
  funext b
  refine Fin.ext ?_
  match b with
  | 0 => exact hx.trans (by simp [Rect.unit, Rect.emb, ix2]; rfl)
  | 1 => exact hy.trans (by simp [Rect.unit, Rect.emb, ix2]; rfl)

/-- An index off the newest store reads the earlier ones. -/
theorem canon_miss {A B o p m n : ℕ} {e : EltTy} (inb) (w) (L : List (View.Piece (Elt Ideal) (⟨2, ![A, B]⟩ : Shape) e)) (a : Fin A) (k : Fin B)
    (h : a.val < o ∨ o + m ≤ a.val ∨ k.val < p ∨ p + n ≤ k.val) :
    View.canon (⟨Rect.unit (s := (⟨2, ![A, B]⟩ : Shape)) ![o, p] ![m, n] inb, w⟩ :: L) (ix2 a k) = View.canon L (ix2 a k) := by
  refine View.canon_cons_of_not_mem _ L fun hm => ?_
  rw [Rect.mem_set_unit] at hm
  have h0 : o ≤ a.val ∧ a.val < o + m := hm 0
  have h1 : p ≤ k.val ∧ k.val < p + n := hm 1
  omega

variable (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x256 .f32) (harg9 : arg9.IsWhole) (arg10 : Memref sig .tc .vmem S2304x256 .f32) (harg10 : arg10.IsWhole) (arg11 : Memref sig .tc .vmem S2304x128 .f32) (harg11 : arg11.IsWhole) (arg12 : Memref sig .tc .vmem S256x2304 .f32) (harg12 : arg12.IsWhole) (arg13 : Memref sig .tc .vmem S128x2304 .f32) (harg13 : arg13.IsWhole)
 (x0 : Vec Ideal S256x256 .bf16) (x1 : Vec Ideal S2304x256 .bf16) (x2 : Vec Ideal S2304x128 .bf16) (x3 : Vec Ideal S256x128 .f32) (x4 : Vec Ideal S256x128 .f32) (x5 : Vec Ideal S256x128 .f32) (xs0 : Vec Ideal S256x2304 .f32) (xs1 : Vec Ideal S128x2304 .f32)

variable (X0 X1 X2 X3 X4 X5 : ℕ → ℕ → ℝ)
 (h0 : ∀ r l, x0 (ix2 r l) = ((X0 r.val l.val : ℝ) : EReal)) (h1 : ∀ r l, x1 (ix2 r l) = ((X1 r.val l.val : ℝ) : EReal))
 (h2 : ∀ r l, x2 (ix2 r l) = ((X2 r.val l.val : ℝ) : EReal)) (h3 : ∀ r l, x3 (ix2 r l) = ((X3 r.val l.val : ℝ) : EReal))
 (h4 : ∀ r l, x4 (ix2 r l) = ((X4 r.val l.val : ℝ) : EReal)) (h5 : ∀ r l, x5 (ix2 r l) = ((X5 r.val l.val : ℝ) : EReal))

include h0 h1 h2 h3 h4 h5 in
/-- Case B: the query gradient's block. -/
theorem out6_B (hc0 : ¬cond0_0 i) (hc1 : ¬cond0_1 i) (hc2 : cond0_2 i) (hc3 : ¬cond0_3 i) (r l : Fin 256) :
    out0_B_6 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 (ix2 r l)
      = ((∑ k : Fin 2304, bDS X0 X1 X2 X3 X4 X5 (l.val / 128) r.val k.val * X1 k.val l.val : ℝ) : EReal) := by
  frame_out
  unfold_payloads
  pointwise
  simp only [sum_mask0, sum_mask1, h0, h1, h2, h3, h4, h5, ← EReal.coe_mul, coe_sum, ← EReal.coe_sub, Ideal.exp_coe]
  split
  · rename_i hl
    congr 1
    refine Finset.sum_congr rfl fun k _ => ?_
    rw [Nat.div_eq_of_lt hl]
    simp only [bDS, bP, bS, Nat.zero_mul, Nat.zero_add]
    rfl
  · rename_i hl
    congr 1
    refine Finset.sum_congr rfl fun k _ => ?_
    rw [show l.val / 128 = 1 by omega, show 128 + (l.val - 128) = l.val by omega]
    simp only [bDS, bP, bS, Nat.one_mul]
    rfl

include h0 h1 h2 h3 h4 h5 in
/-- Case A: the query gradient's block. -/
theorem out6_A (hc0 : cond0_0 i) (hc1 : cond0_1 i) (hc2 : ¬cond0_2 i) (hc3 : ¬cond0_3 i) (r l : Fin 256) :
    out0_A_6 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 (ix2 r l)
      = ((∑ k : Fin 256, bDS X0 X1 X2 X3 X4 X5 (l.val / 128) r.val k.val * X1 k.val l.val : ℝ) : EReal) := by
  frame_out
  unfold_payloads
  pointwise
  simp only [sum_mask0, sum_mask1, h0, h1, h2, h3, h4, h5, ← EReal.coe_mul, coe_sum, ← EReal.coe_sub, Ideal.exp_coe]
  split
  · rename_i hl
    congr 1
    refine Finset.sum_congr rfl fun k _ => ?_
    rw [Nat.div_eq_of_lt hl]
    simp only [bDS, bP, bS, Nat.zero_mul, Nat.zero_add]
    rfl
  · rename_i hl
    congr 1
    refine Finset.sum_congr rfl fun k _ => ?_
    rw [show l.val / 128 = 1 by omega, show 128 + (l.val - 128) = l.val by omega]
    simp only [bDS, bP, bS, Nat.one_mul]
    rfl

include h0 h1 h2 h3 h4 h5 in
/-- Case B: the transposed key gradient's accumulator gains `add0`. -/
theorem scr0_B (hc0 : ¬cond0_0 i) (hc1 : ¬cond0_1 i) (hc2 : cond0_2 i) (hc3 : ¬cond0_3 i) (a : Fin 256) (k : Fin 2304) :
    sout0_B_0 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 (ix2 a k) = xs0 (ix2 a k) + ((add0 X0 X1 X2 X3 X4 X5 a.val k.val : ℝ) : EReal) := by
  frame_open
  simp (disch := decide) only [↓ View.readCov_skip, ↓ View.readCov_cons_toLoadRect, ↓ View.readCov_fill]
  frame_out
  by_cases ha : a.val < 128
  · rw [canon_miss _ _ _ a k (by omega), canon_hit _ _ _ a k ⟨a.val, ha⟩ k (by simp) (by simp)]
    unfold_payloads
    pointwise
    simp only [sum_mask0, sum_mask1, h0, h1, h2, h3, h4, h5, ← EReal.coe_mul, coe_sum, ← EReal.coe_sub, Ideal.exp_coe]
    refine congrArg₂ (· + ·) rfl ?_
    congr 1
    unfold add0
    refine Finset.sum_congr rfl fun r _ => ?_
    rw [show a.val / 128 = 0 by omega]
    simp only [bDS, bP, bS, Nat.one_mul, Nat.zero_mul, Nat.zero_add]
    rfl
  · rw [canon_hit _ _ _ a k ⟨a.val - 128, by omega⟩ k (by simp; omega) (by simp)]
    unfold_payloads
    pointwise
    simp only [sum_mask0, sum_mask1, h0, h1, h2, h3, h4, h5, ← EReal.coe_mul, coe_sum, ← EReal.coe_sub, Ideal.exp_coe]
    refine congrArg₂ (· + ·) (congrArg (fun z => xs0 (ix2 z k)) (Fin.ext (by simp; omega))) ?_
    congr 1
    unfold add0
    refine Finset.sum_congr rfl fun r _ => ?_
    rw [show 128 + (a.val - 128) = a.val by omega, show a.val / 128 = 1 by omega]
    simp only [bDS, bP, bS, Nat.one_mul, Nat.zero_mul, Nat.zero_add]
    rfl

include h0 h1 h2 h3 h4 h5 in
/-- Case B: the transposed value gradient's accumulator gains `add1`. -/
theorem scr1_B (hc0 : ¬cond0_0 i) (hc1 : ¬cond0_1 i) (hc2 : cond0_2 i) (hc3 : ¬cond0_3 i) (a : Fin 128) (k : Fin 2304) :
    sout0_B_1 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 (ix2 a k) = xs1 (ix2 a k) + ((add1 X0 X1 X4 X5 a.val k.val : ℝ) : EReal) := by
  frame_open
  simp (disch := decide) only [↓ View.readCov_skip, ↓ View.readCov_cons_toLoadRect, ↓ View.readCov_fill]
  frame_out
  unfold_payloads
  pointwise
  simp only [mask0, mask1]
  by_cases ha : a.val < 64
  · simp only [ha, if_true, select_one, select_zero, Finset.sum_const_zero, add_zero, zero_add]
    simp only [sum_mask0, sum_mask1, h0, h1, h2, h3, h4, h5, ← EReal.coe_mul, coe_sum, ← EReal.coe_sub, Ideal.exp_coe]
    refine congrArg₂ (· + ·) rfl ?_
    congr 1
    unfold add1
    refine Finset.sum_congr rfl fun r _ => ?_
    rw [show a.val / 64 = 0 by omega]
    simp only [bDS, bP, bS, Nat.one_mul, Nat.zero_mul, Nat.zero_add]
    rfl
  · simp only [ha, if_false, select_one, select_zero, Finset.sum_const_zero, add_zero, zero_add]
    simp only [sum_mask0, sum_mask1, h0, h1, h2, h3, h4, h5, ← EReal.coe_mul, coe_sum, ← EReal.coe_sub, Ideal.exp_coe]
    refine congrArg₂ (· + ·) rfl ?_
    congr 1
    unfold add1
    refine Finset.sum_congr rfl fun r _ => ?_
    rw [show a.val / 64 = 1 by omega]
    simp only [bDS, bP, bS, Nat.one_mul, Nat.zero_mul, Nat.zero_add]
    rfl

include h0 h1 h2 h3 h4 h5 in
/-- Case C: the transposed key gradient's accumulator gains `add0`. -/
theorem scr0_C (hc0 : ¬cond0_0 i) (hc1 : ¬cond0_1 i) (hc2 : cond0_2 i) (hc3 : cond0_3 i) (a : Fin 256) (k : Fin 2304) :
    sout0_C_0 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 (ix2 a k) = xs0 (ix2 a k) + ((add0 X0 X1 X2 X3 X4 X5 a.val k.val : ℝ) : EReal) := by
  frame_open
  simp (disch := decide) only [↓ View.readCov_skip, ↓ View.readCov_cons_toLoadRect, ↓ View.readCov_fill]
  frame_out
  by_cases ha : a.val < 128
  · rw [canon_miss _ _ _ a k (by omega), canon_hit _ _ _ a k ⟨a.val, ha⟩ k (by simp) (by simp)]
    unfold_payloads
    pointwise
    simp only [sum_mask0, sum_mask1, h0, h1, h2, h3, h4, h5, ← EReal.coe_mul, coe_sum, ← EReal.coe_sub, Ideal.exp_coe]
    refine congrArg₂ (· + ·) rfl ?_
    congr 1
    unfold add0
    refine Finset.sum_congr rfl fun r _ => ?_
    rw [show a.val / 128 = 0 by omega]
    simp only [bDS, bP, bS, Nat.one_mul, Nat.zero_mul, Nat.zero_add]
    rfl
  · rw [canon_hit _ _ _ a k ⟨a.val - 128, by omega⟩ k (by simp; omega) (by simp)]
    unfold_payloads
    pointwise
    simp only [sum_mask0, sum_mask1, h0, h1, h2, h3, h4, h5, ← EReal.coe_mul, coe_sum, ← EReal.coe_sub, Ideal.exp_coe]
    refine congrArg₂ (· + ·) (congrArg (fun z => xs0 (ix2 z k)) (Fin.ext (by simp; omega))) ?_
    congr 1
    unfold add0
    refine Finset.sum_congr rfl fun r _ => ?_
    rw [show 128 + (a.val - 128) = a.val by omega, show a.val / 128 = 1 by omega]
    simp only [bDS, bP, bS, Nat.one_mul, Nat.zero_mul, Nat.zero_add]
    rfl

include h0 h1 h2 h3 h4 h5 in
/-- Case C: the transposed value gradient's accumulator gains `add1`. -/
theorem scr1_C (hc0 : ¬cond0_0 i) (hc1 : ¬cond0_1 i) (hc2 : cond0_2 i) (hc3 : cond0_3 i) (a : Fin 128) (k : Fin 2304) :
    sout0_C_1 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 (ix2 a k) = xs1 (ix2 a k) + ((add1 X0 X1 X4 X5 a.val k.val : ℝ) : EReal) := by
  frame_open
  simp (disch := decide) only [↓ View.readCov_skip, ↓ View.readCov_cons_toLoadRect, ↓ View.readCov_fill]
  frame_out
  unfold_payloads
  pointwise
  simp only [mask0, mask1]
  by_cases ha : a.val < 64
  · simp only [ha, if_true, select_one, select_zero, Finset.sum_const_zero, add_zero, zero_add]
    simp only [sum_mask0, sum_mask1, h0, h1, h2, h3, h4, h5, ← EReal.coe_mul, coe_sum, ← EReal.coe_sub, Ideal.exp_coe]
    refine congrArg₂ (· + ·) rfl ?_
    congr 1
    unfold add1
    refine Finset.sum_congr rfl fun r _ => ?_
    rw [show a.val / 64 = 0 by omega]
    simp only [bDS, bP, bS, Nat.one_mul, Nat.zero_mul, Nat.zero_add]
    rfl
  · simp only [ha, if_false, select_one, select_zero, Finset.sum_const_zero, add_zero, zero_add]
    simp only [sum_mask0, sum_mask1, h0, h1, h2, h3, h4, h5, ← EReal.coe_mul, coe_sum, ← EReal.coe_sub, Ideal.exp_coe]
    refine congrArg₂ (· + ·) rfl ?_
    congr 1
    unfold add1
    refine Finset.sum_congr rfl fun r _ => ?_
    rw [show a.val / 64 = 1 by omega]
    simp only [bDS, bP, bS, Nat.one_mul, Nat.zero_mul, Nat.zero_add]
    rfl

include h0 h1 h2 h3 h4 h5 in
/-- Case C: the query gradient's block. -/
theorem out6_C (hc0 : ¬cond0_0 i) (hc1 : ¬cond0_1 i) (hc2 : cond0_2 i) (hc3 : cond0_3 i) (r l : Fin 256) :
    out0_C_6 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 (ix2 r l)
      = ((∑ k : Fin 2304, bDS X0 X1 X2 X3 X4 X5 (l.val / 128) r.val k.val * X1 k.val l.val : ℝ) : EReal) := by
  frame_out
  unfold_payloads
  pointwise
  simp only [sum_mask0, sum_mask1, h0, h1, h2, h3, h4, h5, ← EReal.coe_mul, coe_sum, ← EReal.coe_sub, Ideal.exp_coe]
  split
  · rename_i hl
    congr 1
    refine Finset.sum_congr rfl fun k _ => ?_
    rw [Nat.div_eq_of_lt hl]
    simp only [bDS, bP, bS, Nat.zero_mul, Nat.zero_add]
    rfl
  · rename_i hl
    congr 1
    refine Finset.sum_congr rfl fun k _ => ?_
    rw [show l.val / 128 = 1 by omega, show 128 + (l.val - 128) = l.val by omega]
    simp only [bDS, bP, bS, Nat.one_mul]
    rfl

include h0 h1 h2 h3 h4 h5 in
/-- Case A: the transposed key gradient's accumulator is `add0` at the context's keys and zero elsewhere. -/
theorem scr0_A (hc0 : cond0_0 i) (hc1 : cond0_1 i) (hc2 : ¬cond0_2 i) (hc3 : ¬cond0_3 i) (a : Fin 256) (k : Fin 2304) :
    sout0_A_0 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 (ix2 a k) = ((if k.val < 256 then add0 X0 X1 X2 X3 X4 X5 a.val k.val else 0 : ℝ) : EReal) := by
  frame_open
  simp (disch := decide) only [↓ View.readCov_skip, ↓ View.readCov_cons_toLoadRect, ↓ View.readCov_fill]
  frame_out
  by_cases hk : k.val < 256
  · rw [if_pos hk]
    by_cases ha : a.val < 128
    · rw [canon_miss _ _ _ a k (by omega), canon_hit _ _ _ a k ⟨a.val, ha⟩ ⟨k.val, hk⟩ (by simp) (by simp)]
      unfold_payloads
      pointwise
      simp only [sum_mask0, sum_mask1, h0, h1, h2, h3, h4, h5, ← EReal.coe_mul, coe_sum, ← EReal.coe_sub, Ideal.exp_coe]
      congr 1
      unfold add0
      refine Finset.sum_congr rfl fun r _ => ?_
      rw [show a.val / 128 = 0 by omega]
      simp only [bDS, bP, bS, Nat.one_mul, Nat.zero_mul, Nat.zero_add]
      rfl
    · rw [canon_hit _ _ _ a k ⟨a.val - 128, by omega⟩ ⟨k.val, hk⟩ (by simp; omega) (by simp)]
      unfold_payloads
      pointwise
      simp only [sum_mask0, sum_mask1, h0, h1, h2, h3, h4, h5, ← EReal.coe_mul, coe_sum, ← EReal.coe_sub, Ideal.exp_coe]
      congr 1
      unfold add0
      refine Finset.sum_congr rfl fun r _ => ?_
      rw [show 128 + (a.val - 128) = a.val by omega, show a.val / 128 = 1 by omega]
      simp only [bDS, bP, bS, Nat.one_mul, Nat.zero_mul, Nat.zero_add]
      rfl
  · rw [if_neg hk, canon_miss _ _ _ a k (by omega), canon_miss _ _ _ a k (by omega), canon_hit _ _ _ a k a k (by simp) (by simp)]
    unfold_payloads
    pointwise
    rfl

include h0 h1 h2 h3 h4 h5 in
/-- Case A: the transposed value gradient's accumulator is `add1` at the context's keys and zero elsewhere. -/
theorem scr1_A (hc0 : cond0_0 i) (hc1 : cond0_1 i) (hc2 : ¬cond0_2 i) (hc3 : ¬cond0_3 i) (a : Fin 128) (k : Fin 2304) :
    sout0_A_1 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 (ix2 a k) = ((if k.val < 256 then add1 X0 X1 X4 X5 a.val k.val else 0 : ℝ) : EReal) := by
  frame_open
  simp (disch := decide) only [↓ View.readCov_skip, ↓ View.readCov_cons_toLoadRect, ↓ View.readCov_fill]
  frame_out
  by_cases hk : k.val < 256
  · rw [if_pos hk, canon_hit _ _ _ a k a ⟨k.val, hk⟩ (by simp) (by simp)]
    unfold_payloads
    pointwise
    simp only [mask0, mask1]
    by_cases ha : a.val < 64
    · simp only [ha, if_true, select_one, select_zero, Finset.sum_const_zero, add_zero, zero_add]
      simp only [sum_mask0, sum_mask1, h0, h1, h2, h3, h4, h5, ← EReal.coe_mul, coe_sum, ← EReal.coe_sub, Ideal.exp_coe]
      congr 1
      unfold add1
      refine Finset.sum_congr rfl fun r _ => ?_
      rw [show a.val / 64 = 0 by omega]
      simp only [bDS, bP, bS, Nat.one_mul, Nat.zero_mul, Nat.zero_add]
      rfl
    · simp only [ha, if_false, select_one, select_zero, Finset.sum_const_zero, add_zero, zero_add]
      simp only [sum_mask0, sum_mask1, h0, h1, h2, h3, h4, h5, ← EReal.coe_mul, coe_sum, ← EReal.coe_sub, Ideal.exp_coe]
      congr 1
      unfold add1
      refine Finset.sum_congr rfl fun r _ => ?_
      rw [show a.val / 64 = 1 by omega]
      simp only [bDS, bP, bS, Nat.one_mul, Nat.zero_mul, Nat.zero_add]
      rfl
  · rw [if_neg hk, canon_miss _ _ _ a k (by omega), canon_miss _ _ _ a k (by omega), canon_hit _ _ _ a k a k (by simp) (by simp)]
    unfold_payloads
    pointwise
    rfl

/-- Turning the transposed key gradient over. -/
theorem turn7 (Y : Vec Ideal S256x2304 .f32) (k : Fin 2304) (a : Fin 256) :
    k0_pay11 (F := Ideal) (fun j : (Rect.unit (s := S256x2304) ![0, 0] ![256, 2304] inb_S256x2304_S256x2304_0_0).shape.Idx => Y ((Rect.unit (s := S256x2304) ![0, 0] ![256, 2304] inb_S256x2304_S256x2304_0_0).toLoadRect.idx j)) (ix2 k a) = Y (ix2 a k) := by
  unfold k0_pay11
  pointwise

/-- Turning the transposed value gradient over. -/
theorem turn8 (Y : Vec Ideal S128x2304 .f32) (k : Fin 2304) (a : Fin 128) :
    k0_pay12 (F := Ideal) Y (ix2 k a) = Y (ix2 a k) := by
  unfold k0_pay12
  pointwise

include h0 h1 h2 h3 h4 h5 in
/-- Case C: the key gradient's block is the accumulator, turned over. -/
theorem out7_C (hc0 : ¬cond0_0 i) (hc1 : ¬cond0_1 i) (hc2 : cond0_2 i) (hc3 : cond0_3 i) (k : Fin 2304) (a : Fin 256) :
    out0_C_7 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 (ix2 k a) = xs0 (ix2 a k) + ((add0 X0 X1 X2 X3 X4 X5 a.val k.val : ℝ) : EReal) := by
  rw [← scr0_C c i arg3 harg3 arg4 harg4 arg5 harg5 arg6 harg6 arg7 harg7 arg8 harg8 arg9 harg9 arg10 harg10 arg11 harg11 arg12 harg12 arg13 harg13 x0 x1 x2 x3 x4 x5 xs0 xs1 X0 X1 X2 X3 X4 X5 h0 h1 h2 h3 h4 h5 hc0 hc1 hc2 hc3 a k]
  frame_out
  rw [View.readCov_eq_canon']
  exact turn7 _ k a

include h0 h1 h2 h3 h4 h5 in
/-- Case C: the value gradient's block is the accumulator, turned over. -/
theorem out8_C (hc0 : ¬cond0_0 i) (hc1 : ¬cond0_1 i) (hc2 : cond0_2 i) (hc3 : cond0_3 i) (k : Fin 2304) (a : Fin 128) :
    out0_C_8 (F := Ideal) c i arg3 harg3 arg4 harg4 arg5 harg5 arg6 harg6 arg7 harg7 arg8 harg8 arg9 harg9 arg10 harg10 arg11 harg11 arg12 harg12 arg13 harg13 hc0 hc1 hc2 hc3 x0 x1 x2 x3 x4 x5 xs0 xs1 (ix2 k a) = xs1 (ix2 a k) + ((add1 X0 X1 X4 X5 a.val k.val : ℝ) : EReal) := by
  rw [← scr1_C c i arg3 harg3 arg4 harg4 arg5 harg5 arg6 harg6 arg7 harg7 arg8 harg8 arg9 harg9 arg10 harg10 arg11 harg11 arg12 harg12 arg13 harg13 x0 x1 x2 x3 x4 x5 xs0 xs1 X0 X1 X2 X3 X4 X5 h0 h1 h2 h3 h4 h5 hc0 hc1 hc2 hc3 a k]
  frame_out
  rw [turn8]

end Cert.KernelIdeal.Body
end
-- ==== Proof.Blocks.lean ====
/- The block functions of a grid point over the real numbers, and what they add up to. -/
module

public import proofs.«01_k».proof.Proof.Body
public import proofs.«01_k».proof.Proof.HostChain

@[expose] public section

set_option maxRecDepth 16384

noncomputable section

namespace Cert.KernelIdeal
namespace Blocks
open Cert.Attn Cert.KernelIdeal.Chain Cert.KernelIdeal.Body

variable (Q K V D : ℕ → ℕ → ℝ) (b p j : ℕ)

/-- The query block of sample `b`, pair of heads `p`, row tile `j`. -/
def X0 (r l : ℕ) : ℝ := Q (b * 2304 + (j * 256 + r)) (p * 256 + l)
/-- The key block. -/
def X1 (k l : ℕ) : ℝ := K (b * 2304 + k) (p * 256 + l)
/-- The value block. -/
def X2 (k e : ℕ) : ℝ := V (b * 2304 + k) (p * 128 + e)
/-- The saved output's block. -/
def X3 (r l : ℕ) : ℝ := O Q K V b (p * 2 + l / 64) (NK (j * 256 + r)) (j * 256 + r) (l % 64)
/-- The saved log-sum's block. -/
def X4 (r l : ℕ) : ℝ := Real.log (Z Q K b (p * 2 + l / 64) (NK (j * 256 + r)) (j * 256 + r))
/-- The result gradient's block. -/
def X5 (r l : ℕ) : ℝ := D (b * 2304 + (j * 256 + r)) (p * 128 + l)

theorem NK_pos (r : ℕ) : 0 < NK r := by unfold NK; split <;> omega

theorem bS_eq (h r k : ℕ) : bS (X0 Q b p j) (X1 K b p) h r k = S Q K b (p * 2 + h) (j * 256 + r) k := by
  unfold bS X0 X1 S
  refine Finset.sum_congr rfl fun d _ => ?_
  rw [show p * 256 + (h * 128 + d.val) = (p * 2 + h) * 128 + d.val by ring]

/-- The block's exponential is the softmax. -/
theorem bP_eq (h r k : ℕ) :
    bP (X0 Q b p j) (X1 K b p) (X4 Q K b p j) h r k = Pr Q K b (p * 2 + h) (NK (j * 256 + r)) (j * 256 + r) k := by
  unfold bP X4
  rw [bS_eq, Nat.mul_div_cancel _ (by norm_num : 0 < 64), exp_sub_log _ _ _ _ _ _ _ (NK_pos _)]

/-- The block's score gradient is the attention's. -/
theorem bDS_eq (h r k : ℕ) :
    bDS (X0 Q b p j) (X1 K b p) (X2 V b p) (X3 Q K V b p j) (X4 Q K b p j) (X5 D b p j) h r k
      = DS Q K V D b (p * 2 + h) (NK (j * 256 + r)) (j * 256 + r) k := by
  unfold bDS DS
  rw [bP_eq]
  congr 2
  · unfold DP X5 X2
    refine Finset.sum_congr rfl fun e _ => ?_
    rw [show p * 128 + (h * 64 + e.val) = (p * 2 + h) * 64 + e.val by ring]
  · rw [← sum_D_O]
    unfold X5 X3
    refine Finset.sum_congr rfl fun e _ => ?_
    rw [show p * 128 + (h * 64 + e.val) = (p * 2 + h) * 64 + e.val by ring, show (h * 64 + e.val) / 64 = h by omega,
      show (h * 64 + e.val) % 64 = e.val by omega]

/-- What row tile `i` adds to the key gradient at lane `a` of the pair of heads and key `k`. -/
def A0 (a k i : ℕ) : ℝ := ∑ r : Fin 256, Q (b * 2304 + (i * 256 + r.val)) (p * 256 + a) *
  DS Q K V D b (p * 2 + a / 128) (NK (i * 256 + r.val)) (i * 256 + r.val) k
/-- What row tile `i` adds to the value gradient at lane `e` of the pair of heads and key `k`. -/
def A1 (e k i : ℕ) : ℝ := ∑ r : Fin 256, D (b * 2304 + (i * 256 + r.val)) (p * 128 + e) *
  Pr Q K b (p * 2 + e / 64) (NK (i * 256 + r.val)) (i * 256 + r.val) k

theorem add0_eq (a k : ℕ) :
    add0 (X0 Q b p j) (X1 K b p) (X2 V b p) (X3 Q K V b p j) (X4 Q K b p j) (X5 D b p j) a k = A0 Q K V D b p a k j := by
  unfold add0 A0
  refine Finset.sum_congr rfl fun r _ => ?_
  rw [bDS_eq]; rfl

theorem add1_eq (e k : ℕ) :
    add1 (X0 Q b p j) (X1 K b p) (X4 Q K b p j) (X5 D b p j) e k = A1 Q K D b p e k j := by
  unfold add1 A1
  refine Finset.sum_congr rfl fun r _ => ?_
  rw [bP_eq]; rfl

/-- The accumulator after row tile `j`: the context tile at the context's keys, and the latent tiles so far. -/
def T (A : ℕ → ℝ) (k j : ℕ) : ℝ := (if k < 256 then A 0 else 0) + ∑ i ∈ Finset.range j, A (i + 1)

theorem T_zero (A : ℕ → ℝ) (k : ℕ) : T A k 0 = if k < 256 then A 0 else 0 := by simp [T]
theorem T_succ (A : ℕ → ℝ) (k j : ℕ) (hj : 0 < j) : T A k j = T A k (j - 1) + A j := by
  obtain ⟨i, rfl⟩ : ∃ i, j = i + 1 := ⟨j - 1, by omega⟩
  simp only [T, Nat.add_sub_cancel, Finset.sum_range_succ, add_assoc]

/-- Eight tiles of 256 latent rows are the 2048 latent rows. -/
theorem tiles (g : ℕ → ℝ) : ∑ i ∈ Finset.range 8, ∑ r : Fin 256, g ((i + 1) * 256 + r.val) = ∑ r : Fin 2048, g (256 + r.val) := by
  rw [Fin.sum_univ_eq_sum_range (fun r => g (256 + r)) 2048, show (2048 : ℕ) = 8 * 256 from rfl, Finset.sum_range_mul_split]
  refine Finset.sum_congr rfl fun i _ => ?_
  rw [← Fin.sum_univ_eq_sum_range (fun r => g (256 + (i * 256 + r))) 256]
  refine Finset.sum_congr rfl fun r _ => ?_
  rw [show (i + 1) * 256 + r.val = 256 + (i * 256 + r.val) by ring]

theorem NK_ctx (r : Fin 256) : NK r.val = 256 := by unfold NK; rw [if_pos (by omega)]
theorem NK_lat (i : ℕ) (r : Fin 256) : NK ((i + 1) * 256 + r.val) = 2304 := by unfold NK; rw [if_neg (by omega)]

/-- After the last tile the key gradient's accumulator holds the key gradient. -/
theorem T0_eq (a k : ℕ) : T (A0 Q K V D b p a k) k 8
    = (∑ r : Fin 2048, DS Q K V D b (p * 2 + a / 128) 2304 (256 + r.val) k * Q (b * 2304 + (256 + r.val)) (p * 256 + a))
      + (if k < 256 then ∑ r : Fin 256, DS Q K V D b (p * 2 + a / 128) 256 r.val k * Q (b * 2304 + r.val) (p * 256 + a) else 0) := by
  unfold T A0
  rw [add_comm]
  refine congrArg₂ (· + ·) ?_ ?_
  · simp only [NK_lat]
    rw [tiles (fun x => Q (b * 2304 + x) (p * 256 + a) * DS Q K V D b (p * 2 + a / 128) 2304 x k)]
    exact Finset.sum_congr rfl fun r _ => mul_comm _ _
  · simp only [Nat.zero_mul, Nat.zero_add, NK_ctx]
    split
    · exact Finset.sum_congr rfl fun r _ => mul_comm _ _
    · rfl

/-- After the last tile the value gradient's accumulator holds the value gradient. -/
theorem T1_eq (e k : ℕ) : T (A1 Q K D b p e k) k 8
    = (∑ r : Fin 2048, D (b * 2304 + (256 + r.val)) (p * 128 + e) * Pr Q K b (p * 2 + e / 64) 2304 (256 + r.val) k)
      + (if k < 256 then ∑ r : Fin 256, D (b * 2304 + r.val) (p * 128 + e) * Pr Q K b (p * 2 + e / 64) 256 r.val k else 0) := by
  unfold T A1
  rw [add_comm]
  refine congrArg₂ (· + ·) ?_ ?_
  · simp only [NK_lat]
    rw [tiles (fun x => D (b * 2304 + x) (p * 128 + e) * Pr Q K b (p * 2 + e / 64) 2304 x k)]
  · simp only [Nat.zero_mul, Nat.zero_add, NK_ctx]

/-- A query row's gradient from its tile: over the context's keys in the context tile, over all keys elsewhere. -/
def G (h e r k : ℕ) : ℝ := DS Q K V D b h (NK r) r k * K (b * 2304 + k) (h * 128 + e)

theorem bG_eq (l r k : ℕ) :
    bDS (X0 Q b p j) (X1 K b p) (X2 V b p) (X3 Q K V b p j) (X4 Q K b p j) (X5 D b p j) (l / 128) r k * X1 K b p k l
      = G Q K V D b (p * 2 + l / 128) (l % 128) (j * 256 + r) k := by
  rw [bDS_eq]
  unfold G X1
  rw [show p * 256 + l = (p * 2 + l / 128) * 128 + l % 128 by omega]

end Blocks
end Cert.KernelIdeal
end
-- ==== Proof.Points.lean ====
/- What each grid point leaves: the accumulators, and the three results' blocks, over the real numbers. -/
module

public import proofs.«01_k».proof.Proof.Entry
public import proofs.«01_k».proof.Proof.Blocks

@[expose] public section

set_option maxRecDepth 16384

noncomputable section

namespace Cert.KernelIdeal
namespace Points
open Cert.KernelIdeal Idealize.ShloMosaic Idealize.ShloMosaic.TcCoe Idealize.SL.Sem Cert.Attn
open Cert.KernelIdeal.Gen Cert.KernelIdeal.Chain Cert.KernelIdeal.Entry Cert.KernelIdeal.Blocks

variable (m : (ℓ : Loc nD τ sig) → Buf (Elt Ideal) ℓ) (c : Dev nD) (Q K V' D : ℕ → ℕ → ℝ)
  (hq : ∀ i j, aq m c (ix2 i j) = ((Q i.val j.val : ℝ) : EReal)) (hk : ∀ i j, ak m c (ix2 i j) = ((K i.val j.val : ℝ) : EReal))
  (hv : ∀ i j, av m c (ix2 i j) = ((V' i.val j.val : ℝ) : EReal)) (hd : ∀ i j, ad m c (ix2 i j) = ((D i.val j.val : ℝ) : EReal))

include hq hk hv hd in
theorem scr0_A (n : ℕ) (hn : n < cfg0.N) (h0 : n % 9 = 0) (h2 : ¬1 ≤ n % 9) (h3 : ¬n % 9 = 8) (a : Fin 256) (k : Fin 2304) :
    (((outsAt0 (F := Ideal) m c n hn).2.2.2.1 : FVec Ideal S256x2304 .f32) (ix2 a k) : EReal) = ((if k.val < 256 then Body.add0 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) a.val k.val else 0 : ℝ) : EReal) := by
  have e := outsAt0_A m c ⟨n, hn⟩ h0 h0 h2 h3
  have e' := congrFun (congrArg (fun p => p.2.2.2.1) e) (ix2 a k)
  dsimp only at e'
  refine e'.trans ?_
  exact Body.scr0_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)  (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) ((hcond0_0 ⟨n, hn⟩).mpr h0) ((hcond0_1 ⟨n, hn⟩).mpr h0) (fun h => h2 ((hcond0_2 ⟨n, hn⟩).mp h)) (fun h => h3 ((hcond0_3 ⟨n, hn⟩).mp h)) a k

include hq hk hv hd in
theorem scr0_B (n : ℕ) (hn : n < cfg0.N) (h0 : ¬n % 9 = 0) (h2 : 1 ≤ n % 9) (h3 : ¬n % 9 = 8) (a : Fin 256) (k : Fin 2304) :
    (((outsAt0 (F := Ideal) m c n hn).2.2.2.1 : FVec Ideal S256x2304 .f32) (ix2 a k) : EReal) = (((outsAt0 (F := Ideal) m c (n - 1) (Nat.lt_of_le_of_lt (Nat.sub_le _ _) hn)).2.2.2.1 : FVec Ideal S256x2304 .f32) (ix2 a k) : EReal) + ((Body.add0 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) a.val k.val : ℝ) : EReal) := by
  have e := outsAt0_B m c ⟨n, hn⟩ h0 h0 h2 h3
  have e' := congrFun (congrArg (fun p => p.2.2.2.1) e) (ix2 a k)
  dsimp only at e'
  refine e'.trans ?_
  exact Body.scr0_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (outsAt0 m c (n - 1) (Nat.lt_of_le_of_lt (Nat.sub_le _ _) hn)).2.2.2.1 (outsAt0 m c (n - 1) (Nat.lt_of_le_of_lt (Nat.sub_le _ _) hn)).2.2.2.2 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) (fun h => h0 ((hcond0_0 ⟨n, hn⟩).mp h)) (fun h => h0 ((hcond0_1 ⟨n, hn⟩).mp h)) ((hcond0_2 ⟨n, hn⟩).mpr h2) (fun h => h3 ((hcond0_3 ⟨n, hn⟩).mp h)) a k

include hq hk hv hd in
theorem scr0_C (n : ℕ) (hn : n < cfg0.N) (h0 : ¬n % 9 = 0) (h2 : 1 ≤ n % 9) (h3 : n % 9 = 8) (a : Fin 256) (k : Fin 2304) :
    (((outsAt0 (F := Ideal) m c n hn).2.2.2.1 : FVec Ideal S256x2304 .f32) (ix2 a k) : EReal) = (((outsAt0 (F := Ideal) m c (n - 1) (Nat.lt_of_le_of_lt (Nat.sub_le _ _) hn)).2.2.2.1 : FVec Ideal S256x2304 .f32) (ix2 a k) : EReal) + ((Body.add0 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) a.val k.val : ℝ) : EReal) := by
  have e := outsAt0_C m c ⟨n, hn⟩ h0 h0 h2 h3
  have e' := congrFun (congrArg (fun p => p.2.2.2.1) e) (ix2 a k)
  dsimp only at e'
  refine e'.trans ?_
  exact Body.scr0_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (outsAt0 m c (n - 1) (Nat.lt_of_le_of_lt (Nat.sub_le _ _) hn)).2.2.2.1 (outsAt0 m c (n - 1) (Nat.lt_of_le_of_lt (Nat.sub_le _ _) hn)).2.2.2.2 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) (fun h => h0 ((hcond0_0 ⟨n, hn⟩).mp h)) (fun h => h0 ((hcond0_1 ⟨n, hn⟩).mp h)) ((hcond0_2 ⟨n, hn⟩).mpr h2) ((hcond0_3 ⟨n, hn⟩).mpr h3) a k

include hq hk hv hd in
theorem scr1_A (n : ℕ) (hn : n < cfg0.N) (h0 : n % 9 = 0) (h2 : ¬1 ≤ n % 9) (h3 : ¬n % 9 = 8) (a : Fin 128) (k : Fin 2304) :
    (((outsAt0 (F := Ideal) m c n hn).2.2.2.2 : FVec Ideal S128x2304 .f32) (ix2 a k) : EReal) = ((if k.val < 256 then Body.add1 (X0 Q (n / 36) (n / 9 % 4) (n % 9)) (X1 K (n / 36) (n / 9 % 4)) (X4 Q K (n / 36) (n / 9 % 4) (n % 9)) (X5 D (n / 36) (n / 9 % 4) (n % 9)) a.val k.val else 0 : ℝ) : EReal) := by
  have e := outsAt0_A m c ⟨n, hn⟩ h0 h0 h2 h3
  have e' := congrFun (congrArg (fun p => p.2.2.2.2) e) (ix2 a k)
  dsimp only at e'
  refine e'.trans ?_
  exact Body.scr1_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)  (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) ((hcond0_0 ⟨n, hn⟩).mpr h0) ((hcond0_1 ⟨n, hn⟩).mpr h0) (fun h => h2 ((hcond0_2 ⟨n, hn⟩).mp h)) (fun h => h3 ((hcond0_3 ⟨n, hn⟩).mp h)) a k

include hq hk hv hd in
theorem scr1_B (n : ℕ) (hn : n < cfg0.N) (h0 : ¬n % 9 = 0) (h2 : 1 ≤ n % 9) (h3 : ¬n % 9 = 8) (a : Fin 128) (k : Fin 2304) :
    (((outsAt0 (F := Ideal) m c n hn).2.2.2.2 : FVec Ideal S128x2304 .f32) (ix2 a k) : EReal) = (((outsAt0 (F := Ideal) m c (n - 1) (Nat.lt_of_le_of_lt (Nat.sub_le _ _) hn)).2.2.2.2 : FVec Ideal S128x2304 .f32) (ix2 a k) : EReal) + ((Body.add1 (X0 Q (n / 36) (n / 9 % 4) (n % 9)) (X1 K (n / 36) (n / 9 % 4)) (X4 Q K (n / 36) (n / 9 % 4) (n % 9)) (X5 D (n / 36) (n / 9 % 4) (n % 9)) a.val k.val : ℝ) : EReal) := by
  have e := outsAt0_B m c ⟨n, hn⟩ h0 h0 h2 h3
  have e' := congrFun (congrArg (fun p => p.2.2.2.2) e) (ix2 a k)
  dsimp only at e'
  refine e'.trans ?_
  exact Body.scr1_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (outsAt0 m c (n - 1) (Nat.lt_of_le_of_lt (Nat.sub_le _ _) hn)).2.2.2.1 (outsAt0 m c (n - 1) (Nat.lt_of_le_of_lt (Nat.sub_le _ _) hn)).2.2.2.2 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) (fun h => h0 ((hcond0_0 ⟨n, hn⟩).mp h)) (fun h => h0 ((hcond0_1 ⟨n, hn⟩).mp h)) ((hcond0_2 ⟨n, hn⟩).mpr h2) (fun h => h3 ((hcond0_3 ⟨n, hn⟩).mp h)) a k

include hq hk hv hd in
theorem scr1_C (n : ℕ) (hn : n < cfg0.N) (h0 : ¬n % 9 = 0) (h2 : 1 ≤ n % 9) (h3 : n % 9 = 8) (a : Fin 128) (k : Fin 2304) :
    (((outsAt0 (F := Ideal) m c n hn).2.2.2.2 : FVec Ideal S128x2304 .f32) (ix2 a k) : EReal) = (((outsAt0 (F := Ideal) m c (n - 1) (Nat.lt_of_le_of_lt (Nat.sub_le _ _) hn)).2.2.2.2 : FVec Ideal S128x2304 .f32) (ix2 a k) : EReal) + ((Body.add1 (X0 Q (n / 36) (n / 9 % 4) (n % 9)) (X1 K (n / 36) (n / 9 % 4)) (X4 Q K (n / 36) (n / 9 % 4) (n % 9)) (X5 D (n / 36) (n / 9 % 4) (n % 9)) a.val k.val : ℝ) : EReal) := by
  have e := outsAt0_C m c ⟨n, hn⟩ h0 h0 h2 h3
  have e' := congrFun (congrArg (fun p => p.2.2.2.2) e) (ix2 a k)
  dsimp only at e'
  refine e'.trans ?_
  exact Body.scr1_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (outsAt0 m c (n - 1) (Nat.lt_of_le_of_lt (Nat.sub_le _ _) hn)).2.2.2.1 (outsAt0 m c (n - 1) (Nat.lt_of_le_of_lt (Nat.sub_le _ _) hn)).2.2.2.2 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) (fun h => h0 ((hcond0_0 ⟨n, hn⟩).mp h)) (fun h => h0 ((hcond0_1 ⟨n, hn⟩).mp h)) ((hcond0_2 ⟨n, hn⟩).mpr h2) ((hcond0_3 ⟨n, hn⟩).mpr h3) a k

include hq hk hv hd in
theorem out6_A (n : ℕ) (hn : n < cfg0.N) (h0 : n % 9 = 0) (h2 : ¬1 ≤ n % 9) (h3 : ¬n % 9 = 8) (r l : Fin 256) :
    (((outsAt0 (F := Ideal) m c n hn).1 : FVec Ideal S256x256 .f32) (ix2 r l) : EReal) = ((∑ k : Fin 256, Body.bDS (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (l.val / 128) r.val k.val * (X1 K (n / 36) (n / 9 % 4)) k.val l.val : ℝ) : EReal) := by
  have e := outsAt0_A m c ⟨n, hn⟩ h0 h0 h2 h3
  have e' := congrFun (congrArg (fun p => p.1) e) (ix2 r l)
  dsimp only at e'
  refine e'.trans ?_
  exact Body.out6_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)  (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) ((hcond0_0 ⟨n, hn⟩).mpr h0) ((hcond0_1 ⟨n, hn⟩).mpr h0) (fun h => h2 ((hcond0_2 ⟨n, hn⟩).mp h)) (fun h => h3 ((hcond0_3 ⟨n, hn⟩).mp h)) r l

include hq hk hv hd in
theorem out6_B (n : ℕ) (hn : n < cfg0.N) (h0 : ¬n % 9 = 0) (h2 : 1 ≤ n % 9) (h3 : ¬n % 9 = 8) (r l : Fin 256) :
    (((outsAt0 (F := Ideal) m c n hn).1 : FVec Ideal S256x256 .f32) (ix2 r l) : EReal) = ((∑ k : Fin 2304, Body.bDS (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (l.val / 128) r.val k.val * (X1 K (n / 36) (n / 9 % 4)) k.val l.val : ℝ) : EReal) := by
  have e := outsAt0_B m c ⟨n, hn⟩ h0 h0 h2 h3
  have e' := congrFun (congrArg (fun p => p.1) e) (ix2 r l)
  dsimp only at e'
  refine e'.trans ?_
  exact Body.out6_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (outsAt0 m c (n - 1) (Nat.lt_of_le_of_lt (Nat.sub_le _ _) hn)).2.2.2.1 (outsAt0 m c (n - 1) (Nat.lt_of_le_of_lt (Nat.sub_le _ _) hn)).2.2.2.2 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) (fun h => h0 ((hcond0_0 ⟨n, hn⟩).mp h)) (fun h => h0 ((hcond0_1 ⟨n, hn⟩).mp h)) ((hcond0_2 ⟨n, hn⟩).mpr h2) (fun h => h3 ((hcond0_3 ⟨n, hn⟩).mp h)) r l

include hq hk hv hd in
theorem out6_C (n : ℕ) (hn : n < cfg0.N) (h0 : ¬n % 9 = 0) (h2 : 1 ≤ n % 9) (h3 : n % 9 = 8) (r l : Fin 256) :
    (((outsAt0 (F := Ideal) m c n hn).1 : FVec Ideal S256x256 .f32) (ix2 r l) : EReal) = ((∑ k : Fin 2304, Body.bDS (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (l.val / 128) r.val k.val * (X1 K (n / 36) (n / 9 % 4)) k.val l.val : ℝ) : EReal) := by
  have e := outsAt0_C m c ⟨n, hn⟩ h0 h0 h2 h3
  have e' := congrFun (congrArg (fun p => p.1) e) (ix2 r l)
  dsimp only at e'
  refine e'.trans ?_
  exact Body.out6_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (outsAt0 m c (n - 1) (Nat.lt_of_le_of_lt (Nat.sub_le _ _) hn)).2.2.2.1 (outsAt0 m c (n - 1) (Nat.lt_of_le_of_lt (Nat.sub_le _ _) hn)).2.2.2.2 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) (fun h => h0 ((hcond0_0 ⟨n, hn⟩).mp h)) (fun h => h0 ((hcond0_1 ⟨n, hn⟩).mp h)) ((hcond0_2 ⟨n, hn⟩).mpr h2) ((hcond0_3 ⟨n, hn⟩).mpr h3) r l

include hq hk hv hd in
theorem out7_C (n : ℕ) (hn : n < cfg0.N) (h0 : ¬n % 9 = 0) (h2 : 1 ≤ n % 9) (h3 : n % 9 = 8) (k : Fin 2304) (a : Fin 256) :
    (((outsAt0 (F := Ideal) m c n hn).2.1 : FVec Ideal S2304x256 .f32) (ix2 k a) : EReal) = (((outsAt0 (F := Ideal) m c (n - 1) (Nat.lt_of_le_of_lt (Nat.sub_le _ _) hn)).2.2.2.1 : FVec Ideal S256x2304 .f32) (ix2 a k) : EReal) + ((Body.add0 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) a.val k.val : ℝ) : EReal) := by
  have e := outsAt0_C m c ⟨n, hn⟩ h0 h0 h2 h3
  have e' := congrFun (congrArg (fun p => p.2.1) e) (ix2 k a)
  dsimp only at e'
  refine e'.trans ?_
  exact Body.out7_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (outsAt0 m c (n - 1) (Nat.lt_of_le_of_lt (Nat.sub_le _ _) hn)).2.2.2.1 (outsAt0 m c (n - 1) (Nat.lt_of_le_of_lt (Nat.sub_le _ _) hn)).2.2.2.2 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) (fun h => h0 ((hcond0_0 ⟨n, hn⟩).mp h)) (fun h => h0 ((hcond0_1 ⟨n, hn⟩).mp h)) ((hcond0_2 ⟨n, hn⟩).mpr h2) ((hcond0_3 ⟨n, hn⟩).mpr h3) k a

include hq hk hv hd in
theorem out8_C (n : ℕ) (hn : n < cfg0.N) (h0 : ¬n % 9 = 0) (h2 : 1 ≤ n % 9) (h3 : n % 9 = 8) (k : Fin 2304) (a : Fin 128) :
    (((outsAt0 (F := Ideal) m c n hn).2.2.1 : FVec Ideal S2304x128 .f32) (ix2 k a) : EReal) = (((outsAt0 (F := Ideal) m c (n - 1) (Nat.lt_of_le_of_lt (Nat.sub_le _ _) hn)).2.2.2.2 : FVec Ideal S128x2304 .f32) (ix2 a k) : EReal) + ((Body.add1 (X0 Q (n / 36) (n / 9 % 4) (n % 9)) (X1 K (n / 36) (n / 9 % 4)) (X4 Q K (n / 36) (n / 9 % 4) (n % 9)) (X5 D (n / 36) (n / 9 % 4) (n % 9)) a.val k.val : ℝ) : EReal) := by
  have e := outsAt0_C m c ⟨n, hn⟩ h0 h0 h2 h3
  have e' := congrFun (congrArg (fun p => p.2.2.1) e) (ix2 k a)
  dsimp only at e'
  refine e'.trans ?_
  exact Body.out8_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (outsAt0 m c (n - 1) (Nat.lt_of_le_of_lt (Nat.sub_le _ _) hn)).2.2.2.1 (outsAt0 m c (n - 1) (Nat.lt_of_le_of_lt (Nat.sub_le _ _) hn)).2.2.2.2 (X0 Q (n / 36) (n / 9 % 4) (n % 9)) (X1 K (n / 36) (n / 9 % 4)) (X2 V' (n / 36) (n / 9 % 4)) (X3 Q K V' (n / 36) (n / 9 % 4) (n % 9)) (X4 Q K (n / 36) (n / 9 % 4) (n % 9)) (X5 D (n / 36) (n / 9 % 4) (n % 9)) (blk0 m c Q hq ⟨n, hn⟩) (blk1 m c K hk ⟨n, hn⟩) (blk2 m c V' hv ⟨n, hn⟩) (blk3 m c Q K V' D hq hk hv hd ⟨n, hn⟩) (blk4 m c Q K V' D hq hk hv hd ⟨n, hn⟩) (blk5 m c D hd ⟨n, hn⟩) (fun h => h0 ((hcond0_0 ⟨n, hn⟩).mp h)) (fun h => h0 ((hcond0_1 ⟨n, hn⟩).mp h)) ((hcond0_2 ⟨n, hn⟩).mpr h2) ((hcond0_3 ⟨n, hn⟩).mpr h3) k a

include hq hk hv hd in
/-- The key gradient's accumulator after a point. -/
theorem acc0 (n : ℕ) : ∀ (hn : n < cfg0.N) (a : Fin 256) (k : Fin 2304),
    (((outsAt0 (F := Ideal) m c n hn).2.2.2.1 : FVec Ideal S256x2304 .f32) (ix2 a k) : EReal) = ((T (A0 Q K V' D (n / 36) (n / 9 % 4) a.val k.val) k.val (n % 9) : ℝ) : EReal) := by
  induction n using Nat.strong_induction_on with
  | _ n ih =>
  intro hn a k
  by_cases h0 : n % 9 = 0
  · rw [scr0_A m c Q K V' D hq hk hv hd n hn h0 (by omega) (by omega) a k, add0_eq, h0, T_zero]
  · by_cases h3 : n % 9 = 8
    · rw [scr0_C m c Q K V' D hq hk hv hd n hn h0 (by omega) h3 a k, ih (n - 1) (by omega) _ a k, add0_eq, ← EReal.coe_add, T_succ _ _ (n % 9) (by omega),
        show (n - 1) / 36 = n / 36 by omega, show (n - 1) / 9 % 4 = n / 9 % 4 by omega, show (n - 1) % 9 = n % 9 - 1 by omega]
    · rw [scr0_B m c Q K V' D hq hk hv hd n hn h0 (by omega) h3 a k, ih (n - 1) (by omega) _ a k, add0_eq, ← EReal.coe_add, T_succ _ _ (n % 9) (by omega),
        show (n - 1) / 36 = n / 36 by omega, show (n - 1) / 9 % 4 = n / 9 % 4 by omega, show (n - 1) % 9 = n % 9 - 1 by omega]

include hq hk hv hd in
/-- The key gradient's block at the last row tile. -/
theorem fin0 (n : ℕ) (hn : n < cfg0.N) (h3 : n % 9 = 8) (k : Fin 2304) (a : Fin 256) :
    (((outsAt0 (F := Ideal) m c n hn).2.1 : FVec Ideal S2304x256 .f32) (ix2 k a) : EReal) = ((T (A0 Q K V' D (n / 36) (n / 9 % 4) a.val k.val) k.val 8 : ℝ) : EReal) := by
  rw [out7_C m c Q K V' D hq hk hv hd n hn (by omega) (by omega) h3 k a, acc0 m c Q K V' D hq hk hv hd (n - 1) _ a k, add0_eq, ← EReal.coe_add, h3, T_succ _ _ 8 (by omega),
    show (n - 1) / 36 = n / 36 by omega, show (n - 1) / 9 % 4 = n / 9 % 4 by omega, show (n - 1) % 9 = 8 - 1 by omega]

include hq hk hv hd in
/-- The value gradient's accumulator after a point. -/
theorem acc1 (n : ℕ) : ∀ (hn : n < cfg0.N) (a : Fin 128) (k : Fin 2304),
    (((outsAt0 (F := Ideal) m c n hn).2.2.2.2 : FVec Ideal S128x2304 .f32) (ix2 a k) : EReal) = ((T (A1 Q K D (n / 36) (n / 9 % 4) a.val k.val) k.val (n % 9) : ℝ) : EReal) := by
  induction n using Nat.strong_induction_on with
  | _ n ih =>
  intro hn a k
  by_cases h0 : n % 9 = 0
  · rw [scr1_A m c Q K V' D hq hk hv hd n hn h0 (by omega) (by omega) a k, add1_eq, h0, T_zero]
  · by_cases h3 : n % 9 = 8
    · rw [scr1_C m c Q K V' D hq hk hv hd n hn h0 (by omega) h3 a k, ih (n - 1) (by omega) _ a k, add1_eq, ← EReal.coe_add, T_succ _ _ (n % 9) (by omega),
        show (n - 1) / 36 = n / 36 by omega, show (n - 1) / 9 % 4 = n / 9 % 4 by omega, show (n - 1) % 9 = n % 9 - 1 by omega]
    · rw [scr1_B m c Q K V' D hq hk hv hd n hn h0 (by omega) h3 a k, ih (n - 1) (by omega) _ a k, add1_eq, ← EReal.coe_add, T_succ _ _ (n % 9) (by omega),
        show (n - 1) / 36 = n / 36 by omega, show (n - 1) / 9 % 4 = n / 9 % 4 by omega, show (n - 1) % 9 = n % 9 - 1 by omega]

include hq hk hv hd in
/-- The value gradient's block at the last row tile. -/
theorem fin1 (n : ℕ) (hn : n < cfg0.N) (h3 : n % 9 = 8) (k : Fin 2304) (a : Fin 128) :
    (((outsAt0 (F := Ideal) m c n hn).2.2.1 : FVec Ideal S2304x128 .f32) (ix2 k a) : EReal) = ((T (A1 Q K D (n / 36) (n / 9 % 4) a.val k.val) k.val 8 : ℝ) : EReal) := by
  rw [out8_C m c Q K V' D hq hk hv hd n hn (by omega) (by omega) h3 k a, acc1 m c Q K V' D hq hk hv hd (n - 1) _ a k, add1_eq, ← EReal.coe_add, h3, T_succ _ _ 8 (by omega),
    show (n - 1) / 36 = n / 36 by omega, show (n - 1) / 9 % 4 = n / 9 % 4 by omega, show (n - 1) % 9 = 8 - 1 by omega]

include hq hk hv hd in
/-- The query gradient's block at every point. -/
theorem fin6 (n : ℕ) (hn : n < cfg0.N) (r l : Fin 256) :
    (((outsAt0 (F := Ideal) m c n hn).1 : FVec Ideal S256x256 .f32) (ix2 r l) : EReal)
      = ((if n % 9 * 256 + r.val < 256 then ∑ y : Fin 256, G Q K V' D (n / 36) (n / 9 % 4 * 2 + l.val / 128) (l.val % 128) (n % 9 * 256 + r.val) y.val
          else ∑ y : Fin 2304, G Q K V' D (n / 36) (n / 9 % 4 * 2 + l.val / 128) (l.val % 128) (n % 9 * 256 + r.val) y.val : ℝ) : EReal) := by
  by_cases h0 : n % 9 = 0
  · rw [out6_A m c Q K V' D hq hk hv hd n hn h0 (by omega) (by omega) r l, if_pos (by omega)]
    simp only [bG_eq]
  · rw [if_neg (by omega)]
    by_cases h3 : n % 9 = 8
    · rw [out6_C m c Q K V' D hq hk hv hd n hn h0 (by omega) h3 r l]
      simp only [bG_eq]
    · rw [out6_B m c Q K V' D hq hk hv hd n hn h0 (by omega) h3 r l]
      simp only [bG_eq]

end Points
end Cert.KernelIdeal
end
-- ==== Proof.RefChain.lean ====
module

public import proofs.«01_k».proof.Proof.Gen.ReferenceIdeal.Run
public import Idealize.ShloMosaic.Lib.Pipeline.ValueKit
public import proofs.«01_k».proof.Proof.Reals

@[expose] public section

set_option maxRecDepth 16384

noncomputable section

namespace Cert.ReferenceIdeal
namespace Chain
open Cert.ReferenceIdeal Idealize.ShloMosaic Idealize.ShloMosaic.TcCoe Idealize.SL.Sem Cert.Attn
open Facts₀ Facts

/-- `0 = stablehlo.reshape %arg0` of the program, as a function of the arguments. -/
def rv0 (q k : FVec Ideal S9216x1024 .f32) (v d : FVec Ideal S9216x512 .f32) : FVec Ideal S4x2304x8x128 .f32 := shapeCast S4x2304x8x128 q shapeCasts_S9216x1024_S4x2304x8x128
/-- `1 = stablehlo.reshape %arg1` of the program, as a function of the arguments. -/
def rv1 (q k : FVec Ideal S9216x1024 .f32) (v d : FVec Ideal S9216x512 .f32) : FVec Ideal S4x2304x8x128 .f32 := shapeCast S4x2304x8x128 k shapeCasts_S9216x1024_S4x2304x8x128
/-- `2 = stablehlo.reshape %arg2` of the program, as a function of the arguments. -/
def rv2 (q k : FVec Ideal S9216x1024 .f32) (v d : FVec Ideal S9216x512 .f32) : FVec Ideal S4x2304x8x64 .f32 := shapeCast S4x2304x8x64 v shapeCasts_S9216x512_S4x2304x8x64
/-- `3 = stablehlo.slice %0 [0:4` of the program, as a function of the arguments. -/
def rv3 (q k : FVec Ideal S9216x1024 .f32) (v d : FVec Ideal S9216x512 .f32) : FVec Ideal S4x256x8x128 .f32 := ((extractStridedSlice S4x256x8x128 ![0, 0, 0, 0] · slices_S4x2304x8x128_S4x256x8x128_0_0_0_0)) (rv0 q k v d)
/-- `4 = stablehlo.slice %1 [0:4` of the program, as a function of the arguments. -/
def rv4 (q k : FVec Ideal S9216x1024 .f32) (v d : FVec Ideal S9216x512 .f32) : FVec Ideal S4x256x8x128 .f32 := ((extractStridedSlice S4x256x8x128 ![0, 0, 0, 0] · slices_S4x2304x8x128_S4x256x8x128_0_0_0_0)) (rv1 q k v d)
/-- `5 = stablehlo.slice %2 [0:4` of the program, as a function of the arguments. -/
def rv5 (q k : FVec Ideal S9216x1024 .f32) (v d : FVec Ideal S9216x512 .f32) : FVec Ideal S4x256x8x64 .f32 := ((extractStridedSlice S4x256x8x64 ![0, 0, 0, 0] · slices_S4x2304x8x64_S4x256x8x64_0_0_0_0)) (rv2 q k v d)
/-- `6 = stablehlo.dot_general %3` of the program, as a function of the arguments. -/
def rv6 (q k : FVec Ideal S9216x1024 .f32) (v d : FVec Ideal S9216x512 .f32) : FVec Ideal S4x8x256x256 .f32 := ((fun l r => Host.dotGeneral dot_S4x256x8x128_S4x256x8x128_S4x8x256x256_3_3_1_1_02_02 none l r)) (rv3 q k v d) (rv4 q k v d)
/-- `cst = stablehlo.constant` of the program, as a function of the arguments. -/
def rcst (q k : FVec Ideal S9216x1024 .f32) (v d : FVec Ideal S9216x512 .f32) : FVec Ideal S_ .f32 := (constant S_ .f32 0xFF800000#32)
/-- `7 = stablehlo.reduce(%6 init: %cst) applies stablehlo.maximum across dimensions = [3]` of the program, as a function of the arguments. -/
def rv7 (q k : FVec Ideal S9216x1024 .f32) (v d : FVec Ideal S9216x512 .f32) : FVec Ideal S4x8x256 .f32 := ((fun x v => Host.reduce FloatOps.maximumf x v reducesTo_S4x8x256x256_S4x8x256_d3 h_S_)) (rv6 q k v d) (rcst q k v d)
/-- `cst_1 = stablehlo.constant` of the program, as a function of the arguments. -/
def rcst_1 (q k : FVec Ideal S9216x1024 .f32) (v d : FVec Ideal S9216x512 .f32) : FVec Ideal S_ .f32 := (constant S_ .f32 0xFF800000#32)
/-- `13 = stablehlo.broadcast_in_dim %cst_1` of the program, as a function of the arguments. -/
def rv13 (q k : FVec Ideal S9216x1024 .f32) (v d : FVec Ideal S9216x512 .f32) : FVec Ideal S4x8x256 .f32 := (broadcastInDim S4x8x256 ![] bcast_S_S4x8x256) (rcst_1 q k v d)
/-- `14 = stablehlo.maximum %13` of the program, as a function of the arguments. -/
def rv14 (q k : FVec Ideal S9216x1024 .f32) (v d : FVec Ideal S9216x512 .f32) : FVec Ideal S4x8x256 .f32 := (maximumf) (rv13 q k v d) (rv7 q k v d)
/-- `24 = stablehlo.broadcast_in_dim %14` of the program, as a function of the arguments. -/
def rv24 (q k : FVec Ideal S9216x1024 .f32) (v d : FVec Ideal S9216x512 .f32) : FVec Ideal S4x8x256x1 .f32 := (broadcastInDim S4x8x256x1 ![0, 1, 2] bcast_S4x8x256_S4x8x256x1_0_1_2) (rv14 q k v d)
/-- `25 = stablehlo.broadcast_in_dim %24` of the program, as a function of the arguments. -/
def rv25 (q k : FVec Ideal S9216x1024 .f32) (v d : FVec Ideal S9216x512 .f32) : FVec Ideal S4x8x256x256 .f32 := (broadcastInDim S4x8x256x256 ![0, 1, 2, 3] bcast_S4x8x256x1_S4x8x256x256_0_1_2_3) (rv24 q k v d)
/-- `26 = stablehlo.subtract %6` of the program, as a function of the arguments. -/
def rv26 (q k : FVec Ideal S9216x1024 .f32) (v d : FVec Ideal S9216x512 .f32) : FVec Ideal S4x8x256x256 .f32 := (subf) (rv6 q k v d) (rv25 q k v d)
/-- `27 = stablehlo.exponential %26` of the program, as a function of the arguments. -/
def rv27 (q k : FVec Ideal S9216x1024 .f32) (v d : FVec Ideal S9216x512 .f32) : FVec Ideal S4x8x256x256 .f32 := (Host.exp) (rv26 q k v d)
/-- `cst_7 = stablehlo.constant` of the program, as a function of the arguments. -/
def rcst_7 (q k : FVec Ideal S9216x1024 .f32) (v d : FVec Ideal S9216x512 .f32) : FVec Ideal S_ .f32 := (constant S_ .f32 0x00000000#32)
/-- `28 = stablehlo.reduce(%27 init: %cst_7) applies stablehlo.add across dimensions = [3]` of the program, as a function of the arguments. -/
def rv28 (q k : FVec Ideal S9216x1024 .f32) (v d : FVec Ideal S9216x512 .f32) : FVec Ideal S4x8x256 .f32 := ((fun x v => Host.reduceAdd x v reducesTo_S4x8x256x256_S4x8x256_d3 h_S_)) (rv27 q k v d) (rcst_7 q k v d)
/-- `29 = stablehlo.broadcast_in_dim %28` of the program, as a function of the arguments. -/
def rv29 (q k : FVec Ideal S9216x1024 .f32) (v d : FVec Ideal S9216x512 .f32) : FVec Ideal S4x8x256x1 .f32 := (broadcastInDim S4x8x256x1 ![0, 1, 2] bcast_S4x8x256_S4x8x256x1_0_1_2) (rv28 q k v d)
/-- `30 = stablehlo.broadcast_in_dim %29` of the program, as a function of the arguments. -/
def rv30 (q k : FVec Ideal S9216x1024 .f32) (v d : FVec Ideal S9216x512 .f32) : FVec Ideal S4x8x256x256 .f32 := (broadcastInDim S4x8x256x256 ![0, 1, 2, 3] bcast_S4x8x256x1_S4x8x256x256_0_1_2_3) (rv29 q k v d)
/-- `31 = stablehlo.divide %27` of the program, as a function of the arguments. -/
def rv31 (q k : FVec Ideal S9216x1024 .f32) (v d : FVec Ideal S9216x512 .f32) : FVec Ideal S4x8x256x256 .f32 := (Host.divf) (rv27 q k v d) (rv30 q k v d)
/-- `32 = stablehlo.multiply %29` of the program, as a function of the arguments. -/
def rv32 (q k : FVec Ideal S9216x1024 .f32) (v d : FVec Ideal S9216x512 .f32) : FVec Ideal S4x8x256x1 .f32 := (mulf) (rv29 q k v d) (rv29 q k v d)
/-- `cst_8 = stablehlo.constant` of the program, as a function of the arguments. -/
def rcst_8 (q k : FVec Ideal S9216x1024 .f32) (v d : FVec Ideal S9216x512 .f32) : FVec Ideal S_ .f32 := (constant S_ .f32 0x3F800000#32)
/-- `33 = stablehlo.broadcast_in_dim %cst_8` of the program, as a function of the arguments. -/
def rv33 (q k : FVec Ideal S9216x1024 .f32) (v d : FVec Ideal S9216x512 .f32) : FVec Ideal S4x8x256x1 .f32 := (broadcastInDim S4x8x256x1 ![] bcast_S_S4x8x256x1) (rcst_8 q k v d)
/-- `34 = stablehlo.divide %33` of the program, as a function of the arguments. -/
def rv34 (q k : FVec Ideal S9216x1024 .f32) (v d : FVec Ideal S9216x512 .f32) : FVec Ideal S4x8x256x1 .f32 := (Host.divf) (rv33 q k v d) (rv32 q k v d)
/-- `37 = stablehlo.slice %0 [0:4` of the program, as a function of the arguments. -/
def rv37 (q k : FVec Ideal S9216x1024 .f32) (v d : FVec Ideal S9216x512 .f32) : FVec Ideal S4x2048x8x128 .f32 := ((extractStridedSlice S4x2048x8x128 ![0, 256, 0, 0] · slices_S4x2304x8x128_S4x2048x8x128_0_256_0_0)) (rv0 q k v d)
/-- `38 = stablehlo.dot_general %37` of the program, as a function of the arguments. -/
def rv38 (q k : FVec Ideal S9216x1024 .f32) (v d : FVec Ideal S9216x512 .f32) : FVec Ideal S4x8x2048x2304 .f32 := ((fun l r => Host.dotGeneral dot_S4x2048x8x128_S4x2304x8x128_S4x8x2048x2304_3_3_1_1_02_02 none l r)) (rv37 q k v d) (rv1 q k v d)
/-- `cst_9 = stablehlo.constant` of the program, as a function of the arguments. -/
def rcst_9 (q k : FVec Ideal S9216x1024 .f32) (v d : FVec Ideal S9216x512 .f32) : FVec Ideal S_ .f32 := (constant S_ .f32 0xFF800000#32)
/-- `39 = stablehlo.reduce(%38 init: %cst_9) applies stablehlo.maximum across dimensions = [3]` of the program, as a function of the arguments. -/
def rv39 (q k : FVec Ideal S9216x1024 .f32) (v d : FVec Ideal S9216x512 .f32) : FVec Ideal S4x8x2048 .f32 := ((fun x v => Host.reduce FloatOps.maximumf x v reducesTo_S4x8x2048x2304_S4x8x2048_d3 h_S_)) (rv38 q k v d) (rcst_9 q k v d)
/-- `cst_11 = stablehlo.constant` of the program, as a function of the arguments. -/
def rcst_11 (q k : FVec Ideal S9216x1024 .f32) (v d : FVec Ideal S9216x512 .f32) : FVec Ideal S_ .f32 := (constant S_ .f32 0xFF800000#32)
/-- `45 = stablehlo.broadcast_in_dim %cst_11` of the program, as a function of the arguments. -/
def rv45 (q k : FVec Ideal S9216x1024 .f32) (v d : FVec Ideal S9216x512 .f32) : FVec Ideal S4x8x2048 .f32 := (broadcastInDim S4x8x2048 ![] bcast_S_S4x8x2048) (rcst_11 q k v d)
/-- `46 = stablehlo.maximum %45` of the program, as a function of the arguments. -/
def rv46 (q k : FVec Ideal S9216x1024 .f32) (v d : FVec Ideal S9216x512 .f32) : FVec Ideal S4x8x2048 .f32 := (maximumf) (rv45 q k v d) (rv39 q k v d)
/-- `56 = stablehlo.broadcast_in_dim %46` of the program, as a function of the arguments. -/
def rv56 (q k : FVec Ideal S9216x1024 .f32) (v d : FVec Ideal S9216x512 .f32) : FVec Ideal S4x8x2048x1 .f32 := (broadcastInDim S4x8x2048x1 ![0, 1, 2] bcast_S4x8x2048_S4x8x2048x1_0_1_2) (rv46 q k v d)
/-- `57 = stablehlo.broadcast_in_dim %56` of the program, as a function of the arguments. -/
def rv57 (q k : FVec Ideal S9216x1024 .f32) (v d : FVec Ideal S9216x512 .f32) : FVec Ideal S4x8x2048x2304 .f32 := (broadcastInDim S4x8x2048x2304 ![0, 1, 2, 3] bcast_S4x8x2048x1_S4x8x2048x2304_0_1_2_3) (rv56 q k v d)
/-- `58 = stablehlo.subtract %38` of the program, as a function of the arguments. -/
def rv58 (q k : FVec Ideal S9216x1024 .f32) (v d : FVec Ideal S9216x512 .f32) : FVec Ideal S4x8x2048x2304 .f32 := (subf) (rv38 q k v d) (rv57 q k v d)
/-- `59 = stablehlo.exponential %58` of the program, as a function of the arguments. -/
def rv59 (q k : FVec Ideal S9216x1024 .f32) (v d : FVec Ideal S9216x512 .f32) : FVec Ideal S4x8x2048x2304 .f32 := (Host.exp) (rv58 q k v d)
/-- `cst_17 = stablehlo.constant` of the program, as a function of the arguments. -/
def rcst_17 (q k : FVec Ideal S9216x1024 .f32) (v d : FVec Ideal S9216x512 .f32) : FVec Ideal S_ .f32 := (constant S_ .f32 0x00000000#32)
/-- `60 = stablehlo.reduce(%59 init: %cst_17) applies stablehlo.add across dimensions = [3]` of the program, as a function of the arguments. -/
def rv60 (q k : FVec Ideal S9216x1024 .f32) (v d : FVec Ideal S9216x512 .f32) : FVec Ideal S4x8x2048 .f32 := ((fun x v => Host.reduceAdd x v reducesTo_S4x8x2048x2304_S4x8x2048_d3 h_S_)) (rv59 q k v d) (rcst_17 q k v d)
/-- `61 = stablehlo.broadcast_in_dim %60` of the program, as a function of the arguments. -/
def rv61 (q k : FVec Ideal S9216x1024 .f32) (v d : FVec Ideal S9216x512 .f32) : FVec Ideal S4x8x2048x1 .f32 := (broadcastInDim S4x8x2048x1 ![0, 1, 2] bcast_S4x8x2048_S4x8x2048x1_0_1_2) (rv60 q k v d)
/-- `62 = stablehlo.broadcast_in_dim %61` of the program, as a function of the arguments. -/
def rv62 (q k : FVec Ideal S9216x1024 .f32) (v d : FVec Ideal S9216x512 .f32) : FVec Ideal S4x8x2048x2304 .f32 := (broadcastInDim S4x8x2048x2304 ![0, 1, 2, 3] bcast_S4x8x2048x1_S4x8x2048x2304_0_1_2_3) (rv61 q k v d)
/-- `63 = stablehlo.divide %59` of the program, as a function of the arguments. -/
def rv63 (q k : FVec Ideal S9216x1024 .f32) (v d : FVec Ideal S9216x512 .f32) : FVec Ideal S4x8x2048x2304 .f32 := (Host.divf) (rv59 q k v d) (rv62 q k v d)
/-- `64 = stablehlo.multiply %61` of the program, as a function of the arguments. -/
def rv64 (q k : FVec Ideal S9216x1024 .f32) (v d : FVec Ideal S9216x512 .f32) : FVec Ideal S4x8x2048x1 .f32 := (mulf) (rv61 q k v d) (rv61 q k v d)
/-- `cst_18 = stablehlo.constant` of the program, as a function of the arguments. -/
def rcst_18 (q k : FVec Ideal S9216x1024 .f32) (v d : FVec Ideal S9216x512 .f32) : FVec Ideal S_ .f32 := (constant S_ .f32 0x3F800000#32)
/-- `65 = stablehlo.broadcast_in_dim %cst_18` of the program, as a function of the arguments. -/
def rv65 (q k : FVec Ideal S9216x1024 .f32) (v d : FVec Ideal S9216x512 .f32) : FVec Ideal S4x8x2048x1 .f32 := (broadcastInDim S4x8x2048x1 ![] bcast_S_S4x8x2048x1) (rcst_18 q k v d)
/-- `66 = stablehlo.divide %65` of the program, as a function of the arguments. -/
def rv66 (q k : FVec Ideal S9216x1024 .f32) (v d : FVec Ideal S9216x512 .f32) : FVec Ideal S4x8x2048x1 .f32 := (Host.divf) (rv65 q k v d) (rv64 q k v d)
/-- `71 = stablehlo.reshape %arg3` of the program, as a function of the arguments. -/
def rv71 (q k : FVec Ideal S9216x1024 .f32) (v d : FVec Ideal S9216x512 .f32) : FVec Ideal S4x2304x8x64 .f32 := shapeCast S4x2304x8x64 d shapeCasts_S9216x512_S4x2304x8x64
/-- `72 = stablehlo.slice %71 [0:4` of the program, as a function of the arguments. -/
def rv72 (q k : FVec Ideal S9216x1024 .f32) (v d : FVec Ideal S9216x512 .f32) : FVec Ideal S4x256x8x64 .f32 := ((extractStridedSlice S4x256x8x64 ![0, 0, 0, 0] · slices_S4x2304x8x64_S4x256x8x64_0_0_0_0)) (rv71 q k v d)
/-- `73 = stablehlo.slice %71 [0:4` of the program, as a function of the arguments. -/
def rv73 (q k : FVec Ideal S9216x1024 .f32) (v d : FVec Ideal S9216x512 .f32) : FVec Ideal S4x2048x8x64 .f32 := ((extractStridedSlice S4x2048x8x64 ![0, 256, 0, 0] · slices_S4x2304x8x64_S4x2048x8x64_0_256_0_0)) (rv71 q k v d)
/-- `74 = stablehlo.transpose %73` of the program, as a function of the arguments. -/
def rv74 (q k : FVec Ideal S9216x1024 .f32) (v d : FVec Ideal S9216x512 .f32) : FVec Ideal S4x8x64x2048 .f32 := ((transpose S4x8x64x2048 [0, 2, 3, 1] · transposes_S4x2048x8x64_S4x8x64x2048_0_2_3_1)) (rv73 q k v d)
/-- `75 = stablehlo.dot_general %74` of the program, as a function of the arguments. -/
def rv75 (q k : FVec Ideal S9216x1024 .f32) (v d : FVec Ideal S9216x512 .f32) : FVec Ideal S4x8x2048x2304 .f32 := ((fun l r => Host.dotGeneral dot_S4x8x64x2048_S4x2304x8x64_S4x8x2048x2304_2_3_3_1_01_02 none l r)) (rv74 q k v d) (rv2 q k v d)
/-- `76 = stablehlo.dot_general %74` of the program, as a function of the arguments. -/
def rv76 (q k : FVec Ideal S9216x1024 .f32) (v d : FVec Ideal S9216x512 .f32) : FVec Ideal S4x8x64x2304 .f32 := ((fun l r => Host.dotGeneral dot_S4x8x64x2048_S4x8x2048x2304_S4x8x64x2304_3_2_2_3_01_01 none l r)) (rv74 q k v d) (rv63 q k v d)
/-- `77 = stablehlo.transpose %76` of the program, as a function of the arguments. -/
def rv77 (q k : FVec Ideal S9216x1024 .f32) (v d : FVec Ideal S9216x512 .f32) : FVec Ideal S4x2304x8x64 .f32 := ((transpose S4x2304x8x64 [0, 3, 1, 2] · transposes_S4x8x64x2304_S4x2304x8x64_0_3_1_2)) (rv76 q k v d)
/-- `78 = stablehlo.broadcast_in_dim %66` of the program, as a function of the arguments. -/
def rv78 (q k : FVec Ideal S9216x1024 .f32) (v d : FVec Ideal S9216x512 .f32) : FVec Ideal S4x8x2048x2304 .f32 := (broadcastInDim S4x8x2048x2304 ![0, 1, 2, 3] bcast_S4x8x2048x1_S4x8x2048x2304_0_1_2_3) (rv66 q k v d)
/-- `79 = stablehlo.multiply %75` of the program, as a function of the arguments. -/
def rv79 (q k : FVec Ideal S9216x1024 .f32) (v d : FVec Ideal S9216x512 .f32) : FVec Ideal S4x8x2048x2304 .f32 := (mulf) (rv75 q k v d) (rv78 q k v d)
/-- `80 = stablehlo.multiply %79` of the program, as a function of the arguments. -/
def rv80 (q k : FVec Ideal S9216x1024 .f32) (v d : FVec Ideal S9216x512 .f32) : FVec Ideal S4x8x2048x2304 .f32 := (mulf) (rv79 q k v d) (rv59 q k v d)
/-- `cst_19 = stablehlo.constant` of the program, as a function of the arguments. -/
def rcst_19 (q k : FVec Ideal S9216x1024 .f32) (v d : FVec Ideal S9216x512 .f32) : FVec Ideal S_ .f32 := (constant S_ .f32 0x00000000#32)
/-- `81 = stablehlo.reduce(%80 init: %cst_19) applies stablehlo.add across dimensions = [3]` of the program, as a function of the arguments. -/
def rv81 (q k : FVec Ideal S9216x1024 .f32) (v d : FVec Ideal S9216x512 .f32) : FVec Ideal S4x8x2048 .f32 := ((fun x v => Host.reduceAdd x v reducesTo_S4x8x2048x2304_S4x8x2048_d3 h_S_)) (rv80 q k v d) (rcst_19 q k v d)
/-- `82 = stablehlo.reshape %81` of the program, as a function of the arguments. -/
def rv82 (q k : FVec Ideal S9216x1024 .f32) (v d : FVec Ideal S9216x512 .f32) : FVec Ideal S4x8x2048x1 .f32 := shapeCast S4x8x2048x1 (rv81 q k v d) shapeCasts_S4x8x2048_S4x8x2048x1
/-- `83 = stablehlo.negate %82` of the program, as a function of the arguments. -/
def rv83 (q k : FVec Ideal S9216x1024 .f32) (v d : FVec Ideal S9216x512 .f32) : FVec Ideal S4x8x2048x1 .f32 := (Host.negf) (rv82 q k v d)
/-- `84 = stablehlo.broadcast_in_dim %61` of the program, as a function of the arguments. -/
def rv84 (q k : FVec Ideal S9216x1024 .f32) (v d : FVec Ideal S9216x512 .f32) : FVec Ideal S4x8x2048x2304 .f32 := (broadcastInDim S4x8x2048x2304 ![0, 1, 2, 3] bcast_S4x8x2048x1_S4x8x2048x2304_0_1_2_3) (rv61 q k v d)
/-- `85 = stablehlo.divide %75` of the program, as a function of the arguments. -/
def rv85 (q k : FVec Ideal S9216x1024 .f32) (v d : FVec Ideal S9216x512 .f32) : FVec Ideal S4x8x2048x2304 .f32 := (Host.divf) (rv75 q k v d) (rv84 q k v d)
/-- `cst_20 = stablehlo.constant` of the program, as a function of the arguments. -/
def rcst_20 (q k : FVec Ideal S9216x1024 .f32) (v d : FVec Ideal S9216x512 .f32) : FVec Ideal S_ .f32 := (constant S_ .f32 0x00000000#32)
/-- `86 = stablehlo.reduce(%83 init: %cst_20) applies stablehlo.add across dimensions = [3]` of the program, as a function of the arguments. -/
def rv86 (q k : FVec Ideal S9216x1024 .f32) (v d : FVec Ideal S9216x512 .f32) : FVec Ideal S4x8x2048 .f32 := ((fun x v => Host.reduceAdd x v reducesTo_S4x8x2048x1_S4x8x2048_d3 h_S_)) (rv83 q k v d) (rcst_20 q k v d)
/-- `87 = stablehlo.broadcast_in_dim %86` of the program, as a function of the arguments. -/
def rv87 (q k : FVec Ideal S9216x1024 .f32) (v d : FVec Ideal S9216x512 .f32) : FVec Ideal S4x8x2048x2304 .f32 := (broadcastInDim S4x8x2048x2304 ![0, 1, 2] bcast_S4x8x2048_S4x8x2048x2304_0_1_2) (rv86 q k v d)
/-- `88 = stablehlo.add %85` of the program, as a function of the arguments. -/
def rv88 (q k : FVec Ideal S9216x1024 .f32) (v d : FVec Ideal S9216x512 .f32) : FVec Ideal S4x8x2048x2304 .f32 := (addf) (rv85 q k v d) (rv87 q k v d)
/-- `89 = stablehlo.multiply %88` of the program, as a function of the arguments. -/
def rv89 (q k : FVec Ideal S9216x1024 .f32) (v d : FVec Ideal S9216x512 .f32) : FVec Ideal S4x8x2048x2304 .f32 := (mulf) (rv88 q k v d) (rv59 q k v d)
/-- `90 = stablehlo.dot_general %89` of the program, as a function of the arguments. -/
def rv90 (q k : FVec Ideal S9216x1024 .f32) (v d : FVec Ideal S9216x512 .f32) : FVec Ideal S4x8x2304x128 .f32 := ((fun l r => Host.dotGeneral dot_S4x8x2048x2304_S4x2048x8x128_S4x8x2304x128_2_1_3_3_01_02 none l r)) (rv89 q k v d) (rv37 q k v d)
/-- `91 = stablehlo.transpose %90` of the program, as a function of the arguments. -/
def rv91 (q k : FVec Ideal S9216x1024 .f32) (v d : FVec Ideal S9216x512 .f32) : FVec Ideal S4x2304x8x128 .f32 := ((transpose S4x2304x8x128 [0, 2, 1, 3] · transposes_S4x8x2304x128_S4x2304x8x128_0_2_1_3)) (rv90 q k v d)
/-- `92 = stablehlo.dot_general %89` of the program, as a function of the arguments. -/
def rv92 (q k : FVec Ideal S9216x1024 .f32) (v d : FVec Ideal S9216x512 .f32) : FVec Ideal S4x8x2048x128 .f32 := ((fun l r => Host.dotGeneral dot_S4x8x2048x2304_S4x2304x8x128_S4x8x2048x128_3_1_2_3_01_02 none l r)) (rv89 q k v d) (rv1 q k v d)
/-- `93 = stablehlo.transpose %92` of the program, as a function of the arguments. -/
def rv93 (q k : FVec Ideal S9216x1024 .f32) (v d : FVec Ideal S9216x512 .f32) : FVec Ideal S4x2048x8x128 .f32 := ((transpose S4x2048x8x128 [0, 2, 1, 3] · transposes_S4x8x2048x128_S4x2048x8x128_0_2_1_3)) (rv92 q k v d)
/-- `cst_21 = stablehlo.constant` of the program, as a function of the arguments. -/
def rcst_21 (q k : FVec Ideal S9216x1024 .f32) (v d : FVec Ideal S9216x512 .f32) : FVec Ideal S_ .f32 := (constant S_ .f32 0x00000000#32)
/-- `94 = stablehlo.pad %93` of the program, as a function of the arguments. -/
def rv94 (q k : FVec Ideal S9216x1024 .f32) (v d : FVec Ideal S9216x512 .f32) : FVec Ideal S4x2304x8x128 .f32 := ((fun x v => pad S4x2304x8x128 ![0, 256, 0, 0] ![0, 0, 0, 0] ![0, 0, 0, 0] x v pads_S4x2048x8x128_S4x2304x8x128_000_25600_000_000 h_S_)) (rv93 q k v d) (rcst_21 q k v d)
/-- `95 = stablehlo.transpose %72` of the program, as a function of the arguments. -/
def rv95 (q k : FVec Ideal S9216x1024 .f32) (v d : FVec Ideal S9216x512 .f32) : FVec Ideal S4x8x64x256 .f32 := ((transpose S4x8x64x256 [0, 2, 3, 1] · transposes_S4x256x8x64_S4x8x64x256_0_2_3_1)) (rv72 q k v d)
/-- `96 = stablehlo.dot_general %95` of the program, as a function of the arguments. -/
def rv96 (q k : FVec Ideal S9216x1024 .f32) (v d : FVec Ideal S9216x512 .f32) : FVec Ideal S4x8x256x256 .f32 := ((fun l r => Host.dotGeneral dot_S4x8x64x256_S4x256x8x64_S4x8x256x256_2_3_3_1_01_02 none l r)) (rv95 q k v d) (rv5 q k v d)
/-- `97 = stablehlo.dot_general %95` of the program, as a function of the arguments. -/
def rv97 (q k : FVec Ideal S9216x1024 .f32) (v d : FVec Ideal S9216x512 .f32) : FVec Ideal S4x8x64x256 .f32 := ((fun l r => Host.dotGeneral dot_S4x8x64x256_S4x8x256x256_S4x8x64x256_3_2_2_3_01_01 none l r)) (rv95 q k v d) (rv31 q k v d)
/-- `98 = stablehlo.transpose %97` of the program, as a function of the arguments. -/
def rv98 (q k : FVec Ideal S9216x1024 .f32) (v d : FVec Ideal S9216x512 .f32) : FVec Ideal S4x256x8x64 .f32 := ((transpose S4x256x8x64 [0, 3, 1, 2] · transposes_S4x8x64x256_S4x256x8x64_0_3_1_2)) (rv97 q k v d)
/-- `99 = stablehlo.broadcast_in_dim %34` of the program, as a function of the arguments. -/
def rv99 (q k : FVec Ideal S9216x1024 .f32) (v d : FVec Ideal S9216x512 .f32) : FVec Ideal S4x8x256x256 .f32 := (broadcastInDim S4x8x256x256 ![0, 1, 2, 3] bcast_S4x8x256x1_S4x8x256x256_0_1_2_3) (rv34 q k v d)
/-- `100 = stablehlo.multiply %96` of the program, as a function of the arguments. -/
def rv100 (q k : FVec Ideal S9216x1024 .f32) (v d : FVec Ideal S9216x512 .f32) : FVec Ideal S4x8x256x256 .f32 := (mulf) (rv96 q k v d) (rv99 q k v d)
/-- `101 = stablehlo.multiply %100` of the program, as a function of the arguments. -/
def rv101 (q k : FVec Ideal S9216x1024 .f32) (v d : FVec Ideal S9216x512 .f32) : FVec Ideal S4x8x256x256 .f32 := (mulf) (rv100 q k v d) (rv27 q k v d)
/-- `cst_22 = stablehlo.constant` of the program, as a function of the arguments. -/
def rcst_22 (q k : FVec Ideal S9216x1024 .f32) (v d : FVec Ideal S9216x512 .f32) : FVec Ideal S_ .f32 := (constant S_ .f32 0x00000000#32)
/-- `102 = stablehlo.reduce(%101 init: %cst_22) applies stablehlo.add across dimensions = [3]` of the program, as a function of the arguments. -/
def rv102 (q k : FVec Ideal S9216x1024 .f32) (v d : FVec Ideal S9216x512 .f32) : FVec Ideal S4x8x256 .f32 := ((fun x v => Host.reduceAdd x v reducesTo_S4x8x256x256_S4x8x256_d3 h_S_)) (rv101 q k v d) (rcst_22 q k v d)
/-- `103 = stablehlo.reshape %102` of the program, as a function of the arguments. -/
def rv103 (q k : FVec Ideal S9216x1024 .f32) (v d : FVec Ideal S9216x512 .f32) : FVec Ideal S4x8x256x1 .f32 := shapeCast S4x8x256x1 (rv102 q k v d) shapeCasts_S4x8x256_S4x8x256x1
/-- `104 = stablehlo.negate %103` of the program, as a function of the arguments. -/
def rv104 (q k : FVec Ideal S9216x1024 .f32) (v d : FVec Ideal S9216x512 .f32) : FVec Ideal S4x8x256x1 .f32 := (Host.negf) (rv103 q k v d)
/-- `105 = stablehlo.broadcast_in_dim %29` of the program, as a function of the arguments. -/
def rv105 (q k : FVec Ideal S9216x1024 .f32) (v d : FVec Ideal S9216x512 .f32) : FVec Ideal S4x8x256x256 .f32 := (broadcastInDim S4x8x256x256 ![0, 1, 2, 3] bcast_S4x8x256x1_S4x8x256x256_0_1_2_3) (rv29 q k v d)
/-- `106 = stablehlo.divide %96` of the program, as a function of the arguments. -/
def rv106 (q k : FVec Ideal S9216x1024 .f32) (v d : FVec Ideal S9216x512 .f32) : FVec Ideal S4x8x256x256 .f32 := (Host.divf) (rv96 q k v d) (rv105 q k v d)
/-- `cst_23 = stablehlo.constant` of the program, as a function of the arguments. -/
def rcst_23 (q k : FVec Ideal S9216x1024 .f32) (v d : FVec Ideal S9216x512 .f32) : FVec Ideal S_ .f32 := (constant S_ .f32 0x00000000#32)
/-- `107 = stablehlo.reduce(%104 init: %cst_23) applies stablehlo.add across dimensions = [3]` of the program, as a function of the arguments. -/
def rv107 (q k : FVec Ideal S9216x1024 .f32) (v d : FVec Ideal S9216x512 .f32) : FVec Ideal S4x8x256 .f32 := ((fun x v => Host.reduceAdd x v reducesTo_S4x8x256x1_S4x8x256_d3 h_S_)) (rv104 q k v d) (rcst_23 q k v d)
/-- `108 = stablehlo.broadcast_in_dim %107` of the program, as a function of the arguments. -/
def rv108 (q k : FVec Ideal S9216x1024 .f32) (v d : FVec Ideal S9216x512 .f32) : FVec Ideal S4x8x256x256 .f32 := (broadcastInDim S4x8x256x256 ![0, 1, 2] bcast_S4x8x256_S4x8x256x256_0_1_2) (rv107 q k v d)
/-- `109 = stablehlo.add %106` of the program, as a function of the arguments. -/
def rv109 (q k : FVec Ideal S9216x1024 .f32) (v d : FVec Ideal S9216x512 .f32) : FVec Ideal S4x8x256x256 .f32 := (addf) (rv106 q k v d) (rv108 q k v d)
/-- `110 = stablehlo.multiply %109` of the program, as a function of the arguments. -/
def rv110 (q k : FVec Ideal S9216x1024 .f32) (v d : FVec Ideal S9216x512 .f32) : FVec Ideal S4x8x256x256 .f32 := (mulf) (rv109 q k v d) (rv27 q k v d)
/-- `111 = stablehlo.dot_general %110` of the program, as a function of the arguments. -/
def rv111 (q k : FVec Ideal S9216x1024 .f32) (v d : FVec Ideal S9216x512 .f32) : FVec Ideal S4x8x256x128 .f32 := ((fun l r => Host.dotGeneral dot_S4x8x256x256_S4x256x8x128_S4x8x256x128_2_1_3_3_01_02 none l r)) (rv110 q k v d) (rv3 q k v d)
/-- `112 = stablehlo.transpose %111` of the program, as a function of the arguments. -/
def rv112 (q k : FVec Ideal S9216x1024 .f32) (v d : FVec Ideal S9216x512 .f32) : FVec Ideal S4x256x8x128 .f32 := ((transpose S4x256x8x128 [0, 2, 1, 3] · transposes_S4x8x256x128_S4x256x8x128_0_2_1_3)) (rv111 q k v d)
/-- `113 = stablehlo.dot_general %110` of the program, as a function of the arguments. -/
def rv113 (q k : FVec Ideal S9216x1024 .f32) (v d : FVec Ideal S9216x512 .f32) : FVec Ideal S4x8x256x128 .f32 := ((fun l r => Host.dotGeneral dot_S4x8x256x256_S4x256x8x128_S4x8x256x128_3_1_2_3_01_02 none l r)) (rv110 q k v d) (rv4 q k v d)
/-- `114 = stablehlo.transpose %113` of the program, as a function of the arguments. -/
def rv114 (q k : FVec Ideal S9216x1024 .f32) (v d : FVec Ideal S9216x512 .f32) : FVec Ideal S4x256x8x128 .f32 := ((transpose S4x256x8x128 [0, 2, 1, 3] · transposes_S4x8x256x128_S4x256x8x128_0_2_1_3)) (rv113 q k v d)
/-- `cst_24 = stablehlo.constant` of the program, as a function of the arguments. -/
def rcst_24 (q k : FVec Ideal S9216x1024 .f32) (v d : FVec Ideal S9216x512 .f32) : FVec Ideal S_ .f32 := (constant S_ .f32 0x00000000#32)
/-- `115 = stablehlo.pad %98` of the program, as a function of the arguments. -/
def rv115 (q k : FVec Ideal S9216x1024 .f32) (v d : FVec Ideal S9216x512 .f32) : FVec Ideal S4x2304x8x64 .f32 := ((fun x v => pad S4x2304x8x64 ![0, 0, 0, 0] ![0, 2048, 0, 0] ![0, 0, 0, 0] x v pads_S4x256x8x64_S4x2304x8x64_000_020480_000_000 h_S_)) (rv98 q k v d) (rcst_24 q k v d)
/-- `116 = stablehlo.add %77` of the program, as a function of the arguments. -/
def rv116 (q k : FVec Ideal S9216x1024 .f32) (v d : FVec Ideal S9216x512 .f32) : FVec Ideal S4x2304x8x64 .f32 := (addf) (rv77 q k v d) (rv115 q k v d)
/-- `cst_25 = stablehlo.constant` of the program, as a function of the arguments. -/
def rcst_25 (q k : FVec Ideal S9216x1024 .f32) (v d : FVec Ideal S9216x512 .f32) : FVec Ideal S_ .f32 := (constant S_ .f32 0x00000000#32)
/-- `117 = stablehlo.pad %112` of the program, as a function of the arguments. -/
def rv117 (q k : FVec Ideal S9216x1024 .f32) (v d : FVec Ideal S9216x512 .f32) : FVec Ideal S4x2304x8x128 .f32 := ((fun x v => pad S4x2304x8x128 ![0, 0, 0, 0] ![0, 2048, 0, 0] ![0, 0, 0, 0] x v pads_S4x256x8x128_S4x2304x8x128_000_020480_000_000 h_S_)) (rv112 q k v d) (rcst_25 q k v d)
/-- `118 = stablehlo.add %91` of the program, as a function of the arguments. -/
def rv118 (q k : FVec Ideal S9216x1024 .f32) (v d : FVec Ideal S9216x512 .f32) : FVec Ideal S4x2304x8x128 .f32 := (addf) (rv91 q k v d) (rv117 q k v d)
/-- `cst_26 = stablehlo.constant` of the program, as a function of the arguments. -/
def rcst_26 (q k : FVec Ideal S9216x1024 .f32) (v d : FVec Ideal S9216x512 .f32) : FVec Ideal S_ .f32 := (constant S_ .f32 0x00000000#32)
/-- `119 = stablehlo.pad %114` of the program, as a function of the arguments. -/
def rv119 (q k : FVec Ideal S9216x1024 .f32) (v d : FVec Ideal S9216x512 .f32) : FVec Ideal S4x2304x8x128 .f32 := ((fun x v => pad S4x2304x8x128 ![0, 0, 0, 0] ![0, 2048, 0, 0] ![0, 0, 0, 0] x v pads_S4x256x8x128_S4x2304x8x128_000_020480_000_000 h_S_)) (rv114 q k v d) (rcst_26 q k v d)
/-- `120 = stablehlo.add %94` of the program, as a function of the arguments. -/
def rv120 (q k : FVec Ideal S9216x1024 .f32) (v d : FVec Ideal S9216x512 .f32) : FVec Ideal S4x2304x8x128 .f32 := (addf) (rv94 q k v d) (rv119 q k v d)
/-- `121 = stablehlo.reshape %116` of the program, as a function of the arguments. -/
def rv121 (q k : FVec Ideal S9216x1024 .f32) (v d : FVec Ideal S9216x512 .f32) : FVec Ideal S9216x512 .f32 := shapeCast S9216x512 (rv116 q k v d) shapeCasts_S4x2304x8x64_S9216x512
/-- `122 = stablehlo.reshape %118` of the program, as a function of the arguments. -/
def rv122 (q k : FVec Ideal S9216x1024 .f32) (v d : FVec Ideal S9216x512 .f32) : FVec Ideal S9216x1024 .f32 := shapeCast S9216x1024 (rv118 q k v d) shapeCasts_S4x2304x8x128_S9216x1024
/-- `123 = stablehlo.reshape %120` of the program, as a function of the arguments. -/
def rv123 (q k : FVec Ideal S9216x1024 .f32) (v d : FVec Ideal S9216x512 .f32) : FVec Ideal S9216x1024 .f32 := shapeCast S9216x1024 (rv120 q k v d) shapeCasts_S4x2304x8x128_S9216x1024

variable (q k : FVec Ideal S9216x1024 .f32) (v d : FVec Ideal S9216x512 .f32) (Q K V D : ℕ → ℕ → ℝ)
  (hq : ∀ i j, q (ix2 i j) = ((Q i.val j.val : ℝ) : EReal)) (hk : ∀ i j, k (ix2 i j) = ((K i.val j.val : ℝ) : EReal))
  (hv : ∀ i j, v (ix2 i j) = ((V i.val j.val : ℝ) : EReal)) (hd : ∀ i j, d (ix2 i j) = ((D i.val j.val : ℝ) : EReal))

include hq hk hv hd in
theorem rv0_at (b : Fin 4) (r : Fin 2304) (h : Fin 8) (e : Fin 128) :
    rv0 q k v d (ix4 b r h e) = ((Q (b.val * 2304 + r.val) (h.val * 128 + e.val) : ℝ) : EReal) := by
  unfold rv0
  pointwise
  simp only [hq]

include hq hk hv hd in
theorem rv1_at (b : Fin 4) (r : Fin 2304) (h : Fin 8) (e : Fin 128) :
    rv1 q k v d (ix4 b r h e) = ((K (b.val * 2304 + r.val) (h.val * 128 + e.val) : ℝ) : EReal) := by
  unfold rv1
  pointwise
  simp only [hk]

include hq hk hv hd in
theorem rv2_at (b : Fin 4) (r : Fin 2304) (h : Fin 8) (e : Fin 64) :
    rv2 q k v d (ix4 b r h e) = ((V (b.val * 2304 + r.val) (h.val * 64 + e.val) : ℝ) : EReal) := by
  unfold rv2
  pointwise
  simp only [hv]

include hq hk hv hd in
theorem rv3_at (b : Fin 4) (r : Fin 256) (h : Fin 8) (e : Fin 128) :
    rv3 q k v d (ix4 b r h e) = ((Q (b.val * 2304 + r.val) (h.val * 128 + e.val) : ℝ) : EReal) := by
  unfold rv3
  pointwise
  simp only [rv0_at q k v d Q K V D hq hk hv hd]
  try rfl
  try (simp only [Nat.zero_add])

include hq hk hv hd in
theorem rv4_at (b : Fin 4) (r : Fin 256) (h : Fin 8) (e : Fin 128) :
    rv4 q k v d (ix4 b r h e) = ((K (b.val * 2304 + r.val) (h.val * 128 + e.val) : ℝ) : EReal) := by
  unfold rv4
  pointwise
  simp only [rv1_at q k v d Q K V D hq hk hv hd]
  try rfl
  try (simp only [Nat.zero_add])

include hq hk hv hd in
theorem rv5_at (b : Fin 4) (r : Fin 256) (h : Fin 8) (e : Fin 64) :
    rv5 q k v d (ix4 b r h e) = ((V (b.val * 2304 + r.val) (h.val * 64 + e.val) : ℝ) : EReal) := by
  unfold rv5
  pointwise
  simp only [rv2_at q k v d Q K V D hq hk hv hd]
  try rfl
  try (simp only [Nat.zero_add])

include hq hk hv hd in
theorem rv6_at (b : Fin 4) (h : Fin 8) (r : Fin 256) (y : Fin 256) :
    rv6 q k v d (ix4 b h r y) = ((S Q K b.val h.val r.val y.val : ℝ) : EReal) := by
  unfold rv6
  pointwise
  simp only [rv3_at q k v d Q K V D hq hk hv hd, rv4_at q k v d Q K V D hq hk hv hd, ← EReal.coe_mul, ← EReal.coe_add, ← EReal.coe_sub, ← EReal.coe_neg, coe_sum, Ideal.exp_coe]
  try rfl

/-- The maximum of a row's scores. -/
def rMc (q k : FVec Ideal S9216x1024 .f32) (v d : FVec Ideal S9216x512 .f32) (b : Fin 4) (h : Fin 8) (r : Fin 256) : ℝ := (rv7 q k v d (ix3 b h r)).toReal
include hq hk hv hd in
theorem rv7_at (b : Fin 4) (h : Fin 8) (r : Fin 256) :
    rv7 q k v d (ix3 b h r) = ((rMc q k v d b h r : ℝ) : EReal) := by
  have : ∃ x : ℝ, rv7 q k v d (ix3 b h r) = (x : EReal) := by
    unfold rv7 rcst
    pointwise
    simp only [rv6_at q k v d Q K V D hq hk hv hd, neg_inf]
    exact fold_max_real _ Finset.univ_nonempty _
  obtain ⟨x, hx⟩ := this
  unfold rMc
  rw [hx, EReal.toReal_coe]

include hq hk hv hd in
theorem rv14_at (b : Fin 4) (h : Fin 8) (r : Fin 256) :
    rv14 q k v d (ix3 b h r) = ((rMc q k v d b h r : ℝ) : EReal) := by
  have hx : ∀ X : FVec Ideal S4x8x256 .f32, maximumf (rv13 q k v d) X (ix3 b h r) = max (⊥ : EReal) (X (ix3 b h r)) := by
    intro X
    unfold rv13 rcst_1
    pointwise
    rw [neg_inf]
  unfold rv14
  rw [hx, rv7_at q k v d Q K V D hq hk hv hd]
  exact max_eq_right bot_le

include hq hk hv hd in
theorem rv27_at (b : Fin 4) (h : Fin 8) (r : Fin 256) (y : Fin 256) :
    rv27 q k v d (ix4 b h r y) = ((Real.exp (S Q K b.val h.val r.val y.val - rMc q k v d b h r) : ℝ) : EReal) := by
  unfold rv27 rv26 rv25 rv24
  pointwise
  simp only [rv6_at q k v d Q K V D hq hk hv hd, rv14_at q k v d Q K V D hq hk hv hd, ← EReal.coe_mul, ← EReal.coe_add, ← EReal.coe_sub, ← EReal.coe_neg, coe_sum, Ideal.exp_coe]
  try rfl

include hq hk hv hd in
theorem rv28_at (b : Fin 4) (h : Fin 8) (r : Fin 256) :
    rv28 q k v d (ix3 b h r) = ((∑ t : Fin 256, Real.exp (S Q K b.val h.val r.val t.val - rMc q k v d b h r) : ℝ) : EReal) := by
  unfold rv28 rcst_7
  pointwise
  simp only [rv27_at q k v d Q K V D hq hk hv hd, ← EReal.coe_mul, ← EReal.coe_add, ← EReal.coe_sub, ← EReal.coe_neg, coe_sum, Ideal.exp_coe]
  try rfl

include hq hk hv hd in
theorem rv31_at (b : Fin 4) (h : Fin 8) (r : Fin 256) (y : Fin 256) :
    rv31 q k v d (ix4 b h r y) = ((Pr Q K b.val h.val 256 r.val y.val : ℝ) : EReal) := by
  unfold rv31 rv30 rv29
  pointwise
  simp only [rv27_at q k v d Q K V D hq hk hv hd, rv28_at q k v d Q K V D hq hk hv hd]
  rw [Attn.div_real _ _ (Zs_pos Q K b.val h.val 256 r.val (by omega) _).ne', Pr_shift]

include hq hk hv hd in
theorem rv34_at (b : Fin 4) (h : Fin 8) (r : Fin 256) (u : Fin 1) :
    rv34 q k v d (ix4 b h r u) = ((1 / ((∑ t : Fin 256, Real.exp (S Q K b.val h.val r.val t.val - rMc q k v d b h r)) * (∑ t : Fin 256, Real.exp (S Q K b.val h.val r.val t.val - rMc q k v d b h r))) : ℝ) : EReal) := by
  unfold rv34 rv33 rcst_8 rv32 rv29
  pointwise
  simp only [rv28_at q k v d Q K V D hq hk hv hd, ← EReal.coe_mul]
  rw [← EReal.coe_one, Attn.div_real _ _ (mul_pos (Zs_pos Q K b.val h.val 256 r.val (by omega) _) (Zs_pos Q K b.val h.val 256 r.val (by omega) _)).ne']

include hq hk hv hd in
theorem rv37_at (b : Fin 4) (r : Fin 2048) (h : Fin 8) (e : Fin 128) :
    rv37 q k v d (ix4 b r h e) = ((Q (b.val * 2304 + (256 + r.val)) (h.val * 128 + e.val) : ℝ) : EReal) := by
  unfold rv37
  pointwise
  simp only [rv0_at q k v d Q K V D hq hk hv hd]
  try rfl

include hq hk hv hd in
theorem rv38_at (b : Fin 4) (h : Fin 8) (r : Fin 2048) (y : Fin 2304) :
    rv38 q k v d (ix4 b h r y) = ((S Q K b.val h.val (256 + r.val) y.val : ℝ) : EReal) := by
  unfold rv38
  pointwise
  simp only [rv37_at q k v d Q K V D hq hk hv hd, rv1_at q k v d Q K V D hq hk hv hd, ← EReal.coe_mul, ← EReal.coe_add, ← EReal.coe_sub, ← EReal.coe_neg, coe_sum, Ideal.exp_coe]
  try rfl

/-- The maximum of a row's scores. -/
def rMl (q k : FVec Ideal S9216x1024 .f32) (v d : FVec Ideal S9216x512 .f32) (b : Fin 4) (h : Fin 8) (r : Fin 2048) : ℝ := (rv39 q k v d (ix3 b h r)).toReal
include hq hk hv hd in
theorem rv39_at (b : Fin 4) (h : Fin 8) (r : Fin 2048) :
    rv39 q k v d (ix3 b h r) = ((rMl q k v d b h r : ℝ) : EReal) := by
  have : ∃ x : ℝ, rv39 q k v d (ix3 b h r) = (x : EReal) := by
    unfold rv39 rcst_9
    pointwise
    simp only [rv38_at q k v d Q K V D hq hk hv hd, neg_inf]
    exact fold_max_real _ Finset.univ_nonempty _
  obtain ⟨x, hx⟩ := this
  unfold rMl
  rw [hx, EReal.toReal_coe]

include hq hk hv hd in
theorem rv46_at (b : Fin 4) (h : Fin 8) (r : Fin 2048) :
    rv46 q k v d (ix3 b h r) = ((rMl q k v d b h r : ℝ) : EReal) := by
  have hx : ∀ X : FVec Ideal S4x8x2048 .f32, maximumf (rv45 q k v d) X (ix3 b h r) = max (⊥ : EReal) (X (ix3 b h r)) := by
    intro X
    unfold rv45 rcst_11
    pointwise
    rw [neg_inf]
  unfold rv46
  rw [hx, rv39_at q k v d Q K V D hq hk hv hd]
  exact max_eq_right bot_le

include hq hk hv hd in
theorem rv59_at (b : Fin 4) (h : Fin 8) (r : Fin 2048) (y : Fin 2304) :
    rv59 q k v d (ix4 b h r y) = ((Real.exp (S Q K b.val h.val (256 + r.val) y.val - rMl q k v d b h r) : ℝ) : EReal) := by
  unfold rv59 rv58 rv57 rv56
  pointwise
  simp only [rv38_at q k v d Q K V D hq hk hv hd, rv46_at q k v d Q K V D hq hk hv hd, ← EReal.coe_mul, ← EReal.coe_add, ← EReal.coe_sub, ← EReal.coe_neg, coe_sum, Ideal.exp_coe]
  try rfl

include hq hk hv hd in
theorem rv60_at (b : Fin 4) (h : Fin 8) (r : Fin 2048) :
    rv60 q k v d (ix3 b h r) = ((∑ t : Fin 2304, Real.exp (S Q K b.val h.val (256 + r.val) t.val - rMl q k v d b h r) : ℝ) : EReal) := by
  unfold rv60 rcst_17
  pointwise
  simp only [rv59_at q k v d Q K V D hq hk hv hd, ← EReal.coe_mul, ← EReal.coe_add, ← EReal.coe_sub, ← EReal.coe_neg, coe_sum, Ideal.exp_coe]
  try rfl

include hq hk hv hd in
theorem rv63_at (b : Fin 4) (h : Fin 8) (r : Fin 2048) (y : Fin 2304) :
    rv63 q k v d (ix4 b h r y) = ((Pr Q K b.val h.val 2304 (256 + r.val) y.val : ℝ) : EReal) := by
  unfold rv63 rv62 rv61
  pointwise
  simp only [rv59_at q k v d Q K V D hq hk hv hd, rv60_at q k v d Q K V D hq hk hv hd]
  rw [Attn.div_real _ _ (Zs_pos Q K b.val h.val 2304 (256 + r.val) (by omega) _).ne', Pr_shift]

include hq hk hv hd in
theorem rv66_at (b : Fin 4) (h : Fin 8) (r : Fin 2048) (u : Fin 1) :
    rv66 q k v d (ix4 b h r u) = ((1 / ((∑ t : Fin 2304, Real.exp (S Q K b.val h.val (256 + r.val) t.val - rMl q k v d b h r)) * (∑ t : Fin 2304, Real.exp (S Q K b.val h.val (256 + r.val) t.val - rMl q k v d b h r))) : ℝ) : EReal) := by
  unfold rv66 rv65 rcst_18 rv64 rv61
  pointwise
  simp only [rv60_at q k v d Q K V D hq hk hv hd, ← EReal.coe_mul]
  rw [← EReal.coe_one, Attn.div_real _ _ (mul_pos (Zs_pos Q K b.val h.val 2304 (256 + r.val) (by omega) _) (Zs_pos Q K b.val h.val 2304 (256 + r.val) (by omega) _)).ne']

include hq hk hv hd in
theorem rv71_at (b : Fin 4) (r : Fin 2304) (h : Fin 8) (e : Fin 64) :
    rv71 q k v d (ix4 b r h e) = ((D (b.val * 2304 + r.val) (h.val * 64 + e.val) : ℝ) : EReal) := by
  unfold rv71
  pointwise
  simp only [hd]

include hq hk hv hd in
theorem rv72_at (b : Fin 4) (r : Fin 256) (h : Fin 8) (e : Fin 64) :
    rv72 q k v d (ix4 b r h e) = ((D (b.val * 2304 + r.val) (h.val * 64 + e.val) : ℝ) : EReal) := by
  unfold rv72
  pointwise
  simp only [rv71_at q k v d Q K V D hq hk hv hd]
  try rfl
  try (simp only [Nat.zero_add])

include hq hk hv hd in
theorem rv73_at (b : Fin 4) (r : Fin 2048) (h : Fin 8) (e : Fin 64) :
    rv73 q k v d (ix4 b r h e) = ((D (b.val * 2304 + (256 + r.val)) (h.val * 64 + e.val) : ℝ) : EReal) := by
  unfold rv73
  pointwise
  simp only [rv71_at q k v d Q K V D hq hk hv hd]
  try rfl

include hq hk hv hd in
theorem rv75_at (b : Fin 4) (h : Fin 8) (r : Fin 2048) (y : Fin 2304) :
    rv75 q k v d (ix4 b h r y) = ((DP V D b.val h.val (256 + r.val) y.val : ℝ) : EReal) := by
  unfold rv75 rv74
  pointwise
  simp only [rv73_at q k v d Q K V D hq hk hv hd, rv2_at q k v d Q K V D hq hk hv hd, ← EReal.coe_mul, ← EReal.coe_add, ← EReal.coe_sub, ← EReal.coe_neg, coe_sum, Ideal.exp_coe]
  try rfl

include hq hk hv hd in
theorem rv76_at (b : Fin 4) (h : Fin 8) (e : Fin 64) (y : Fin 2304) :
    rv76 q k v d (ix4 b h e y) = ((∑ r : Fin 2048, D (b.val * 2304 + (256 + r.val)) (h.val * 64 + e.val) * Pr Q K b.val h.val 2304 (256 + r.val) y.val : ℝ) : EReal) := by
  unfold rv76 rv74
  pointwise
  simp only [rv73_at q k v d Q K V D hq hk hv hd, rv63_at q k v d Q K V D hq hk hv hd, ← EReal.coe_mul, ← EReal.coe_add, ← EReal.coe_sub, ← EReal.coe_neg, coe_sum, Ideal.exp_coe]
  try rfl

include hq hk hv hd in
theorem rv80_at (b : Fin 4) (h : Fin 8) (r : Fin 2048) (y : Fin 2304) :
    rv80 q k v d (ix4 b h r y) = ((DP V D b.val h.val (256 + r.val) y.val * (1 / ((∑ t : Fin 2304, Real.exp (S Q K b.val h.val (256 + r.val) t.val - rMl q k v d b h r)) * (∑ t : Fin 2304, Real.exp (S Q K b.val h.val (256 + r.val) t.val - rMl q k v d b h r)))) * Real.exp (S Q K b.val h.val (256 + r.val) y.val - rMl q k v d b h r) : ℝ) : EReal) := by
  unfold rv80 rv79 rv78
  pointwise
  simp only [rv75_at q k v d Q K V D hq hk hv hd, rv66_at q k v d Q K V D hq hk hv hd, rv59_at q k v d Q K V D hq hk hv hd, ← EReal.coe_mul, ← EReal.coe_add, ← EReal.coe_sub, ← EReal.coe_neg, coe_sum, Ideal.exp_coe]
  try rfl

include hq hk hv hd in
theorem rv86_at (b : Fin 4) (h : Fin 8) (r : Fin 2048) :
    rv86 q k v d (ix3 b h r) = ((-(W Q K V D b.val h.val 2304 (256 + r.val) / (∑ t : Fin 2304, Real.exp (S Q K b.val h.val (256 + r.val) t.val - rMl q k v d b h r))) : ℝ) : EReal) := by
  unfold rv86 rv83 rv82 rv81 rcst_19 rcst_20
  pointwise
  simp only [rv80_at q k v d Q K V D hq hk hv hd, ← EReal.coe_mul, ← EReal.coe_neg, coe_sum, Finset.univ_unique, Finset.sum_singleton]
  exact congrArg _ (neg_w Q K V D b.val h.val 2304 (256 + r.val) (by omega) _)

include hq hk hv hd in
theorem rv89_at (b : Fin 4) (h : Fin 8) (r : Fin 2048) (y : Fin 2304) :
    rv89 q k v d (ix4 b h r y) = ((DS Q K V D b.val h.val 2304 (256 + r.val) y.val : ℝ) : EReal) := by
  unfold rv89 rv88 rv85 rv84 rv61 rv87
  pointwise
  simp only [rv75_at q k v d Q K V D hq hk hv hd, rv60_at q k v d Q K V D hq hk hv hd, rv86_at q k v d Q K V D hq hk hv hd, rv59_at q k v d Q K V D hq hk hv hd]
  rw [Attn.div_real _ _ (Zs_pos Q K b.val h.val 2304 (256 + r.val) (by omega) _).ne', ← EReal.coe_add, ← EReal.coe_mul]
  exact congrArg _ (ds_shift Q K V D b.val h.val 2304 (256 + r.val) y.val (by omega) _)

include hq hk hv hd in
theorem rv90_at (b : Fin 4) (h : Fin 8) (y : Fin 2304) (e : Fin 128) :
    rv90 q k v d (ix4 b h y e) = ((∑ r : Fin 2048, DS Q K V D b.val h.val 2304 (256 + r.val) y.val * Q (b.val * 2304 + (256 + r.val)) (h.val * 128 + e.val) : ℝ) : EReal) := by
  unfold rv90
  pointwise
  simp only [rv89_at q k v d Q K V D hq hk hv hd, rv37_at q k v d Q K V D hq hk hv hd, ← EReal.coe_mul, ← EReal.coe_add, ← EReal.coe_sub, ← EReal.coe_neg, coe_sum, Ideal.exp_coe]
  try rfl

include hq hk hv hd in
theorem rv92_at (b : Fin 4) (h : Fin 8) (r : Fin 2048) (e : Fin 128) :
    rv92 q k v d (ix4 b h r e) = ((∑ y : Fin 2304, DS Q K V D b.val h.val 2304 (256 + r.val) y.val * K (b.val * 2304 + y.val) (h.val * 128 + e.val) : ℝ) : EReal) := by
  unfold rv92
  pointwise
  simp only [rv89_at q k v d Q K V D hq hk hv hd, rv1_at q k v d Q K V D hq hk hv hd, ← EReal.coe_mul, ← EReal.coe_add, ← EReal.coe_sub, ← EReal.coe_neg, coe_sum, Ideal.exp_coe]
  try rfl

include hq hk hv hd in
theorem rv96_at (b : Fin 4) (h : Fin 8) (r : Fin 256) (y : Fin 256) :
    rv96 q k v d (ix4 b h r y) = ((DP V D b.val h.val r.val y.val : ℝ) : EReal) := by
  unfold rv96 rv95
  pointwise
  simp only [rv72_at q k v d Q K V D hq hk hv hd, rv5_at q k v d Q K V D hq hk hv hd, ← EReal.coe_mul, ← EReal.coe_add, ← EReal.coe_sub, ← EReal.coe_neg, coe_sum, Ideal.exp_coe]
  try rfl

include hq hk hv hd in
theorem rv97_at (b : Fin 4) (h : Fin 8) (e : Fin 64) (y : Fin 256) :
    rv97 q k v d (ix4 b h e y) = ((∑ r : Fin 256, D (b.val * 2304 + r.val) (h.val * 64 + e.val) * Pr Q K b.val h.val 256 r.val y.val : ℝ) : EReal) := by
  unfold rv97 rv95
  pointwise
  simp only [rv72_at q k v d Q K V D hq hk hv hd, rv31_at q k v d Q K V D hq hk hv hd, ← EReal.coe_mul, ← EReal.coe_add, ← EReal.coe_sub, ← EReal.coe_neg, coe_sum, Ideal.exp_coe]
  try rfl

include hq hk hv hd in
theorem rv101_at (b : Fin 4) (h : Fin 8) (r : Fin 256) (y : Fin 256) :
    rv101 q k v d (ix4 b h r y) = ((DP V D b.val h.val r.val y.val * (1 / ((∑ t : Fin 256, Real.exp (S Q K b.val h.val r.val t.val - rMc q k v d b h r)) * (∑ t : Fin 256, Real.exp (S Q K b.val h.val r.val t.val - rMc q k v d b h r)))) * Real.exp (S Q K b.val h.val r.val y.val - rMc q k v d b h r) : ℝ) : EReal) := by
  unfold rv101 rv100 rv99
  pointwise
  simp only [rv96_at q k v d Q K V D hq hk hv hd, rv34_at q k v d Q K V D hq hk hv hd, rv27_at q k v d Q K V D hq hk hv hd, ← EReal.coe_mul, ← EReal.coe_add, ← EReal.coe_sub, ← EReal.coe_neg, coe_sum, Ideal.exp_coe]
  try rfl

include hq hk hv hd in
theorem rv107_at (b : Fin 4) (h : Fin 8) (r : Fin 256) :
    rv107 q k v d (ix3 b h r) = ((-(W Q K V D b.val h.val 256 r.val / (∑ t : Fin 256, Real.exp (S Q K b.val h.val r.val t.val - rMc q k v d b h r))) : ℝ) : EReal) := by
  unfold rv107 rv104 rv103 rv102 rcst_22 rcst_23
  pointwise
  simp only [rv101_at q k v d Q K V D hq hk hv hd, ← EReal.coe_mul, ← EReal.coe_neg, coe_sum, Finset.univ_unique, Finset.sum_singleton]
  exact congrArg _ (neg_w Q K V D b.val h.val 256 r.val (by omega) _)

include hq hk hv hd in
theorem rv110_at (b : Fin 4) (h : Fin 8) (r : Fin 256) (y : Fin 256) :
    rv110 q k v d (ix4 b h r y) = ((DS Q K V D b.val h.val 256 r.val y.val : ℝ) : EReal) := by
  unfold rv110 rv109 rv106 rv105 rv29 rv108
  pointwise
  simp only [rv96_at q k v d Q K V D hq hk hv hd, rv28_at q k v d Q K V D hq hk hv hd, rv107_at q k v d Q K V D hq hk hv hd, rv27_at q k v d Q K V D hq hk hv hd]
  rw [Attn.div_real _ _ (Zs_pos Q K b.val h.val 256 r.val (by omega) _).ne', ← EReal.coe_add, ← EReal.coe_mul]
  exact congrArg _ (ds_shift Q K V D b.val h.val 256 r.val y.val (by omega) _)

include hq hk hv hd in
theorem rv111_at (b : Fin 4) (h : Fin 8) (y : Fin 256) (e : Fin 128) :
    rv111 q k v d (ix4 b h y e) = ((∑ r : Fin 256, DS Q K V D b.val h.val 256 r.val y.val * Q (b.val * 2304 + r.val) (h.val * 128 + e.val) : ℝ) : EReal) := by
  unfold rv111
  pointwise
  simp only [rv110_at q k v d Q K V D hq hk hv hd, rv3_at q k v d Q K V D hq hk hv hd, ← EReal.coe_mul, ← EReal.coe_add, ← EReal.coe_sub, ← EReal.coe_neg, coe_sum, Ideal.exp_coe]
  try rfl

include hq hk hv hd in
theorem rv113_at (b : Fin 4) (h : Fin 8) (r : Fin 256) (e : Fin 128) :
    rv113 q k v d (ix4 b h r e) = ((∑ y : Fin 256, DS Q K V D b.val h.val 256 r.val y.val * K (b.val * 2304 + y.val) (h.val * 128 + e.val) : ℝ) : EReal) := by
  unfold rv113
  pointwise
  simp only [rv110_at q k v d Q K V D hq hk hv hd, rv4_at q k v d Q K V D hq hk hv hd, ← EReal.coe_mul, ← EReal.coe_add, ← EReal.coe_sub, ← EReal.coe_neg, coe_sum, Ideal.exp_coe]
  try rfl

include hq hk hv hd in
theorem rv116_at (b : Fin 4) (y : Fin 2304) (h : Fin 8) (e : Fin 64) :
    rv116 q k v d (ix4 b y h e) = (((∑ r : Fin 2048, D (b.val * 2304 + (256 + r.val)) (h.val * 64 + e.val) * Pr Q K b.val h.val 2304 (256 + r.val) y.val) + (if y.val < 256 then (∑ r : Fin 256, D (b.val * 2304 + r.val) (h.val * 64 + e.val) * Pr Q K b.val h.val 256 r.val y.val) else 0) : ℝ) : EReal) := by
  unfold rv116 rv77 rv115 rv98 rcst_24
  pointwise
  simp only [rv76_at q k v d Q K V D hq hk hv hd, rv97_at q k v d Q K V D hq hk hv hd]
  by_cases hy : y.val < 256
  · rw [dif_pos hy, if_pos hy, EReal.coe_add]
  · rw [dif_neg hy, if_neg hy, EReal.coe_add]; rfl

include hq hk hv hd in
theorem rv118_at (b : Fin 4) (y : Fin 2304) (h : Fin 8) (e : Fin 128) :
    rv118 q k v d (ix4 b y h e) = (((∑ r : Fin 2048, DS Q K V D b.val h.val 2304 (256 + r.val) y.val * Q (b.val * 2304 + (256 + r.val)) (h.val * 128 + e.val)) + (if y.val < 256 then (∑ r : Fin 256, DS Q K V D b.val h.val 256 r.val y.val * Q (b.val * 2304 + r.val) (h.val * 128 + e.val)) else 0) : ℝ) : EReal) := by
  unfold rv118 rv91 rv117 rv112 rcst_25
  pointwise
  simp only [rv90_at q k v d Q K V D hq hk hv hd, rv111_at q k v d Q K V D hq hk hv hd]
  by_cases hy : y.val < 256
  · rw [dif_pos hy, if_pos hy, EReal.coe_add]
  · rw [dif_neg hy, if_neg hy, EReal.coe_add]; rfl

include hq hk hv hd in
theorem rv120_at (b : Fin 4) (r : Fin 2304) (h : Fin 8) (e : Fin 128) :
    rv120 q k v d (ix4 b r h e) = ((if r.val < 256 then ∑ y : Fin 256, DS Q K V D b.val h.val 256 r.val y.val * K (b.val * 2304 + y.val) (h.val * 128 + e.val) else ∑ y : Fin 2304, DS Q K V D b.val h.val 2304 r.val y.val * K (b.val * 2304 + y.val) (h.val * 128 + e.val) : ℝ) : EReal) := by
  unfold rv120 rv94 rv93 rcst_21 rv119 rv114 rcst_26
  pointwise
  simp only [rv92_at q k v d Q K V D hq hk hv hd, rv113_at q k v d Q K V D hq hk hv hd]
  by_cases hr : r.val < 256
  · rw [dif_pos hr, if_pos hr, dif_neg (by omega), zero_add]
  · rw [dif_neg hr, if_neg hr, dif_pos ⟨by omega, by omega⟩, add_zero]
    rw [show 256 + (r.val - 256) = r.val by omega]

end Chain
end Cert.ReferenceIdeal
end
-- ==== Proof.Final.lean ====
/- The three results of the kernel are the three results of the reference. -/
module

public import proofs.«01_k».proof.Proof.Points
public import proofs.«01_k».proof.Proof.RefChain

@[expose] public section

set_option maxRecDepth 16384

noncomputable section

namespace Cert.ReferenceIdeal.Chain
open Cert.ReferenceIdeal Idealize.ShloMosaic Idealize.ShloMosaic.TcCoe Idealize.SL.Sem Cert.Attn
open Facts₀ Facts
variable (q k : FVec Ideal S9216x1024 .f32) (v d : FVec Ideal S9216x512 .f32) (Q K V D : ℕ → ℕ → ℝ)
  (hq : ∀ i j, q (ix2 i j) = ((Q i.val j.val : ℝ) : EReal)) (hk : ∀ i j, k (ix2 i j) = ((K i.val j.val : ℝ) : EReal))
  (hv : ∀ i j, v (ix2 i j) = ((V i.val j.val : ℝ) : EReal)) (hd : ∀ i j, d (ix2 i j) = ((D i.val j.val : ℝ) : EReal))

include hq hk hv hd in
/-- A result of the reference, entry by entry. -/
theorem rv121_at (i : Fin 9216) (j : Fin 512) : rv121 q k v d (ix2 i j) = (((∑ r : Fin 2048, D ((i.val / 2304) * 2304 + (256 + r.val)) ((j.val / 64) * 64 + (j.val % 64)) * Pr Q K (i.val / 2304) (j.val / 64) 2304 (256 + r.val) (i.val % 2304)) + (if (i.val % 2304) < 256 then (∑ r : Fin 256, D ((i.val / 2304) * 2304 + r.val) ((j.val / 64) * 64 + (j.val % 64)) * Pr Q K (i.val / 2304) (j.val / 64) 256 r.val (i.val % 2304)) else 0) : ℝ) : EReal) := by
  unfold rv121
  pointwise
  simp only [rv116_at q k v d Q K V D hq hk hv hd]

include hq hk hv hd in
/-- A result of the reference, entry by entry. -/
theorem rv122_at (i : Fin 9216) (j : Fin 1024) : rv122 q k v d (ix2 i j) = (((∑ r : Fin 2048, DS Q K V D (i.val / 2304) (j.val / 128) 2304 (256 + r.val) (i.val % 2304) * Q ((i.val / 2304) * 2304 + (256 + r.val)) ((j.val / 128) * 128 + (j.val % 128))) + (if (i.val % 2304) < 256 then (∑ r : Fin 256, DS Q K V D (i.val / 2304) (j.val / 128) 256 r.val (i.val % 2304) * Q ((i.val / 2304) * 2304 + r.val) ((j.val / 128) * 128 + (j.val % 128))) else 0) : ℝ) : EReal) := by
  unfold rv122
  pointwise
  simp only [rv118_at q k v d Q K V D hq hk hv hd]

include hq hk hv hd in
/-- A result of the reference, entry by entry. -/
theorem rv123_at (i : Fin 9216) (j : Fin 1024) : rv123 q k v d (ix2 i j) = ((if (i.val % 2304) < 256 then ∑ y : Fin 256, DS Q K V D (i.val / 2304) (j.val / 128) 256 (i.val % 2304) y.val * K ((i.val / 2304) * 2304 + y.val) ((j.val / 128) * 128 + (j.val % 128)) else ∑ y : Fin 2304, DS Q K V D (i.val / 2304) (j.val / 128) 2304 (i.val % 2304) y.val * K ((i.val / 2304) * 2304 + y.val) ((j.val / 128) * 128 + (j.val % 128)) : ℝ) : EReal) := by
  unfold rv123
  pointwise
  simp only [rv120_at q k v d Q K V D hq hk hv hd]

end Cert.ReferenceIdeal.Chain

namespace Cert.KernelIdeal
namespace Final
open Cert.KernelIdeal Idealize.ShloMosaic Idealize.ShloMosaic.TcCoe Idealize.SL.Sem Cert.Attn
open Cert.KernelIdeal.Gen Cert.KernelIdeal.Chain Cert.KernelIdeal.Entry Cert.KernelIdeal.Blocks Cert.KernelIdeal.Points

variable (m : (ℓ : Loc nD τ sig) → Buf (Elt Ideal) ℓ) (c : Dev nD) (Q K V' D : ℕ → ℕ → ℝ)
  (hq : ∀ i j, aq m c (ix2 i j) = ((Q i.val j.val : ℝ) : EReal)) (hk : ∀ i j, ak m c (ix2 i j) = ((K i.val j.val : ℝ) : EReal))
  (hv : ∀ i j, av m c (ix2 i j) = ((V' i.val j.val : ℝ) : EReal)) (hd : ∀ i j, ad m c (ix2 i j) = ((D i.val j.val : ℝ) : EReal))

include hq hk hv hd in
/-- The key gradient the call writes is the reference's. -/
theorem res7 : (dats (F := Ideal) m 0 c).arrAt 7 cfg0.N = Cert.ReferenceIdeal.Chain.rv122 (aq m c) (ak m c) (av m c) (ad m c) := by
  refine (dats m 0 c).arrAt_eq_of_covers 7 _ (by decide +kernel) fun t hf y => ?_
  blk_simp
  rw [after0_7]
  have h8 : t.val % 9 = 8 := (flush0_7 t).mp hf
  have ht : t.val < 144 := lt_of_lt_of_eq t.isLt N_0
  obtain ⟨k, a, rfl⟩ : ∃ (k : Fin 2304) (a : Fin 256), y = ix2 k a := ⟨y 0, y 1, by funext x; fin_cases x <;> rfl⟩
  have e : (win0_7.blk t).view.emb (ix2 k a) = ix2 (⟨t.val / 36 * 2304 + k.val, by omega⟩ : Fin 9216) (⟨t.val / 9 % 4 * 256 + a.val, by omega⟩ : Fin 1024) := by
    blk_ext [idx t]
  refine (fin0 m c Q K V' D hq hk hv hd t.val t.isLt h8 k a).trans ?_
  refine Eq.trans ?_ (congrArg (Cert.ReferenceIdeal.Chain.rv122 (aq m c) (ak m c) (av m c) (ad m c)) e).symm
  rw [Cert.ReferenceIdeal.Chain.rv122_at _ _ _ _ Q K V' D hq hk hv hd]
  dsimp only
  rw [show (t.val / 36 * 2304 + k.val) / 2304 = t.val / 36 by omega, show (t.val / 9 % 4 * 256 + a.val) / 128 = t.val / 9 % 4 * 2 + a.val / 128 by omega,
    show (t.val / 9 % 4 * 256 + a.val) % 128 = a.val % 128 by omega]
  rw [show (t.val / 36 * 2304 + k.val) % 2304 = k.val by omega, T0_eq, show (t.val / 9 % 4 * 2 + a.val / 128) * 128 + a.val % 128 = t.val / 9 % 4 * 256 + a.val by omega]

include hq hk hv hd in
/-- The value gradient the call writes is the reference's. -/
theorem res8 : (dats (F := Ideal) m 0 c).arrAt 8 cfg0.N = Cert.ReferenceIdeal.Chain.rv121 (aq m c) (ak m c) (av m c) (ad m c) := by
  refine (dats m 0 c).arrAt_eq_of_covers 8 _ (by decide +kernel) fun t hf y => ?_
  blk_simp
  rw [after0_8]
  have h8 : t.val % 9 = 8 := (flush0_8 t).mp hf
  have ht : t.val < 144 := lt_of_lt_of_eq t.isLt N_0
  obtain ⟨k, a, rfl⟩ : ∃ (k : Fin 2304) (a : Fin 128), y = ix2 k a := ⟨y 0, y 1, by funext x; fin_cases x <;> rfl⟩
  have e : (win0_8.blk t).view.emb (ix2 k a) = ix2 (⟨t.val / 36 * 2304 + k.val, by omega⟩ : Fin 9216) (⟨t.val / 9 % 4 * 128 + a.val, by omega⟩ : Fin 512) := by
    blk_ext [idx t]
  refine (fin1 m c Q K V' D hq hk hv hd t.val t.isLt h8 k a).trans ?_
  refine Eq.trans ?_ (congrArg (Cert.ReferenceIdeal.Chain.rv121 (aq m c) (ak m c) (av m c) (ad m c)) e).symm
  rw [Cert.ReferenceIdeal.Chain.rv121_at _ _ _ _ Q K V' D hq hk hv hd]
  dsimp only
  rw [show (t.val / 36 * 2304 + k.val) / 2304 = t.val / 36 by omega, show (t.val / 9 % 4 * 128 + a.val) / 64 = t.val / 9 % 4 * 2 + a.val / 64 by omega,
    show (t.val / 9 % 4 * 128 + a.val) % 64 = a.val % 64 by omega]
  rw [show (t.val / 36 * 2304 + k.val) % 2304 = k.val by omega, T1_eq, show (t.val / 9 % 4 * 2 + a.val / 64) * 64 + a.val % 64 = t.val / 9 % 4 * 128 + a.val by omega]

include hq hk hv hd in
/-- The query gradient the call writes is the reference's. -/
theorem res6 : (dats (F := Ideal) m 0 c).arrAt 6 cfg0.N = Cert.ReferenceIdeal.Chain.rv123 (aq m c) (ak m c) (av m c) (ad m c) := by
  refine (dats m 0 c).arrAt_eq_of_covers 6 _ (by decide +kernel) fun t hf y => ?_
  blk_simp
  rw [after0_6]
  have ht : t.val < 144 := lt_of_lt_of_eq t.isLt N_0
  obtain ⟨k, a, rfl⟩ : ∃ (k : Fin 256) (a : Fin 256), y = ix2 k a := ⟨y 0, y 1, by funext x; fin_cases x <;> rfl⟩
  have e : (win0_6.blk t).view.emb (ix2 k a) = ix2 (⟨t.val / 36 * 2304 + (t.val % 9 * 256 + k.val), by omega⟩ : Fin 9216) (⟨t.val / 9 % 4 * 256 + a.val, by omega⟩ : Fin 1024) := by
    blk_ext [idx t]
  refine (fin6 m c Q K V' D hq hk hv hd t.val t.isLt k a).trans ?_
  refine Eq.trans ?_ (congrArg (Cert.ReferenceIdeal.Chain.rv123 (aq m c) (ak m c) (av m c) (ad m c)) e).symm
  rw [Cert.ReferenceIdeal.Chain.rv123_at _ _ _ _ Q K V' D hq hk hv hd]
  dsimp only
  rw [show (t.val / 36 * 2304 + (t.val % 9 * 256 + k.val)) / 2304 = t.val / 36 by omega, show (t.val / 9 % 4 * 256 + a.val) / 128 = t.val / 9 % 4 * 2 + a.val / 128 by omega,
    show (t.val / 9 % 4 * 256 + a.val) % 128 = a.val % 128 by omega]
  rw [show (t.val / 36 * 2304 + (t.val % 9 * 256 + k.val)) % 2304 = t.val % 9 * 256 + k.val by omega]
  unfold G NK
  split <;> rfl

end Final
end Cert.KernelIdeal
end
-- ==== Proof.Pre.lean ====
/- The precondition, read: every entry of an argument is a real number. -/
module

public import proofs.«01_k».proof.Defs
public import Idealize.ShloMosaic.Lib.Pipeline.ValueKit

@[expose] public section

set_option maxRecDepth 16384

noncomputable section

namespace Cert.Pre
open Idealize.ShloMosaic Cert.Pre_finite

/-- The shape relations of the precondition. -/
theorem facts : Cert.Pre_finite.Facts := ⟨by decide, by decide⟩

/-- The word of infinity is infinity. -/
theorem inf : Ideal.ofBits .f32 0x7F800000#32 = (⊤ : EReal) := by simp [Ideal.ofBits, Ideal.ieee]

/-- An extended real whose absolute value is below infinity is a real. -/
theorem real_of_abs (x : EReal) (h : max x (-x) < ⊤) : x = ((x.toReal : ℝ) : EReal) := by
  rcases lt_or_ge x ⊤ with h1 | h1
  · refine (EReal.coe_toReal h1.ne ?_).symm
    rintro rfl
    simp at h
  · rw [top_le_iff.mp h1] at h
    simp at h

/-- A two-dimensional argument that passes the test holds a real at every entry. -/
theorem entry {A B : ℕ} (x : FVec Ideal (⟨2, ![A, B]⟩ : Shape) .f32) (hb : S_.BroadcastsInDim (⟨2, ![A, B]⟩ : Shape) (![] : Fin 0 → Fin 2))
    (h : cmpf .olt (Host.absf x) (broadcastInDim (⟨2, ![A, B]⟩ : Shape) ![] hb (constant S_ .f32 0x7F800000#32 : FVec Ideal S_ .f32)) = (fun _ => 1#1))
    (i : Fin A) (j : Fin B) : x (ix2 i j) = (((x (ix2 i j) : EReal).toReal : ℝ) : EReal) := by
  have e := congrFun h (ix2 i j)
  pointwise at e
  rw [inf] at e
  refine real_of_abs (x (ix2 i j)) ?_
  by_contra hn
  rw [show decide (FloatOps.absf (x (ix2 i j)) < (⊤ : EReal)) = false from decide_eq_false hn] at e
  exact absurd e (by decide)

/-- An argument's entry as a real, zero outside the array. -/
def real {A B : ℕ} (x : FVec Ideal (⟨2, ![A, B]⟩ : Shape) .f32) (i j : ℕ) : ℝ :=
  if h : i < A ∧ j < B then (x (ix2 ⟨i, h.1⟩ ⟨j, h.2⟩) : EReal).toReal else 0

/-- Under the test an argument is its real entries. -/
theorem real_at {A B : ℕ} (x : FVec Ideal (⟨2, ![A, B]⟩ : Shape) .f32) (hb : S_.BroadcastsInDim (⟨2, ![A, B]⟩ : Shape) (![] : Fin 0 → Fin 2))
    (h : cmpf .olt (Host.absf x) (broadcastInDim (⟨2, ![A, B]⟩ : Shape) ![] hb (constant S_ .f32 0x7F800000#32 : FVec Ideal S_ .f32)) = (fun _ => 1#1))
    (i : Fin A) (j : Fin B) : x (ix2 i j) = ((real x i.val j.val : ℝ) : EReal) := by
  rw [real, dif_pos ⟨i.isLt, j.isLt⟩]
  exact entry x hb h i j

end Cert.Pre
end
-- ==== Proof.Tiles.lean ====
/- Shared by the calls that meet the token rows in tiles: the modulated row, and a sum over all rows cut into tiles. -/
module

public import Idealize.ShloMosaic.Lib.Pipeline.ValueKit
public import Idealize.ShloMosaic.Lib.Pipeline.ReadBack

@[expose] public section

set_option maxRecDepth 16384

noncomputable section

namespace Cert.Tiles
open Idealize.ShloMosaic Idealize.ShloMosaic.TcCoe

/-- Entry `l` of row `n` after the modulation by rows `s` (scale) and `t` (shift) of the row's tile of the table. -/
def hmod (x : FVec Ideal (⟨2, ![9216, 1024]⟩ : Shape) .f32) (md : FVec Ideal (⟨3, ![36, 8, 1024]⟩ : Shape) .f32)
    (s t : Fin 8) (n : Fin 9216) (l : Fin 1024) : EReal :=
  x (ix2 n l) * (1 + md (ix3 (⟨n.val / 256, by omega⟩ : Fin 36) s l)) + md (ix3 (⟨n.val / 256, by omega⟩ : Fin 36) t l)

/-- The product of the modulated rows with a weight held transposed. -/
def prod {F : ℕ} (x : FVec Ideal (⟨2, ![9216, 1024]⟩ : Shape) .f32) (md : FVec Ideal (⟨3, ![36, 8, 1024]⟩ : Shape) .f32)
    (w : FVec Ideal (⟨2, ![F, 1024]⟩ : Shape) .f32) (s t : Fin 8) (n : Fin 9216) (f : Fin F) : EReal :=
  ∑ l : Fin 1024, hmod x md s t n l * w (ix2 f l)

/-- A sum over the 9216 rows is the sum over the 36 tiles of the sums over their 256 rows. -/
theorem sum_tiles (T : Fin 9216 → EReal) :
    ∑ s ∈ Finset.range 36, ∑ r : Fin 256, T ⟨s % 36 * 256 + r.val, by omega⟩ = ∑ n : Fin 9216, T n := by
  have e : ∑ n : Fin 9216, T n = ∑ n ∈ Finset.range (36 * 256), (fun n : ℕ => if h : n < 9216 then T ⟨n, h⟩ else 0) n := by
    rw [Finset.sum_range]
    refine Finset.sum_congr rfl fun n _ => ?_
    rw [dif_pos n.isLt]
  rw [e, Finset.sum_range_mul_split]
  refine Finset.sum_congr rfl fun s hs => ?_
  have h36 : s < 36 := Finset.mem_range.mp hs
  rw [Finset.sum_range]
  refine Finset.sum_congr rfl fun r _ => ?_
  have hr := r.isLt
  rw [dif_pos (show s * 256 + r.val < 9216 by omega)]
  exact congrArg T (Fin.ext (by show s % 36 * 256 + r.val = s * 256 + r.val; rw [Nat.mod_eq_of_lt h36]))

/-- The gradient of the weight of a product of modulated rows: the sum over the rows of the outer products. -/
def outer {F : ℕ} (du : FVec Ideal (⟨2, ![9216, F]⟩ : Shape) .f32) (x : FVec Ideal (⟨2, ![9216, 1024]⟩ : Shape) .f32)
    (md : FVec Ideal (⟨3, ![36, 8, 1024]⟩ : Shape) .f32) (s t : Fin 8) (f : Fin F) (l : Fin 1024) : EReal :=
  ∑ n : Fin 9216, du (ix2 n f) * hmod x md s t n l

/-- The gradient of the modulated rows: the rows of the gradient times the weight. -/
def back {F : ℕ} (du : FVec Ideal (⟨2, ![9216, F]⟩ : Shape) .f32) (w : FVec Ideal (⟨2, ![F, 1024]⟩ : Shape) .f32)
    (n : Fin 9216) (l : Fin 1024) : EReal :=
  ∑ f : Fin F, du (ix2 n f) * w (ix2 f l)

/-- The gradient of tile `j`'s modulation rows: the scale's row `s`, the shift's row `t`, zero elsewhere. -/
def tab {F : ℕ} (du : FVec Ideal (⟨2, ![9216, F]⟩ : Shape) .f32) (w : FVec Ideal (⟨2, ![F, 1024]⟩ : Shape) .f32)
    (x : FVec Ideal (⟨2, ![9216, 1024]⟩ : Shape) .f32) (s t : Fin 8) (j : Fin 36) (q : Fin 8) (l : Fin 1024) : EReal :=
  (if q = s then ∑ r : Fin 256, back du w ⟨j.val * 256 + r.val, by omega⟩ l * x (ix2 (⟨j.val * 256 + r.val, by omega⟩ : Fin 9216) l) else 0)
    + (if q = t then ∑ r : Fin 256, back du w ⟨j.val * 256 + r.val, by omega⟩ l else 0)

end Cert.Tiles
end
-- ==== Proof.M2.lean ====
/- The gradient of the feed-forward weight (`ffn_up_dw`): the call adds up over the tiles of rows what the reference adds up over all rows. -/
module

public import proofs.«01_k».proof.Defs
public import proofs.«01_k».proof.Proof.Gen.Kernel2Ideal.Value
public import proofs.«01_k».proof.Proof.Gen.Reference2Ideal.Run
public import proofs.«01_k».proof.Proof.Tiles

@[expose] public section

set_option maxRecDepth 16384

noncomputable section

namespace Cert.Reference2Ideal
namespace Chain
open Cert.Reference2Ideal Idealize.ShloMosaic Idealize.ShloMosaic.TcCoe Idealize.SL.Sem Cert.Tiles
open Cert.Reference2Ideal.Gen

/-- The reference's `reshape` number 1, as a function of the arguments. -/
def rv1 (du : FVec Ideal S9216x5632 .f32) (x : FVec Ideal S9216x1024 .f32) (md : FVec Ideal S36x8x1024 .f32) : FVec Ideal S36x256x1024 .f32 := shapeCast S36x256x1024 x shapeCasts_S9216x1024_S36x256x1024
/-- The reference's `slice` number 2, as a function of the arguments. -/
def rv2 (du : FVec Ideal S9216x5632 .f32) (x : FVec Ideal S9216x1024 .f32) (md : FVec Ideal S36x8x1024 .f32) : FVec Ideal S36x1x1024 .f32 := ((extractStridedSlice S36x1x1024 ![0, 4, 0] · slices_S36x8x1024_S36x1x1024_0_4_0)) md
/-- The reference's `reshape` number 3, as a function of the arguments. -/
def rv3 (du : FVec Ideal S9216x5632 .f32) (x : FVec Ideal S9216x1024 .f32) (md : FVec Ideal S36x8x1024 .f32) : FVec Ideal S36x1024 .f32 := shapeCast S36x1024 (rv2 du x md) shapeCasts_S36x1x1024_S36x1024
/-- The reference's `broadcast_in_dim` number 4, as a function of the arguments. -/
def rv4 (du : FVec Ideal S9216x5632 .f32) (x : FVec Ideal S9216x1024 .f32) (md : FVec Ideal S36x8x1024 .f32) : FVec Ideal S36x1x1024 .f32 := (broadcastInDim S36x1x1024 ![0, 2] bcast_S36x1024_S36x1x1024_0_2) (rv3 du x md)
/-- The reference's `constant` number cst_0, as a function of the arguments. -/
def rcst_0 (du : FVec Ideal S9216x5632 .f32) (x : FVec Ideal S9216x1024 .f32) (md : FVec Ideal S36x8x1024 .f32) : FVec Ideal S_ .f32 := (constant S_ .f32 0x3F800000#32)
/-- The reference's `broadcast_in_dim` number 5, as a function of the arguments. -/
def rv5 (du : FVec Ideal S9216x5632 .f32) (x : FVec Ideal S9216x1024 .f32) (md : FVec Ideal S36x8x1024 .f32) : FVec Ideal S36x1x1024 .f32 := (broadcastInDim S36x1x1024 ![] bcast_S_S36x1x1024) (rcst_0 du x md)
/-- The reference's `add` number 6, as a function of the arguments. -/
def rv6 (du : FVec Ideal S9216x5632 .f32) (x : FVec Ideal S9216x1024 .f32) (md : FVec Ideal S36x8x1024 .f32) : FVec Ideal S36x1x1024 .f32 := (addf) (rv5 du x md) (rv4 du x md)
/-- The reference's `broadcast_in_dim` number 7, as a function of the arguments. -/
def rv7 (du : FVec Ideal S9216x5632 .f32) (x : FVec Ideal S9216x1024 .f32) (md : FVec Ideal S36x8x1024 .f32) : FVec Ideal S36x256x1024 .f32 := (broadcastInDim S36x256x1024 ![0, 1, 2] bcast_S36x1x1024_S36x256x1024_0_1_2) (rv6 du x md)
/-- The reference's `multiply` number 8, as a function of the arguments. -/
def rv8 (du : FVec Ideal S9216x5632 .f32) (x : FVec Ideal S9216x1024 .f32) (md : FVec Ideal S36x8x1024 .f32) : FVec Ideal S36x256x1024 .f32 := (mulf) (rv1 du x md) (rv7 du x md)
/-- The reference's `slice` number 9, as a function of the arguments. -/
def rv9 (du : FVec Ideal S9216x5632 .f32) (x : FVec Ideal S9216x1024 .f32) (md : FVec Ideal S36x8x1024 .f32) : FVec Ideal S36x1x1024 .f32 := ((extractStridedSlice S36x1x1024 ![0, 3, 0] · slices_S36x8x1024_S36x1x1024_0_3_0)) md
/-- The reference's `reshape` number 10, as a function of the arguments. -/
def rv10 (du : FVec Ideal S9216x5632 .f32) (x : FVec Ideal S9216x1024 .f32) (md : FVec Ideal S36x8x1024 .f32) : FVec Ideal S36x1024 .f32 := shapeCast S36x1024 (rv9 du x md) shapeCasts_S36x1x1024_S36x1024
/-- The reference's `broadcast_in_dim` number 11, as a function of the arguments. -/
def rv11 (du : FVec Ideal S9216x5632 .f32) (x : FVec Ideal S9216x1024 .f32) (md : FVec Ideal S36x8x1024 .f32) : FVec Ideal S36x1x1024 .f32 := (broadcastInDim S36x1x1024 ![0, 2] bcast_S36x1024_S36x1x1024_0_2) (rv10 du x md)
/-- The reference's `broadcast_in_dim` number 12, as a function of the arguments. -/
def rv12 (du : FVec Ideal S9216x5632 .f32) (x : FVec Ideal S9216x1024 .f32) (md : FVec Ideal S36x8x1024 .f32) : FVec Ideal S36x256x1024 .f32 := (broadcastInDim S36x256x1024 ![0, 1, 2] bcast_S36x1x1024_S36x256x1024_0_1_2) (rv11 du x md)
/-- The reference's `add` number 13, as a function of the arguments. -/
def rv13 (du : FVec Ideal S9216x5632 .f32) (x : FVec Ideal S9216x1024 .f32) (md : FVec Ideal S36x8x1024 .f32) : FVec Ideal S36x256x1024 .f32 := (addf) (rv8 du x md) (rv12 du x md)
/-- The reference's `reshape` number 14, as a function of the arguments. -/
def rv14 (du : FVec Ideal S9216x5632 .f32) (x : FVec Ideal S9216x1024 .f32) (md : FVec Ideal S36x8x1024 .f32) : FVec Ideal S9216x1024 .f32 := shapeCast S9216x1024 (rv13 du x md) shapeCasts_S36x256x1024_S9216x1024
/-- The reference's `dot_general` number 16, as a function of the arguments. -/
def rv16 (du : FVec Ideal S9216x5632 .f32) (x : FVec Ideal S9216x1024 .f32) (md : FVec Ideal S36x8x1024 .f32) : FVec Ideal S5632x1024 .f32 := ((fun l r => Host.dotGeneral dot_S9216x5632_S9216x1024_S5632x1024_0_0_1_1_n_n none l r)) du (rv14 du x md)

/-- The modulated rows of the reference, entry by entry. -/
theorem rv14_at (du : FVec Ideal S9216x5632 .f32) (x : FVec Ideal S9216x1024 .f32) (md : FVec Ideal S36x8x1024 .f32) (n : Fin 9216) (l : Fin 1024) : (rv14 du x md (ix2 n l) : EReal) = hmod x md 4 3 n l := by
  unfold rv14 rv13 rv12 rv11 rv10 rv9 rv8 rv7 rv6 rv5 rcst_0 rv4 rv3 rv2 rv1 hmod
  pointwise

/-- The reference's result, entry by entry. -/
theorem rv16_at (du : FVec Ideal S9216x5632 .f32) (x : FVec Ideal S9216x1024 .f32) (md : FVec Ideal S36x8x1024 .f32) (f : Fin 5632) (l : Fin 1024) : (rv16 du x md (ix2 f l) : EReal) = outer du x md 4 3 f l := by
  unfold rv16 outer
  pointwise
  simp only [rv14_at]

end Chain
end Cert.Reference2Ideal

namespace Cert.Kernel2Ideal
namespace Final
open Cert.Kernel2Ideal Idealize.ShloMosaic Idealize.ShloMosaic.TcCoe Idealize.SL.Sem Cert.Tiles
open Facts₀ Facts Cert.Kernel2Ideal.Gen Cert.Kernel2Ideal.Value

/-- Which block each window reads or writes at a point. -/
theorem idx : ∀ t : Fin cfg0.N,
    win0_0.index t = ![t.val % 36, t.val / 36] ∧ win0_1.index t = ![t.val % 36, 0] ∧ win0_2.index t = ![t.val % 36, 0, 0] :=
  (by decide +kernel : ∀ t : Fin grid0.N, _)

/-- The arguments of the program on a device. -/
abbrev ad (m : (ℓ : Loc nD τ sig) → Buf (Elt Ideal) ℓ) (c : Dev nD) : FVec Ideal S9216x5632 .f32 := m ((c : Thread nD τ).loc main_arg0)
abbrev ax (m : (ℓ : Loc nD τ sig) → Buf (Elt Ideal) ℓ) (c : Dev nD) : FVec Ideal S9216x1024 .f32 := m ((c : Thread nD τ).loc main_arg1)
abbrev am (m : (ℓ : Loc nD τ sig) → Buf (Elt Ideal) ℓ) (c : Dev nD) : FVec Ideal S36x8x1024 .f32 := m ((c : Thread nD τ).loc main_arg2)

/-- What one point adds to a block of the result. -/
theorem body (x2 : Vec Ideal S1x8x1024 .f32) (x1 : Vec Ideal S256x1024 .f32) (acc : Vec Ideal S2816x1024 .f32) (x0 : Vec Ideal S256x2816 .bf16) (a : Fin 2816) (l : Fin 1024) :
    k0_pay2 (F := Ideal) x2 x1 acc x0 (ix2 a l) = acc (ix2 a l) + ∑ r : Fin 256, x0 (ix2 r a) * (x1 (ix2 r l) * (1 + x2 (ix3 (0 : Fin 1) (4 : Fin 8) l)) + x2 (ix3 (0 : Fin 1) (3 : Fin 8) l)) := by
  unfold_payloads
  pointwise

/-- A block starts at zero. -/
theorem zero (a : Fin 2816) (l : Fin 1024) : k0_pay1 (F := Ideal) (ix2 a l) = (0 : EReal) := by
  unfold_payloads
  pointwise

variable (m : (ℓ : Loc nD τ sig) → Buf (Elt Ideal) ℓ) (c : Dev nD)

theorem ltN (t : Fin cfg0.N) : t.val < 72 := lt_of_lt_of_eq t.isLt N_0

/-- The gradient's block at a point, entry by entry. -/
theorem blk0 (t : Fin cfg0.N) (r : Fin 256) (a : Fin 2816) :
    ((iblk (F := Ideal) m c 0 t : FVec Ideal S256x2816 .bf16) (ix2 r a) : EReal) = ad m c (ix2 (⟨t.val % 36 * 256 + r.val, by omega⟩ : Fin 9216) (⟨(t.val / 36 * 2816 + a.val) % 5632, by omega⟩ : Fin 5632)) := by
  have ht := ltN t
  have ha := a.isLt
  have e : (win0_0.blk t).view.emb (ix2 r a) = ix2 (⟨t.val % 36 * 256 + r.val, by omega⟩ : Fin 9216) (⟨(t.val / 36 * 2816 + a.val) % 5632, by omega⟩ : Fin 5632) := by
    rw [show (⟨(t.val / 36 * 2816 + a.val) % 5632, by omega⟩ : Fin 5632) = ⟨t.val / 36 * 2816 + a.val, by omega⟩ from Fin.ext (Nat.mod_eq_of_lt (by omega))]
    blk_ext [idx t]
  blk_simp [iblk, idx t]
  rw [e]
  entry_read
  pointwise

/-- The rows' block at a point, entry by entry. -/
theorem blk1 (t : Fin cfg0.N) (r : Fin 256) (l : Fin 1024) :
    ((iblk (F := Ideal) m c 1 t : FVec Ideal S256x1024 .f32) (ix2 r l) : EReal) = ax m c (ix2 (⟨t.val % 36 * 256 + r.val, by omega⟩ : Fin 9216) l) := by
  have e : (win0_1.blk t).view.emb (ix2 r l) = ix2 (⟨t.val % 36 * 256 + r.val, by omega⟩ : Fin 9216) l := by
    blk_ext [idx t]
  blk_simp [iblk, idx t]
  rw [e]
  entry_read
  rfl

/-- The table's block at a point, entry by entry. -/
theorem blk2 (t : Fin cfg0.N) (s : Fin 8) (l : Fin 1024) :
    ((iblk (F := Ideal) m c 2 t : FVec Ideal S1x8x1024 .f32) (ix3 (0 : Fin 1) s l) : EReal) = am m c (ix3 (⟨t.val % 36, by omega⟩ : Fin 36) s l) := by
  have e : (win0_2.blk t).view.emb (ix3 (0 : Fin 1) s l) = ix3 (⟨t.val % 36, by omega⟩ : Fin 36) s l := by
    blk_ext [idx t]
  blk_simp [iblk, idx t]
  rw [e]
  entry_read
  rfl

/-- What point `n` adds at row `f`, column `l` of the result. -/
def add (n : ℕ) (i : S2816x1024.Idx) : EReal :=
  ∑ r : Fin 256, ad m c (ix2 (⟨n % 36 * 256 + r.val, by omega⟩ : Fin 9216) (⟨(n / 36 * 2816 + (i 0).val) % 5632, by omega⟩ : Fin 5632)) * hmod (ax m c) (am m c) 4 3 ⟨n % 36 * 256 + r.val, by omega⟩ (i 1)

/-- A step adds its tile's part. -/
theorem step_at (n : ℕ) (h : n < cfg0.N) (acc : Vec Ideal S2816x1024 .f32) (i : S2816x1024.Idx) :
    step3 (F := Ideal) m c n h acc i = acc i + add m c n i := by
  obtain ⟨a, l, rfl⟩ : ∃ (a : Fin 2816) (l : Fin 1024), i = ix2 a l := ⟨i 0, i 1, by funext x; fin_cases x <;> rfl⟩
  unfold step3
  refine (body _ _ _ _ a l).trans ?_
  refine congrArg (fun z : EReal => acc (ix2 a l) + z) ?_
  unfold add hmod
  refine Finset.sum_congr rfl fun r _ => ?_
  rw [blk0 m c ⟨n, h⟩, blk1 m c ⟨n, h⟩, blk2 m c ⟨n, h⟩, blk2 m c ⟨n, h⟩]
  have hr := r.isLt
  simp only [show (n % 36 * 256 + r.val) / 256 = n % 36 by omega]
  rfl

/-- The first point of a run holds its tile's part. -/
theorem reset_at (n : ℕ) (h : n < cfg0.N) (i : S2816x1024.Idx) :
    reset3 (F := Ideal) m c n h i = 0 + add m c n i := by
  have e : (0 : EReal) = k0_pay1 (F := Ideal) i := by
    obtain ⟨a, l, rfl⟩ : ∃ (a : Fin 2816) (l : Fin 1024), i = ix2 a l := ⟨i 0, i 1, by funext x; fin_cases x <;> rfl⟩
    exact (zero a l).symm
  rw [e]
  exact step_at m c n h (k0_pay1 (F := Ideal)) i

/-- The call's result is the reference's. -/
theorem res3 : (dats (F := Ideal) m 0 c).arrAt 3 cfg0.N = Cert.Reference2Ideal.Chain.rv16 (ad m c) (ax m c) (am m c) := by
  rw [final3]
  funext i
  obtain ⟨f, l, rfl⟩ : ∃ (f : Fin 5632) (l : Fin 1024), i = ix2 f l := ⟨i 0, i 1, by funext x; fin_cases x <;> rfl⟩
  have hf := f.isLt
  have hl := l.isLt
  have hr : run3Of (ix2 f l) = f.val / 2816 := by
    show 1 * (f.val / 2816 - 0) + 1 * (l.val / 1024 - 0) = f.val / 2816
    omega
  have hlt : 36 * run3Of (ix2 f l) + 35 < cfg0.N := by
    rw [hr, show cfg0.N = 72 from N_0]
    omega
  have hloc : loc3Of (ix2 f l) = ix2 (⟨f.val % 2816, Nat.mod_lt _ (by decide)⟩ : Fin 2816) l := by
    funext a
    apply Fin.ext
    match a with
    | ⟨0, _⟩ => rfl
    | ⟨1, _⟩ => exact Nat.mod_eq_of_lt hl
  unfold G3
  rw [dif_pos hlt, hloc]
  refine (Pipeline.accAt_add_apply (reset3 (F := Ideal) m c) (step3 (F := Ideal) m c) (fun _ => (0 : EReal)) (add m c) (36 * run3Of (ix2 f l)) 35
    (fun h i => reset_at m c _ h i) (fun n h acc i _ _ => step_at m c n h acc i) 35 le_rfl hlt _).trans ?_
  rw [Cert.Reference2Ideal.Chain.rv16_at, hr]
  unfold outer
  rw [zero_add, ← sum_tiles]
  refine Finset.sum_congr rfl fun s hs => ?_
  have hs36 : s < 36 := Finset.mem_range.mp hs
  unfold add
  refine Finset.sum_congr rfl fun r _ => ?_
  have e1 : (⟨(36 * (f.val / 2816) + s) % 36 * 256 + r.val, by omega⟩ : Fin 9216) = ⟨s % 36 * 256 + r.val, by omega⟩ :=
    Fin.ext (by show (36 * (f.val / 2816) + s) % 36 * 256 + r.val = s % 36 * 256 + r.val; omega)
  have e2 : (⟨((36 * (f.val / 2816) + s) / 36 * 2816 + f.val % 2816) % 5632, by omega⟩ : Fin 5632) = f :=
    Fin.ext (by show ((36 * (f.val / 2816) + s) / 36 * 2816 + f.val % 2816) % 5632 = f.val; omega)
  rw [e1]
  exact congrArg (fun z : Fin 5632 => ad m c (ix2 (⟨s % 36 * 256 + r.val, by omega⟩ : Fin 9216) z) * hmod (ax m c) (am m c) 4 3 ⟨s % 36 * 256 + r.val, by omega⟩ l) e2

end Final
end Cert.Kernel2Ideal

namespace Cert.Value2
open Idealize.ShloMosaic Idealize.SL.Sem

/-- The kernel and the reference end with the same result. -/
theorem value : Cert.algebraic_Kernel2Ideal_Reference2Ideal (hKernel2Ideal := Cert.Kernel2Ideal.Gen.facts) (hReference2Ideal := Cert.Reference2Ideal.Gen.facts) := by
  intro m g m' g' hpre hag
  refine ⟨fun c => (Cert.Kernel2Ideal.Gen.dats m 0 c).arrAt 3 Cert.Kernel2Ideal.cfg0.N, Cert.Kernel2Ideal.Value.run_blocks (F := Ideal) m g,
    (θ_run Cert.Reference2Ideal.defs _ _).mono (fun r h c => ?_) (Cert.Reference2Ideal.Value.run (F := Ideal) m' g')⟩
  obtain ⟨a, rest⟩ := h c
  obtain ⟨g0, g1, g2⟩ := hag c
  refine ⟨?_, rest⟩
  refine a.trans (Eq.trans ?_ (Cert.Kernel2Ideal.Final.res3 m c).symm)
  rw [g0, g1, g2]
  rfl

end Cert.Value2
end
-- ==== Proof.M3.lean ====
/- The gradients of the feed-forward product (`ffn_up_dx`): the gradients of the rows and of the modulation table. -/
module

public import proofs.«01_k».proof.Defs
public import proofs.«01_k».proof.Proof.Gen.Kernel3Ideal.Value
public import proofs.«01_k».proof.Proof.Gen.Reference3Ideal.Run
public import proofs.«01_k».proof.Proof.Tiles

@[expose] public section

set_option maxRecDepth 16384

noncomputable section

namespace Cert.Reference3Ideal
namespace Chain
open Cert.Reference3Ideal Idealize.ShloMosaic Idealize.ShloMosaic.TcCoe Idealize.SL.Sem Cert.Tiles
open Cert.Reference3Ideal.Gen

/-- The reference's `reshape` number 0, as a function of the arguments. -/
def rv0 (du : FVec Ideal S9216x5632 .f32) (w : FVec Ideal S5632x1024 .f32) (x : FVec Ideal S9216x1024 .f32) (md : FVec Ideal S36x8x1024 .f32) (ad : FVec Ideal S9216x1024 .f32) : FVec Ideal S36x256x1024 .f32 := shapeCast S36x256x1024 x shapeCasts_S9216x1024_S36x256x1024
/-- The reference's `slice` number 1, as a function of the arguments. -/
def rv1 (du : FVec Ideal S9216x5632 .f32) (w : FVec Ideal S5632x1024 .f32) (x : FVec Ideal S9216x1024 .f32) (md : FVec Ideal S36x8x1024 .f32) (ad : FVec Ideal S9216x1024 .f32) : FVec Ideal S36x1x1024 .f32 := ((extractStridedSlice S36x1x1024 ![0, 4, 0] · slices_S36x8x1024_S36x1x1024_0_4_0)) md
/-- The reference's `reshape` number 2, as a function of the arguments. -/
def rv2 (du : FVec Ideal S9216x5632 .f32) (w : FVec Ideal S5632x1024 .f32) (x : FVec Ideal S9216x1024 .f32) (md : FVec Ideal S36x8x1024 .f32) (ad : FVec Ideal S9216x1024 .f32) : FVec Ideal S36x1024 .f32 := shapeCast S36x1024 (rv1 du w x md ad) shapeCasts_S36x1x1024_S36x1024
/-- The reference's `broadcast_in_dim` number 3, as a function of the arguments. -/
def rv3 (du : FVec Ideal S9216x5632 .f32) (w : FVec Ideal S5632x1024 .f32) (x : FVec Ideal S9216x1024 .f32) (md : FVec Ideal S36x8x1024 .f32) (ad : FVec Ideal S9216x1024 .f32) : FVec Ideal S36x1x1024 .f32 := (broadcastInDim S36x1x1024 ![0, 2] bcast_S36x1024_S36x1x1024_0_2) (rv2 du w x md ad)
/-- The reference's `constant` number cst, as a function of the arguments. -/
def rcst (du : FVec Ideal S9216x5632 .f32) (w : FVec Ideal S5632x1024 .f32) (x : FVec Ideal S9216x1024 .f32) (md : FVec Ideal S36x8x1024 .f32) (ad : FVec Ideal S9216x1024 .f32) : FVec Ideal S_ .f32 := (constant S_ .f32 0x3F800000#32)
/-- The reference's `broadcast_in_dim` number 4, as a function of the arguments. -/
def rv4 (du : FVec Ideal S9216x5632 .f32) (w : FVec Ideal S5632x1024 .f32) (x : FVec Ideal S9216x1024 .f32) (md : FVec Ideal S36x8x1024 .f32) (ad : FVec Ideal S9216x1024 .f32) : FVec Ideal S36x1x1024 .f32 := (broadcastInDim S36x1x1024 ![] bcast_S_S36x1x1024) (rcst du w x md ad)
/-- The reference's `add` number 5, as a function of the arguments. -/
def rv5 (du : FVec Ideal S9216x5632 .f32) (w : FVec Ideal S5632x1024 .f32) (x : FVec Ideal S9216x1024 .f32) (md : FVec Ideal S36x8x1024 .f32) (ad : FVec Ideal S9216x1024 .f32) : FVec Ideal S36x1x1024 .f32 := (addf) (rv4 du w x md ad) (rv3 du w x md ad)
/-- The reference's `dot_general` number 15, as a function of the arguments. -/
def rv15 (du : FVec Ideal S9216x5632 .f32) (w : FVec Ideal S5632x1024 .f32) (x : FVec Ideal S9216x1024 .f32) (md : FVec Ideal S36x8x1024 .f32) (ad : FVec Ideal S9216x1024 .f32) : FVec Ideal S9216x1024 .f32 := ((fun l r => Host.dotGeneral dot_S9216x5632_S5632x1024_S9216x1024_1_0_0_1_n_n none l r)) du w
/-- The reference's `reshape` number 16, as a function of the arguments. -/
def rv16 (du : FVec Ideal S9216x5632 .f32) (w : FVec Ideal S5632x1024 .f32) (x : FVec Ideal S9216x1024 .f32) (md : FVec Ideal S36x8x1024 .f32) (ad : FVec Ideal S9216x1024 .f32) : FVec Ideal S36x256x1024 .f32 := shapeCast S36x256x1024 (rv15 du w x md ad) shapeCasts_S9216x1024_S36x256x1024
/-- The reference's `constant` number cst_0, as a function of the arguments. -/
def rcst_0 (du : FVec Ideal S9216x5632 .f32) (w : FVec Ideal S5632x1024 .f32) (x : FVec Ideal S9216x1024 .f32) (md : FVec Ideal S36x8x1024 .f32) (ad : FVec Ideal S9216x1024 .f32) : FVec Ideal S_ .f32 := (constant S_ .f32 0x00000000#32)
/-- The reference's `reduce` number 17, as a function of the arguments. -/
def rv17 (du : FVec Ideal S9216x5632 .f32) (w : FVec Ideal S5632x1024 .f32) (x : FVec Ideal S9216x1024 .f32) (md : FVec Ideal S36x8x1024 .f32) (ad : FVec Ideal S9216x1024 .f32) : FVec Ideal S36x1024 .f32 := ((fun x v => Host.reduceAdd x v reducesTo_S36x256x1024_S36x1024_d1 h_S_)) (rv16 du w x md ad) (rcst_0 du w x md ad)
/-- The reference's `reshape` number 18, as a function of the arguments. -/
def rv18 (du : FVec Ideal S9216x5632 .f32) (w : FVec Ideal S5632x1024 .f32) (x : FVec Ideal S9216x1024 .f32) (md : FVec Ideal S36x8x1024 .f32) (ad : FVec Ideal S9216x1024 .f32) : FVec Ideal S36x1x1024 .f32 := shapeCast S36x1x1024 (rv17 du w x md ad) shapeCasts_S36x1024_S36x1x1024
/-- The reference's `constant` number cst_1, as a function of the arguments. -/
def rcst_1 (du : FVec Ideal S9216x5632 .f32) (w : FVec Ideal S5632x1024 .f32) (x : FVec Ideal S9216x1024 .f32) (md : FVec Ideal S36x8x1024 .f32) (ad : FVec Ideal S9216x1024 .f32) : FVec Ideal S_ .f32 := (constant S_ .f32 0x00000000#32)
/-- The reference's `reduce` number 19, as a function of the arguments. -/
def rv19 (du : FVec Ideal S9216x5632 .f32) (w : FVec Ideal S5632x1024 .f32) (x : FVec Ideal S9216x1024 .f32) (md : FVec Ideal S36x8x1024 .f32) (ad : FVec Ideal S9216x1024 .f32) : FVec Ideal S36x1024 .f32 := ((fun x v => Host.reduceAdd x v reducesTo_S36x1x1024_S36x1024_d1 h_S_)) (rv18 du w x md ad) (rcst_1 du w x md ad)
/-- The reference's `broadcast_in_dim` number 20, as a function of the arguments. -/
def rv20 (du : FVec Ideal S9216x5632 .f32) (w : FVec Ideal S5632x1024 .f32) (x : FVec Ideal S9216x1024 .f32) (md : FVec Ideal S36x8x1024 .f32) (ad : FVec Ideal S9216x1024 .f32) : FVec Ideal S36x1x1024 .f32 := (broadcastInDim S36x1x1024 ![0, 2] bcast_S36x1024_S36x1x1024_0_2) (rv19 du w x md ad)
/-- The reference's `constant` number cst_2, as a function of the arguments. -/
def rcst_2 (du : FVec Ideal S9216x5632 .f32) (w : FVec Ideal S5632x1024 .f32) (x : FVec Ideal S9216x1024 .f32) (md : FVec Ideal S36x8x1024 .f32) (ad : FVec Ideal S9216x1024 .f32) : FVec Ideal S_ .f32 := (constant S_ .f32 0x00000000#32)
/-- The reference's `pad` number 21, as a function of the arguments. -/
def rv21 (du : FVec Ideal S9216x5632 .f32) (w : FVec Ideal S5632x1024 .f32) (x : FVec Ideal S9216x1024 .f32) (md : FVec Ideal S36x8x1024 .f32) (ad : FVec Ideal S9216x1024 .f32) : FVec Ideal S36x8x1024 .f32 := ((fun x v => pad S36x8x1024 ![0, 3, 0] ![0, 4, 0] ![0, 0, 0] x v pads_S36x1x1024_S36x8x1024_000_340_000 h_S_)) (rv20 du w x md ad) (rcst_2 du w x md ad)
/-- The reference's `multiply` number 22, as a function of the arguments. -/
def rv22 (du : FVec Ideal S9216x5632 .f32) (w : FVec Ideal S5632x1024 .f32) (x : FVec Ideal S9216x1024 .f32) (md : FVec Ideal S36x8x1024 .f32) (ad : FVec Ideal S9216x1024 .f32) : FVec Ideal S36x256x1024 .f32 := (mulf) (rv0 du w x md ad) (rv16 du w x md ad)
/-- The reference's `constant` number cst_3, as a function of the arguments. -/
def rcst_3 (du : FVec Ideal S9216x5632 .f32) (w : FVec Ideal S5632x1024 .f32) (x : FVec Ideal S9216x1024 .f32) (md : FVec Ideal S36x8x1024 .f32) (ad : FVec Ideal S9216x1024 .f32) : FVec Ideal S_ .f32 := (constant S_ .f32 0x00000000#32)
/-- The reference's `reduce` number 23, as a function of the arguments. -/
def rv23 (du : FVec Ideal S9216x5632 .f32) (w : FVec Ideal S5632x1024 .f32) (x : FVec Ideal S9216x1024 .f32) (md : FVec Ideal S36x8x1024 .f32) (ad : FVec Ideal S9216x1024 .f32) : FVec Ideal S36x1024 .f32 := ((fun x v => Host.reduceAdd x v reducesTo_S36x256x1024_S36x1024_d1 h_S_)) (rv22 du w x md ad) (rcst_3 du w x md ad)
/-- The reference's `reshape` number 24, as a function of the arguments. -/
def rv24 (du : FVec Ideal S9216x5632 .f32) (w : FVec Ideal S5632x1024 .f32) (x : FVec Ideal S9216x1024 .f32) (md : FVec Ideal S36x8x1024 .f32) (ad : FVec Ideal S9216x1024 .f32) : FVec Ideal S36x1x1024 .f32 := shapeCast S36x1x1024 (rv23 du w x md ad) shapeCasts_S36x1024_S36x1x1024
/-- The reference's `broadcast_in_dim` number 25, as a function of the arguments. -/
def rv25 (du : FVec Ideal S9216x5632 .f32) (w : FVec Ideal S5632x1024 .f32) (x : FVec Ideal S9216x1024 .f32) (md : FVec Ideal S36x8x1024 .f32) (ad : FVec Ideal S9216x1024 .f32) : FVec Ideal S36x256x1024 .f32 := (broadcastInDim S36x256x1024 ![0, 1, 2] bcast_S36x1x1024_S36x256x1024_0_1_2) (rv5 du w x md ad)
/-- The reference's `multiply` number 26, as a function of the arguments. -/
def rv26 (du : FVec Ideal S9216x5632 .f32) (w : FVec Ideal S5632x1024 .f32) (x : FVec Ideal S9216x1024 .f32) (md : FVec Ideal S36x8x1024 .f32) (ad : FVec Ideal S9216x1024 .f32) : FVec Ideal S36x256x1024 .f32 := (mulf) (rv16 du w x md ad) (rv25 du w x md ad)
/-- The reference's `constant` number cst_4, as a function of the arguments. -/
def rcst_4 (du : FVec Ideal S9216x5632 .f32) (w : FVec Ideal S5632x1024 .f32) (x : FVec Ideal S9216x1024 .f32) (md : FVec Ideal S36x8x1024 .f32) (ad : FVec Ideal S9216x1024 .f32) : FVec Ideal S_ .f32 := (constant S_ .f32 0x00000000#32)
/-- The reference's `reduce` number 27, as a function of the arguments. -/
def rv27 (du : FVec Ideal S9216x5632 .f32) (w : FVec Ideal S5632x1024 .f32) (x : FVec Ideal S9216x1024 .f32) (md : FVec Ideal S36x8x1024 .f32) (ad : FVec Ideal S9216x1024 .f32) : FVec Ideal S36x1024 .f32 := ((fun x v => Host.reduceAdd x v reducesTo_S36x1x1024_S36x1024_d1 h_S_)) (rv24 du w x md ad) (rcst_4 du w x md ad)
/-- The reference's `broadcast_in_dim` number 28, as a function of the arguments. -/
def rv28 (du : FVec Ideal S9216x5632 .f32) (w : FVec Ideal S5632x1024 .f32) (x : FVec Ideal S9216x1024 .f32) (md : FVec Ideal S36x8x1024 .f32) (ad : FVec Ideal S9216x1024 .f32) : FVec Ideal S36x1x1024 .f32 := (broadcastInDim S36x1x1024 ![0, 2] bcast_S36x1024_S36x1x1024_0_2) (rv27 du w x md ad)
/-- The reference's `constant` number cst_5, as a function of the arguments. -/
def rcst_5 (du : FVec Ideal S9216x5632 .f32) (w : FVec Ideal S5632x1024 .f32) (x : FVec Ideal S9216x1024 .f32) (md : FVec Ideal S36x8x1024 .f32) (ad : FVec Ideal S9216x1024 .f32) : FVec Ideal S_ .f32 := (constant S_ .f32 0x00000000#32)
/-- The reference's `pad` number 29, as a function of the arguments. -/
def rv29 (du : FVec Ideal S9216x5632 .f32) (w : FVec Ideal S5632x1024 .f32) (x : FVec Ideal S9216x1024 .f32) (md : FVec Ideal S36x8x1024 .f32) (ad : FVec Ideal S9216x1024 .f32) : FVec Ideal S36x8x1024 .f32 := ((fun x v => pad S36x8x1024 ![0, 4, 0] ![0, 3, 0] ![0, 0, 0] x v pads_S36x1x1024_S36x8x1024_000_430_000 h_S_)) (rv28 du w x md ad) (rcst_5 du w x md ad)
/-- The reference's `add` number 30, as a function of the arguments. -/
def rv30 (du : FVec Ideal S9216x5632 .f32) (w : FVec Ideal S5632x1024 .f32) (x : FVec Ideal S9216x1024 .f32) (md : FVec Ideal S36x8x1024 .f32) (ad : FVec Ideal S9216x1024 .f32) : FVec Ideal S36x8x1024 .f32 := (addf) (rv21 du w x md ad) (rv29 du w x md ad)
/-- The reference's `reshape` number 31, as a function of the arguments. -/
def rv31 (du : FVec Ideal S9216x5632 .f32) (w : FVec Ideal S5632x1024 .f32) (x : FVec Ideal S9216x1024 .f32) (md : FVec Ideal S36x8x1024 .f32) (ad : FVec Ideal S9216x1024 .f32) : FVec Ideal S9216x1024 .f32 := shapeCast S9216x1024 (rv26 du w x md ad) shapeCasts_S36x256x1024_S9216x1024
/-- The reference's `add` number 32, as a function of the arguments. -/
def rv32 (du : FVec Ideal S9216x5632 .f32) (w : FVec Ideal S5632x1024 .f32) (x : FVec Ideal S9216x1024 .f32) (md : FVec Ideal S36x8x1024 .f32) (ad : FVec Ideal S9216x1024 .f32) : FVec Ideal S9216x1024 .f32 := (addf) ad (rv31 du w x md ad)

/-- The gradient of the modulated rows, cut into tiles. -/
theorem rv16_at (du : FVec Ideal S9216x5632 .f32) (w : FVec Ideal S5632x1024 .f32) (x : FVec Ideal S9216x1024 .f32) (md : FVec Ideal S36x8x1024 .f32) (ad : FVec Ideal S9216x1024 .f32) (j : Fin 36) (r : Fin 256) (l : Fin 1024) :
    (rv16 du w x md ad (ix3 j r l) : EReal) = back du w ⟨j.val * 256 + r.val, by omega⟩ l := by
  unfold rv16 rv15 back
  pointwise

/-- The reference's gradient of the rows, entry by entry. -/
theorem rv32_at (du : FVec Ideal S9216x5632 .f32) (w : FVec Ideal S5632x1024 .f32) (x : FVec Ideal S9216x1024 .f32) (md : FVec Ideal S36x8x1024 .f32) (ad : FVec Ideal S9216x1024 .f32) (n : Fin 9216) (l : Fin 1024) :
    (rv32 du w x md ad (ix2 n l) : EReal) = ad (ix2 n l) + back du w n l * (1 + md (ix3 (⟨n.val / 256, by omega⟩ : Fin 36) (4 : Fin 8) l)) := by
  unfold rv32 rv31 rv26 rv25 rv5 rv4 rcst rv3 rv2 rv1
  pointwise
  simp only [rv16_at]
  simp only [show n.val / 256 * 256 + n.val % 256 = n.val by omega]

/-- The row of the scales in the reference's gradient of the table. -/
theorem rv24_at (du : FVec Ideal S9216x5632 .f32) (w : FVec Ideal S5632x1024 .f32) (x : FVec Ideal S9216x1024 .f32) (md : FVec Ideal S36x8x1024 .f32) (ad : FVec Ideal S9216x1024 .f32) (j : Fin 36) (l : Fin 1024) :
    (rv24 du w x md ad (ix3 j (0 : Fin 1) l) : EReal) = ∑ r : Fin 256, back du w ⟨j.val * 256 + r.val, by omega⟩ l * x (ix2 (⟨j.val * 256 + r.val, by omega⟩ : Fin 9216) l) := by
  unfold rv24 rv23 rcst_3 rv22 rv0
  pointwise
  simp only [rv16_at]
  exact Finset.sum_congr rfl fun r _ => mul_comm _ _

/-- The row of the shifts in the reference's gradient of the table. -/
theorem rv18_at (du : FVec Ideal S9216x5632 .f32) (w : FVec Ideal S5632x1024 .f32) (x : FVec Ideal S9216x1024 .f32) (md : FVec Ideal S36x8x1024 .f32) (ad : FVec Ideal S9216x1024 .f32) (j : Fin 36) (l : Fin 1024) :
    (rv18 du w x md ad (ix3 j (0 : Fin 1) l) : EReal) = ∑ r : Fin 256, back du w ⟨j.val * 256 + r.val, by omega⟩ l := by
  unfold rv18 rv17 rcst_0
  pointwise
  simp only [rv16_at]

/-- The reference's gradient of the table, entry by entry. -/
theorem rv30_at (du : FVec Ideal S9216x5632 .f32) (w : FVec Ideal S5632x1024 .f32) (x : FVec Ideal S9216x1024 .f32) (md : FVec Ideal S36x8x1024 .f32) (ad : FVec Ideal S9216x1024 .f32) (j : Fin 36) (q : Fin 8) (l : Fin 1024) :
    (rv30 du w x md ad (ix3 j q l) : EReal) = tab du w x 4 3 j q l := by
  unfold rv30 rv29 rcst_5 rv28 rv27 rcst_4 rv21 rcst_2 rv20 rv19 rcst_1 tab
  pointwise
  fin_cases q <;> simp [rv18_at, rv24_at]

end Chain
end Cert.Reference3Ideal

namespace Cert.Kernel3Ideal
namespace Final
open Cert.Kernel3Ideal Idealize.ShloMosaic Idealize.ShloMosaic.TcCoe Idealize.SL.Sem Cert.Tiles
open Facts₀ Facts Cert.Kernel3Ideal.Gen

/-- Which block each window reads or writes at a point. -/
theorem idx : ∀ t : Fin cfg0.N,
    win0_0.index t = ![t.val, 0] ∧ win0_1.index t = ![0, 0] ∧ win0_2.index t = ![t.val, 0] ∧ win0_3.index t = ![t.val, 0, 0]
      ∧ win0_4.index t = ![t.val, 0] ∧ win0_5.index t = ![t.val, 0] ∧ win0_6.index t = ![t.val, 0, 0] :=
  (by decide +kernel : ∀ t : Fin grid0.N, _)

/-- The arguments of the program on a device. -/
abbrev ad (m : (ℓ : Loc nD τ sig) → Buf (Elt Ideal) ℓ) (c : Dev nD) : FVec Ideal S9216x5632 .f32 := m ((c : Thread nD τ).loc main_arg0)
abbrev aw (m : (ℓ : Loc nD τ sig) → Buf (Elt Ideal) ℓ) (c : Dev nD) : FVec Ideal S5632x1024 .f32 := m ((c : Thread nD τ).loc main_arg1)
abbrev ax (m : (ℓ : Loc nD τ sig) → Buf (Elt Ideal) ℓ) (c : Dev nD) : FVec Ideal S9216x1024 .f32 := m ((c : Thread nD τ).loc main_arg2)
abbrev am (m : (ℓ : Loc nD τ sig) → Buf (Elt Ideal) ℓ) (c : Dev nD) : FVec Ideal S36x8x1024 .f32 := m ((c : Thread nD τ).loc main_arg3)
abbrev aa (m : (ℓ : Loc nD τ sig) → Buf (Elt Ideal) ℓ) (c : Dev nD) : FVec Ideal S9216x1024 .f32 := m ((c : Thread nD τ).loc main_arg4)

/-- One block of the rows' gradient from the blocks of the operands. -/
theorem body5 (x0 : Vec Ideal S256x5632 .bf16) (x1 : Vec Ideal S5632x1024 .bf16) (x2 : Vec Ideal S256x1024 .f32) (x3 : Vec Ideal S1x8x1024 .f32) (x4 : Vec Ideal S256x1024 .f32) (r : Fin 256) (l : Fin 1024) :
    out0_5 (F := Ideal) x0 x1 x2 x3 x4 (ix2 r l) = x4 (ix2 r l) + (∑ f : Fin 5632, x0 (ix2 r f) * x1 (ix2 f l)) * (1 + x3 (ix3 (0 : Fin 1) (4 : Fin 8) l)) := by
  frame_out
  unfold_payloads
  pointwise

/-- One block of the table's gradient from the blocks of the operands. -/
theorem body6 (x0 : Vec Ideal S256x5632 .bf16) (x1 : Vec Ideal S5632x1024 .bf16) (x2 : Vec Ideal S256x1024 .f32) (x3 : Vec Ideal S1x8x1024 .f32) (x4 : Vec Ideal S256x1024 .f32) (q : Fin 8) (l : Fin 1024) :
    out0_6 (F := Ideal) x0 x1 x2 x3 x4 (ix3 (0 : Fin 1) q l) = (if q = 4 then ∑ r : Fin 256, (∑ f : Fin 5632, x0 (ix2 r f) * x1 (ix2 f l)) * x2 (ix2 r l) else (0 : EReal)) + (if q = 3 then ∑ r : Fin 256, ∑ f : Fin 5632, x0 (ix2 r f) * x1 (ix2 f l) else (0 : EReal)) := by
  frame_out
  unfold_payloads
  pointwise
  fin_cases q <;> simp [Scalar.select, IntOp.cmpi]

variable (m : (ℓ : Loc nD τ sig) → Buf (Elt Ideal) ℓ) (c : Dev nD)

theorem lt36 (t : Fin cfg0.N) : t.val < 36 := lt_of_lt_of_eq t.isLt N_0

/-- The gradient's block at a point, entry by entry. -/
theorem blk0 (t : Fin cfg0.N) (r : Fin 256) (f : Fin 5632) :
    ((iblk (F := Ideal) m c 0 t : FVec Ideal S256x5632 .bf16) (ix2 r f) : EReal) = ad m c (ix2 (⟨t.val * 256 + r.val, by have := lt36 t; omega⟩ : Fin 9216) f) := by
  have ht := lt36 t
  have e : (win0_0.blk t).view.emb (ix2 r f) = ix2 (⟨t.val * 256 + r.val, by omega⟩ : Fin 9216) f := by
    blk_ext [idx t]
  blk_simp [iblk, idx t]
  rw [e]
  entry_read
  pointwise

/-- The weight's block at a point is the whole weight. -/
theorem blk1 (t : Fin cfg0.N) (f : Fin 5632) (l : Fin 1024) :
    ((iblk (F := Ideal) m c 1 t : FVec Ideal S5632x1024 .bf16) (ix2 f l) : EReal) = aw m c (ix2 f l) := by
  have e : (win0_1.blk t).view.emb (ix2 f l) = ix2 f l := by
    blk_ext [idx t]
  blk_simp [iblk, idx t]
  rw [e]
  entry_read
  pointwise

/-- The rows' block at a point, entry by entry. -/
theorem blk2 (t : Fin cfg0.N) (r : Fin 256) (l : Fin 1024) :
    ((iblk (F := Ideal) m c 2 t : FVec Ideal S256x1024 .f32) (ix2 r l) : EReal) = ax m c (ix2 (⟨t.val * 256 + r.val, by have := lt36 t; omega⟩ : Fin 9216) l) := by
  have ht := lt36 t
  have e : (win0_2.blk t).view.emb (ix2 r l) = ix2 (⟨t.val * 256 + r.val, by omega⟩ : Fin 9216) l := by
    blk_ext [idx t]
  blk_simp [iblk, idx t]
  rw [e]
  entry_read
  rfl

/-- The table's block at a point, entry by entry. -/
theorem blk3 (t : Fin cfg0.N) (s : Fin 8) (l : Fin 1024) :
    ((iblk (F := Ideal) m c 3 t : FVec Ideal S1x8x1024 .f32) (ix3 (0 : Fin 1) s l) : EReal) = am m c (ix3 (⟨t.val, lt36 t⟩ : Fin 36) s l) := by
  have ht := lt36 t
  have e : (win0_3.blk t).view.emb (ix3 (0 : Fin 1) s l) = ix3 (⟨t.val, ht⟩ : Fin 36) s l := by
    blk_ext [idx t]
  blk_simp [iblk, idx t]
  rw [e]
  entry_read
  rfl

/-- The block of the gradient that goes past the product, entry by entry. -/
theorem blk4 (t : Fin cfg0.N) (r : Fin 256) (l : Fin 1024) :
    ((iblk (F := Ideal) m c 4 t : FVec Ideal S256x1024 .f32) (ix2 r l) : EReal) = aa m c (ix2 (⟨t.val * 256 + r.val, by have := lt36 t; omega⟩ : Fin 9216) l) := by
  have ht := lt36 t
  have e : (win0_4.blk t).view.emb (ix2 r l) = ix2 (⟨t.val * 256 + r.val, by omega⟩ : Fin 9216) l := by
    blk_ext [idx t]
  blk_simp [iblk, idx t]
  rw [e]
  entry_read
  rfl

/-- The call's gradient of the rows is the reference's. -/
theorem res5 : (dats (F := Ideal) m 0 c).arrAt 5 cfg0.N = Cert.Reference3Ideal.Chain.rv32 (ad m c) (aw m c) (ax m c) (am m c) (aa m c) := by
  refine (dats m 0 c).arrAt_eq_of_covers 5 _ (by decide +kernel) fun t hf y => ?_
  blk_simp
  rw [after0_5]
  have ht := lt36 t
  obtain ⟨r, l, rfl⟩ : ∃ (r : Fin 256) (l : Fin 1024), y = ix2 r l := ⟨y 0, y 1, by funext x; fin_cases x <;> rfl⟩
  have e : (win0_5.blk t).view.emb (ix2 r l) = ix2 (⟨t.val * 256 + r.val, by omega⟩ : Fin 9216) l := by
    blk_ext [idx t]
  refine (body5 _ _ _ _ _ r l).trans ?_
  refine Eq.trans ?_ (congrArg (Cert.Reference3Ideal.Chain.rv32 (ad m c) (aw m c) (ax m c) (am m c) (aa m c)) e).symm
  rw [Cert.Reference3Ideal.Chain.rv32_at, blk4 m c t, blk3 m c t]
  unfold back
  have hr := r.isLt
  simp only [blk0 m c t, blk1 m c t, show (t.val * 256 + r.val) / 256 = t.val by omega]

/-- The call's gradient of the table is the reference's. -/
theorem res6 : (dats (F := Ideal) m 0 c).arrAt 6 cfg0.N = Cert.Reference3Ideal.Chain.rv30 (ad m c) (aw m c) (ax m c) (am m c) (aa m c) := by
  refine (dats m 0 c).arrAt_eq_of_covers 6 _ (by decide +kernel) fun t hf y => ?_
  blk_simp
  rw [after0_6]
  have ht := lt36 t
  obtain ⟨z, q, l, rfl⟩ : ∃ (z : Fin 1) (q : Fin 8) (l : Fin 1024), y = ix3 z q l := ⟨y 0, y 1, y 2, by funext x; fin_cases x <;> rfl⟩
  obtain rfl : z = 0 := Subsingleton.elim _ _
  have e : (win0_6.blk t).view.emb (ix3 (0 : Fin 1) q l) = ix3 (⟨t.val, ht⟩ : Fin 36) q l := by
    blk_ext [idx t]
  refine (body6 _ _ _ _ _ q l).trans ?_
  refine Eq.trans ?_ (congrArg (Cert.Reference3Ideal.Chain.rv30 (ad m c) (aw m c) (ax m c) (am m c) (aa m c)) e).symm
  rw [Cert.Reference3Ideal.Chain.rv30_at]
  unfold tab back
  simp only [blk0 m c t, blk1 m c t, blk2 m c t]

end Final
end Cert.Kernel3Ideal

namespace Cert.Value3
open Idealize.ShloMosaic Idealize.SL.Sem

/-- The kernel and the reference end with the same results. -/
theorem value : Cert.algebraic_Kernel3Ideal_Reference3Ideal (hKernel3Ideal := Cert.Kernel3Ideal.Gen.facts) (hReference3Ideal := Cert.Reference3Ideal.Gen.facts) := by
  intro m g m' g' hpre hag
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N, Cert.Kernel3Ideal.Value.run_blocks (F := Ideal) m g,
    (θ_run Cert.Reference3Ideal.defs _ _).mono (fun r h c => ?_) (Cert.Reference3Ideal.Value.run (F := Ideal) m' g')⟩
  obtain ⟨a, b, rest⟩ := h c
  obtain ⟨g0, g1, g2, g3, g4⟩ := hag c
  refine ⟨?_, ?_, rest⟩
  · refine a.trans (Eq.trans ?_ (Cert.Kernel3Ideal.Final.res5 m c).symm)
    rw [g0, g1, g3, g4]
    rfl
  · refine b.trans (Eq.trans ?_ (Cert.Kernel3Ideal.Final.res6 m c).symm)
    rw [g0, g1, g2]
    rfl

end Cert.Value3
end
-- ==== Proof.M4.lean ====
/- The gradients of the gated second half of the feed-forward layer (`ffn_down_bwd`). -/
module

public import proofs.«01_k».proof.Defs
public import proofs.«01_k».proof.Proof.Gen.Kernel4Ideal.Value
public import proofs.«01_k».proof.Proof.Gen.Reference4Ideal.Run
public import proofs.«01_k».proof.Proof.Tiles
public import proofs.«01_k».proof.Proof.Pre
public import proofs.«01_k».proof.Proof.Body

@[expose] public section

set_option maxRecDepth 16384

noncomputable section

namespace Cert.Reference4Ideal
namespace Chain
open Cert.Reference4Ideal Idealize.ShloMosaic Idealize.ShloMosaic.TcCoe Idealize.SL.Sem Cert.Tiles
open Cert.Reference4Ideal.Gen

/-- The gate's entry: column `q` lies in the first half of chunk `q / 1408`. -/
def gA (u : FVec Ideal S9216x5632 .f32) (n : Fin 9216) (q : Fin 2816) : EReal := u (ix2 n (⟨q.val / 1408 * 2816 + q.val % 1408, by omega⟩ : Fin 5632))
/-- The value's entry: column `q` lies in the second half of chunk `q / 1408`. -/
def gG (u : FVec Ideal S9216x5632 .f32) (n : Fin 9216) (q : Fin 2816) : EReal := u (ix2 n (⟨q.val / 1408 * 2816 + 1408 + q.val % 1408, by omega⟩ : Fin 5632))
/-- The gradient of the activation. -/
def dact (w : FVec Ideal S2816x1024 .f32) (d : FVec Ideal S9216x1024 .f32) (n : Fin 9216) (q : Fin 2816) : EReal := ∑ l : Fin 1024, d (ix2 n l) * w (ix2 q l)
/-- The gate's gradient, as the call computes it. -/
def dgate (a g e : EReal) : EReal := e * g * (Ideal.logistic a + a * Ideal.logistic a * (1 - Ideal.logistic a))

/-- At real numbers the call's form of the gate's gradient is the reference's. -/
theorem dgate_eq (a g e : EReal) (ha : a = ((a.toReal : ℝ) : EReal)) (hg : g = ((g.toReal : ℝ) : EReal)) (he : e = ((e.toReal : ℝ) : EReal)) :
    e * g * Ideal.logistic a + a * (e * g) * (Ideal.logistic a * (1 - Ideal.logistic a)) = dgate a g e := by
  rw [ha, hg, he]
  unfold dgate
  simp only [Ideal.logistic_coe]
  rw [show (1 : EReal) = ((1 : ℝ) : EReal) from rfl]
  simp only [← EReal.coe_mul, ← EReal.coe_sub, ← EReal.coe_add]
  congr 1
  ring

/-- The reference's argument by chunks. -/
def r0 (u : FVec Ideal S9216x5632 .f32) (w : FVec Ideal S2816x1024 .f32) (d : FVec Ideal S9216x1024 .f32) : FVec Ideal S9216x2x2x1408 .f32 := shapeCast S9216x2x2x1408 u shapeCasts_S9216x5632_S9216x2x2x1408
/-- The reference's gate's half. -/
def r3 (u : FVec Ideal S9216x5632 .f32) (w : FVec Ideal S2816x1024 .f32) (d : FVec Ideal S9216x1024 .f32) : FVec Ideal S9216x2816 .f32 := shapeCast S9216x2816 (shapeCast S9216x2x1408 (extractStridedSlice S9216x2x1x1408 ![0, 0, 0, 0] (r0 u w d) slices_S9216x2x2x1408_S9216x2x1x1408_0_0_0_0) shapeCasts_S9216x2x1x1408_S9216x2x1408) shapeCasts_S9216x2x1408_S9216x2816
/-- The reference's value's half. -/
def r6 (u : FVec Ideal S9216x5632 .f32) (w : FVec Ideal S2816x1024 .f32) (d : FVec Ideal S9216x1024 .f32) : FVec Ideal S9216x2816 .f32 := shapeCast S9216x2816 (shapeCast S9216x2x1408 (extractStridedSlice S9216x2x1x1408 ![0, 0, 1, 0] (r0 u w d) slices_S9216x2x2x1408_S9216x2x1x1408_0_0_1_0) shapeCasts_S9216x2x1x1408_S9216x2x1408) shapeCasts_S9216x2x1408_S9216x2816
/-- The reference's ones. -/
def rone (u : FVec Ideal S9216x5632 .f32) (w : FVec Ideal S2816x1024 .f32) (d : FVec Ideal S9216x1024 .f32) : FVec Ideal S9216x2816 .f32 := broadcastInDim S9216x2816 ![] bcast_S_S9216x2816 (constant S_ .f32 0x3F800000#32)
/-- The reference's logistic function of the gate. -/
def rsg (u : FVec Ideal S9216x5632 .f32) (w : FVec Ideal S2816x1024 .f32) (d : FVec Ideal S9216x1024 .f32) : FVec Ideal S9216x2816 .f32 := Host.divf (rone u w d) (addf (rone u w d) (Host.exp (Host.negf (r3 u w d))))
/-- The reference's gate times its logistic function. -/
def rsa (u : FVec Ideal S9216x5632 .f32) (w : FVec Ideal S2816x1024 .f32) (d : FVec Ideal S9216x1024 .f32) : FVec Ideal S9216x2816 .f32 := mulf (r3 u w d) (rsg u w d)
/-- The reference's activation. -/
def r8 (u : FVec Ideal S9216x5632 .f32) (w : FVec Ideal S2816x1024 .f32) (d : FVec Ideal S9216x1024 .f32) : FVec Ideal S9216x2816 .f32 := mulf (rsa u w d) (r6 u w d)
/-- The reference's gradient of the weight. -/
def r11 (u : FVec Ideal S9216x5632 .f32) (w : FVec Ideal S2816x1024 .f32) (d : FVec Ideal S9216x1024 .f32) : FVec Ideal S2816x1024 .f32 := transpose S2816x1024 [1, 0] (Host.dotGeneral dot_S9216x1024_S9216x2816_S1024x2816_0_0_1_1_n_n none d (r8 u w d)) transposes_S1024x2816_S2816x1024_1_0
/-- The reference's gradient of the activation. -/
def r12 (u : FVec Ideal S9216x5632 .f32) (w : FVec Ideal S2816x1024 .f32) (d : FVec Ideal S9216x1024 .f32) : FVec Ideal S9216x2816 .f32 := Host.dotGeneral dot_S9216x1024_S2816x1024_S9216x2816_1_1_0_0_n_n none d w
/-- The reference's gradient of the value's half. -/
def r13 (u : FVec Ideal S9216x5632 .f32) (w : FVec Ideal S2816x1024 .f32) (d : FVec Ideal S9216x1024 .f32) : FVec Ideal S9216x2816 .f32 := mulf (rsa u w d) (r12 u w d)
/-- The reference's gradient before the gate's derivative. -/
def r14 (u : FVec Ideal S9216x5632 .f32) (w : FVec Ideal S2816x1024 .f32) (d : FVec Ideal S9216x1024 .f32) : FVec Ideal S9216x2816 .f32 := mulf (r12 u w d) (r6 u w d)
/-- The reference's gradient of the gate's half. -/
def r15 (u : FVec Ideal S9216x5632 .f32) (w : FVec Ideal S2816x1024 .f32) (d : FVec Ideal S9216x1024 .f32) : FVec Ideal S9216x2816 .f32 := addf (mulf (r14 u w d) (rsg u w d)) (mulf (mulf (r3 u w d) (r14 u w d)) (mulf (rsg u w d) (subf (rone u w d) (rsg u w d))))
/-- The reference's value's half put back. -/
def r18 (u : FVec Ideal S9216x5632 .f32) (w : FVec Ideal S2816x1024 .f32) (d : FVec Ideal S9216x1024 .f32) : FVec Ideal S9216x2x2x1408 .f32 := pad S9216x2x2x1408 ![0, 0, 1, 0] ![0, 0, 0, 0] ![0, 0, 0, 0] (broadcastInDim S9216x2x1x1408 ![0, 1, 3] bcast_S9216x2x1408_S9216x2x1x1408_0_1_3 (shapeCast S9216x2x1408 (r13 u w d) shapeCasts_S9216x2816_S9216x2x1408)) (constant S_ .f32 0x00000000#32) pads_S9216x2x1x1408_S9216x2x2x1408_000_000_100_000 h_S_
/-- The reference's gate's half put back. -/
def r21 (u : FVec Ideal S9216x5632 .f32) (w : FVec Ideal S2816x1024 .f32) (d : FVec Ideal S9216x1024 .f32) : FVec Ideal S9216x2x2x1408 .f32 := pad S9216x2x2x1408 ![0, 0, 0, 0] ![0, 0, 1, 0] ![0, 0, 0, 0] (broadcastInDim S9216x2x1x1408 ![0, 1, 3] bcast_S9216x2x1408_S9216x2x1x1408_0_1_3 (shapeCast S9216x2x1408 (r15 u w d) shapeCasts_S9216x2816_S9216x2x1408)) (constant S_ .f32 0x00000000#32) pads_S9216x2x1x1408_S9216x2x2x1408_000_000_010_000 h_S_
/-- The reference's gradient of the argument. -/
def r24 (u : FVec Ideal S9216x5632 .f32) (w : FVec Ideal S2816x1024 .f32) (d : FVec Ideal S9216x1024 .f32) : FVec Ideal S9216x5632 .bf16 := truncf .bf16 (shapeCast S9216x5632 (addf (r18 u w d) (r21 u w d)) shapeCasts_S9216x2x2x1408_S9216x5632) bitsLt_bf16_f32

theorem r3_at (u : FVec Ideal S9216x5632 .f32) (w : FVec Ideal S2816x1024 .f32) (d : FVec Ideal S9216x1024 .f32) (n : Fin 9216) (q : Fin 2816) : (r3 u w d (ix2 n q) : EReal) = gA u n q := by
  unfold r3 r0 gA
  pointwise

theorem r6_at (u : FVec Ideal S9216x5632 .f32) (w : FVec Ideal S2816x1024 .f32) (d : FVec Ideal S9216x1024 .f32) (n : Fin 9216) (q : Fin 2816) : (r6 u w d (ix2 n q) : EReal) = gG u n q := by
  unfold r6 r0 gG
  pointwise

theorem rsg_at (u : FVec Ideal S9216x5632 .f32) (w : FVec Ideal S2816x1024 .f32) (d : FVec Ideal S9216x1024 .f32) (n : Fin 9216) (q : Fin 2816) : (rsg u w d (ix2 n q) : EReal) = Ideal.logistic (gA u n q) := by
  unfold rsg rone Ideal.logistic
  pointwise
  simp only [r3_at]

theorem r12_at (u : FVec Ideal S9216x5632 .f32) (w : FVec Ideal S2816x1024 .f32) (d : FVec Ideal S9216x1024 .f32) (n : Fin 9216) (q : Fin 2816) : (r12 u w d (ix2 n q) : EReal) = dact w d n q := by
  unfold r12 dact
  pointwise

theorem r11_at (u : FVec Ideal S9216x5632 .f32) (w : FVec Ideal S2816x1024 .f32) (d : FVec Ideal S9216x1024 .f32) (q : Fin 2816) (l : Fin 1024) : (r11 u w d (ix2 q l) : EReal) = ∑ n : Fin 9216, gA u n q * Ideal.logistic (gA u n q) * gG u n q * d (ix2 n l) := by
  unfold r11 r8 rsa
  pointwise
  simp only [r3_at, r6_at, rsg_at]
  exact Finset.sum_congr rfl fun n _ => mul_comm _ _

theorem r13_at (u : FVec Ideal S9216x5632 .f32) (w : FVec Ideal S2816x1024 .f32) (d : FVec Ideal S9216x1024 .f32) (n : Fin 9216) (q : Fin 2816) : (r13 u w d (ix2 n q) : EReal) = dact w d n q * (gA u n q * Ideal.logistic (gA u n q)) := by
  unfold r13 rsa
  pointwise
  simp only [r3_at, r12_at, rsg_at]
  exact mul_comm _ _

theorem r15_at (u : FVec Ideal S9216x5632 .f32) (w : FVec Ideal S2816x1024 .f32) (d : FVec Ideal S9216x1024 .f32) (n : Fin 9216) (q : Fin 2816) (hu : ∀ i, u i = ((EReal.toReal (u i) : ℝ) : EReal)) (he : dact w d n q = (((dact w d n q).toReal : ℝ) : EReal)) :
    (r15 u w d (ix2 n q) : EReal) = dgate (gA u n q) (gG u n q) (dact w d n q) := by
  unfold r15 r14 rone
  pointwise
  simp only [r3_at, r6_at, r12_at, rsg_at]
  exact dgate_eq _ _ _ (hu _) (hu _) he

theorem r24_at (u : FVec Ideal S9216x5632 .f32) (w : FVec Ideal S2816x1024 .f32) (d : FVec Ideal S9216x1024 .f32) (n : Fin 9216) (f : Fin 5632) : (r24 u w d (ix2 n f) : EReal) = if f.val % 2816 < 1408 then (r15 u w d (ix2 n (⟨f.val / 2816 * 1408 + f.val % 1408, by omega⟩ : Fin 2816)) : EReal) else (r13 u w d (ix2 n (⟨f.val / 2816 * 1408 + f.val % 1408, by omega⟩ : Fin 2816)) : EReal) := by
  unfold r24 r18 r21
  pointwise
  have hf := f.isLt
  by_cases hk : f.val % 2816 < 1408
  · rw [if_pos hk, dif_neg (by omega), dif_pos (by omega), zero_add]
  · rw [if_neg hk, dif_pos (by omega), dif_neg (by omega), add_zero]

end Chain
end Cert.Reference4Ideal

namespace Cert.Kernel4Ideal
namespace Final
open Cert.Kernel4Ideal Idealize.ShloMosaic Idealize.ShloMosaic.TcCoe Idealize.SL.Sem Cert.Tiles
open Facts₀ Facts Cert.Kernel4Ideal.Gen

/-- A block's part of the activation's gradient. -/
def blkD (x1 : Vec Ideal S1408x1024 .bf16) (x2 : Vec Ideal S256x1024 .f32) (r : Fin 256) (a : Fin 1408) : EReal := ∑ l : Fin 1024, x2 (ix2 r l) * x1 (ix2 a l)

/-- A block's part of the gated columns' gradient. -/
def blkU (x0 : Vec Ideal S256x2816 .bf16) (x1 : Vec Ideal S1408x1024 .bf16) (x2 : Vec Ideal S256x1024 .f32) (r : Fin 256) (k : Fin 2816) : EReal :=
  if k.val < 1408 then Cert.Reference4Ideal.Chain.dgate (x0 (ix2 r (⟨k.val % 1408, by omega⟩ : Fin 2816))) (x0 (ix2 r (⟨1408 + k.val % 1408, by omega⟩ : Fin 2816))) (blkD x1 x2 r ⟨k.val % 1408, by omega⟩)
  else (blkD x1 x2 r ⟨k.val % 1408, by omega⟩) * (x0 (ix2 r (⟨k.val % 1408, by omega⟩ : Fin 2816)) * Ideal.logistic (x0 (ix2 r (⟨k.val % 1408, by omega⟩ : Fin 2816))))

/-- A block's activation. -/
def blkA (x0 : Vec Ideal S256x2816 .bf16) (r : Fin 256) (a : Fin 1408) : EReal :=
  x0 (ix2 r (⟨a.val, by omega⟩ : Fin 2816)) * Ideal.logistic (x0 (ix2 r (⟨a.val, by omega⟩ : Fin 2816))) * x0 (ix2 r (⟨1408 + a.val, by omega⟩ : Fin 2816))

theorem body3_A (c : Dev nD) (i : grid0.Coords) (arg2 : Memref sig .tc .vmem S256x2816 .bf16) (harg2 : arg2.IsWhole) (arg3 : Memref sig .tc .vmem S1408x1024 .bf16) (harg3 : arg3.IsWhole) (arg4 : Memref sig .tc .vmem S256x1024 .f32) (harg4 : arg4.IsWhole) (arg5 : Memref sig .tc .vmem S256x2816 .bf16) (harg5 : arg5.IsWhole) (arg6 : Memref sig .tc .vmem S1408x1024 .f32) (harg6 : arg6.IsWhole) (hc0 : cond0_0 i) (x0 : Vec Ideal S256x2816 .bf16) (x1 : Vec Ideal S1408x1024 .bf16) (x2 : Vec Ideal S256x1024 .f32) (r : Fin 256) (k : Fin 2816) :
    out0_A_3 (F := Ideal) c i arg2 harg2 arg3 harg3 arg4 harg4 arg5 harg5 arg6 harg6 hc0 x0 x1 x2 (ix2 r k) = blkU x0 x1 x2 r k := by
  frame_out
  unfold blkU blkD
  unfold_payloads
  pointwise
  by_cases hk : k.val < 1408
  · rw [if_pos hk]
    rw [Cert.KernelIdeal.Body.canon_miss _ _ _ r k (Or.inr (Or.inr (Or.inl hk)))]
    rw [Cert.KernelIdeal.Body.canon_hit _ _ _ r k r (⟨k.val % 1408, by omega⟩ : Fin 1408) (by omega) (by show k.val = 0 + k.val % 1408; omega)]
    unfold Cert.Reference4Ideal.Chain.dgate
    pointwise
  · rw [if_neg hk]
    rw [Cert.KernelIdeal.Body.canon_hit _ _ _ r k r (⟨k.val % 1408, by omega⟩ : Fin 1408) (by omega) (by show k.val = 1408 + k.val % 1408; omega)]
    pointwise

theorem body3_B (c : Dev nD) (i : grid0.Coords) (arg2 : Memref sig .tc .vmem S256x2816 .bf16) (harg2 : arg2.IsWhole) (arg3 : Memref sig .tc .vmem S1408x1024 .bf16) (harg3 : arg3.IsWhole) (arg4 : Memref sig .tc .vmem S256x1024 .f32) (harg4 : arg4.IsWhole) (arg5 : Memref sig .tc .vmem S256x2816 .bf16) (harg5 : arg5.IsWhole) (arg6 : Memref sig .tc .vmem S1408x1024 .f32) (harg6 : arg6.IsWhole) (hc0 : ¬cond0_0 i) (x0 : Vec Ideal S256x2816 .bf16) (x1 : Vec Ideal S1408x1024 .bf16) (x2 : Vec Ideal S256x1024 .f32) (acc : Vec Ideal S1408x1024 .f32) (r : Fin 256) (k : Fin 2816) :
    out0_B_3 (F := Ideal) c i arg2 harg2 arg3 harg3 arg4 harg4 arg5 harg5 arg6 harg6 hc0 x0 x1 x2 acc (ix2 r k) = blkU x0 x1 x2 r k := by
  frame_out
  unfold blkU blkD
  unfold_payloads
  pointwise
  by_cases hk : k.val < 1408
  · rw [if_pos hk]
    rw [Cert.KernelIdeal.Body.canon_miss _ _ _ r k (Or.inr (Or.inr (Or.inl hk)))]
    rw [Cert.KernelIdeal.Body.canon_hit _ _ _ r k r (⟨k.val % 1408, by omega⟩ : Fin 1408) (by omega) (by show k.val = 0 + k.val % 1408; omega)]
    unfold Cert.Reference4Ideal.Chain.dgate
    pointwise
  · rw [if_neg hk]
    rw [Cert.KernelIdeal.Body.canon_hit _ _ _ r k r (⟨k.val % 1408, by omega⟩ : Fin 1408) (by omega) (by show k.val = 1408 + k.val % 1408; omega)]
    pointwise

theorem body4_A (c : Dev nD) (i : grid0.Coords) (arg2 : Memref sig .tc .vmem S256x2816 .bf16) (harg2 : arg2.IsWhole) (arg3 : Memref sig .tc .vmem S1408x1024 .bf16) (harg3 : arg3.IsWhole) (arg4 : Memref sig .tc .vmem S256x1024 .f32) (harg4 : arg4.IsWhole) (arg5 : Memref sig .tc .vmem S256x2816 .bf16) (harg5 : arg5.IsWhole) (arg6 : Memref sig .tc .vmem S1408x1024 .f32) (harg6 : arg6.IsWhole) (hc0 : cond0_0 i) (x0 : Vec Ideal S256x2816 .bf16) (x1 : Vec Ideal S1408x1024 .bf16) (x2 : Vec Ideal S256x1024 .f32) (a : Fin 1408) (l : Fin 1024) :
    out0_A_4 (F := Ideal) c i arg2 harg2 arg3 harg3 arg4 harg4 arg5 harg5 arg6 harg6 hc0 x0 x1 x2 (ix2 a l) = 0 + ∑ r : Fin 256, blkA x0 r a * x2 (ix2 r l) := by
  frame_open
  simp (disch := decide) only [↓ View.readCov_skip, ↓ View.readCov_cons_toLoadRect, ↓ View.readCov_fill]
  frame_out
  unfold blkA
  unfold_payloads
  pointwise

theorem body4_B (c : Dev nD) (i : grid0.Coords) (arg2 : Memref sig .tc .vmem S256x2816 .bf16) (harg2 : arg2.IsWhole) (arg3 : Memref sig .tc .vmem S1408x1024 .bf16) (harg3 : arg3.IsWhole) (arg4 : Memref sig .tc .vmem S256x1024 .f32) (harg4 : arg4.IsWhole) (arg5 : Memref sig .tc .vmem S256x2816 .bf16) (harg5 : arg5.IsWhole) (arg6 : Memref sig .tc .vmem S1408x1024 .f32) (harg6 : arg6.IsWhole) (hc0 : ¬cond0_0 i) (x0 : Vec Ideal S256x2816 .bf16) (x1 : Vec Ideal S1408x1024 .bf16) (x2 : Vec Ideal S256x1024 .f32) (acc : Vec Ideal S1408x1024 .f32) (a : Fin 1408) (l : Fin 1024) :
    out0_B_4 (F := Ideal) c i arg2 harg2 arg3 harg3 arg4 harg4 arg5 harg5 arg6 harg6 hc0 x0 x1 x2 acc (ix2 a l) = acc (ix2 a l) + ∑ r : Fin 256, blkA x0 r a * x2 (ix2 r l) := by
  frame_out
  unfold blkA
  unfold_payloads
  pointwise

/-- Which block each window reads or writes at a point. -/
theorem idx : ∀ t : Fin cfg0.N,
    win0_0.index t = ![t.val % 36, t.val / 36] ∧ win0_1.index t = ![t.val / 36, 0] ∧ win0_2.index t = ![t.val % 36, 0]
      ∧ win0_3.index t = ![t.val % 36, t.val / 36] ∧ win0_4.index t = ![t.val / 36, 0] :=
  (by decide +kernel : ∀ t : Fin grid0.N, _)

/-- The arguments of the program on a device. -/
abbrev au (m : (ℓ : Loc nD τ sig) → Buf (Elt Ideal) ℓ) (c : Dev nD) : FVec Ideal S9216x5632 .f32 := m ((c : Thread nD τ).loc main_arg0)
abbrev aw (m : (ℓ : Loc nD τ sig) → Buf (Elt Ideal) ℓ) (c : Dev nD) : FVec Ideal S2816x1024 .f32 := m ((c : Thread nD τ).loc main_arg1)
abbrev af (m : (ℓ : Loc nD τ sig) → Buf (Elt Ideal) ℓ) (c : Dev nD) : FVec Ideal S9216x1024 .f32 := m ((c : Thread nD τ).loc main_arg2)

variable (m : (ℓ : Loc nD τ sig) → Buf (Elt Ideal) ℓ) (c : Dev nD)

theorem ltN (t : Fin cfg0.N) : t.val < 72 := lt_of_lt_of_eq t.isLt N_0

/-- The saved values' block at a point, entry by entry. -/
theorem blk0 (t : Fin cfg0.N) (r : Fin 256) (a : Fin 2816) :
    ((iblk (F := Ideal) m c 0 t : FVec Ideal S256x2816 .bf16) (ix2 r a) : EReal) = au m c (ix2 (⟨t.val % 36 * 256 + r.val, by omega⟩ : Fin 9216) (⟨(t.val / 36 * 2816 + a.val) % 5632, by omega⟩ : Fin 5632)) := by
  have ht := ltN t
  have ha := a.isLt
  have e : (win0_0.blk t).view.emb (ix2 r a) = ix2 (⟨t.val % 36 * 256 + r.val, by omega⟩ : Fin 9216) (⟨(t.val / 36 * 2816 + a.val) % 5632, by omega⟩ : Fin 5632) := by
    rw [show (⟨(t.val / 36 * 2816 + a.val) % 5632, by omega⟩ : Fin 5632) = ⟨t.val / 36 * 2816 + a.val, by omega⟩ from Fin.ext (Nat.mod_eq_of_lt (by omega))]
    blk_ext [idx t]
  blk_simp [iblk, idx t]
  rw [e]
  entry_read
  pointwise

/-- The weight's block at a point, entry by entry. -/
theorem blk1 (t : Fin cfg0.N) (a : Fin 1408) (l : Fin 1024) :
    ((iblk (F := Ideal) m c 1 t : FVec Ideal S1408x1024 .bf16) (ix2 a l) : EReal) = aw m c (ix2 (⟨(t.val / 36 * 1408 + a.val) % 2816, by omega⟩ : Fin 2816) l) := by
  have ht := ltN t
  have ha := a.isLt
  have e : (win0_1.blk t).view.emb (ix2 a l) = ix2 (⟨(t.val / 36 * 1408 + a.val) % 2816, by omega⟩ : Fin 2816) l := by
    rw [show (⟨(t.val / 36 * 1408 + a.val) % 2816, by omega⟩ : Fin 2816) = ⟨t.val / 36 * 1408 + a.val, by omega⟩ from Fin.ext (Nat.mod_eq_of_lt (by omega))]
    blk_ext [idx t]
  blk_simp [iblk, idx t]
  rw [e]
  entry_read
  pointwise

/-- The gradient's block at a point, entry by entry. -/
theorem blk2 (t : Fin cfg0.N) (r : Fin 256) (l : Fin 1024) :
    ((iblk (F := Ideal) m c 2 t : FVec Ideal S256x1024 .f32) (ix2 r l) : EReal) = af m c (ix2 (⟨t.val % 36 * 256 + r.val, by omega⟩ : Fin 9216) l) := by
  have e : (win0_2.blk t).view.emb (ix2 r l) = ix2 (⟨t.val % 36 * 256 + r.val, by omega⟩ : Fin 9216) l := by
    blk_ext [idx t]
  blk_simp [iblk, idx t]
  rw [e]
  entry_read
  rfl

/-- The gate's entries of a block are the reference's. -/
theorem gate_blk (t : Fin cfg0.N) (r : Fin 256) (a : ℕ) (ha : a < 1408) :
    ((iblk (F := Ideal) m c 0 t : FVec Ideal S256x2816 .bf16) (ix2 r (⟨a, by omega⟩ : Fin 2816)) : EReal)
      = Cert.Reference4Ideal.Chain.gA (au m c) ⟨t.val % 36 * 256 + r.val, by omega⟩ ⟨(t.val / 36 * 1408 + a) % 2816, by omega⟩ := by
  have ht := ltN t
  rw [blk0]
  unfold Cert.Reference4Ideal.Chain.gA
  refine congrArg (fun z : Fin 5632 => au m c (ix2 (⟨t.val % 36 * 256 + r.val, by omega⟩ : Fin 9216) z)) (Fin.ext ?_)
  show (t.val / 36 * 2816 + a) % 5632 = (t.val / 36 * 1408 + a) % 2816 / 1408 * 2816 + (t.val / 36 * 1408 + a) % 2816 % 1408
  omega

/-- The value's entries of a block are the reference's. -/
theorem value_blk (t : Fin cfg0.N) (r : Fin 256) (a : ℕ) (ha : a < 1408) :
    ((iblk (F := Ideal) m c 0 t : FVec Ideal S256x2816 .bf16) (ix2 r (⟨1408 + a, by omega⟩ : Fin 2816)) : EReal)
      = Cert.Reference4Ideal.Chain.gG (au m c) ⟨t.val % 36 * 256 + r.val, by omega⟩ ⟨(t.val / 36 * 1408 + a) % 2816, by omega⟩ := by
  have ht := ltN t
  rw [blk0]
  unfold Cert.Reference4Ideal.Chain.gG
  refine congrArg (fun z : Fin 5632 => au m c (ix2 (⟨t.val % 36 * 256 + r.val, by omega⟩ : Fin 9216) z)) (Fin.ext ?_)
  show (t.val / 36 * 2816 + (1408 + a)) % 5632 = (t.val / 36 * 1408 + a) % 2816 / 1408 * 2816 + 1408 + (t.val / 36 * 1408 + a) % 2816 % 1408
  omega

/-- The activation's gradient of a block is the reference's. -/
theorem dact_blk (t : Fin cfg0.N) (r : Fin 256) (a : ℕ) (ha : a < 1408) :
    blkD (iblk (F := Ideal) m c 1 t) (iblk (F := Ideal) m c 2 t) r ⟨a, ha⟩
      = Cert.Reference4Ideal.Chain.dact (aw m c) (af m c) ⟨t.val % 36 * 256 + r.val, by omega⟩ ⟨(t.val / 36 * 1408 + a) % 2816, by omega⟩ := by
  unfold blkD Cert.Reference4Ideal.Chain.dact
  refine Finset.sum_congr rfl fun l _ => ?_
  rw [blk1, blk2]

/-- The block of the gated columns' gradient a point leaves. -/
theorem out3 (t : Fin cfg0.N) (r : Fin 256) (k : Fin 2816) :
    (outsAt0 (F := Ideal) m c t.val t.isLt).1 (ix2 r k) = blkU (iblk m c 0 t) (iblk m c 1 t) (iblk m c 2 t) r k := by
  by_cases h0 : t.val % 36 = 0
  · have e := congrFun (congrArg (fun p => p.1) (outsAt0_A (F := Ideal) m c t h0)) (ix2 r k)
    dsimp only at e
    exact e.trans (body3_A c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) r k)
  · have e := congrFun (congrArg (fun p => p.1) (outsAt0_B (F := Ideal) m c t h0)) (ix2 r k)
    dsimp only at e
    exact e.trans (body3_B c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) _ r k)

/-- What point `n` adds to the weight's gradient. -/
def add (n : ℕ) (i : S1408x1024.Idx) : EReal :=
  ∑ r : Fin 256, Cert.Reference4Ideal.Chain.gA (au m c) ⟨n % 36 * 256 + r.val, by omega⟩ ⟨(n / 36 * 1408 + (i 0).val) % 2816, by omega⟩
      * Ideal.logistic (Cert.Reference4Ideal.Chain.gA (au m c) ⟨n % 36 * 256 + r.val, by omega⟩ ⟨(n / 36 * 1408 + (i 0).val) % 2816, by omega⟩)
      * Cert.Reference4Ideal.Chain.gG (au m c) ⟨n % 36 * 256 + r.val, by omega⟩ ⟨(n / 36 * 1408 + (i 0).val) % 2816, by omega⟩
    * af m c (ix2 (⟨n % 36 * 256 + r.val, by omega⟩ : Fin 9216) (i 1))

/-- A block's part of the weight's gradient is the point's. -/
theorem add_blk (t : Fin cfg0.N) (a : Fin 1408) (l : Fin 1024) :
    (∑ r : Fin 256, blkA (iblk (F := Ideal) m c 0 t) r a * (iblk (F := Ideal) m c 2 t : FVec Ideal S256x1024 .f32) (ix2 r l) : EReal) = add m c t.val (ix2 a l) := by
  unfold add blkA
  refine Finset.sum_congr rfl fun r _ => ?_
  rw [gate_blk m c t r a.val a.isLt, value_blk m c t r a.val a.isLt, blk2]
  rfl

/-- The block of the weight's gradient after the last tile. -/
theorem out4 (t : Fin cfg0.N) (h : t.val % 36 = 35) (i : S1408x1024.Idx) :
    (outsAt0 (F := Ideal) m c t.val t.isLt).2 i = 0 + ∑ s ∈ Finset.range 36, add m c (36 * (t.val / 36) + s) i := by
  refine Pipeline.eq_sum_of_reset_step_apply_of_mod (M := EReal) (ι := S1408x1024.Idx) (fun n h => (outsAt0 (F := Ideal) m c n h).2) 36 (fun _ => 0) (add m c) ?_ ?_ t h i
  · intro t h0 i
    obtain ⟨a, l, rfl⟩ : ∃ (a : Fin 1408) (l : Fin 1024), i = ix2 a l := ⟨i 0, i 1, by funext x; fin_cases x <;> rfl⟩
    have e := congrFun (congrArg (fun p => p.2) (outsAt0_A (F := Ideal) m c t h0)) (ix2 a l)
    dsimp only at e
    refine (e.trans (body4_A c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) a l)).trans ?_
    exact congrArg (fun z : EReal => 0 + z) (add_blk m c t a l)
  · intro t h0 i
    obtain ⟨a, l, rfl⟩ : ∃ (a : Fin 1408) (l : Fin 1024), i = ix2 a l := ⟨i 0, i 1, by funext x; fin_cases x <;> rfl⟩
    have e := congrFun (congrArg (fun p => p.2) (outsAt0_B (F := Ideal) m c t h0)) (ix2 a l)
    dsimp only at e
    refine (e.trans (body4_B c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) _ a l)).trans ?_
    exact congrArg (fun z : EReal => (outsAt0 (F := Ideal) m c (t.val - 1) (Nat.lt_of_le_of_lt (Nat.sub_le _ _) t.isLt)).2 (ix2 a l) + z) (add_blk m c t a l)

/-- The call's gradient of the weight is the reference's. -/
theorem res4 : (dats (F := Ideal) m 0 c).arrAt 4 cfg0.N = Cert.Reference4Ideal.Chain.r11 (au m c) (aw m c) (af m c) := by
  refine (dats m 0 c).arrAt_eq_of_covers 4 _ (by decide +kernel) fun t hf y => ?_
  blk_simp
  rw [after0_4]
  have h35 : t.val % 36 = 35 := (flush0_4 t).mp hf
  have ht := ltN t
  obtain ⟨a, l, rfl⟩ : ∃ (a : Fin 1408) (l : Fin 1024), y = ix2 a l := ⟨y 0, y 1, by funext x; fin_cases x <;> rfl⟩
  have ha := a.isLt
  have e : (win0_4.blk t).view.emb (ix2 a l) = ix2 (⟨t.val / 36 * 1408 + a.val, by omega⟩ : Fin 2816) l := by
    blk_ext [idx t]
  refine (out4 m c t h35 (ix2 a l)).trans ?_
  refine Eq.trans ?_ (congrArg (Cert.Reference4Ideal.Chain.r11 (au m c) (aw m c) (af m c)) e).symm
  rw [Cert.Reference4Ideal.Chain.r11_at, zero_add, ← sum_tiles]
  refine Finset.sum_congr rfl fun s hs => ?_
  have hs36 : s < 36 := Finset.mem_range.mp hs
  unfold add
  refine Finset.sum_congr rfl fun r _ => ?_
  have e1 : (⟨(36 * (t.val / 36) + s) % 36 * 256 + r.val, by omega⟩ : Fin 9216) = ⟨s % 36 * 256 + r.val, by omega⟩ :=
    Fin.ext (by show (36 * (t.val / 36) + s) % 36 * 256 + r.val = s % 36 * 256 + r.val; omega)
  have e2 : (⟨((36 * (t.val / 36) + s) / 36 * 1408 + a.val) % 2816, by omega⟩ : Fin 2816) = ⟨t.val / 36 * 1408 + a.val, by omega⟩ :=
    Fin.ext (by show ((36 * (t.val / 36) + s) / 36 * 1408 + a.val) % 2816 = t.val / 36 * 1408 + a.val; omega)
  rw [e1]
  exact congrArg (fun z : Fin 2816 => Cert.Reference4Ideal.Chain.gA (au m c) ⟨s % 36 * 256 + r.val, by omega⟩ z * Ideal.logistic (Cert.Reference4Ideal.Chain.gA (au m c) ⟨s % 36 * 256 + r.val, by omega⟩ z)
    * Cert.Reference4Ideal.Chain.gG (au m c) ⟨s % 36 * 256 + r.val, by omega⟩ z * af m c (ix2 (⟨s % 36 * 256 + r.val, by omega⟩ : Fin 9216) l)) e2

/-- The call's gradient of the saved values is the reference's, at arguments without infinities. -/
theorem res3 (hu : ∀ i, au m c i = ((EReal.toReal (au m c i) : ℝ) : EReal)) (hd : ∀ n q, Cert.Reference4Ideal.Chain.dact (aw m c) (af m c) n q = (((Cert.Reference4Ideal.Chain.dact (aw m c) (af m c) n q).toReal : ℝ) : EReal)) :
    (dats (F := Ideal) m 0 c).arrAt 3 cfg0.N = Cert.Reference4Ideal.Chain.r24 (au m c) (aw m c) (af m c) := by
  refine (dats m 0 c).arrAt_eq_of_covers 3 _ (by decide +kernel) fun t hf y => ?_
  blk_simp
  rw [after0_3]
  have ht := ltN t
  obtain ⟨r, k, rfl⟩ : ∃ (r : Fin 256) (k : Fin 2816), y = ix2 r k := ⟨y 0, y 1, by funext x; fin_cases x <;> rfl⟩
  have hk := k.isLt
  have e : (win0_3.blk t).view.emb (ix2 r k) = ix2 (⟨t.val % 36 * 256 + r.val, by omega⟩ : Fin 9216) (⟨t.val / 36 * 2816 + k.val, by omega⟩ : Fin 5632) := by
    blk_ext [idx t]
  refine (out3 m c t r k).trans ?_
  refine Eq.trans ?_ (congrArg (Cert.Reference4Ideal.Chain.r24 (au m c) (aw m c) (af m c)) e).symm
  rw [Cert.Reference4Ideal.Chain.r24_at]
  unfold blkU
  rw [gate_blk m c t r _ (by omega), value_blk m c t r _ (by omega), dact_blk m c t r _ (by omega)]
  have e2 : (⟨(t.val / 36 * 2816 + k.val) / 2816 * 1408 + (t.val / 36 * 2816 + k.val) % 1408, by omega⟩ : Fin 2816) = ⟨(t.val / 36 * 1408 + k.val % 1408) % 2816, by omega⟩ :=
    Fin.ext (by show (t.val / 36 * 2816 + k.val) / 2816 * 1408 + (t.val / 36 * 2816 + k.val) % 1408 = (t.val / 36 * 1408 + k.val % 1408) % 2816; omega)
  dsimp only
  rw [e2, Cert.Reference4Ideal.Chain.r13_at, Cert.Reference4Ideal.Chain.r15_at _ _ _ _ _ hu (hd _ _)]
  rw [show (t.val / 36 * 2816 + k.val) % 2816 = k.val by omega]

end Final
end Cert.Kernel4Ideal

namespace Cert.Value4
open Idealize.ShloMosaic Idealize.SL.Sem

/-- The shape relations of the precondition. -/
theorem facts : Cert.Pre_finite4.Facts := ⟨by decide, by decide, by decide⟩

/-- A finite sum of products of reals is a real. -/
theorem real_sum (f g : Fin 1024 → EReal) (hf : ∀ l, f l = ((EReal.toReal (f l) : ℝ) : EReal)) (hg : ∀ l, g l = ((EReal.toReal (g l) : ℝ) : EReal)) :
    ∑ l, f l * g l = ((EReal.toReal (∑ l, f l * g l) : ℝ) : EReal) := by
  have e : ∑ l, f l * g l = ((∑ l, (f l).toReal * (g l).toReal : ℝ) : EReal) := by
    rw [← Cert.Attn.coe_sum]
    refine Finset.sum_congr rfl fun l _ => ?_
    rw [EReal.coe_mul, ← hf l, ← hg l]
  rw [e, EReal.toReal_coe]

/-- On arguments without infinities the kernel and the reference end with the same two gradients. -/
theorem value : Cert.algebraic_Kernel4Ideal_Reference4Ideal_pre_finite4 (hKernel4Ideal := Cert.Kernel4Ideal.Gen.facts) (hReference4Ideal := Cert.Reference4Ideal.Gen.facts) (hPre_finite4 := facts) := by
  intro m g m' g' hpre hag
  have fin := fun c => hpre c
  have hu : ∀ c, ∀ i, Cert.Kernel4Ideal.Final.au m c i = ((EReal.toReal (Cert.Kernel4Ideal.Final.au m c i) : ℝ) : EReal) := by
    intro c i
    rw [show i = ix2 (i 0) (i 1) by funext x; fin_cases x <;> rfl]
    exact Cert.Pre.entry _ _ (fin c).1 (i 0) (i 1)
  have hd : ∀ c n q, Cert.Reference4Ideal.Chain.dact (Cert.Kernel4Ideal.Final.aw m c) (Cert.Kernel4Ideal.Final.af m c) n q = ((EReal.toReal (Cert.Reference4Ideal.Chain.dact (Cert.Kernel4Ideal.Final.aw m c) (Cert.Kernel4Ideal.Final.af m c) n q) : ℝ) : EReal) :=
    fun c n q => real_sum _ _ (fun l => Cert.Pre.entry _ _ (fin c).2.2 n l) (fun l => Cert.Pre.entry _ _ (fin c).2.1 q l)
  refine ⟨fun c => (Cert.Kernel4Ideal.Gen.dats m 0 c).arrAt 3 Cert.Kernel4Ideal.cfg0.N, fun c => (Cert.Kernel4Ideal.Gen.dats m 0 c).arrAt 4 Cert.Kernel4Ideal.cfg0.N, Cert.Kernel4Ideal.Value.run_blocks (F := Ideal) m g,
    (θ_run Cert.Reference4Ideal.defs _ _).mono (fun r h c => ?_) (Cert.Reference4Ideal.Value.run (F := Ideal) m' g')⟩
  obtain ⟨a, b, rest⟩ := h c
  obtain ⟨g0, g1, g2⟩ := hag c
  refine ⟨?_, ?_, rest⟩
  · refine a.trans (Eq.trans ?_ (Cert.Kernel4Ideal.Final.res3 m c (hu c) (hd c)).symm)
    unfold Cert.Reference4Ideal.Value.res_main_v24
    rw [g0, g1, g2]
    rfl
  · refine b.trans (Eq.trans ?_ (Cert.Kernel4Ideal.Final.res4 m c).symm)
    rw [g0, g2]
    rfl

end Cert.Value4
end
-- ==== Proof.M5.lean ====
/- The gradient of the input projection weight (`proj_dw`): the call adds up over the tiles of rows what the reference adds up over all rows. -/
module

public import proofs.«01_k».proof.Defs
public import proofs.«01_k».proof.Proof.Gen.Kernel5Ideal.Value
public import proofs.«01_k».proof.Proof.Gen.Reference5Ideal.Run
public import proofs.«01_k».proof.Proof.Tiles

@[expose] public section

set_option maxRecDepth 16384

noncomputable section

namespace Cert.Reference5Ideal
namespace Chain
open Cert.Reference5Ideal Idealize.ShloMosaic Idealize.ShloMosaic.TcCoe Idealize.SL.Sem Cert.Tiles
open Cert.Reference5Ideal.Gen

/-- The reference's `reshape` number 1, as a function of the arguments. -/
def rv1 (du : FVec Ideal S9216x2048 .f32) (x : FVec Ideal S9216x1024 .f32) (md : FVec Ideal S36x8x1024 .f32) : FVec Ideal S36x256x1024 .f32 := shapeCast S36x256x1024 x shapeCasts_S9216x1024_S36x256x1024
/-- The reference's `slice` number 2, as a function of the arguments. -/
def rv2 (du : FVec Ideal S9216x2048 .f32) (x : FVec Ideal S9216x1024 .f32) (md : FVec Ideal S36x8x1024 .f32) : FVec Ideal S36x1x1024 .f32 := ((extractStridedSlice S36x1x1024 ![0, 1, 0] · slices_S36x8x1024_S36x1x1024_0_1_0)) md
/-- The reference's `reshape` number 3, as a function of the arguments. -/
def rv3 (du : FVec Ideal S9216x2048 .f32) (x : FVec Ideal S9216x1024 .f32) (md : FVec Ideal S36x8x1024 .f32) : FVec Ideal S36x1024 .f32 := shapeCast S36x1024 (rv2 du x md) shapeCasts_S36x1x1024_S36x1024
/-- The reference's `broadcast_in_dim` number 4, as a function of the arguments. -/
def rv4 (du : FVec Ideal S9216x2048 .f32) (x : FVec Ideal S9216x1024 .f32) (md : FVec Ideal S36x8x1024 .f32) : FVec Ideal S36x1x1024 .f32 := (broadcastInDim S36x1x1024 ![0, 2] bcast_S36x1024_S36x1x1024_0_2) (rv3 du x md)
/-- The reference's `constant` number cst_0, as a function of the arguments. -/
def rcst_0 (du : FVec Ideal S9216x2048 .f32) (x : FVec Ideal S9216x1024 .f32) (md : FVec Ideal S36x8x1024 .f32) : FVec Ideal S_ .f32 := (constant S_ .f32 0x3F800000#32)
/-- The reference's `broadcast_in_dim` number 5, as a function of the arguments. -/
def rv5 (du : FVec Ideal S9216x2048 .f32) (x : FVec Ideal S9216x1024 .f32) (md : FVec Ideal S36x8x1024 .f32) : FVec Ideal S36x1x1024 .f32 := (broadcastInDim S36x1x1024 ![] bcast_S_S36x1x1024) (rcst_0 du x md)
/-- The reference's `add` number 6, as a function of the arguments. -/
def rv6 (du : FVec Ideal S9216x2048 .f32) (x : FVec Ideal S9216x1024 .f32) (md : FVec Ideal S36x8x1024 .f32) : FVec Ideal S36x1x1024 .f32 := (addf) (rv5 du x md) (rv4 du x md)
/-- The reference's `broadcast_in_dim` number 7, as a function of the arguments. -/
def rv7 (du : FVec Ideal S9216x2048 .f32) (x : FVec Ideal S9216x1024 .f32) (md : FVec Ideal S36x8x1024 .f32) : FVec Ideal S36x256x1024 .f32 := (broadcastInDim S36x256x1024 ![0, 1, 2] bcast_S36x1x1024_S36x256x1024_0_1_2) (rv6 du x md)
/-- The reference's `multiply` number 8, as a function of the arguments. -/
def rv8 (du : FVec Ideal S9216x2048 .f32) (x : FVec Ideal S9216x1024 .f32) (md : FVec Ideal S36x8x1024 .f32) : FVec Ideal S36x256x1024 .f32 := (mulf) (rv1 du x md) (rv7 du x md)
/-- The reference's `slice` number 9, as a function of the arguments. -/
def rv9 (du : FVec Ideal S9216x2048 .f32) (x : FVec Ideal S9216x1024 .f32) (md : FVec Ideal S36x8x1024 .f32) : FVec Ideal S36x1x1024 .f32 := ((extractStridedSlice S36x1x1024 ![0, 0, 0] · slices_S36x8x1024_S36x1x1024_0_0_0)) md
/-- The reference's `reshape` number 10, as a function of the arguments. -/
def rv10 (du : FVec Ideal S9216x2048 .f32) (x : FVec Ideal S9216x1024 .f32) (md : FVec Ideal S36x8x1024 .f32) : FVec Ideal S36x1024 .f32 := shapeCast S36x1024 (rv9 du x md) shapeCasts_S36x1x1024_S36x1024
/-- The reference's `broadcast_in_dim` number 11, as a function of the arguments. -/
def rv11 (du : FVec Ideal S9216x2048 .f32) (x : FVec Ideal S9216x1024 .f32) (md : FVec Ideal S36x8x1024 .f32) : FVec Ideal S36x1x1024 .f32 := (broadcastInDim S36x1x1024 ![0, 2] bcast_S36x1024_S36x1x1024_0_2) (rv10 du x md)
/-- The reference's `broadcast_in_dim` number 12, as a function of the arguments. -/
def rv12 (du : FVec Ideal S9216x2048 .f32) (x : FVec Ideal S9216x1024 .f32) (md : FVec Ideal S36x8x1024 .f32) : FVec Ideal S36x256x1024 .f32 := (broadcastInDim S36x256x1024 ![0, 1, 2] bcast_S36x1x1024_S36x256x1024_0_1_2) (rv11 du x md)
/-- The reference's `add` number 13, as a function of the arguments. -/
def rv13 (du : FVec Ideal S9216x2048 .f32) (x : FVec Ideal S9216x1024 .f32) (md : FVec Ideal S36x8x1024 .f32) : FVec Ideal S36x256x1024 .f32 := (addf) (rv8 du x md) (rv12 du x md)
/-- The reference's `reshape` number 14, as a function of the arguments. -/
def rv14 (du : FVec Ideal S9216x2048 .f32) (x : FVec Ideal S9216x1024 .f32) (md : FVec Ideal S36x8x1024 .f32) : FVec Ideal S9216x1024 .f32 := shapeCast S9216x1024 (rv13 du x md) shapeCasts_S36x256x1024_S9216x1024
/-- The reference's `dot_general` number 16, as a function of the arguments. -/
def rv16 (du : FVec Ideal S9216x2048 .f32) (x : FVec Ideal S9216x1024 .f32) (md : FVec Ideal S36x8x1024 .f32) : FVec Ideal S2048x1024 .f32 := ((fun l r => Host.dotGeneral dot_S9216x2048_S9216x1024_S2048x1024_0_0_1_1_n_n none l r)) du (rv14 du x md)

/-- The modulated rows of the reference, entry by entry. -/
theorem rv14_at (du : FVec Ideal S9216x2048 .f32) (x : FVec Ideal S9216x1024 .f32) (md : FVec Ideal S36x8x1024 .f32) (n : Fin 9216) (l : Fin 1024) : (rv14 du x md (ix2 n l) : EReal) = hmod x md 1 0 n l := by
  unfold rv14 rv13 rv12 rv11 rv10 rv9 rv8 rv7 rv6 rv5 rcst_0 rv4 rv3 rv2 rv1 hmod
  pointwise

/-- The reference's result, entry by entry. -/
theorem rv16_at (du : FVec Ideal S9216x2048 .f32) (x : FVec Ideal S9216x1024 .f32) (md : FVec Ideal S36x8x1024 .f32) (f : Fin 2048) (l : Fin 1024) : (rv16 du x md (ix2 f l) : EReal) = outer du x md 1 0 f l := by
  unfold rv16 outer
  pointwise
  simp only [rv14_at]

end Chain
end Cert.Reference5Ideal

namespace Cert.Kernel5Ideal
namespace Final
open Cert.Kernel5Ideal Idealize.ShloMosaic Idealize.ShloMosaic.TcCoe Idealize.SL.Sem Cert.Tiles
open Facts₀ Facts Cert.Kernel5Ideal.Gen Cert.Kernel5Ideal.Value

/-- Which block each window reads or writes at a point. -/
theorem idx : ∀ t : Fin cfg0.N,
    win0_0.index t = ![t.val % 36, t.val / 36] ∧ win0_1.index t = ![t.val % 36, 0] ∧ win0_2.index t = ![t.val % 36, 0, 0] :=
  (by decide +kernel : ∀ t : Fin grid0.N, _)

/-- The arguments of the program on a device. -/
abbrev ad (m : (ℓ : Loc nD τ sig) → Buf (Elt Ideal) ℓ) (c : Dev nD) : FVec Ideal S9216x2048 .f32 := m ((c : Thread nD τ).loc main_arg0)
abbrev ax (m : (ℓ : Loc nD τ sig) → Buf (Elt Ideal) ℓ) (c : Dev nD) : FVec Ideal S9216x1024 .f32 := m ((c : Thread nD τ).loc main_arg1)
abbrev am (m : (ℓ : Loc nD τ sig) → Buf (Elt Ideal) ℓ) (c : Dev nD) : FVec Ideal S36x8x1024 .f32 := m ((c : Thread nD τ).loc main_arg2)

/-- What one point adds to a block of the result. -/
theorem body (x2 : Vec Ideal S1x8x1024 .f32) (x1 : Vec Ideal S256x1024 .f32) (acc : Vec Ideal S2048x1024 .f32) (x0 : Vec Ideal S256x2048 .bf16) (a : Fin 2048) (l : Fin 1024) :
    k0_pay2 (F := Ideal) x2 x1 acc x0 (ix2 a l) = acc (ix2 a l) + ∑ r : Fin 256, x0 (ix2 r a) * (x1 (ix2 r l) * (1 + x2 (ix3 (0 : Fin 1) (1 : Fin 8) l)) + x2 (ix3 (0 : Fin 1) (0 : Fin 8) l)) := by
  unfold_payloads
  pointwise

/-- A block starts at zero. -/
theorem zero (a : Fin 2048) (l : Fin 1024) : k0_pay1 (F := Ideal) (ix2 a l) = (0 : EReal) := by
  unfold_payloads
  pointwise

variable (m : (ℓ : Loc nD τ sig) → Buf (Elt Ideal) ℓ) (c : Dev nD)

theorem ltN (t : Fin cfg0.N) : t.val < 36 := lt_of_lt_of_eq t.isLt N_0

/-- The gradient's block at a point, entry by entry. -/
theorem blk0 (t : Fin cfg0.N) (r : Fin 256) (a : Fin 2048) :
    ((iblk (F := Ideal) m c 0 t : FVec Ideal S256x2048 .bf16) (ix2 r a) : EReal) = ad m c (ix2 (⟨t.val % 36 * 256 + r.val, by omega⟩ : Fin 9216) (⟨(t.val / 36 * 2048 + a.val) % 2048, by omega⟩ : Fin 2048)) := by
  have ht := ltN t
  have ha := a.isLt
  have e : (win0_0.blk t).view.emb (ix2 r a) = ix2 (⟨t.val % 36 * 256 + r.val, by omega⟩ : Fin 9216) (⟨(t.val / 36 * 2048 + a.val) % 2048, by omega⟩ : Fin 2048) := by
    rw [show (⟨(t.val / 36 * 2048 + a.val) % 2048, by omega⟩ : Fin 2048) = ⟨t.val / 36 * 2048 + a.val, by omega⟩ from Fin.ext (Nat.mod_eq_of_lt (by omega))]
    blk_ext [idx t]
  blk_simp [iblk, idx t]
  rw [e]
  entry_read
  pointwise

/-- The rows' block at a point, entry by entry. -/
theorem blk1 (t : Fin cfg0.N) (r : Fin 256) (l : Fin 1024) :
    ((iblk (F := Ideal) m c 1 t : FVec Ideal S256x1024 .f32) (ix2 r l) : EReal) = ax m c (ix2 (⟨t.val % 36 * 256 + r.val, by omega⟩ : Fin 9216) l) := by
  have e : (win0_1.blk t).view.emb (ix2 r l) = ix2 (⟨t.val % 36 * 256 + r.val, by omega⟩ : Fin 9216) l := by
    blk_ext [idx t]
  blk_simp [iblk, idx t]
  rw [e]
  entry_read
  rfl

/-- The table's block at a point, entry by entry. -/
theorem blk2 (t : Fin cfg0.N) (s : Fin 8) (l : Fin 1024) :
    ((iblk (F := Ideal) m c 2 t : FVec Ideal S1x8x1024 .f32) (ix3 (0 : Fin 1) s l) : EReal) = am m c (ix3 (⟨t.val % 36, by omega⟩ : Fin 36) s l) := by
  have e : (win0_2.blk t).view.emb (ix3 (0 : Fin 1) s l) = ix3 (⟨t.val % 36, by omega⟩ : Fin 36) s l := by
    blk_ext [idx t]
  blk_simp [iblk, idx t]
  rw [e]
  entry_read
  rfl

/-- What point `n` adds at row `f`, column `l` of the result. -/
def add (n : ℕ) (i : S2048x1024.Idx) : EReal :=
  ∑ r : Fin 256, ad m c (ix2 (⟨n % 36 * 256 + r.val, by omega⟩ : Fin 9216) (⟨(n / 36 * 2048 + (i 0).val) % 2048, by omega⟩ : Fin 2048)) * hmod (ax m c) (am m c) 1 0 ⟨n % 36 * 256 + r.val, by omega⟩ (i 1)

/-- A step adds its tile's part. -/
theorem step_at (n : ℕ) (h : n < cfg0.N) (acc : Vec Ideal S2048x1024 .f32) (i : S2048x1024.Idx) :
    step3 (F := Ideal) m c n h acc i = acc i + add m c n i := by
  obtain ⟨a, l, rfl⟩ : ∃ (a : Fin 2048) (l : Fin 1024), i = ix2 a l := ⟨i 0, i 1, by funext x; fin_cases x <;> rfl⟩
  unfold step3
  refine (body _ _ _ _ a l).trans ?_
  refine congrArg (fun z : EReal => acc (ix2 a l) + z) ?_
  unfold add hmod
  refine Finset.sum_congr rfl fun r _ => ?_
  rw [blk0 m c ⟨n, h⟩, blk1 m c ⟨n, h⟩, blk2 m c ⟨n, h⟩, blk2 m c ⟨n, h⟩]
  have hr := r.isLt
  simp only [show (n % 36 * 256 + r.val) / 256 = n % 36 by omega]
  rfl

/-- The first point of a run holds its tile's part. -/
theorem reset_at (n : ℕ) (h : n < cfg0.N) (i : S2048x1024.Idx) :
    reset3 (F := Ideal) m c n h i = 0 + add m c n i := by
  have e : (0 : EReal) = k0_pay1 (F := Ideal) i := by
    obtain ⟨a, l, rfl⟩ : ∃ (a : Fin 2048) (l : Fin 1024), i = ix2 a l := ⟨i 0, i 1, by funext x; fin_cases x <;> rfl⟩
    exact (zero a l).symm
  rw [e]
  exact step_at m c n h (k0_pay1 (F := Ideal)) i

/-- The call's result is the reference's. -/
theorem res3 : (dats (F := Ideal) m 0 c).arrAt 3 cfg0.N = Cert.Reference5Ideal.Chain.rv16 (ad m c) (ax m c) (am m c) := by
  rw [final3]
  funext i
  obtain ⟨f, l, rfl⟩ : ∃ (f : Fin 2048) (l : Fin 1024), i = ix2 f l := ⟨i 0, i 1, by funext x; fin_cases x <;> rfl⟩
  have hf := f.isLt
  have hl := l.isLt
  have hr : run3Of (ix2 f l) = f.val / 2048 := by
    show 1 * (f.val / 2048 - 0) + 1 * (l.val / 1024 - 0) = f.val / 2048
    omega
  have hlt : 36 * run3Of (ix2 f l) + 35 < cfg0.N := by
    rw [hr, show cfg0.N = 36 from N_0]
    omega
  have hloc : loc3Of (ix2 f l) = ix2 (⟨f.val % 2048, Nat.mod_lt _ (by decide)⟩ : Fin 2048) l := by
    funext a
    apply Fin.ext
    match a with
    | ⟨0, _⟩ => rfl
    | ⟨1, _⟩ => exact Nat.mod_eq_of_lt hl
  unfold G3
  rw [dif_pos hlt, hloc]
  refine (Pipeline.accAt_add_apply (reset3 (F := Ideal) m c) (step3 (F := Ideal) m c) (fun _ => (0 : EReal)) (add m c) (36 * run3Of (ix2 f l)) 35
    (fun h i => reset_at m c _ h i) (fun n h acc i _ _ => step_at m c n h acc i) 35 le_rfl hlt _).trans ?_
  rw [Cert.Reference5Ideal.Chain.rv16_at, hr]
  unfold outer
  rw [zero_add, ← sum_tiles]
  refine Finset.sum_congr rfl fun s hs => ?_
  have hs36 : s < 36 := Finset.mem_range.mp hs
  unfold add
  refine Finset.sum_congr rfl fun r _ => ?_
  have e1 : (⟨(36 * (f.val / 2048) + s) % 36 * 256 + r.val, by omega⟩ : Fin 9216) = ⟨s % 36 * 256 + r.val, by omega⟩ :=
    Fin.ext (by show (36 * (f.val / 2048) + s) % 36 * 256 + r.val = s % 36 * 256 + r.val; omega)
  have e2 : (⟨((36 * (f.val / 2048) + s) / 36 * 2048 + f.val % 2048) % 2048, by omega⟩ : Fin 2048) = f :=
    Fin.ext (by show ((36 * (f.val / 2048) + s) / 36 * 2048 + f.val % 2048) % 2048 = f.val; omega)
  rw [e1]
  exact congrArg (fun z : Fin 2048 => ad m c (ix2 (⟨s % 36 * 256 + r.val, by omega⟩ : Fin 9216) z) * hmod (ax m c) (am m c) 1 0 ⟨s % 36 * 256 + r.val, by omega⟩ l) e2

end Final
end Cert.Kernel5Ideal

namespace Cert.Value5
open Idealize.ShloMosaic Idealize.SL.Sem

/-- The kernel and the reference end with the same result. -/
theorem value : Cert.algebraic_Kernel5Ideal_Reference5Ideal (hKernel5Ideal := Cert.Kernel5Ideal.Gen.facts) (hReference5Ideal := Cert.Reference5Ideal.Gen.facts) := by
  intro m g m' g' hpre hag
  refine ⟨fun c => (Cert.Kernel5Ideal.Gen.dats m 0 c).arrAt 3 Cert.Kernel5Ideal.cfg0.N, Cert.Kernel5Ideal.Value.run_blocks (F := Ideal) m g,
    (θ_run Cert.Reference5Ideal.defs _ _).mono (fun r h c => ?_) (Cert.Reference5Ideal.Value.run (F := Ideal) m' g')⟩
  obtain ⟨a, rest⟩ := h c
  obtain ⟨g0, g1, g2⟩ := hag c
  refine ⟨?_, rest⟩
  refine a.trans (Eq.trans ?_ (Cert.Kernel5Ideal.Final.res3 m c).symm)
  rw [g0, g1, g2]
  rfl

end Cert.Value5
end
-- ==== Proof.M6.lean ====
/- The gradients of the input projection (`proj_dx`): the gradients of the rows and of the modulation table. -/
module

public import proofs.«01_k».proof.Defs
public import proofs.«01_k».proof.Proof.Gen.Kernel6Ideal.Value
public import proofs.«01_k».proof.Proof.Gen.Reference6Ideal.Run
public import proofs.«01_k».proof.Proof.Tiles

@[expose] public section

set_option maxRecDepth 16384

noncomputable section

namespace Cert.Reference6Ideal
namespace Chain
open Cert.Reference6Ideal Idealize.ShloMosaic Idealize.ShloMosaic.TcCoe Idealize.SL.Sem Cert.Tiles
open Cert.Reference6Ideal.Gen

/-- The reference's `reshape` number 0, as a function of the arguments. -/
def rv0 (du : FVec Ideal S9216x2048 .f32) (w : FVec Ideal S2048x1024 .f32) (x : FVec Ideal S9216x1024 .f32) (md : FVec Ideal S36x8x1024 .f32) (ad : FVec Ideal S9216x1024 .f32) : FVec Ideal S36x256x1024 .f32 := shapeCast S36x256x1024 x shapeCasts_S9216x1024_S36x256x1024
/-- The reference's `slice` number 1, as a function of the arguments. -/
def rv1 (du : FVec Ideal S9216x2048 .f32) (w : FVec Ideal S2048x1024 .f32) (x : FVec Ideal S9216x1024 .f32) (md : FVec Ideal S36x8x1024 .f32) (ad : FVec Ideal S9216x1024 .f32) : FVec Ideal S36x1x1024 .f32 := ((extractStridedSlice S36x1x1024 ![0, 1, 0] · slices_S36x8x1024_S36x1x1024_0_1_0)) md
/-- The reference's `reshape` number 2, as a function of the arguments. -/
def rv2 (du : FVec Ideal S9216x2048 .f32) (w : FVec Ideal S2048x1024 .f32) (x : FVec Ideal S9216x1024 .f32) (md : FVec Ideal S36x8x1024 .f32) (ad : FVec Ideal S9216x1024 .f32) : FVec Ideal S36x1024 .f32 := shapeCast S36x1024 (rv1 du w x md ad) shapeCasts_S36x1x1024_S36x1024
/-- The reference's `broadcast_in_dim` number 3, as a function of the arguments. -/
def rv3 (du : FVec Ideal S9216x2048 .f32) (w : FVec Ideal S2048x1024 .f32) (x : FVec Ideal S9216x1024 .f32) (md : FVec Ideal S36x8x1024 .f32) (ad : FVec Ideal S9216x1024 .f32) : FVec Ideal S36x1x1024 .f32 := (broadcastInDim S36x1x1024 ![0, 2] bcast_S36x1024_S36x1x1024_0_2) (rv2 du w x md ad)
/-- The reference's `constant` number cst, as a function of the arguments. -/
def rcst (du : FVec Ideal S9216x2048 .f32) (w : FVec Ideal S2048x1024 .f32) (x : FVec Ideal S9216x1024 .f32) (md : FVec Ideal S36x8x1024 .f32) (ad : FVec Ideal S9216x1024 .f32) : FVec Ideal S_ .f32 := (constant S_ .f32 0x3F800000#32)
/-- The reference's `broadcast_in_dim` number 4, as a function of the arguments. -/
def rv4 (du : FVec Ideal S9216x2048 .f32) (w : FVec Ideal S2048x1024 .f32) (x : FVec Ideal S9216x1024 .f32) (md : FVec Ideal S36x8x1024 .f32) (ad : FVec Ideal S9216x1024 .f32) : FVec Ideal S36x1x1024 .f32 := (broadcastInDim S36x1x1024 ![] bcast_S_S36x1x1024) (rcst du w x md ad)
/-- The reference's `add` number 5, as a function of the arguments. -/
def rv5 (du : FVec Ideal S9216x2048 .f32) (w : FVec Ideal S2048x1024 .f32) (x : FVec Ideal S9216x1024 .f32) (md : FVec Ideal S36x8x1024 .f32) (ad : FVec Ideal S9216x1024 .f32) : FVec Ideal S36x1x1024 .f32 := (addf) (rv4 du w x md ad) (rv3 du w x md ad)
/-- The reference's `dot_general` number 15, as a function of the arguments. -/
def rv15 (du : FVec Ideal S9216x2048 .f32) (w : FVec Ideal S2048x1024 .f32) (x : FVec Ideal S9216x1024 .f32) (md : FVec Ideal S36x8x1024 .f32) (ad : FVec Ideal S9216x1024 .f32) : FVec Ideal S9216x1024 .f32 := ((fun l r => Host.dotGeneral dot_S9216x2048_S2048x1024_S9216x1024_1_0_0_1_n_n none l r)) du w
/-- The reference's `reshape` number 16, as a function of the arguments. -/
def rv16 (du : FVec Ideal S9216x2048 .f32) (w : FVec Ideal S2048x1024 .f32) (x : FVec Ideal S9216x1024 .f32) (md : FVec Ideal S36x8x1024 .f32) (ad : FVec Ideal S9216x1024 .f32) : FVec Ideal S36x256x1024 .f32 := shapeCast S36x256x1024 (rv15 du w x md ad) shapeCasts_S9216x1024_S36x256x1024
/-- The reference's `constant` number cst_0, as a function of the arguments. -/
def rcst_0 (du : FVec Ideal S9216x2048 .f32) (w : FVec Ideal S2048x1024 .f32) (x : FVec Ideal S9216x1024 .f32) (md : FVec Ideal S36x8x1024 .f32) (ad : FVec Ideal S9216x1024 .f32) : FVec Ideal S_ .f32 := (constant S_ .f32 0x00000000#32)
/-- The reference's `reduce` number 17, as a function of the arguments. -/
def rv17 (du : FVec Ideal S9216x2048 .f32) (w : FVec Ideal S2048x1024 .f32) (x : FVec Ideal S9216x1024 .f32) (md : FVec Ideal S36x8x1024 .f32) (ad : FVec Ideal S9216x1024 .f32) : FVec Ideal S36x1024 .f32 := ((fun x v => Host.reduceAdd x v reducesTo_S36x256x1024_S36x1024_d1 h_S_)) (rv16 du w x md ad) (rcst_0 du w x md ad)
/-- The reference's `reshape` number 18, as a function of the arguments. -/
def rv18 (du : FVec Ideal S9216x2048 .f32) (w : FVec Ideal S2048x1024 .f32) (x : FVec Ideal S9216x1024 .f32) (md : FVec Ideal S36x8x1024 .f32) (ad : FVec Ideal S9216x1024 .f32) : FVec Ideal S36x1x1024 .f32 := shapeCast S36x1x1024 (rv17 du w x md ad) shapeCasts_S36x1024_S36x1x1024
/-- The reference's `constant` number cst_1, as a function of the arguments. -/
def rcst_1 (du : FVec Ideal S9216x2048 .f32) (w : FVec Ideal S2048x1024 .f32) (x : FVec Ideal S9216x1024 .f32) (md : FVec Ideal S36x8x1024 .f32) (ad : FVec Ideal S9216x1024 .f32) : FVec Ideal S_ .f32 := (constant S_ .f32 0x00000000#32)
/-- The reference's `reduce` number 19, as a function of the arguments. -/
def rv19 (du : FVec Ideal S9216x2048 .f32) (w : FVec Ideal S2048x1024 .f32) (x : FVec Ideal S9216x1024 .f32) (md : FVec Ideal S36x8x1024 .f32) (ad : FVec Ideal S9216x1024 .f32) : FVec Ideal S36x1024 .f32 := ((fun x v => Host.reduceAdd x v reducesTo_S36x1x1024_S36x1024_d1 h_S_)) (rv18 du w x md ad) (rcst_1 du w x md ad)
/-- The reference's `broadcast_in_dim` number 20, as a function of the arguments. -/
def rv20 (du : FVec Ideal S9216x2048 .f32) (w : FVec Ideal S2048x1024 .f32) (x : FVec Ideal S9216x1024 .f32) (md : FVec Ideal S36x8x1024 .f32) (ad : FVec Ideal S9216x1024 .f32) : FVec Ideal S36x1x1024 .f32 := (broadcastInDim S36x1x1024 ![0, 2] bcast_S36x1024_S36x1x1024_0_2) (rv19 du w x md ad)
/-- The reference's `constant` number cst_2, as a function of the arguments. -/
def rcst_2 (du : FVec Ideal S9216x2048 .f32) (w : FVec Ideal S2048x1024 .f32) (x : FVec Ideal S9216x1024 .f32) (md : FVec Ideal S36x8x1024 .f32) (ad : FVec Ideal S9216x1024 .f32) : FVec Ideal S_ .f32 := (constant S_ .f32 0x00000000#32)
/-- The reference's `pad` number 21, as a function of the arguments. -/
def rv21 (du : FVec Ideal S9216x2048 .f32) (w : FVec Ideal S2048x1024 .f32) (x : FVec Ideal S9216x1024 .f32) (md : FVec Ideal S36x8x1024 .f32) (ad : FVec Ideal S9216x1024 .f32) : FVec Ideal S36x8x1024 .f32 := ((fun x v => pad S36x8x1024 ![0, 0, 0] ![0, 7, 0] ![0, 0, 0] x v pads_S36x1x1024_S36x8x1024_000_070_000 h_S_)) (rv20 du w x md ad) (rcst_2 du w x md ad)
/-- The reference's `multiply` number 22, as a function of the arguments. -/
def rv22 (du : FVec Ideal S9216x2048 .f32) (w : FVec Ideal S2048x1024 .f32) (x : FVec Ideal S9216x1024 .f32) (md : FVec Ideal S36x8x1024 .f32) (ad : FVec Ideal S9216x1024 .f32) : FVec Ideal S36x256x1024 .f32 := (mulf) (rv0 du w x md ad) (rv16 du w x md ad)
/-- The reference's `constant` number cst_3, as a function of the arguments. -/
def rcst_3 (du : FVec Ideal S9216x2048 .f32) (w : FVec Ideal S2048x1024 .f32) (x : FVec Ideal S9216x1024 .f32) (md : FVec Ideal S36x8x1024 .f32) (ad : FVec Ideal S9216x1024 .f32) : FVec Ideal S_ .f32 := (constant S_ .f32 0x00000000#32)
/-- The reference's `reduce` number 23, as a function of the arguments. -/
def rv23 (du : FVec Ideal S9216x2048 .f32) (w : FVec Ideal S2048x1024 .f32) (x : FVec Ideal S9216x1024 .f32) (md : FVec Ideal S36x8x1024 .f32) (ad : FVec Ideal S9216x1024 .f32) : FVec Ideal S36x1024 .f32 := ((fun x v => Host.reduceAdd x v reducesTo_S36x256x1024_S36x1024_d1 h_S_)) (rv22 du w x md ad) (rcst_3 du w x md ad)
/-- The reference's `reshape` number 24, as a function of the arguments. -/
def rv24 (du : FVec Ideal S9216x2048 .f32) (w : FVec Ideal S2048x1024 .f32) (x : FVec Ideal S9216x1024 .f32) (md : FVec Ideal S36x8x1024 .f32) (ad : FVec Ideal S9216x1024 .f32) : FVec Ideal S36x1x1024 .f32 := shapeCast S36x1x1024 (rv23 du w x md ad) shapeCasts_S36x1024_S36x1x1024
/-- The reference's `broadcast_in_dim` number 25, as a function of the arguments. -/
def rv25 (du : FVec Ideal S9216x2048 .f32) (w : FVec Ideal S2048x1024 .f32) (x : FVec Ideal S9216x1024 .f32) (md : FVec Ideal S36x8x1024 .f32) (ad : FVec Ideal S9216x1024 .f32) : FVec Ideal S36x256x1024 .f32 := (broadcastInDim S36x256x1024 ![0, 1, 2] bcast_S36x1x1024_S36x256x1024_0_1_2) (rv5 du w x md ad)
/-- The reference's `multiply` number 26, as a function of the arguments. -/
def rv26 (du : FVec Ideal S9216x2048 .f32) (w : FVec Ideal S2048x1024 .f32) (x : FVec Ideal S9216x1024 .f32) (md : FVec Ideal S36x8x1024 .f32) (ad : FVec Ideal S9216x1024 .f32) : FVec Ideal S36x256x1024 .f32 := (mulf) (rv16 du w x md ad) (rv25 du w x md ad)
/-- The reference's `constant` number cst_4, as a function of the arguments. -/
def rcst_4 (du : FVec Ideal S9216x2048 .f32) (w : FVec Ideal S2048x1024 .f32) (x : FVec Ideal S9216x1024 .f32) (md : FVec Ideal S36x8x1024 .f32) (ad : FVec Ideal S9216x1024 .f32) : FVec Ideal S_ .f32 := (constant S_ .f32 0x00000000#32)
/-- The reference's `reduce` number 27, as a function of the arguments. -/
def rv27 (du : FVec Ideal S9216x2048 .f32) (w : FVec Ideal S2048x1024 .f32) (x : FVec Ideal S9216x1024 .f32) (md : FVec Ideal S36x8x1024 .f32) (ad : FVec Ideal S9216x1024 .f32) : FVec Ideal S36x1024 .f32 := ((fun x v => Host.reduceAdd x v reducesTo_S36x1x1024_S36x1024_d1 h_S_)) (rv24 du w x md ad) (rcst_4 du w x md ad)
/-- The reference's `broadcast_in_dim` number 28, as a function of the arguments. -/
def rv28 (du : FVec Ideal S9216x2048 .f32) (w : FVec Ideal S2048x1024 .f32) (x : FVec Ideal S9216x1024 .f32) (md : FVec Ideal S36x8x1024 .f32) (ad : FVec Ideal S9216x1024 .f32) : FVec Ideal S36x1x1024 .f32 := (broadcastInDim S36x1x1024 ![0, 2] bcast_S36x1024_S36x1x1024_0_2) (rv27 du w x md ad)
/-- The reference's `constant` number cst_5, as a function of the arguments. -/
def rcst_5 (du : FVec Ideal S9216x2048 .f32) (w : FVec Ideal S2048x1024 .f32) (x : FVec Ideal S9216x1024 .f32) (md : FVec Ideal S36x8x1024 .f32) (ad : FVec Ideal S9216x1024 .f32) : FVec Ideal S_ .f32 := (constant S_ .f32 0x00000000#32)
/-- The reference's `pad` number 29, as a function of the arguments. -/
def rv29 (du : FVec Ideal S9216x2048 .f32) (w : FVec Ideal S2048x1024 .f32) (x : FVec Ideal S9216x1024 .f32) (md : FVec Ideal S36x8x1024 .f32) (ad : FVec Ideal S9216x1024 .f32) : FVec Ideal S36x8x1024 .f32 := ((fun x v => pad S36x8x1024 ![0, 1, 0] ![0, 6, 0] ![0, 0, 0] x v pads_S36x1x1024_S36x8x1024_000_160_000 h_S_)) (rv28 du w x md ad) (rcst_5 du w x md ad)
/-- The reference's `add` number 30, as a function of the arguments. -/
def rv30 (du : FVec Ideal S9216x2048 .f32) (w : FVec Ideal S2048x1024 .f32) (x : FVec Ideal S9216x1024 .f32) (md : FVec Ideal S36x8x1024 .f32) (ad : FVec Ideal S9216x1024 .f32) : FVec Ideal S36x8x1024 .f32 := (addf) (rv21 du w x md ad) (rv29 du w x md ad)
/-- The reference's `reshape` number 31, as a function of the arguments. -/
def rv31 (du : FVec Ideal S9216x2048 .f32) (w : FVec Ideal S2048x1024 .f32) (x : FVec Ideal S9216x1024 .f32) (md : FVec Ideal S36x8x1024 .f32) (ad : FVec Ideal S9216x1024 .f32) : FVec Ideal S9216x1024 .f32 := shapeCast S9216x1024 (rv26 du w x md ad) shapeCasts_S36x256x1024_S9216x1024
/-- The reference's `add` number 32, as a function of the arguments. -/
def rv32 (du : FVec Ideal S9216x2048 .f32) (w : FVec Ideal S2048x1024 .f32) (x : FVec Ideal S9216x1024 .f32) (md : FVec Ideal S36x8x1024 .f32) (ad : FVec Ideal S9216x1024 .f32) : FVec Ideal S9216x1024 .f32 := (addf) ad (rv31 du w x md ad)

/-- The gradient of the modulated rows, cut into tiles. -/
theorem rv16_at (du : FVec Ideal S9216x2048 .f32) (w : FVec Ideal S2048x1024 .f32) (x : FVec Ideal S9216x1024 .f32) (md : FVec Ideal S36x8x1024 .f32) (ad : FVec Ideal S9216x1024 .f32) (j : Fin 36) (r : Fin 256) (l : Fin 1024) :
    (rv16 du w x md ad (ix3 j r l) : EReal) = back du w ⟨j.val * 256 + r.val, by omega⟩ l := by
  unfold rv16 rv15 back
  pointwise

/-- The reference's gradient of the rows, entry by entry. -/
theorem rv32_at (du : FVec Ideal S9216x2048 .f32) (w : FVec Ideal S2048x1024 .f32) (x : FVec Ideal S9216x1024 .f32) (md : FVec Ideal S36x8x1024 .f32) (ad : FVec Ideal S9216x1024 .f32) (n : Fin 9216) (l : Fin 1024) :
    (rv32 du w x md ad (ix2 n l) : EReal) = ad (ix2 n l) + back du w n l * (1 + md (ix3 (⟨n.val / 256, by omega⟩ : Fin 36) (1 : Fin 8) l)) := by
  unfold rv32 rv31 rv26 rv25 rv5 rv4 rcst rv3 rv2 rv1
  pointwise
  simp only [rv16_at]
  simp only [show n.val / 256 * 256 + n.val % 256 = n.val by omega]

/-- The row of the scales in the reference's gradient of the table. -/
theorem rv24_at (du : FVec Ideal S9216x2048 .f32) (w : FVec Ideal S2048x1024 .f32) (x : FVec Ideal S9216x1024 .f32) (md : FVec Ideal S36x8x1024 .f32) (ad : FVec Ideal S9216x1024 .f32) (j : Fin 36) (l : Fin 1024) :
    (rv24 du w x md ad (ix3 j (0 : Fin 1) l) : EReal) = ∑ r : Fin 256, back du w ⟨j.val * 256 + r.val, by omega⟩ l * x (ix2 (⟨j.val * 256 + r.val, by omega⟩ : Fin 9216) l) := by
  unfold rv24 rv23 rcst_3 rv22 rv0
  pointwise
  simp only [rv16_at]
  exact Finset.sum_congr rfl fun r _ => mul_comm _ _

/-- The row of the shifts in the reference's gradient of the table. -/
theorem rv18_at (du : FVec Ideal S9216x2048 .f32) (w : FVec Ideal S2048x1024 .f32) (x : FVec Ideal S9216x1024 .f32) (md : FVec Ideal S36x8x1024 .f32) (ad : FVec Ideal S9216x1024 .f32) (j : Fin 36) (l : Fin 1024) :
    (rv18 du w x md ad (ix3 j (0 : Fin 1) l) : EReal) = ∑ r : Fin 256, back du w ⟨j.val * 256 + r.val, by omega⟩ l := by
  unfold rv18 rv17 rcst_0
  pointwise
  simp only [rv16_at]

/-- The reference's gradient of the table, entry by entry. -/
theorem rv30_at (du : FVec Ideal S9216x2048 .f32) (w : FVec Ideal S2048x1024 .f32) (x : FVec Ideal S9216x1024 .f32) (md : FVec Ideal S36x8x1024 .f32) (ad : FVec Ideal S9216x1024 .f32) (j : Fin 36) (q : Fin 8) (l : Fin 1024) :
    (rv30 du w x md ad (ix3 j q l) : EReal) = tab du w x 1 0 j q l := by
  unfold rv30 rv29 rcst_5 rv28 rv27 rcst_4 rv21 rcst_2 rv20 rv19 rcst_1 tab
  pointwise
  fin_cases q <;> simp [rv18_at, rv24_at]

end Chain
end Cert.Reference6Ideal

namespace Cert.Kernel6Ideal
namespace Final
open Cert.Kernel6Ideal Idealize.ShloMosaic Idealize.ShloMosaic.TcCoe Idealize.SL.Sem Cert.Tiles
open Facts₀ Facts Cert.Kernel6Ideal.Gen

/-- Which block each window reads or writes at a point. -/
theorem idx : ∀ t : Fin cfg0.N,
    win0_0.index t = ![t.val, 0] ∧ win0_1.index t = ![0, 0] ∧ win0_2.index t = ![t.val, 0] ∧ win0_3.index t = ![t.val, 0, 0]
      ∧ win0_4.index t = ![t.val, 0] ∧ win0_5.index t = ![t.val, 0] ∧ win0_6.index t = ![t.val, 0, 0] :=
  (by decide +kernel : ∀ t : Fin grid0.N, _)

/-- The arguments of the program on a device. -/
abbrev ad (m : (ℓ : Loc nD τ sig) → Buf (Elt Ideal) ℓ) (c : Dev nD) : FVec Ideal S9216x2048 .f32 := m ((c : Thread nD τ).loc main_arg0)
abbrev aw (m : (ℓ : Loc nD τ sig) → Buf (Elt Ideal) ℓ) (c : Dev nD) : FVec Ideal S2048x1024 .f32 := m ((c : Thread nD τ).loc main_arg1)
abbrev ax (m : (ℓ : Loc nD τ sig) → Buf (Elt Ideal) ℓ) (c : Dev nD) : FVec Ideal S9216x1024 .f32 := m ((c : Thread nD τ).loc main_arg2)
abbrev am (m : (ℓ : Loc nD τ sig) → Buf (Elt Ideal) ℓ) (c : Dev nD) : FVec Ideal S36x8x1024 .f32 := m ((c : Thread nD τ).loc main_arg3)
abbrev aa (m : (ℓ : Loc nD τ sig) → Buf (Elt Ideal) ℓ) (c : Dev nD) : FVec Ideal S9216x1024 .f32 := m ((c : Thread nD τ).loc main_arg4)

/-- One block of the rows' gradient from the blocks of the operands. -/
theorem body5 (x0 : Vec Ideal S256x2048 .bf16) (x1 : Vec Ideal S2048x1024 .bf16) (x2 : Vec Ideal S256x1024 .f32) (x3 : Vec Ideal S1x8x1024 .f32) (x4 : Vec Ideal S256x1024 .f32) (r : Fin 256) (l : Fin 1024) :
    out0_5 (F := Ideal) x0 x1 x2 x3 x4 (ix2 r l) = x4 (ix2 r l) + (∑ f : Fin 2048, x0 (ix2 r f) * x1 (ix2 f l)) * (1 + x3 (ix3 (0 : Fin 1) (1 : Fin 8) l)) := by
  frame_out
  unfold_payloads
  pointwise

/-- One block of the table's gradient from the blocks of the operands. -/
theorem body6 (x0 : Vec Ideal S256x2048 .bf16) (x1 : Vec Ideal S2048x1024 .bf16) (x2 : Vec Ideal S256x1024 .f32) (x3 : Vec Ideal S1x8x1024 .f32) (x4 : Vec Ideal S256x1024 .f32) (q : Fin 8) (l : Fin 1024) :
    out0_6 (F := Ideal) x0 x1 x2 x3 x4 (ix3 (0 : Fin 1) q l) = (if q = 1 then ∑ r : Fin 256, (∑ f : Fin 2048, x0 (ix2 r f) * x1 (ix2 f l)) * x2 (ix2 r l) else (0 : EReal)) + (if q = 0 then ∑ r : Fin 256, ∑ f : Fin 2048, x0 (ix2 r f) * x1 (ix2 f l) else (0 : EReal)) := by
  frame_out
  unfold_payloads
  pointwise
  fin_cases q <;> simp [Scalar.select, IntOp.cmpi]

variable (m : (ℓ : Loc nD τ sig) → Buf (Elt Ideal) ℓ) (c : Dev nD)

theorem lt36 (t : Fin cfg0.N) : t.val < 36 := lt_of_lt_of_eq t.isLt N_0

/-- The gradient's block at a point, entry by entry. -/
theorem blk0 (t : Fin cfg0.N) (r : Fin 256) (f : Fin 2048) :
    ((iblk (F := Ideal) m c 0 t : FVec Ideal S256x2048 .bf16) (ix2 r f) : EReal) = ad m c (ix2 (⟨t.val * 256 + r.val, by have := lt36 t; omega⟩ : Fin 9216) f) := by
  have ht := lt36 t
  have e : (win0_0.blk t).view.emb (ix2 r f) = ix2 (⟨t.val * 256 + r.val, by omega⟩ : Fin 9216) f := by
    blk_ext [idx t]
  blk_simp [iblk, idx t]
  rw [e]
  entry_read
  pointwise

/-- The weight's block at a point is the whole weight. -/
theorem blk1 (t : Fin cfg0.N) (f : Fin 2048) (l : Fin 1024) :
    ((iblk (F := Ideal) m c 1 t : FVec Ideal S2048x1024 .bf16) (ix2 f l) : EReal) = aw m c (ix2 f l) := by
  have e : (win0_1.blk t).view.emb (ix2 f l) = ix2 f l := by
    blk_ext [idx t]
  blk_simp [iblk, idx t]
  rw [e]
  entry_read
  pointwise

/-- The rows' block at a point, entry by entry. -/
theorem blk2 (t : Fin cfg0.N) (r : Fin 256) (l : Fin 1024) :
    ((iblk (F := Ideal) m c 2 t : FVec Ideal S256x1024 .f32) (ix2 r l) : EReal) = ax m c (ix2 (⟨t.val * 256 + r.val, by have := lt36 t; omega⟩ : Fin 9216) l) := by
  have ht := lt36 t
  have e : (win0_2.blk t).view.emb (ix2 r l) = ix2 (⟨t.val * 256 + r.val, by omega⟩ : Fin 9216) l := by
    blk_ext [idx t]
  blk_simp [iblk, idx t]
  rw [e]
  entry_read
  rfl

/-- The table's block at a point, entry by entry. -/
theorem blk3 (t : Fin cfg0.N) (s : Fin 8) (l : Fin 1024) :
    ((iblk (F := Ideal) m c 3 t : FVec Ideal S1x8x1024 .f32) (ix3 (0 : Fin 1) s l) : EReal) = am m c (ix3 (⟨t.val, lt36 t⟩ : Fin 36) s l) := by
  have ht := lt36 t
  have e : (win0_3.blk t).view.emb (ix3 (0 : Fin 1) s l) = ix3 (⟨t.val, ht⟩ : Fin 36) s l := by
    blk_ext [idx t]
  blk_simp [iblk, idx t]
  rw [e]
  entry_read
  rfl

/-- The block of the gradient that goes past the product, entry by entry. -/
theorem blk4 (t : Fin cfg0.N) (r : Fin 256) (l : Fin 1024) :
    ((iblk (F := Ideal) m c 4 t : FVec Ideal S256x1024 .f32) (ix2 r l) : EReal) = aa m c (ix2 (⟨t.val * 256 + r.val, by have := lt36 t; omega⟩ : Fin 9216) l) := by
  have ht := lt36 t
  have e : (win0_4.blk t).view.emb (ix2 r l) = ix2 (⟨t.val * 256 + r.val, by omega⟩ : Fin 9216) l := by
    blk_ext [idx t]
  blk_simp [iblk, idx t]
  rw [e]
  entry_read
  rfl

/-- The call's gradient of the rows is the reference's. -/
theorem res5 : (dats (F := Ideal) m 0 c).arrAt 5 cfg0.N = Cert.Reference6Ideal.Chain.rv32 (ad m c) (aw m c) (ax m c) (am m c) (aa m c) := by
  refine (dats m 0 c).arrAt_eq_of_covers 5 _ (by decide +kernel) fun t hf y => ?_
  blk_simp
  rw [after0_5]
  have ht := lt36 t
  obtain ⟨r, l, rfl⟩ : ∃ (r : Fin 256) (l : Fin 1024), y = ix2 r l := ⟨y 0, y 1, by funext x; fin_cases x <;> rfl⟩
  have e : (win0_5.blk t).view.emb (ix2 r l) = ix2 (⟨t.val * 256 + r.val, by omega⟩ : Fin 9216) l := by
    blk_ext [idx t]
  refine (body5 _ _ _ _ _ r l).trans ?_
  refine Eq.trans ?_ (congrArg (Cert.Reference6Ideal.Chain.rv32 (ad m c) (aw m c) (ax m c) (am m c) (aa m c)) e).symm
  rw [Cert.Reference6Ideal.Chain.rv32_at, blk4 m c t, blk3 m c t]
  unfold back
  have hr := r.isLt
  simp only [blk0 m c t, blk1 m c t, show (t.val * 256 + r.val) / 256 = t.val by omega]

/-- The call's gradient of the table is the reference's. -/
theorem res6 : (dats (F := Ideal) m 0 c).arrAt 6 cfg0.N = Cert.Reference6Ideal.Chain.rv30 (ad m c) (aw m c) (ax m c) (am m c) (aa m c) := by
  refine (dats m 0 c).arrAt_eq_of_covers 6 _ (by decide +kernel) fun t hf y => ?_
  blk_simp
  rw [after0_6]
  have ht := lt36 t
  obtain ⟨z, q, l, rfl⟩ : ∃ (z : Fin 1) (q : Fin 8) (l : Fin 1024), y = ix3 z q l := ⟨y 0, y 1, y 2, by funext x; fin_cases x <;> rfl⟩
  obtain rfl : z = 0 := Subsingleton.elim _ _
  have e : (win0_6.blk t).view.emb (ix3 (0 : Fin 1) q l) = ix3 (⟨t.val, ht⟩ : Fin 36) q l := by
    blk_ext [idx t]
  refine (body6 _ _ _ _ _ q l).trans ?_
  refine Eq.trans ?_ (congrArg (Cert.Reference6Ideal.Chain.rv30 (ad m c) (aw m c) (ax m c) (am m c) (aa m c)) e).symm
  rw [Cert.Reference6Ideal.Chain.rv30_at]
  unfold tab back
  simp only [blk0 m c t, blk1 m c t, blk2 m c t]

end Final
end Cert.Kernel6Ideal

namespace Cert.Value6
open Idealize.ShloMosaic Idealize.SL.Sem

/-- The kernel and the reference end with the same results. -/
theorem value : Cert.algebraic_Kernel6Ideal_Reference6Ideal (hKernel6Ideal := Cert.Kernel6Ideal.Gen.facts) (hReference6Ideal := Cert.Reference6Ideal.Gen.facts) := by
  intro m g m' g' hpre hag
  refine ⟨fun c => (Cert.Kernel6Ideal.Gen.dats m 0 c).arrAt 5 Cert.Kernel6Ideal.cfg0.N, fun c => (Cert.Kernel6Ideal.Gen.dats m 0 c).arrAt 6 Cert.Kernel6Ideal.cfg0.N, Cert.Kernel6Ideal.Value.run_blocks (F := Ideal) m g,
    (θ_run Cert.Reference6Ideal.defs _ _).mono (fun r h c => ?_) (Cert.Reference6Ideal.Value.run (F := Ideal) m' g')⟩
  obtain ⟨a, b, rest⟩ := h c
  obtain ⟨g0, g1, g2, g3, g4⟩ := hag c
  refine ⟨?_, ?_, rest⟩
  · refine a.trans (Eq.trans ?_ (Cert.Kernel6Ideal.Final.res5 m c).symm)
    rw [g0, g1, g3, g4]
    rfl
  · refine b.trans (Eq.trans ?_ (Cert.Kernel6Ideal.Final.res6 m c).symm)
    rw [g0, g1, g2]
    rfl

end Cert.Value6
end
-- ==== Proof.M7.lean ====
/- The forward product of the feed-forward layer (`ffn_up`): the call's result and the reference's are the same sums. -/
module

public import proofs.«01_k».proof.Defs
public import proofs.«01_k».proof.Proof.Gen.Kernel7Ideal.Value
public import proofs.«01_k».proof.Proof.Gen.Reference7Ideal.Run
public import proofs.«01_k».proof.Proof.Tiles

@[expose] public section

set_option maxRecDepth 16384

noncomputable section

namespace Cert.Reference7Ideal
namespace Chain
open Cert.Reference7Ideal Idealize.ShloMosaic Idealize.ShloMosaic.TcCoe Idealize.SL.Sem Cert.Tiles
open Cert.Reference7Ideal.Gen

/-- The reference's `reshape` number 0, as a function of the arguments. -/
def rv0 (x : FVec Ideal S9216x1024 .f32) (md : FVec Ideal S36x8x1024 .f32) (w : FVec Ideal S5632x1024 .f32) : FVec Ideal S36x256x1024 .f32 := shapeCast S36x256x1024 x shapeCasts_S9216x1024_S36x256x1024
/-- The reference's `slice` number 1, as a function of the arguments. -/
def rv1 (x : FVec Ideal S9216x1024 .f32) (md : FVec Ideal S36x8x1024 .f32) (w : FVec Ideal S5632x1024 .f32) : FVec Ideal S36x1x1024 .f32 := ((extractStridedSlice S36x1x1024 ![0, 4, 0] · slices_S36x8x1024_S36x1x1024_0_4_0)) md
/-- The reference's `reshape` number 2, as a function of the arguments. -/
def rv2 (x : FVec Ideal S9216x1024 .f32) (md : FVec Ideal S36x8x1024 .f32) (w : FVec Ideal S5632x1024 .f32) : FVec Ideal S36x1024 .f32 := shapeCast S36x1024 (rv1 x md w) shapeCasts_S36x1x1024_S36x1024
/-- The reference's `broadcast_in_dim` number 3, as a function of the arguments. -/
def rv3 (x : FVec Ideal S9216x1024 .f32) (md : FVec Ideal S36x8x1024 .f32) (w : FVec Ideal S5632x1024 .f32) : FVec Ideal S36x1x1024 .f32 := (broadcastInDim S36x1x1024 ![0, 2] bcast_S36x1024_S36x1x1024_0_2) (rv2 x md w)
/-- The reference's `constant` number cst, as a function of the arguments. -/
def rcst (x : FVec Ideal S9216x1024 .f32) (md : FVec Ideal S36x8x1024 .f32) (w : FVec Ideal S5632x1024 .f32) : FVec Ideal S_ .f32 := (constant S_ .f32 0x3F800000#32)
/-- The reference's `broadcast_in_dim` number 4, as a function of the arguments. -/
def rv4 (x : FVec Ideal S9216x1024 .f32) (md : FVec Ideal S36x8x1024 .f32) (w : FVec Ideal S5632x1024 .f32) : FVec Ideal S36x1x1024 .f32 := (broadcastInDim S36x1x1024 ![] bcast_S_S36x1x1024) (rcst x md w)
/-- The reference's `add` number 5, as a function of the arguments. -/
def rv5 (x : FVec Ideal S9216x1024 .f32) (md : FVec Ideal S36x8x1024 .f32) (w : FVec Ideal S5632x1024 .f32) : FVec Ideal S36x1x1024 .f32 := (addf) (rv4 x md w) (rv3 x md w)
/-- The reference's `broadcast_in_dim` number 6, as a function of the arguments. -/
def rv6 (x : FVec Ideal S9216x1024 .f32) (md : FVec Ideal S36x8x1024 .f32) (w : FVec Ideal S5632x1024 .f32) : FVec Ideal S36x256x1024 .f32 := (broadcastInDim S36x256x1024 ![0, 1, 2] bcast_S36x1x1024_S36x256x1024_0_1_2) (rv5 x md w)
/-- The reference's `multiply` number 7, as a function of the arguments. -/
def rv7 (x : FVec Ideal S9216x1024 .f32) (md : FVec Ideal S36x8x1024 .f32) (w : FVec Ideal S5632x1024 .f32) : FVec Ideal S36x256x1024 .f32 := (mulf) (rv0 x md w) (rv6 x md w)
/-- The reference's `slice` number 8, as a function of the arguments. -/
def rv8 (x : FVec Ideal S9216x1024 .f32) (md : FVec Ideal S36x8x1024 .f32) (w : FVec Ideal S5632x1024 .f32) : FVec Ideal S36x1x1024 .f32 := ((extractStridedSlice S36x1x1024 ![0, 3, 0] · slices_S36x8x1024_S36x1x1024_0_3_0)) md
/-- The reference's `reshape` number 9, as a function of the arguments. -/
def rv9 (x : FVec Ideal S9216x1024 .f32) (md : FVec Ideal S36x8x1024 .f32) (w : FVec Ideal S5632x1024 .f32) : FVec Ideal S36x1024 .f32 := shapeCast S36x1024 (rv8 x md w) shapeCasts_S36x1x1024_S36x1024
/-- The reference's `broadcast_in_dim` number 10, as a function of the arguments. -/
def rv10 (x : FVec Ideal S9216x1024 .f32) (md : FVec Ideal S36x8x1024 .f32) (w : FVec Ideal S5632x1024 .f32) : FVec Ideal S36x1x1024 .f32 := (broadcastInDim S36x1x1024 ![0, 2] bcast_S36x1024_S36x1x1024_0_2) (rv9 x md w)
/-- The reference's `broadcast_in_dim` number 11, as a function of the arguments. -/
def rv11 (x : FVec Ideal S9216x1024 .f32) (md : FVec Ideal S36x8x1024 .f32) (w : FVec Ideal S5632x1024 .f32) : FVec Ideal S36x256x1024 .f32 := (broadcastInDim S36x256x1024 ![0, 1, 2] bcast_S36x1x1024_S36x256x1024_0_1_2) (rv10 x md w)
/-- The reference's `add` number 12, as a function of the arguments. -/
def rv12 (x : FVec Ideal S9216x1024 .f32) (md : FVec Ideal S36x8x1024 .f32) (w : FVec Ideal S5632x1024 .f32) : FVec Ideal S36x256x1024 .f32 := (addf) (rv7 x md w) (rv11 x md w)
/-- The reference's `reshape` number 13, as a function of the arguments. -/
def rv13 (x : FVec Ideal S9216x1024 .f32) (md : FVec Ideal S36x8x1024 .f32) (w : FVec Ideal S5632x1024 .f32) : FVec Ideal S9216x1024 .f32 := shapeCast S9216x1024 (rv12 x md w) shapeCasts_S36x256x1024_S9216x1024
/-- The reference's `dot_general` number 14, as a function of the arguments. -/
def rv14 (x : FVec Ideal S9216x1024 .f32) (md : FVec Ideal S36x8x1024 .f32) (w : FVec Ideal S5632x1024 .f32) : FVec Ideal S9216x5632 .f32 := ((fun l r => Host.dotGeneral dot_S9216x1024_S5632x1024_S9216x5632_1_1_0_0_n_n none l r)) (rv13 x md w) w
/-- The reference's `convert` number 15, as a function of the arguments. -/
def rv15 (x : FVec Ideal S9216x1024 .f32) (md : FVec Ideal S36x8x1024 .f32) (w : FVec Ideal S5632x1024 .f32) : FVec Ideal S9216x5632 .bf16 := ((truncf .bf16 · bitsLt_bf16_f32)) (rv14 x md w)

/-- The modulated rows of the reference, entry by entry. -/
theorem rv13_at (x : FVec Ideal S9216x1024 .f32) (md : FVec Ideal S36x8x1024 .f32) (w : FVec Ideal S5632x1024 .f32) (n : Fin 9216) (l : Fin 1024) : (rv13 x md w (ix2 n l) : EReal) = hmod x md 4 3 n l := by
  unfold rv13 rv12 rv11 rv10 rv9 rv8 rv7 rv6 rv5 rv4 rcst rv3 rv2 rv1 rv0 hmod
  pointwise

/-- The reference's result, entry by entry. -/
theorem rv15_at (x : FVec Ideal S9216x1024 .f32) (md : FVec Ideal S36x8x1024 .f32) (w : FVec Ideal S5632x1024 .f32) (n : Fin 9216) (f : Fin 5632) : (rv15 x md w (ix2 n f) : EReal) = prod x md w 4 3 n f := by
  unfold rv15 rv14 prod
  pointwise
  simp only [rv13_at]

end Chain
end Cert.Reference7Ideal

namespace Cert.Kernel7Ideal
namespace Final
open Cert.Kernel7Ideal Idealize.ShloMosaic Idealize.ShloMosaic.TcCoe Idealize.SL.Sem Cert.Tiles
open Facts₀ Facts Cert.Kernel7Ideal.Gen

/-- Which block each window reads or writes at a point. -/
theorem idx : ∀ t : Fin cfg0.N,
    win0_0.index t = ![t.val, 0] ∧ win0_1.index t = ![t.val, 0, 0] ∧ win0_2.index t = ![0, 0] ∧ win0_3.index t = ![t.val, 0] :=
  (by decide +kernel : ∀ t : Fin grid0.N, _)

/-- The arguments of the program on a device. -/
abbrev ax (m : (ℓ : Loc nD τ sig) → Buf (Elt Ideal) ℓ) (c : Dev nD) : FVec Ideal S9216x1024 .f32 := m ((c : Thread nD τ).loc main_arg0)
abbrev am (m : (ℓ : Loc nD τ sig) → Buf (Elt Ideal) ℓ) (c : Dev nD) : FVec Ideal S36x8x1024 .f32 := m ((c : Thread nD τ).loc main_arg1)
abbrev aw (m : (ℓ : Loc nD τ sig) → Buf (Elt Ideal) ℓ) (c : Dev nD) : FVec Ideal S5632x1024 .f32 := m ((c : Thread nD τ).loc main_arg2)

/-- One block of the result from the blocks of the operands. -/
theorem body (x0 : Vec Ideal S256x1024 .f32) (x1 : Vec Ideal S1x8x1024 .f32) (x2 : Vec Ideal S5632x1024 .bf16) (r : Fin 256) (f : Fin 5632) :
    out0_3 (F := Ideal) x0 x1 x2 (ix2 r f) = ∑ l : Fin 1024, (x0 (ix2 r l) * (1 + x1 (ix3 (0 : Fin 1) (4 : Fin 8) l)) + x1 (ix3 (0 : Fin 1) (3 : Fin 8) l)) * x2 (ix2 f l) := by
  frame_out
  unfold_payloads
  pointwise

variable (m : (ℓ : Loc nD τ sig) → Buf (Elt Ideal) ℓ) (c : Dev nD)

theorem lt36 (t : Fin cfg0.N) : t.val < 36 := lt_of_lt_of_eq t.isLt N_0

/-- The rows' block at a point, entry by entry. -/
theorem blk0 (t : Fin cfg0.N) (r : Fin 256) (l : Fin 1024) :
    ((iblk (F := Ideal) m c 0 t : FVec Ideal S256x1024 .f32) (ix2 r l) : EReal) = ax m c (ix2 (⟨t.val * 256 + r.val, by have := lt36 t; omega⟩ : Fin 9216) l) := by
  have ht := lt36 t
  have e : (win0_0.blk t).view.emb (ix2 r l) = ix2 (⟨t.val * 256 + r.val, by omega⟩ : Fin 9216) l := by
    blk_ext [idx t]
  blk_simp [iblk, idx t]
  rw [e]
  entry_read
  rfl

/-- The table's block at a point, entry by entry. -/
theorem blk1 (t : Fin cfg0.N) (s : Fin 8) (l : Fin 1024) :
    ((iblk (F := Ideal) m c 1 t : FVec Ideal S1x8x1024 .f32) (ix3 (0 : Fin 1) s l) : EReal) = am m c (ix3 (⟨t.val, lt36 t⟩ : Fin 36) s l) := by
  have ht := lt36 t
  have e : (win0_1.blk t).view.emb (ix3 (0 : Fin 1) s l) = ix3 (⟨t.val, ht⟩ : Fin 36) s l := by
    blk_ext [idx t]
  blk_simp [iblk, idx t]
  rw [e]
  entry_read
  rfl

/-- The weight's block at a point is the whole weight. -/
theorem blk2 (t : Fin cfg0.N) (f : Fin 5632) (l : Fin 1024) :
    ((iblk (F := Ideal) m c 2 t : FVec Ideal S5632x1024 .bf16) (ix2 f l) : EReal) = aw m c (ix2 f l) := by
  have e : (win0_2.blk t).view.emb (ix2 f l) = ix2 f l := by
    blk_ext [idx t]
  blk_simp [iblk, idx t]
  rw [e]
  entry_read
  pointwise

/-- The call's result is the reference's. -/
theorem res3 : (dats (F := Ideal) m 0 c).arrAt 3 cfg0.N = Cert.Reference7Ideal.Chain.rv15 (ax m c) (am m c) (aw m c) := by
  refine (dats m 0 c).arrAt_eq_of_covers 3 _ (by decide +kernel) fun t hf y => ?_
  blk_simp
  rw [after0_3]
  have ht := lt36 t
  obtain ⟨r, f, rfl⟩ : ∃ (r : Fin 256) (f : Fin 5632), y = ix2 r f := ⟨y 0, y 1, by funext x; fin_cases x <;> rfl⟩
  have e : (win0_3.blk t).view.emb (ix2 r f) = ix2 (⟨t.val * 256 + r.val, by omega⟩ : Fin 9216) f := by
    blk_ext [idx t]
  refine (body _ _ _ r f).trans ?_
  refine Eq.trans ?_ (congrArg (Cert.Reference7Ideal.Chain.rv15 (ax m c) (am m c) (aw m c)) e).symm
  rw [Cert.Reference7Ideal.Chain.rv15_at]
  unfold prod hmod
  refine Finset.sum_congr rfl fun l _ => ?_
  rw [blk0 m c t, blk1 m c t, blk1 m c t, blk2 m c t]
  simp only [show (t.val * 256 + r.val) / 256 = t.val by omega]

end Final
end Cert.Kernel7Ideal

namespace Cert.Value7
open Idealize.ShloMosaic Idealize.SL.Sem

/-- The kernel and the reference end with the same result. -/
theorem value : Cert.algebraic_Kernel7Ideal_Reference7Ideal (hKernel7Ideal := Cert.Kernel7Ideal.Gen.facts) (hReference7Ideal := Cert.Reference7Ideal.Gen.facts) := by
  intro m g m' g' hpre hag
  refine ⟨fun c => (Cert.Kernel7Ideal.Gen.dats m 0 c).arrAt 3 Cert.Kernel7Ideal.cfg0.N, Cert.Kernel7Ideal.Value.run_blocks (F := Ideal) m g,
    (θ_run Cert.Reference7Ideal.defs _ _).mono (fun r h c => ?_) (Cert.Reference7Ideal.Value.run (F := Ideal) m' g')⟩
  obtain ⟨a, rest⟩ := h c
  obtain ⟨g0, g1, g2⟩ := hag c
  refine ⟨?_, rest⟩
  refine a.trans (Eq.trans ?_ (Cert.Kernel7Ideal.Final.res3 m c).symm)
  rw [g0, g1, g2]
  rfl

end Cert.Value7
end
-- ==== Proof.M8.lean ====
/- The forward input projection (`proj`): the call's result and the reference's are the same sums. -/
module

public import proofs.«01_k».proof.Defs
public import proofs.«01_k».proof.Proof.Gen.Kernel8Ideal.Value
public import proofs.«01_k».proof.Proof.Gen.Reference8Ideal.Run
public import proofs.«01_k».proof.Proof.Tiles

@[expose] public section

set_option maxRecDepth 16384

noncomputable section

namespace Cert.Reference8Ideal
namespace Chain
open Cert.Reference8Ideal Idealize.ShloMosaic Idealize.ShloMosaic.TcCoe Idealize.SL.Sem Cert.Tiles
open Cert.Reference8Ideal.Gen

/-- The reference's `reshape` number 0, as a function of the arguments. -/
def rv0 (x : FVec Ideal S9216x1024 .f32) (md : FVec Ideal S36x8x1024 .f32) (w : FVec Ideal S2048x1024 .f32) : FVec Ideal S36x256x1024 .f32 := shapeCast S36x256x1024 x shapeCasts_S9216x1024_S36x256x1024
/-- The reference's `slice` number 1, as a function of the arguments. -/
def rv1 (x : FVec Ideal S9216x1024 .f32) (md : FVec Ideal S36x8x1024 .f32) (w : FVec Ideal S2048x1024 .f32) : FVec Ideal S36x1x1024 .f32 := ((extractStridedSlice S36x1x1024 ![0, 1, 0] · slices_S36x8x1024_S36x1x1024_0_1_0)) md
/-- The reference's `reshape` number 2, as a function of the arguments. -/
def rv2 (x : FVec Ideal S9216x1024 .f32) (md : FVec Ideal S36x8x1024 .f32) (w : FVec Ideal S2048x1024 .f32) : FVec Ideal S36x1024 .f32 := shapeCast S36x1024 (rv1 x md w) shapeCasts_S36x1x1024_S36x1024
/-- The reference's `broadcast_in_dim` number 3, as a function of the arguments. -/
def rv3 (x : FVec Ideal S9216x1024 .f32) (md : FVec Ideal S36x8x1024 .f32) (w : FVec Ideal S2048x1024 .f32) : FVec Ideal S36x1x1024 .f32 := (broadcastInDim S36x1x1024 ![0, 2] bcast_S36x1024_S36x1x1024_0_2) (rv2 x md w)
/-- The reference's `constant` number cst, as a function of the arguments. -/
def rcst (x : FVec Ideal S9216x1024 .f32) (md : FVec Ideal S36x8x1024 .f32) (w : FVec Ideal S2048x1024 .f32) : FVec Ideal S_ .f32 := (constant S_ .f32 0x3F800000#32)
/-- The reference's `broadcast_in_dim` number 4, as a function of the arguments. -/
def rv4 (x : FVec Ideal S9216x1024 .f32) (md : FVec Ideal S36x8x1024 .f32) (w : FVec Ideal S2048x1024 .f32) : FVec Ideal S36x1x1024 .f32 := (broadcastInDim S36x1x1024 ![] bcast_S_S36x1x1024) (rcst x md w)
/-- The reference's `add` number 5, as a function of the arguments. -/
def rv5 (x : FVec Ideal S9216x1024 .f32) (md : FVec Ideal S36x8x1024 .f32) (w : FVec Ideal S2048x1024 .f32) : FVec Ideal S36x1x1024 .f32 := (addf) (rv4 x md w) (rv3 x md w)
/-- The reference's `broadcast_in_dim` number 6, as a function of the arguments. -/
def rv6 (x : FVec Ideal S9216x1024 .f32) (md : FVec Ideal S36x8x1024 .f32) (w : FVec Ideal S2048x1024 .f32) : FVec Ideal S36x256x1024 .f32 := (broadcastInDim S36x256x1024 ![0, 1, 2] bcast_S36x1x1024_S36x256x1024_0_1_2) (rv5 x md w)
/-- The reference's `multiply` number 7, as a function of the arguments. -/
def rv7 (x : FVec Ideal S9216x1024 .f32) (md : FVec Ideal S36x8x1024 .f32) (w : FVec Ideal S2048x1024 .f32) : FVec Ideal S36x256x1024 .f32 := (mulf) (rv0 x md w) (rv6 x md w)
/-- The reference's `slice` number 8, as a function of the arguments. -/
def rv8 (x : FVec Ideal S9216x1024 .f32) (md : FVec Ideal S36x8x1024 .f32) (w : FVec Ideal S2048x1024 .f32) : FVec Ideal S36x1x1024 .f32 := ((extractStridedSlice S36x1x1024 ![0, 0, 0] · slices_S36x8x1024_S36x1x1024_0_0_0)) md
/-- The reference's `reshape` number 9, as a function of the arguments. -/
def rv9 (x : FVec Ideal S9216x1024 .f32) (md : FVec Ideal S36x8x1024 .f32) (w : FVec Ideal S2048x1024 .f32) : FVec Ideal S36x1024 .f32 := shapeCast S36x1024 (rv8 x md w) shapeCasts_S36x1x1024_S36x1024
/-- The reference's `broadcast_in_dim` number 10, as a function of the arguments. -/
def rv10 (x : FVec Ideal S9216x1024 .f32) (md : FVec Ideal S36x8x1024 .f32) (w : FVec Ideal S2048x1024 .f32) : FVec Ideal S36x1x1024 .f32 := (broadcastInDim S36x1x1024 ![0, 2] bcast_S36x1024_S36x1x1024_0_2) (rv9 x md w)
/-- The reference's `broadcast_in_dim` number 11, as a function of the arguments. -/
def rv11 (x : FVec Ideal S9216x1024 .f32) (md : FVec Ideal S36x8x1024 .f32) (w : FVec Ideal S2048x1024 .f32) : FVec Ideal S36x256x1024 .f32 := (broadcastInDim S36x256x1024 ![0, 1, 2] bcast_S36x1x1024_S36x256x1024_0_1_2) (rv10 x md w)
/-- The reference's `add` number 12, as a function of the arguments. -/
def rv12 (x : FVec Ideal S9216x1024 .f32) (md : FVec Ideal S36x8x1024 .f32) (w : FVec Ideal S2048x1024 .f32) : FVec Ideal S36x256x1024 .f32 := (addf) (rv7 x md w) (rv11 x md w)
/-- The reference's `reshape` number 13, as a function of the arguments. -/
def rv13 (x : FVec Ideal S9216x1024 .f32) (md : FVec Ideal S36x8x1024 .f32) (w : FVec Ideal S2048x1024 .f32) : FVec Ideal S9216x1024 .f32 := shapeCast S9216x1024 (rv12 x md w) shapeCasts_S36x256x1024_S9216x1024
/-- The reference's `dot_general` number 14, as a function of the arguments. -/
def rv14 (x : FVec Ideal S9216x1024 .f32) (md : FVec Ideal S36x8x1024 .f32) (w : FVec Ideal S2048x1024 .f32) : FVec Ideal S9216x2048 .f32 := ((fun l r => Host.dotGeneral dot_S9216x1024_S2048x1024_S9216x2048_1_1_0_0_n_n none l r)) (rv13 x md w) w

/-- The modulated rows of the reference, entry by entry. -/
theorem rv13_at (x : FVec Ideal S9216x1024 .f32) (md : FVec Ideal S36x8x1024 .f32) (w : FVec Ideal S2048x1024 .f32) (n : Fin 9216) (l : Fin 1024) : (rv13 x md w (ix2 n l) : EReal) = hmod x md 1 0 n l := by
  unfold rv13 rv12 rv11 rv10 rv9 rv8 rv7 rv6 rv5 rv4 rcst rv3 rv2 rv1 rv0 hmod
  pointwise

/-- The reference's result, entry by entry. -/
theorem rv14_at (x : FVec Ideal S9216x1024 .f32) (md : FVec Ideal S36x8x1024 .f32) (w : FVec Ideal S2048x1024 .f32) (n : Fin 9216) (f : Fin 2048) : (rv14 x md w (ix2 n f) : EReal) = prod x md w 1 0 n f := by
  unfold rv14 prod
  pointwise
  simp only [rv13_at]

end Chain
end Cert.Reference8Ideal

namespace Cert.Kernel8Ideal
namespace Final
open Cert.Kernel8Ideal Idealize.ShloMosaic Idealize.ShloMosaic.TcCoe Idealize.SL.Sem Cert.Tiles
open Facts₀ Facts Cert.Kernel8Ideal.Gen

/-- Which block each window reads or writes at a point. -/
theorem idx : ∀ t : Fin cfg0.N,
    win0_0.index t = ![t.val, 0] ∧ win0_1.index t = ![t.val, 0, 0] ∧ win0_2.index t = ![0, 0] ∧ win0_3.index t = ![t.val, 0] :=
  (by decide +kernel : ∀ t : Fin grid0.N, _)

/-- The arguments of the program on a device. -/
abbrev ax (m : (ℓ : Loc nD τ sig) → Buf (Elt Ideal) ℓ) (c : Dev nD) : FVec Ideal S9216x1024 .f32 := m ((c : Thread nD τ).loc main_arg0)
abbrev am (m : (ℓ : Loc nD τ sig) → Buf (Elt Ideal) ℓ) (c : Dev nD) : FVec Ideal S36x8x1024 .f32 := m ((c : Thread nD τ).loc main_arg1)
abbrev aw (m : (ℓ : Loc nD τ sig) → Buf (Elt Ideal) ℓ) (c : Dev nD) : FVec Ideal S2048x1024 .f32 := m ((c : Thread nD τ).loc main_arg2)

/-- One block of the result from the blocks of the operands. -/
theorem body (x0 : Vec Ideal S256x1024 .f32) (x1 : Vec Ideal S1x8x1024 .f32) (x2 : Vec Ideal S2048x1024 .bf16) (r : Fin 256) (f : Fin 2048) :
    out0_3 (F := Ideal) x0 x1 x2 (ix2 r f) = ∑ l : Fin 1024, (x0 (ix2 r l) * (1 + x1 (ix3 (0 : Fin 1) (1 : Fin 8) l)) + x1 (ix3 (0 : Fin 1) (0 : Fin 8) l)) * x2 (ix2 f l) := by
  frame_out
  unfold_payloads
  pointwise

variable (m : (ℓ : Loc nD τ sig) → Buf (Elt Ideal) ℓ) (c : Dev nD)

theorem lt36 (t : Fin cfg0.N) : t.val < 36 := lt_of_lt_of_eq t.isLt N_0

/-- The rows' block at a point, entry by entry. -/
theorem blk0 (t : Fin cfg0.N) (r : Fin 256) (l : Fin 1024) :
    ((iblk (F := Ideal) m c 0 t : FVec Ideal S256x1024 .f32) (ix2 r l) : EReal) = ax m c (ix2 (⟨t.val * 256 + r.val, by have := lt36 t; omega⟩ : Fin 9216) l) := by
  have ht := lt36 t
  have e : (win0_0.blk t).view.emb (ix2 r l) = ix2 (⟨t.val * 256 + r.val, by omega⟩ : Fin 9216) l := by
    blk_ext [idx t]
  blk_simp [iblk, idx t]
  rw [e]
  entry_read
  rfl

/-- The table's block at a point, entry by entry. -/
theorem blk1 (t : Fin cfg0.N) (s : Fin 8) (l : Fin 1024) :
    ((iblk (F := Ideal) m c 1 t : FVec Ideal S1x8x1024 .f32) (ix3 (0 : Fin 1) s l) : EReal) = am m c (ix3 (⟨t.val, lt36 t⟩ : Fin 36) s l) := by
  have ht := lt36 t
  have e : (win0_1.blk t).view.emb (ix3 (0 : Fin 1) s l) = ix3 (⟨t.val, ht⟩ : Fin 36) s l := by
    blk_ext [idx t]
  blk_simp [iblk, idx t]
  rw [e]
  entry_read
  rfl

/-- The weight's block at a point is the whole weight. -/
theorem blk2 (t : Fin cfg0.N) (f : Fin 2048) (l : Fin 1024) :
    ((iblk (F := Ideal) m c 2 t : FVec Ideal S2048x1024 .bf16) (ix2 f l) : EReal) = aw m c (ix2 f l) := by
  have e : (win0_2.blk t).view.emb (ix2 f l) = ix2 f l := by
    blk_ext [idx t]
  blk_simp [iblk, idx t]
  rw [e]
  entry_read
  pointwise

/-- The call's result is the reference's. -/
theorem res3 : (dats (F := Ideal) m 0 c).arrAt 3 cfg0.N = Cert.Reference8Ideal.Chain.rv14 (ax m c) (am m c) (aw m c) := by
  refine (dats m 0 c).arrAt_eq_of_covers 3 _ (by decide +kernel) fun t hf y => ?_
  blk_simp
  rw [after0_3]
  have ht := lt36 t
  obtain ⟨r, f, rfl⟩ : ∃ (r : Fin 256) (f : Fin 2048), y = ix2 r f := ⟨y 0, y 1, by funext x; fin_cases x <;> rfl⟩
  have e : (win0_3.blk t).view.emb (ix2 r f) = ix2 (⟨t.val * 256 + r.val, by omega⟩ : Fin 9216) f := by
    blk_ext [idx t]
  refine (body _ _ _ r f).trans ?_
  refine Eq.trans ?_ (congrArg (Cert.Reference8Ideal.Chain.rv14 (ax m c) (am m c) (aw m c)) e).symm
  rw [Cert.Reference8Ideal.Chain.rv14_at]
  unfold prod hmod
  refine Finset.sum_congr rfl fun l _ => ?_
  rw [blk0 m c t, blk1 m c t, blk1 m c t, blk2 m c t]
  simp only [show (t.val * 256 + r.val) / 256 = t.val by omega]

end Final
end Cert.Kernel8Ideal

namespace Cert.Value8
open Idealize.ShloMosaic Idealize.SL.Sem

/-- The kernel and the reference end with the same result. -/
theorem value : Cert.algebraic_Kernel8Ideal_Reference8Ideal (hKernel8Ideal := Cert.Kernel8Ideal.Gen.facts) (hReference8Ideal := Cert.Reference8Ideal.Gen.facts) := by
  intro m g m' g' hpre hag
  refine ⟨fun c => (Cert.Kernel8Ideal.Gen.dats m 0 c).arrAt 3 Cert.Kernel8Ideal.cfg0.N, Cert.Kernel8Ideal.Value.run_blocks (F := Ideal) m g,
    (θ_run Cert.Reference8Ideal.defs _ _).mono (fun r h c => ?_) (Cert.Reference8Ideal.Value.run (F := Ideal) m' g')⟩
  obtain ⟨a, rest⟩ := h c
  obtain ⟨g0, g1, g2⟩ := hag c
  refine ⟨?_, rest⟩
  refine a.trans (Eq.trans ?_ (Cert.Kernel8Ideal.Final.res3 m c).symm)
  rw [g0, g1, g2]
  rfl

end Cert.Value8
end
-- ==== Proof.M9.lean ====
/- The second half of the feed-forward layer, with its convolution and the layer norm after it (`ffn_down`). -/
module

public import proofs.«01_k».proof.Defs
public import proofs.«01_k».proof.Proof.Gen.Kernel9Ideal.Frame
public import proofs.«01_k».proof.Proof.Gen.Reference9Ideal.Run
public import proofs.«01_k».proof.Proof.Tiles
public import proofs.«01_k».proof.Proof.Body

@[expose] public section

set_option maxRecDepth 16384

noncomputable section

namespace Cert.Reference9Ideal
namespace Chain
open Cert.Reference9Ideal Idealize.ShloMosaic Idealize.ShloMosaic.TcCoe Idealize.SL.Sem Cert.Tiles
open Cert.Reference9Ideal.Gen

/-- The row before `n`, zero at the first row of the context and of the latent positions. -/
def prv (u : FVec Ideal S9216x5632 .f32) (n : Fin 9216) (q : Fin 5632) : EReal := if n.val % 2304 = 0 ∨ n.val % 2304 = 256 then 0 else u (ix2 (⟨n.val - 1, by omega⟩ : Fin 9216) q)
/-- The row after `n`, zero at the last row of the context and of the latent positions. -/
def nxt (u : FVec Ideal S9216x5632 .f32) (n : Fin 9216) (q : Fin 5632) : EReal := if n.val % 2304 = 255 ∨ n.val % 2304 = 2303 then 0 else u (ix2 (⟨(n.val + 1) % 9216, by omega⟩ : Fin 9216) q)
/-- The convolution's entry. -/
def cnv (u : FVec Ideal S9216x5632 .f32) (cw : FVec Ideal S8x5632 .f32) (cb : FVec Ideal S1x5632 .f32) (n : Fin 9216) (q : Fin 5632) : EReal := cw (ix2 0 q) * prv u n q + cw (ix2 1 q) * u (ix2 n q) + cw (ix2 2 q) * nxt u n q + cb (ix2 0 q)
/-- The gated activation's entry. -/
def act (u : FVec Ideal S9216x5632 .f32) (cw : FVec Ideal S8x5632 .f32) (cb : FVec Ideal S1x5632 .f32) (n : Fin 9216) (q : Fin 2816) : EReal := cnv u cw cb n (⟨q.val / 1408 * 2816 + q.val % 1408, by omega⟩ : Fin 5632) * Ideal.logistic (cnv u cw cb n (⟨q.val / 1408 * 2816 + q.val % 1408, by omega⟩ : Fin 5632)) * cnv u cw cb n (⟨q.val / 1408 * 2816 + 1408 + q.val % 1408, by omega⟩ : Fin 5632)
/-- The mean over the features. -/
def mean (z : Fin 1024 → EReal) : EReal := Ideal.div (∑ x, z x) (Ideal.ofBits FTy.f32 1149239296#32)
/-- The layer norm's entry. -/
def lnorm (z : Fin 1024 → EReal) (g b : EReal) (l : Fin 1024) : EReal :=
  (z l - mean z) * Ideal.rsqrt (Ideal.div (∑ x, (z x - mean z) * (z x - mean z)) (Ideal.ofBits FTy.f32 1149239296#32) + Ideal.ofBits FTy.f32 897988541#32) * g + b

/-- The arguments' rows by samples. -/
def r0 (u : FVec Ideal S9216x5632 .f32) : FVec Ideal S4x2304x5632 .f32 := shapeCast S4x2304x5632 u shapeCasts_S9216x5632_S4x2304x5632
/-- A row of zeros. -/
def rz : FVec Ideal S4x1x5632 .f32 := broadcastInDim S4x1x5632 ![] bcast_S_S4x1x5632 (constant S_ .f32 0x00000000#32)
/-- The context's rows between two rows of zeros. -/
def r3 (u : FVec Ideal S9216x5632 .f32) : FVec Ideal S4x258x5632 .f32 := (concatenate S4x258x5632 1 [⟨S4x1x5632, rz⟩, ⟨S4x256x5632, (extractStridedSlice S4x256x5632 ![0, 0, 0] (r0 u) slices_S4x2304x5632_S4x256x5632_0_0_0)⟩, ⟨S4x1x5632, rz⟩] concatenates_S4x1x5632_S4x256x5632_S4x1x5632_S4x258x5632_d1)
/-- The latent rows between two rows of zeros. -/
def r28 (u : FVec Ideal S9216x5632 .f32) : FVec Ideal S4x2050x5632 .f32 := (concatenate S4x2050x5632 1 [⟨S4x1x5632, rz⟩, ⟨S4x2048x5632, (extractStridedSlice S4x2048x5632 ![0, 256, 0] (r0 u) slices_S4x2304x5632_S4x2048x5632_0_256_0)⟩, ⟨S4x1x5632, rz⟩] concatenates_S4x1x5632_S4x2048x5632_S4x1x5632_S4x2050x5632_d1)

/-- The convolution of the context's rows. -/
def r26 (u : FVec Ideal S9216x5632 .f32) (cw : FVec Ideal S8x5632 .f32) (cb : FVec Ideal S1x5632 .f32) : FVec Ideal S4x256x5632 .f32 := addf (addf (addf (addf (broadcastInDim S4x256x5632 ![] bcast_S_S4x256x5632 (constant S_ .f32 0x00000000#32)) (mulf (extractStridedSlice S4x256x5632 ![0, 0, 0] (r3 u) slices_S4x258x5632_S4x256x5632_0_0_0) (broadcastInDim S4x256x5632 ![0, 1, 2] bcast_S1x1x5632_S4x256x5632_0_1_2 (broadcastInDim S1x1x5632 ![1, 2] bcast_S1x5632_S1x1x5632_1_2 (extractStridedSlice S1x5632 ![0, 0] cw slices_S8x5632_S1x5632_0_0))))) (mulf (extractStridedSlice S4x256x5632 ![0, 1, 0] (r3 u) slices_S4x258x5632_S4x256x5632_0_1_0) (broadcastInDim S4x256x5632 ![0, 1, 2] bcast_S1x1x5632_S4x256x5632_0_1_2 (broadcastInDim S1x1x5632 ![1, 2] bcast_S1x5632_S1x1x5632_1_2 (extractStridedSlice S1x5632 ![1, 0] cw slices_S8x5632_S1x5632_1_0))))) (mulf (extractStridedSlice S4x256x5632 ![0, 2, 0] (r3 u) slices_S4x258x5632_S4x256x5632_0_2_0) (broadcastInDim S4x256x5632 ![0, 1, 2] bcast_S1x1x5632_S4x256x5632_0_1_2 (broadcastInDim S1x1x5632 ![1, 2] bcast_S1x5632_S1x1x5632_1_2 (extractStridedSlice S1x5632 ![2, 0] cw slices_S8x5632_S1x5632_2_0))))) (broadcastInDim S4x256x5632 ![0, 1, 2] bcast_S1x1x5632_S4x256x5632_0_1_2 (broadcastInDim S1x1x5632 ![1, 2] bcast_S1x5632_S1x1x5632_1_2 cb))
/-- The convolution of the latent rows. -/
def r51 (u : FVec Ideal S9216x5632 .f32) (cw : FVec Ideal S8x5632 .f32) (cb : FVec Ideal S1x5632 .f32) : FVec Ideal S4x2048x5632 .f32 := addf (addf (addf (addf (broadcastInDim S4x2048x5632 ![] bcast_S_S4x2048x5632 (constant S_ .f32 0x00000000#32)) (mulf (extractStridedSlice S4x2048x5632 ![0, 0, 0] (r28 u) slices_S4x2050x5632_S4x2048x5632_0_0_0) (broadcastInDim S4x2048x5632 ![0, 1, 2] bcast_S1x1x5632_S4x2048x5632_0_1_2 (broadcastInDim S1x1x5632 ![1, 2] bcast_S1x5632_S1x1x5632_1_2 (extractStridedSlice S1x5632 ![0, 0] cw slices_S8x5632_S1x5632_0_0))))) (mulf (extractStridedSlice S4x2048x5632 ![0, 1, 0] (r28 u) slices_S4x2050x5632_S4x2048x5632_0_1_0) (broadcastInDim S4x2048x5632 ![0, 1, 2] bcast_S1x1x5632_S4x2048x5632_0_1_2 (broadcastInDim S1x1x5632 ![1, 2] bcast_S1x5632_S1x1x5632_1_2 (extractStridedSlice S1x5632 ![1, 0] cw slices_S8x5632_S1x5632_1_0))))) (mulf (extractStridedSlice S4x2048x5632 ![0, 2, 0] (r28 u) slices_S4x2050x5632_S4x2048x5632_0_2_0) (broadcastInDim S4x2048x5632 ![0, 1, 2] bcast_S1x1x5632_S4x2048x5632_0_1_2 (broadcastInDim S1x1x5632 ![1, 2] bcast_S1x5632_S1x1x5632_1_2 (extractStridedSlice S1x5632 ![2, 0] cw slices_S8x5632_S1x5632_2_0))))) (broadcastInDim S4x2048x5632 ![0, 1, 2] bcast_S1x1x5632_S4x2048x5632_0_1_2 (broadcastInDim S1x1x5632 ![1, 2] bcast_S1x5632_S1x1x5632_1_2 cb))
/-- The reference's convolution. -/
def r52 (u : FVec Ideal S9216x5632 .f32) (cw : FVec Ideal S8x5632 .f32) (cb : FVec Ideal S1x5632 .f32) : FVec Ideal S9216x5632 .f32 := shapeCast S9216x5632 (concatenate S4x2304x5632 1 [⟨S4x256x5632, (r26 u cw cb)⟩, ⟨S4x2048x5632, (r51 u cw cb)⟩] concatenates_S4x256x5632_S4x2048x5632_S4x2304x5632_d1) shapeCasts_S4x2304x5632_S9216x5632
/-- The reference's saved convolution. -/
def r95 (u : FVec Ideal S9216x5632 .f32) (cw : FVec Ideal S8x5632 .f32) (cb : FVec Ideal S1x5632 .f32) : FVec Ideal S9216x5632 .bf16 := truncf .bf16 (r52 u cw cb) bitsLt_bf16_f32
/-- The convolution by chunks. -/
def r53 (u : FVec Ideal S9216x5632 .f32) (cw : FVec Ideal S8x5632 .f32) (cb : FVec Ideal S1x5632 .f32) : FVec Ideal S9216x2x2x1408 .f32 := shapeCast S9216x2x2x1408 (r52 u cw cb) shapeCasts_S9216x5632_S9216x2x2x1408
/-- The gate. -/
def r56 (u : FVec Ideal S9216x5632 .f32) (cw : FVec Ideal S8x5632 .f32) (cb : FVec Ideal S1x5632 .f32) : FVec Ideal S9216x2816 .f32 := shapeCast S9216x2816 (shapeCast S9216x2x1408 (extractStridedSlice S9216x2x1x1408 ![0, 0, 0, 0] (r53 u cw cb) slices_S9216x2x2x1408_S9216x2x1x1408_0_0_0_0) shapeCasts_S9216x2x1x1408_S9216x2x1408) shapeCasts_S9216x2x1408_S9216x2816
/-- The value. -/
def r59 (u : FVec Ideal S9216x5632 .f32) (cw : FVec Ideal S8x5632 .f32) (cb : FVec Ideal S1x5632 .f32) : FVec Ideal S9216x2816 .f32 := shapeCast S9216x2816 (shapeCast S9216x2x1408 (extractStridedSlice S9216x2x1x1408 ![0, 0, 1, 0] (r53 u cw cb) slices_S9216x2x2x1408_S9216x2x1x1408_0_0_1_0) shapeCasts_S9216x2x1x1408_S9216x2x1408) shapeCasts_S9216x2x1408_S9216x2816
/-- The ones. -/
def rone : FVec Ideal S9216x2816 .f32 := broadcastInDim S9216x2816 ![] bcast_S_S9216x2816 (constant S_ .f32 0x3F800000#32)
/-- The activation. -/
def r61 (u : FVec Ideal S9216x5632 .f32) (cw : FVec Ideal S8x5632 .f32) (cb : FVec Ideal S1x5632 .f32) : FVec Ideal S9216x2816 .f32 := mulf (mulf (r56 u cw cb) (Host.divf rone (addf rone (Host.exp (Host.negf (r56 u cw cb)))))) (r59 u cw cb)
/-- The reference's product. -/
def r62 (u : FVec Ideal S9216x5632 .f32) (cw : FVec Ideal S8x5632 .f32) (cb : FVec Ideal S1x5632 .f32) (wd : FVec Ideal S2816x1024 .f32) : FVec Ideal S9216x1024 .f32 := Host.dotGeneral dot_S9216x2816_S2816x1024_S9216x1024_1_0_0_1_n_n none (r61 u cw cb) wd
/-- The layer norm's argument. -/
def r72 (u : FVec Ideal S9216x5632 .f32) (cw : FVec Ideal S8x5632 .f32) (cb : FVec Ideal S1x5632 .f32) (wd : FVec Ideal S2816x1024 .f32) (x1 : FVec Ideal S9216x1024 .f32) (md : FVec Ideal S36x8x1024 .f32) : FVec Ideal S9216x1024 .f32 := addf (mulf (broadcastInDim S9216x1024 ![] bcast_S_S9216x1024 (constant S_ .f32 0x3FD744FD#32)) x1) (shapeCast S9216x1024 (mulf (broadcastInDim S36x256x1024 ![0, 1, 2] bcast_S36x1x1024_S36x256x1024_0_1_2 (broadcastInDim S36x1x1024 ![0, 2] bcast_S36x1024_S36x1x1024_0_2 (shapeCast S36x1024 (extractStridedSlice S36x1x1024 ![0, 5, 0] md slices_S36x8x1024_S36x1x1024_0_5_0) shapeCasts_S36x1x1024_S36x1024))) (shapeCast S36x256x1024 (r62 u cw cb wd) shapeCasts_S9216x1024_S36x256x1024)) shapeCasts_S36x256x1024_S9216x1024)
/-- The row's mean. -/
def r76 (z : FVec Ideal S9216x1024 .f32) : FVec Ideal S9216x1 .f32 := Host.divf (broadcastInDim S9216x1 ![0] bcast_S9216_S9216x1_0 (Host.reduceAdd z (constant S_ .f32 0x00000000#32) reducesTo_S9216x1024_S9216_d1 h_S_)) (broadcastInDim S9216x1 ![] bcast_S_S9216x1 (constant S_ .f32 0x44800000#32))
/-- The row less its mean. -/
def r78 (z : FVec Ideal S9216x1024 .f32) : FVec Ideal S9216x1024 .f32 := subf z (broadcastInDim S9216x1024 ![0, 1] bcast_S9216x1_S9216x1024_0_1 (r76 z))
/-- The reference's layer norm. -/
def r94 (z : FVec Ideal S9216x1024 .f32) (lg lb : FVec Ideal S1x1024 .f32) : FVec Ideal S9216x1024 .f32 := addf (mulf (mulf (r78 z) (broadcastInDim S9216x1024 ![0, 1] bcast_S9216x1_S9216x1024_0_1 (Host.rsqrt (addf (Host.divf (broadcastInDim S9216x1 ![0] bcast_S9216_S9216x1_0 (Host.reduceAdd (mulf (r78 z) (r78 z)) (constant S_ .f32 0x00000000#32) reducesTo_S9216x1024_S9216_d1 h_S_)) (broadcastInDim S9216x1 ![] bcast_S_S9216x1 (constant S_ .f32 0x44800000#32))) (broadcastInDim S9216x1 ![] bcast_S_S9216x1 (constant S_ .f32 0x358637BD#32)))))) (broadcastInDim S9216x1024 ![0, 1] bcast_S1x1024_S9216x1024_0_1 lg)) (broadcastInDim S9216x1024 ![0, 1] bcast_S1x1024_S9216x1024_0_1 lb)

theorem r3_at (u : FVec Ideal S9216x5632 .f32) (b : Fin 4) (j : Fin 258) (q : Fin 5632) : (r3 u (ix3 b j q) : EReal) = if h : 1 ≤ j.val ∧ j.val ≤ 256 then u (ix2 (⟨b.val * 2304 + (j.val - 1), by omega⟩ : Fin 9216) q) else 0 := by
  unfold r3 rz r0
  pointwise
  have hj := j.isLt
  split_ifs <;> first | rfl | (exfalso; omega) | skip
  rw [dif_pos (by omega)]

theorem r28_at (u : FVec Ideal S9216x5632 .f32) (b : Fin 4) (j : Fin 2050) (q : Fin 5632) : (r28 u (ix3 b j q) : EReal) = if h : 1 ≤ j.val ∧ j.val ≤ 2048 then u (ix2 (⟨b.val * 2304 + 256 + (j.val - 1), by omega⟩ : Fin 9216) q) else 0 := by
  unfold r28 rz r0
  pointwise
  have hj := j.isLt
  split_ifs <;> first | rfl | (exfalso; omega) | skip
  rw [dif_pos (by omega)]
  exact congrArg (fun z : Fin 9216 => u (ix2 z q)) (Fin.ext (by dsimp only; omega))

theorem r26_at (u : FVec Ideal S9216x5632 .f32) (cw : FVec Ideal S8x5632 .f32) (cb : FVec Ideal S1x5632 .f32) (b : Fin 4) (j : Fin 256) (q : Fin 5632) : (r26 u cw cb (ix3 b j q) : EReal) = cnv u cw cb ⟨b.val * 2304 + j.val, by omega⟩ q := by
  unfold r26 cnv prv nxt
  pointwise
  simp only [r3_at]
  refine congrArg₂ (fun a b : EReal => a + b) (congrArg₂ (fun a b : EReal => a + b) (congrArg₂ (fun a b : EReal => a + b) ?_ ?_) ?_) rfl
  · rw [mul_comm]
    refine congrArg (fun z : EReal => cw (ix2 0 q) * z) ?_
    split_ifs <;> first | (exfalso; omega) | exact congrArg (fun z : Fin 9216 => u (ix2 z q)) (Fin.ext (by dsimp only; omega)) | rfl
  · rw [mul_comm]
    refine congrArg (fun z : EReal => cw (ix2 1 q) * z) ?_
    split_ifs <;> first | (exfalso; omega) | exact congrArg (fun z : Fin 9216 => u (ix2 z q)) (Fin.ext (by dsimp only; omega)) | rfl
  · rw [mul_comm]
    refine congrArg (fun z : EReal => cw (ix2 2 q) * z) ?_
    split_ifs <;> first | (exfalso; omega) | exact congrArg (fun z : Fin 9216 => u (ix2 z q)) (Fin.ext (by dsimp only; omega)) | rfl

theorem r51_at (u : FVec Ideal S9216x5632 .f32) (cw : FVec Ideal S8x5632 .f32) (cb : FVec Ideal S1x5632 .f32) (b : Fin 4) (j : Fin 2048) (q : Fin 5632) : (r51 u cw cb (ix3 b j q) : EReal) = cnv u cw cb ⟨b.val * 2304 + 256 + j.val, by omega⟩ q := by
  unfold r51 cnv prv nxt
  pointwise
  simp only [r28_at]
  refine congrArg₂ (fun a b : EReal => a + b) (congrArg₂ (fun a b : EReal => a + b) (congrArg₂ (fun a b : EReal => a + b) ?_ ?_) ?_) rfl
  · rw [mul_comm]
    refine congrArg (fun z : EReal => cw (ix2 0 q) * z) ?_
    split_ifs <;> first | (exfalso; omega) | exact congrArg (fun z : Fin 9216 => u (ix2 z q)) (Fin.ext (by dsimp only; omega)) | rfl
  · rw [mul_comm]
    refine congrArg (fun z : EReal => cw (ix2 1 q) * z) ?_
    split_ifs <;> first | (exfalso; omega) | exact congrArg (fun z : Fin 9216 => u (ix2 z q)) (Fin.ext (by dsimp only; omega)) | rfl
  · rw [mul_comm]
    refine congrArg (fun z : EReal => cw (ix2 2 q) * z) ?_
    split_ifs <;> first | (exfalso; omega) | exact congrArg (fun z : Fin 9216 => u (ix2 z q)) (Fin.ext (by dsimp only; omega)) | rfl

theorem r52_at (u : FVec Ideal S9216x5632 .f32) (cw : FVec Ideal S8x5632 .f32) (cb : FVec Ideal S1x5632 .f32) (n : Fin 9216) (q : Fin 5632) : (r52 u cw cb (ix2 n q) : EReal) = cnv u cw cb n q := by
  unfold r52
  pointwise
  by_cases h : n.val % 2304 < 256
  · rw [dif_pos h, r26_at]
    exact congrArg (fun z : Fin 9216 => cnv u cw cb z q) (Fin.ext (by dsimp only; omega))
  · rw [dif_neg h, r51_at]
    exact congrArg (fun z : Fin 9216 => cnv u cw cb z q) (Fin.ext (by dsimp only; omega))

theorem r56_at (u : FVec Ideal S9216x5632 .f32) (cw : FVec Ideal S8x5632 .f32) (cb : FVec Ideal S1x5632 .f32) (n : Fin 9216) (q : Fin 2816) : (r56 u cw cb (ix2 n q) : EReal) = cnv u cw cb n (⟨q.val / 1408 * 2816 + q.val % 1408, by omega⟩ : Fin 5632) := by
  unfold r56 r53
  pointwise
  rw [r52_at]

theorem r59_at (u : FVec Ideal S9216x5632 .f32) (cw : FVec Ideal S8x5632 .f32) (cb : FVec Ideal S1x5632 .f32) (n : Fin 9216) (q : Fin 2816) : (r59 u cw cb (ix2 n q) : EReal) = cnv u cw cb n (⟨q.val / 1408 * 2816 + 1408 + q.val % 1408, by omega⟩ : Fin 5632) := by
  unfold r59 r53
  pointwise
  rw [r52_at]

theorem r61_at (u : FVec Ideal S9216x5632 .f32) (cw : FVec Ideal S8x5632 .f32) (cb : FVec Ideal S1x5632 .f32) (n : Fin 9216) (q : Fin 2816) : (r61 u cw cb (ix2 n q) : EReal) = act u cw cb n q := by
  unfold r61 rone act Ideal.logistic
  pointwise
  simp only [r56_at, r59_at]

theorem r62_at (u : FVec Ideal S9216x5632 .f32) (cw : FVec Ideal S8x5632 .f32) (cb : FVec Ideal S1x5632 .f32) (wd : FVec Ideal S2816x1024 .f32) (n : Fin 9216) (l : Fin 1024) : (r62 u cw cb wd (ix2 n l) : EReal) = ∑ q : Fin 2816, act u cw cb n q * wd (ix2 q l) := by
  unfold r62
  pointwise
  simp only [r61_at]

theorem r72_at (u : FVec Ideal S9216x5632 .f32) (cw : FVec Ideal S8x5632 .f32) (cb : FVec Ideal S1x5632 .f32) (wd : FVec Ideal S2816x1024 .f32) (x1 : FVec Ideal S9216x1024 .f32) (md : FVec Ideal S36x8x1024 .f32) (n : Fin 9216) (l : Fin 1024) : (r72 u cw cb wd x1 md (ix2 n l) : EReal) = Ideal.ofBits FTy.f32 1071072509#32 * x1 (ix2 n l) + md (ix3 (⟨n.val / 256, by omega⟩ : Fin 36) 5 l) * r62 u cw cb wd (ix2 n l) := by
  unfold r72
  pointwise

theorem r76_at (z : FVec Ideal S9216x1024 .f32) (n : Fin 9216) : (r76 z (ix2 n 0) : EReal) = mean (fun x => z (ix2 n x)) := by
  unfold r76 mean
  pointwise

theorem r78_at (z : FVec Ideal S9216x1024 .f32) (n : Fin 9216) (l : Fin 1024) : (r78 z (ix2 n l) : EReal) = z (ix2 n l) - mean (fun x => z (ix2 n x)) := by
  unfold r78
  pointwise
  rw [r76_at]

theorem r94_at (z : FVec Ideal S9216x1024 .f32) (lg lb : FVec Ideal S1x1024 .f32) (n : Fin 9216) (l : Fin 1024) : (r94 z lg lb (ix2 n l) : EReal) = lnorm (fun x => z (ix2 n x)) (lg (ix2 0 l)) (lb (ix2 0 l)) l := by
  unfold r94 lnorm
  pointwise
  simp only [r78_at]

end Chain
end Cert.Reference9Ideal

namespace Cert.Kernel9Ideal
namespace Final
open Cert.Kernel9Ideal Idealize.ShloMosaic Idealize.ShloMosaic.TcCoe Idealize.SL.Sem Cert.Tiles
open Facts₀ Facts Cert.Kernel9Ideal.Gen

/-- 1 at a tile that follows a tile of the same run of rows, 0 at the first of a run. -/
def wprev (j : ℕ) : EReal := if 2 ≤ j % 9 then 1 else 0
/-- 1 at a tile that a tile of the same run of rows follows, 0 at the last of a run. -/
def wnext (j : ℕ) : EReal := if 1 ≤ j % 9 ∧ j % 9 ≤ 7 then 1 else 0

theorem wordP : ∀ a : ℕ, a < 36 → ((Scalar.extui (Scalar.cmpi CmpIPredicate.sge (Scalar.select
                    (Scalar.andi
                      (Scalar.xori
                        (Scalar.cmpi CmpIPredicate.slt
                          (Scalar.remsi (BitVec.ofNat 32 a)
                            (Scalar.select (Scalar.cmpi CmpIPredicate.eq 9#32 0#32) 1#32 9#32))
                          0#32)
                        (Scalar.cmpi CmpIPredicate.slt
                          (Scalar.select (Scalar.cmpi CmpIPredicate.eq 9#32 0#32) 1#32 9#32) 0#32))
                      (Scalar.cmpi CmpIPredicate.ne
                        (Scalar.remsi (BitVec.ofNat 32 a)
                          (Scalar.select (Scalar.cmpi CmpIPredicate.eq 9#32 0#32) 1#32 9#32))
                        0#32))
                    (Scalar.addi
                      (Scalar.remsi (BitVec.ofNat 32 a)
                        (Scalar.select (Scalar.cmpi CmpIPredicate.eq 9#32 0#32) 1#32 9#32))
                      (Scalar.select (Scalar.cmpi CmpIPredicate.eq 9#32 0#32) 1#32 9#32))
                    (Scalar.remsi (BitVec.ofNat 32 a)
                      (Scalar.select (Scalar.cmpi CmpIPredicate.eq 9#32 0#32) 1#32 9#32))) 2#32) : BitVec 32)).toInt = if 2 ≤ a % 9 then 1 else 0 := by
  decide +kernel

theorem wordN : ∀ a : ℕ, a < 36 → ((Scalar.extui (Scalar.andi (Scalar.cmpi CmpIPredicate.sge (Scalar.select
                    (Scalar.andi
                      (Scalar.xori
                        (Scalar.cmpi CmpIPredicate.slt
                          (Scalar.remsi (BitVec.ofNat 32 a)
                            (Scalar.select (Scalar.cmpi CmpIPredicate.eq 9#32 0#32) 1#32 9#32))
                          0#32)
                        (Scalar.cmpi CmpIPredicate.slt
                          (Scalar.select (Scalar.cmpi CmpIPredicate.eq 9#32 0#32) 1#32 9#32) 0#32))
                      (Scalar.cmpi CmpIPredicate.ne
                        (Scalar.remsi (BitVec.ofNat 32 a)
                          (Scalar.select (Scalar.cmpi CmpIPredicate.eq 9#32 0#32) 1#32 9#32))
                        0#32))
                    (Scalar.addi
                      (Scalar.remsi (BitVec.ofNat 32 a)
                        (Scalar.select (Scalar.cmpi CmpIPredicate.eq 9#32 0#32) 1#32 9#32))
                      (Scalar.select (Scalar.cmpi CmpIPredicate.eq 9#32 0#32) 1#32 9#32))
                    (Scalar.remsi (BitVec.ofNat 32 a)
                      (Scalar.select (Scalar.cmpi CmpIPredicate.eq 9#32 0#32) 1#32 9#32))) 1#32) (Scalar.cmpi CmpIPredicate.sle (Scalar.select
                    (Scalar.andi
                      (Scalar.xori
                        (Scalar.cmpi CmpIPredicate.slt
                          (Scalar.remsi (BitVec.ofNat 32 a)
                            (Scalar.select (Scalar.cmpi CmpIPredicate.eq 9#32 0#32) 1#32 9#32))
                          0#32)
                        (Scalar.cmpi CmpIPredicate.slt
                          (Scalar.select (Scalar.cmpi CmpIPredicate.eq 9#32 0#32) 1#32 9#32) 0#32))
                      (Scalar.cmpi CmpIPredicate.ne
                        (Scalar.remsi (BitVec.ofNat 32 a)
                          (Scalar.select (Scalar.cmpi CmpIPredicate.eq 9#32 0#32) 1#32 9#32))
                        0#32))
                    (Scalar.addi
                      (Scalar.remsi (BitVec.ofNat 32 a)
                        (Scalar.select (Scalar.cmpi CmpIPredicate.eq 9#32 0#32) 1#32 9#32))
                      (Scalar.select (Scalar.cmpi CmpIPredicate.eq 9#32 0#32) 1#32 9#32))
                    (Scalar.remsi (BitVec.ofNat 32 a)
                      (Scalar.select (Scalar.cmpi CmpIPredicate.eq 9#32 0#32) 1#32 9#32))) 7#32)) : BitVec 32)).toInt = if 1 ≤ a % 9 ∧ a % 9 ≤ 7 then 1 else 0 := by
  decide +kernel

theorem row0 : ∀ r : Fin 256, IntOp.cmpi CmpIPredicate.eq (BitVec.ofNat 32 r.val) 0#32 = if r.val = 0 then 1#1 else 0#1 := by
  decide +kernel
theorem row255 : ∀ r : Fin 256, IntOp.cmpi CmpIPredicate.eq (BitVec.ofNat 32 r.val) 255#32 = if r.val = 255 then 1#1 else 0#1 := by
  decide +kernel

theorem sel_if (P : Prop) [Decidable P] (x y : EReal) : Scalar.select (if P then 1#1 else 0#1) x y = if P then x else y := by
  by_cases h : P <;> simp [h, Scalar.select]

theorem pay8 (i : grid0.Coords) : (k0_pay8 (F := Ideal) i : EReal) = wnext (i 0).val := by
  have e := wordN (i 0).val (i 0).isLt
  unfold k0_pay8 wnext
  pointwise
  rw [e]
  split_ifs <;> simp

/-- The row before, in a block. -/
def blkDn (i : grid0.Coords) (x0 : Vec Ideal S256x2816 .bf16) (x1 : Vec Ideal S16x2816 .bf16) (r : Fin 256) (k : Fin 2816) : EReal :=
  if r.val = 0 then x1 (ix2 15 k) * wprev (i 0).val else x0 (ix2 (⟨(r.val + 256 - 1) % 256, Nat.mod_lt _ (by decide)⟩ : Fin 256) k)

/-- The row after, in a block. -/
def blkUp (i : grid0.Coords) (x0 : Vec Ideal S256x2816 .bf16) (x2 : Vec Ideal S16x2816 .bf16) (r : Fin 256) (k : Fin 2816) : EReal :=
  if r.val = 255 then x2 (ix2 0 k) * wnext (i 0).val else x0 (ix2 (⟨(r.val + 256 - 255) % 256, Nat.mod_lt _ (by decide)⟩ : Fin 256) k)

/-- The convolution, in a block. -/
def blkC (i : grid0.Coords) (x0 : Vec Ideal S256x2816 .bf16) (x1 : Vec Ideal S16x2816 .bf16) (x2 : Vec Ideal S16x2816 .bf16) (x3 : Vec Ideal S8x2816 .f32) (x4 : Vec Ideal S1x2816 .f32) (r : Fin 256) (k : Fin 2816) : EReal :=
  x3 (ix2 0 k) * blkDn i x0 x1 r k + x3 (ix2 1 k) * x0 (ix2 r k) + x3 (ix2 2 k) * blkUp i x0 x2 r k + x4 (ix2 0 k)

/-- The product of the gated columns with the weight, in a block. -/
def blkP (i : grid0.Coords) (x0 : Vec Ideal S256x2816 .bf16) (x1 : Vec Ideal S16x2816 .bf16) (x2 : Vec Ideal S16x2816 .bf16) (x3 : Vec Ideal S8x2816 .f32) (x4 : Vec Ideal S1x2816 .f32) (x5 : Vec Ideal S1408x1024 .bf16) (r : Fin 256) (l : Fin 1024) : EReal :=
  ∑ a : Fin 1408, blkC i x0 x1 x2 x3 x4 r ⟨a.val, by omega⟩ * Ideal.logistic (blkC i x0 x1 x2 x3 x4 r ⟨a.val, by omega⟩) * blkC i x0 x1 x2 x3 x4 r ⟨1408 + a.val, by omega⟩ * x5 (ix2 a l)

theorem pay9 (i : grid0.Coords) (x0 : Vec Ideal S256x2816 .bf16) (x1 : Vec Ideal S16x2816 .bf16) (r : Fin 256) (k : Fin 2816) : (k0_pay9 (F := Ideal) i x0 x1 (ix2 r k) : EReal) = blkDn i x0 x1 r k := by
  have e := wordP (i 0).val (i 0).isLt
  unfold k0_pay9 k0_pay7 blkDn wprev
  pointwise
  rw [e, row0, sel_if]
  split_ifs <;> simp

theorem pay1 (i : grid0.Coords) (x0 : Vec Ideal S256x2816 .bf16) (x1 : Vec Ideal S16x2816 .bf16) (x2 : Vec Ideal S16x2816 .bf16) (x3 : Vec Ideal S8x2816 .f32) (x4 : Vec Ideal S1x2816 .f32) (r : Fin 256) (k : Fin 2816) :
    (k0_pay1 (F := Ideal) (k0_pay7 x0) (k0_pay8 i) (k0_pay9 i x0 x1) k0_pay10 (k0_pay11 x2) x3 x4 (ix2 r k) : EReal) = blkC i x0 x1 x2 x3 x4 r k := by
  unfold k0_pay1 k0_pay10 k0_pay11 blkC blkUp
  pointwise
  rw [pay9, pay8, row255, sel_if]
  unfold k0_pay7
  pointwise

theorem pay3 (i : grid0.Coords) (x0 : Vec Ideal S256x2816 .bf16) (x1 : Vec Ideal S16x2816 .bf16) (x2 : Vec Ideal S16x2816 .bf16) (x3 : Vec Ideal S8x2816 .f32) (x4 : Vec Ideal S1x2816 .f32) (x5 : Vec Ideal S1408x1024 .bf16) (r : Fin 256) (l : Fin 1024) :
    (k0_pay3 (F := Ideal) (k0_pay7 x0) (k0_pay8 i) (k0_pay9 i x0 x1) k0_pay10 (k0_pay11 x2) x3 x4 x5 (ix2 r l) : EReal) = blkP i x0 x1 x2 x3 x4 x5 r l := by
  unfold k0_pay3 blkP
  pointwise
  simp only [pay1]

theorem body12_A (c : Dev nD) (i : grid0.Coords) (arg2 : Memref sig .tc .vmem S256x2816 .bf16) (harg2 : arg2.IsWhole) (arg3 : Memref sig .tc .vmem S16x2816 .bf16) (harg3 : arg3.IsWhole) (arg4 : Memref sig .tc .vmem S16x2816 .bf16) (harg4 : arg4.IsWhole) (arg5 : Memref sig .tc .vmem S8x2816 .f32) (harg5 : arg5.IsWhole) (arg6 : Memref sig .tc .vmem S1x2816 .f32) (harg6 : arg6.IsWhole) (arg7 : Memref sig .tc .vmem S1408x1024 .bf16) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x2816 .bf16) (harg14 : arg14.IsWhole) (arg15 : Memref sig .tc .vmem S256x1024 .f32) (harg15 : arg15.IsWhole) (hc0 : cond0_0 i) (hc1 : ¬cond0_1 i)
    (x0 : Vec Ideal S256x2816 .bf16) (x1 : Vec Ideal S16x2816 .bf16) (x2 : Vec Ideal S16x2816 .bf16) (x3 : Vec Ideal S8x2816 .f32) (x4 : Vec Ideal S1x2816 .f32) (x5 : Vec Ideal S1408x1024 .bf16) (x6 : Vec Ideal S256x1024 .f32) (x7 : Vec Ideal S1x8x1024 .f32) (x8 : Vec Ideal S1x1024 .f32) (x9 : Vec Ideal S1x1024 .f32) (r : Fin 256) (k : Fin 2816) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix2 r k) = blkC i x0 x1 x2 x3 x4 r k := by
  frame_out
  unfold k0_pay2
  pointwise
  exact pay1 i x0 x1 x2 x3 x4 r k

theorem body12_B (c : Dev nD) (i : grid0.Coords) (arg2 : Memref sig .tc .vmem S256x2816 .bf16) (harg2 : arg2.IsWhole) (arg3 : Memref sig .tc .vmem S16x2816 .bf16) (harg3 : arg3.IsWhole) (arg4 : Memref sig .tc .vmem S16x2816 .bf16) (harg4 : arg4.IsWhole) (arg5 : Memref sig .tc .vmem S8x2816 .f32) (harg5 : arg5.IsWhole) (arg6 : Memref sig .tc .vmem S1x2816 .f32) (harg6 : arg6.IsWhole) (arg7 : Memref sig .tc .vmem S1408x1024 .bf16) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x2816 .bf16) (harg14 : arg14.IsWhole) (arg15 : Memref sig .tc .vmem S256x1024 .f32) (harg15 : arg15.IsWhole) (hc0 : ¬cond0_0 i) (hc1 : cond0_1 i)
    (x0 : Vec Ideal S256x2816 .bf16) (x1 : Vec Ideal S16x2816 .bf16) (x2 : Vec Ideal S16x2816 .bf16) (x3 : Vec Ideal S8x2816 .f32) (x4 : Vec Ideal S1x2816 .f32) (x5 : Vec Ideal S1408x1024 .bf16) (x6 : Vec Ideal S256x1024 .f32) (x7 : Vec Ideal S1x8x1024 .f32) (x8 : Vec Ideal S1x1024 .f32) (x9 : Vec Ideal S1x1024 .f32) (acc : Vec Ideal S256x1024 .f32) (r : Fin 256) (k : Fin 2816) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 acc (ix2 r k) = blkC i x0 x1 x2 x3 x4 r k := by
  frame_out
  unfold k0_pay2
  pointwise
  exact pay1 i x0 x1 x2 x3 x4 r k

theorem bodyS_A (c : Dev nD) (i : grid0.Coords) (arg2 : Memref sig .tc .vmem S256x2816 .bf16) (harg2 : arg2.IsWhole) (arg3 : Memref sig .tc .vmem S16x2816 .bf16) (harg3 : arg3.IsWhole) (arg4 : Memref sig .tc .vmem S16x2816 .bf16) (harg4 : arg4.IsWhole) (arg5 : Memref sig .tc .vmem S8x2816 .f32) (harg5 : arg5.IsWhole) (arg6 : Memref sig .tc .vmem S1x2816 .f32) (harg6 : arg6.IsWhole) (arg7 : Memref sig .tc .vmem S1408x1024 .bf16) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x2816 .bf16) (harg14 : arg14.IsWhole) (arg15 : Memref sig .tc .vmem S256x1024 .f32) (harg15 : arg15.IsWhole) (hc0 : cond0_0 i) (hc1 : ¬cond0_1 i)
    (x0 : Vec Ideal S256x2816 .bf16) (x1 : Vec Ideal S16x2816 .bf16) (x2 : Vec Ideal S16x2816 .bf16) (x3 : Vec Ideal S8x2816 .f32) (x4 : Vec Ideal S1x2816 .f32) (x5 : Vec Ideal S1408x1024 .bf16) (x6 : Vec Ideal S256x1024 .f32) (x7 : Vec Ideal S1x8x1024 .f32) (x8 : Vec Ideal S1x1024 .f32) (x9 : Vec Ideal S1x1024 .f32) (r : Fin 256) (l : Fin 1024) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix2 r l) = blkP i x0 x1 x2 x3 x4 x5 r l := by
  frame_open
  simp (disch := decide) only [↓ View.readCov_skip, ↓ View.readCov_cons_toLoadRect, ↓ View.readCov_fill]
  frame_out
  unfold k0_pay4
  pointwise
  exact pay3 i x0 x1 x2 x3 x4 x5 r l

theorem body10_B (c : Dev nD) (i : grid0.Coords) (arg2 : Memref sig .tc .vmem S256x2816 .bf16) (harg2 : arg2.IsWhole) (arg3 : Memref sig .tc .vmem S16x2816 .bf16) (harg3 : arg3.IsWhole) (arg4 : Memref sig .tc .vmem S16x2816 .bf16) (harg4 : arg4.IsWhole) (arg5 : Memref sig .tc .vmem S8x2816 .f32) (harg5 : arg5.IsWhole) (arg6 : Memref sig .tc .vmem S1x2816 .f32) (harg6 : arg6.IsWhole) (arg7 : Memref sig .tc .vmem S1408x1024 .bf16) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x2816 .bf16) (harg14 : arg14.IsWhole) (arg15 : Memref sig .tc .vmem S256x1024 .f32) (harg15 : arg15.IsWhole) (hc0 : ¬cond0_0 i) (hc1 : cond0_1 i)
    (x0 : Vec Ideal S256x2816 .bf16) (x1 : Vec Ideal S16x2816 .bf16) (x2 : Vec Ideal S16x2816 .bf16) (x3 : Vec Ideal S8x2816 .f32) (x4 : Vec Ideal S1x2816 .f32) (x5 : Vec Ideal S1408x1024 .bf16) (x6 : Vec Ideal S256x1024 .f32) (x7 : Vec Ideal S1x8x1024 .f32) (x8 : Vec Ideal S1x1024 .f32) (x9 : Vec Ideal S1x1024 .f32) (acc : Vec Ideal S256x1024 .f32) (r : Fin 256) (l : Fin 1024) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 acc (ix2 r l) = acc (ix2 r l) + blkP i x0 x1 x2 x3 x4 x5 r l := by
  frame_out
  unfold k0_pay5
  pointwise
  rw [pay3]

theorem body11_B (c : Dev nD) (i : grid0.Coords) (arg2 : Memref sig .tc .vmem S256x2816 .bf16) (harg2 : arg2.IsWhole) (arg3 : Memref sig .tc .vmem S16x2816 .bf16) (harg3 : arg3.IsWhole) (arg4 : Memref sig .tc .vmem S16x2816 .bf16) (harg4 : arg4.IsWhole) (arg5 : Memref sig .tc .vmem S8x2816 .f32) (harg5 : arg5.IsWhole) (arg6 : Memref sig .tc .vmem S1x2816 .f32) (harg6 : arg6.IsWhole) (arg7 : Memref sig .tc .vmem S1408x1024 .bf16) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x2816 .bf16) (harg14 : arg14.IsWhole) (arg15 : Memref sig .tc .vmem S256x1024 .f32) (harg15 : arg15.IsWhole) (hc0 : ¬cond0_0 i) (hc1 : cond0_1 i)
    (x0 : Vec Ideal S256x2816 .bf16) (x1 : Vec Ideal S16x2816 .bf16) (x2 : Vec Ideal S16x2816 .bf16) (x3 : Vec Ideal S8x2816 .f32) (x4 : Vec Ideal S1x2816 .f32) (x5 : Vec Ideal S1408x1024 .bf16) (x6 : Vec Ideal S256x1024 .f32) (x7 : Vec Ideal S1x8x1024 .f32) (x8 : Vec Ideal S1x1024 .f32) (x9 : Vec Ideal S1x1024 .f32) (acc : Vec Ideal S256x1024 .f32) (r : Fin 256) (l : Fin 1024) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 acc (ix2 r l) = Cert.Reference9Ideal.Chain.lnorm (fun x => Ideal.ofBits FTy.f32 1071072509#32 * x6 (ix2 r x) + x7 (ix3 0 5 x) * (acc (ix2 r x) + blkP i x0 x1 x2 x3 x4 x5 r x)) (x8 (ix2 0 l)) (x9 (ix2 0 l)) l := by
  frame_out
  unfold k0_pay6 k0_pay5
  pointwise
  simp only [pay3]
  rfl

/-- Which block each window reads or writes at a point. -/
theorem idx : ∀ t : Fin cfg0.N,
    win0_0.index t = ![t.val / 2, t.val % 2] ∧ win0_1.index t = ![t.val / 2 * 16 - 1, t.val % 2] ∧ win0_2.index t = ![min ((t.val / 2 + 1) * 16) 575, t.val % 2]
      ∧ win0_3.index t = ![0, t.val % 2] ∧ win0_4.index t = ![0, t.val % 2] ∧ win0_5.index t = ![t.val % 2, 0] ∧ win0_6.index t = ![t.val / 2, 0]
      ∧ win0_7.index t = ![t.val / 2, 0, 0] ∧ win0_8.index t = ![0, 0] ∧ win0_9.index t = ![0, 0]
      ∧ win0_10.index t = ![t.val / 2, 0] ∧ win0_11.index t = ![t.val / 2, 0] ∧ win0_12.index t = ![t.val / 2, t.val % 2] :=
  (by decide +kernel : ∀ t : Fin grid0.N, _)

/-- The arguments of the program on a device. -/
abbrev au (m : (ℓ : Loc nD τ sig) → Buf (Elt Ideal) ℓ) (c : Dev nD) : FVec Ideal S9216x5632 .f32 := m ((c : Thread nD τ).loc main_arg0)
abbrev ac (m : (ℓ : Loc nD τ sig) → Buf (Elt Ideal) ℓ) (c : Dev nD) : FVec Ideal S8x5632 .f32 := m ((c : Thread nD τ).loc main_arg1)
abbrev ab (m : (ℓ : Loc nD τ sig) → Buf (Elt Ideal) ℓ) (c : Dev nD) : FVec Ideal S1x5632 .f32 := m ((c : Thread nD τ).loc main_arg2)
abbrev aw (m : (ℓ : Loc nD τ sig) → Buf (Elt Ideal) ℓ) (c : Dev nD) : FVec Ideal S2816x1024 .f32 := m ((c : Thread nD τ).loc main_arg3)
abbrev ax (m : (ℓ : Loc nD τ sig) → Buf (Elt Ideal) ℓ) (c : Dev nD) : FVec Ideal S9216x1024 .f32 := m ((c : Thread nD τ).loc main_arg4)
abbrev ad (m : (ℓ : Loc nD τ sig) → Buf (Elt Ideal) ℓ) (c : Dev nD) : FVec Ideal S36x8x1024 .f32 := m ((c : Thread nD τ).loc main_arg5)
abbrev ag (m : (ℓ : Loc nD τ sig) → Buf (Elt Ideal) ℓ) (c : Dev nD) : FVec Ideal S1x1024 .f32 := m ((c : Thread nD τ).loc main_arg6)
abbrev ae (m : (ℓ : Loc nD τ sig) → Buf (Elt Ideal) ℓ) (c : Dev nD) : FVec Ideal S1x1024 .f32 := m ((c : Thread nD τ).loc main_arg7)

variable (m : (ℓ : Loc nD τ sig) → Buf (Elt Ideal) ℓ) (c : Dev nD)

theorem ltN (t : Fin cfg0.N) : t.val < 72 := lt_of_lt_of_eq t.isLt N_0

theorem coord (t : Fin cfg0.N) : (grid0.coords t 0).val = t.val / 2 := by
  have ht := ltN t
  have e : (grid0.coords t 0).val = t.val / 2 % 36 := Pipeline.Grid.coords_val t 0 (by decide) rfl
  omega

theorem blk0 (t : Fin cfg0.N) (r : Fin 256) (k : Fin 2816) :
    ((iblk (F := Ideal) m c 0 t : FVec Ideal S256x2816 .bf16) (ix2 r k) : EReal) = au m c (ix2 (⟨(t.val / 2 * 256 + r.val) % 9216, Nat.mod_lt _ (by decide)⟩ : Fin 9216) (⟨(t.val % 2 * 2816 + k.val) % 5632, Nat.mod_lt _ (by decide)⟩ : Fin 5632)) := by
  have ht := ltN t
  have hr := r.isLt
  have hk := k.isLt
  have e : (win0_0.blk t).view.emb (ix2 r k) = ix2 (⟨(t.val / 2 * 256 + r.val) % 9216, Nat.mod_lt _ (by decide)⟩ : Fin 9216) (⟨(t.val % 2 * 2816 + k.val) % 5632, Nat.mod_lt _ (by decide)⟩ : Fin 5632) := by
    rw [show (⟨(t.val / 2 * 256 + r.val) % 9216, Nat.mod_lt _ (by decide)⟩ : Fin 9216) = ⟨t.val / 2 * 256 + r.val, by omega⟩ from Fin.ext (Nat.mod_eq_of_lt (by omega)),
      show (⟨(t.val % 2 * 2816 + k.val) % 5632, Nat.mod_lt _ (by decide)⟩ : Fin 5632) = ⟨t.val % 2 * 2816 + k.val, by omega⟩ from Fin.ext (Nat.mod_eq_of_lt (by omega))]
    blk_ext [idx t]
  blk_simp [iblk, idx t]
  rw [e]
  entry_read
  pointwise

theorem blk1 (t : Fin cfg0.N) (r : Fin 16) (k : Fin 2816) :
    ((iblk (F := Ideal) m c 1 t : FVec Ideal S16x2816 .bf16) (ix2 r k) : EReal) = au m c (ix2 (⟨((t.val / 2 * 16 - 1) * 16 + r.val) % 9216, Nat.mod_lt _ (by decide)⟩ : Fin 9216) (⟨(t.val % 2 * 2816 + k.val) % 5632, Nat.mod_lt _ (by decide)⟩ : Fin 5632)) := by
  have ht := ltN t
  have hr := r.isLt
  have hk := k.isLt
  have e : (win0_1.blk t).view.emb (ix2 r k) = ix2 (⟨((t.val / 2 * 16 - 1) * 16 + r.val) % 9216, Nat.mod_lt _ (by decide)⟩ : Fin 9216) (⟨(t.val % 2 * 2816 + k.val) % 5632, Nat.mod_lt _ (by decide)⟩ : Fin 5632) := by
    rw [show (⟨((t.val / 2 * 16 - 1) * 16 + r.val) % 9216, Nat.mod_lt _ (by decide)⟩ : Fin 9216) = ⟨(t.val / 2 * 16 - 1) * 16 + r.val, by omega⟩ from Fin.ext (Nat.mod_eq_of_lt (by omega)),
      show (⟨(t.val % 2 * 2816 + k.val) % 5632, Nat.mod_lt _ (by decide)⟩ : Fin 5632) = ⟨t.val % 2 * 2816 + k.val, by omega⟩ from Fin.ext (Nat.mod_eq_of_lt (by omega))]
    blk_ext [idx t]
  blk_simp [iblk, idx t]
  rw [e]
  entry_read
  pointwise

theorem blk2 (t : Fin cfg0.N) (r : Fin 16) (k : Fin 2816) :
    ((iblk (F := Ideal) m c 2 t : FVec Ideal S16x2816 .bf16) (ix2 r k) : EReal) = au m c (ix2 (⟨(min ((t.val / 2 + 1) * 16) 575 * 16 + r.val) % 9216, Nat.mod_lt _ (by decide)⟩ : Fin 9216) (⟨(t.val % 2 * 2816 + k.val) % 5632, Nat.mod_lt _ (by decide)⟩ : Fin 5632)) := by
  have ht := ltN t
  have hr := r.isLt
  have hk := k.isLt
  have e : (win0_2.blk t).view.emb (ix2 r k) = ix2 (⟨(min ((t.val / 2 + 1) * 16) 575 * 16 + r.val) % 9216, Nat.mod_lt _ (by decide)⟩ : Fin 9216) (⟨(t.val % 2 * 2816 + k.val) % 5632, Nat.mod_lt _ (by decide)⟩ : Fin 5632) := by
    rw [show (⟨(min ((t.val / 2 + 1) * 16) 575 * 16 + r.val) % 9216, Nat.mod_lt _ (by decide)⟩ : Fin 9216) = ⟨min ((t.val / 2 + 1) * 16) 575 * 16 + r.val, by omega⟩ from Fin.ext (Nat.mod_eq_of_lt (by omega)),
      show (⟨(t.val % 2 * 2816 + k.val) % 5632, Nat.mod_lt _ (by decide)⟩ : Fin 5632) = ⟨t.val % 2 * 2816 + k.val, by omega⟩ from Fin.ext (Nat.mod_eq_of_lt (by omega))]
    blk_ext [idx t]
  blk_simp [iblk, idx t]
  rw [e]
  entry_read
  pointwise

theorem blk3 (t : Fin cfg0.N) (r : Fin 8) (k : Fin 2816) :
    ((iblk (F := Ideal) m c 3 t : FVec Ideal S8x2816 .f32) (ix2 r k) : EReal) = ac m c (ix2 (⟨(r.val) % 8, Nat.mod_lt _ (by decide)⟩ : Fin 8) (⟨(t.val % 2 * 2816 + k.val) % 5632, Nat.mod_lt _ (by decide)⟩ : Fin 5632)) := by
  have ht := ltN t
  have hr := r.isLt
  have hk := k.isLt
  have e : (win0_3.blk t).view.emb (ix2 r k) = ix2 (⟨(r.val) % 8, Nat.mod_lt _ (by decide)⟩ : Fin 8) (⟨(t.val % 2 * 2816 + k.val) % 5632, Nat.mod_lt _ (by decide)⟩ : Fin 5632) := by
    rw [show (⟨(r.val) % 8, Nat.mod_lt _ (by decide)⟩ : Fin 8) = ⟨r.val, by omega⟩ from Fin.ext (Nat.mod_eq_of_lt (by omega)),
      show (⟨(t.val % 2 * 2816 + k.val) % 5632, Nat.mod_lt _ (by decide)⟩ : Fin 5632) = ⟨t.val % 2 * 2816 + k.val, by omega⟩ from Fin.ext (Nat.mod_eq_of_lt (by omega))]
    blk_ext [idx t]
  blk_simp [iblk, idx t]
  rw [e]
  entry_read
  rfl

theorem blk4 (t : Fin cfg0.N) (r : Fin 1) (k : Fin 2816) :
    ((iblk (F := Ideal) m c 4 t : FVec Ideal S1x2816 .f32) (ix2 r k) : EReal) = ab m c (ix2 (⟨(r.val) % 1, Nat.mod_lt _ (by decide)⟩ : Fin 1) (⟨(t.val % 2 * 2816 + k.val) % 5632, Nat.mod_lt _ (by decide)⟩ : Fin 5632)) := by
  have ht := ltN t
  have hr := r.isLt
  have hk := k.isLt
  have e : (win0_4.blk t).view.emb (ix2 r k) = ix2 (⟨(r.val) % 1, Nat.mod_lt _ (by decide)⟩ : Fin 1) (⟨(t.val % 2 * 2816 + k.val) % 5632, Nat.mod_lt _ (by decide)⟩ : Fin 5632) := by
    rw [show (⟨(r.val) % 1, Nat.mod_lt _ (by decide)⟩ : Fin 1) = ⟨r.val, by omega⟩ from Fin.ext (Nat.mod_eq_of_lt (by omega)),
      show (⟨(t.val % 2 * 2816 + k.val) % 5632, Nat.mod_lt _ (by decide)⟩ : Fin 5632) = ⟨t.val % 2 * 2816 + k.val, by omega⟩ from Fin.ext (Nat.mod_eq_of_lt (by omega))]
    blk_ext [idx t]
  blk_simp [iblk, idx t]
  rw [e]
  entry_read
  exact congrArg (fun z : Fin 1 => ab m c (ix2 z (⟨(t.val % 2 * 2816 + k.val) % 5632, Nat.mod_lt _ (by decide)⟩ : Fin 5632))) (Subsingleton.elim _ _)

theorem blk5 (t : Fin cfg0.N) (a : Fin 1408) (l : Fin 1024) :
    ((iblk (F := Ideal) m c 5 t : FVec Ideal S1408x1024 .bf16) (ix2 a l) : EReal) = aw m c (ix2 (⟨(t.val % 2 * 1408 + a.val) % 2816, Nat.mod_lt _ (by decide)⟩ : Fin 2816) (⟨(l.val) % 1024, Nat.mod_lt _ (by decide)⟩ : Fin 1024)) := by
  have ht := ltN t
  have hr := a.isLt
  have hk := l.isLt
  have e : (win0_5.blk t).view.emb (ix2 a l) = ix2 (⟨(t.val % 2 * 1408 + a.val) % 2816, Nat.mod_lt _ (by decide)⟩ : Fin 2816) (⟨(l.val) % 1024, Nat.mod_lt _ (by decide)⟩ : Fin 1024) := by
    rw [show (⟨(t.val % 2 * 1408 + a.val) % 2816, Nat.mod_lt _ (by decide)⟩ : Fin 2816) = ⟨t.val % 2 * 1408 + a.val, by omega⟩ from Fin.ext (Nat.mod_eq_of_lt (by omega)),
      show (⟨(l.val) % 1024, Nat.mod_lt _ (by decide)⟩ : Fin 1024) = ⟨l.val, by omega⟩ from Fin.ext (Nat.mod_eq_of_lt (by omega))]
    blk_ext [idx t]
  blk_simp [iblk, idx t]
  rw [e]
  entry_read
  pointwise

theorem blk6 (t : Fin cfg0.N) (r : Fin 256) (l : Fin 1024) :
    ((iblk (F := Ideal) m c 6 t : FVec Ideal S256x1024 .f32) (ix2 r l) : EReal) = ax m c (ix2 (⟨(t.val / 2 * 256 + r.val) % 9216, Nat.mod_lt _ (by decide)⟩ : Fin 9216) (⟨(l.val) % 1024, Nat.mod_lt _ (by decide)⟩ : Fin 1024)) := by
  have ht := ltN t
  have hr := r.isLt
  have hk := l.isLt
  have e : (win0_6.blk t).view.emb (ix2 r l) = ix2 (⟨(t.val / 2 * 256 + r.val) % 9216, Nat.mod_lt _ (by decide)⟩ : Fin 9216) (⟨(l.val) % 1024, Nat.mod_lt _ (by decide)⟩ : Fin 1024) := by
    rw [show (⟨(t.val / 2 * 256 + r.val) % 9216, Nat.mod_lt _ (by decide)⟩ : Fin 9216) = ⟨t.val / 2 * 256 + r.val, by omega⟩ from Fin.ext (Nat.mod_eq_of_lt (by omega)),
      show (⟨(l.val) % 1024, Nat.mod_lt _ (by decide)⟩ : Fin 1024) = ⟨l.val, by omega⟩ from Fin.ext (Nat.mod_eq_of_lt (by omega))]
    blk_ext [idx t]
  blk_simp [iblk, idx t]
  rw [e]
  entry_read
  rfl

theorem blk7 (t : Fin cfg0.N) (i : Fin 1) (s : Fin 8) (l : Fin 1024) :
    ((iblk (F := Ideal) m c 7 t : FVec Ideal S1x8x1024 .f32) (ix3 i s l) : EReal) = ad m c (ix3 (⟨t.val / 2 % 36, by omega⟩ : Fin 36) s l) := by
  have ht := ltN t
  have hi := i.isLt
  have e : (win0_7.blk t).view.emb (ix3 i s l) = ix3 (⟨t.val / 2 % 36, by omega⟩ : Fin 36) s l := by
    rw [show (⟨t.val / 2 % 36, by omega⟩ : Fin 36) = ⟨t.val / 2 + i.val, by omega⟩ from Fin.ext (by dsimp only; omega)]
    blk_ext [idx t]
  blk_simp [iblk, idx t]
  rw [e]
  entry_read
  rfl

theorem blk8 (t : Fin cfg0.N) (r : Fin 1) (l : Fin 1024) :
    ((iblk (F := Ideal) m c 8 t : FVec Ideal S1x1024 .f32) (ix2 r l) : EReal) = ag m c (ix2 r l) := by
  have e : (win0_8.blk t).view.emb (ix2 r l) = ix2 r l := by
    blk_ext [idx t]
  blk_simp [iblk, idx t]
  rw [e]
  entry_read
  rfl

theorem blk9 (t : Fin cfg0.N) (r : Fin 1) (l : Fin 1024) :
    ((iblk (F := Ideal) m c 9 t : FVec Ideal S1x1024 .f32) (ix2 r l) : EReal) = ae m c (ix2 r l) := by
  have e : (win0_9.blk t).view.emb (ix2 r l) = ix2 r l := by
    blk_ext [idx t]
  blk_simp [iblk, idx t]
  rw [e]
  entry_read
  rfl

/-- A block's convolution is the reference's. -/
theorem conv_blk (t : Fin cfg0.N) (r : Fin 256) (k : Fin 2816) :
    blkC (grid0.coords t) (iblk (F := Ideal) m c 0 t) (iblk (F := Ideal) m c 1 t) (iblk (F := Ideal) m c 2 t) (iblk (F := Ideal) m c 3 t) (iblk (F := Ideal) m c 4 t) r k = Cert.Reference9Ideal.Chain.cnv (au m c) (ac m c) (ab m c) (⟨(t.val / 2 * 256 + r.val) % 9216, Nat.mod_lt _ (by decide)⟩ : Fin 9216) (⟨(t.val % 2 * 2816 + k.val) % 5632, Nat.mod_lt _ (by decide)⟩ : Fin 5632) := by
  have ht := ltN t
  have hr := r.isLt
  unfold blkC Cert.Reference9Ideal.Chain.cnv
  rw [blk3, blk3, blk3, blk4, blk0]
  refine congrArg₂ (fun a b : EReal => a + b) (congrArg₂ (fun a b : EReal => a + b) (congrArg₂ (fun a b : EReal => a + b) ?_ rfl) ?_) rfl
  · refine congrArg₂ (fun a b : EReal => a * b) rfl ?_
    unfold blkDn Cert.Reference9Ideal.Chain.prv wprev
    rw [coord, blk0, blk1]
    dsimp only
    split_ifs <;> first | (exfalso; omega) | exact mul_zero _ | (rw [mul_one]; exact congrArg (fun z : Fin 9216 => au m c (ix2 z (⟨(t.val % 2 * 2816 + k.val) % 5632, Nat.mod_lt _ (by decide)⟩ : Fin 5632))) (Fin.ext (by show ((t.val / 2 * 16 - 1) * 16 + 15) % 9216 = (t.val / 2 * 256 + r.val) % 9216 - 1; omega))) | exact congrArg (fun z : Fin 9216 => au m c (ix2 z (⟨(t.val % 2 * 2816 + k.val) % 5632, Nat.mod_lt _ (by decide)⟩ : Fin 5632))) (Fin.ext (by dsimp only; omega))
  · refine congrArg₂ (fun a b : EReal => a * b) rfl ?_
    unfold blkUp Cert.Reference9Ideal.Chain.nxt wnext
    rw [coord, blk0, blk2]
    dsimp only
    split_ifs <;> first | (exfalso; omega) | exact mul_zero _ | (rw [mul_one]; exact congrArg (fun z : Fin 9216 => au m c (ix2 z (⟨(t.val % 2 * 2816 + k.val) % 5632, Nat.mod_lt _ (by decide)⟩ : Fin 5632))) (Fin.ext (by show (min ((t.val / 2 + 1) * 16) 575 * 16 + 0) % 9216 = ((t.val / 2 * 256 + r.val) % 9216 + 1) % 9216; omega))) | exact congrArg (fun z : Fin 9216 => au m c (ix2 z (⟨(t.val % 2 * 2816 + k.val) % 5632, Nat.mod_lt _ (by decide)⟩ : Fin 5632))) (Fin.ext (by dsimp only; omega))

/-- What chunk `s` adds to the product. -/
def part (n : Fin 9216) (s : ℕ) (l : Fin 1024) : EReal :=
  ∑ a : Fin 1408, Cert.Reference9Ideal.Chain.act (au m c) (ac m c) (ab m c) n (⟨(s * 1408 + a.val) % 2816, Nat.mod_lt _ (by decide)⟩ : Fin 2816) * aw m c (ix2 (⟨(s * 1408 + a.val) % 2816, Nat.mod_lt _ (by decide)⟩ : Fin 2816) l)

/-- A block's product is the chunk's. -/
theorem part_blk (t : Fin cfg0.N) (r : Fin 256) (l : Fin 1024) :
    blkP (grid0.coords t) (iblk (F := Ideal) m c 0 t) (iblk (F := Ideal) m c 1 t) (iblk (F := Ideal) m c 2 t) (iblk (F := Ideal) m c 3 t) (iblk (F := Ideal) m c 4 t) (iblk (F := Ideal) m c 5 t) r l = part m c (⟨(t.val / 2 * 256 + r.val) % 9216, Nat.mod_lt _ (by decide)⟩ : Fin 9216) (t.val % 2) l := by
  unfold blkP part Cert.Reference9Ideal.Chain.act
  refine Finset.sum_congr rfl fun a _ => ?_
  have ha := a.isLt
  have hl := l.isLt
  rw [conv_blk, conv_blk, blk5]
  have e1 : (⟨(t.val % 2 * 2816 + a.val) % 5632, Nat.mod_lt _ (by decide)⟩ : Fin 5632) = ⟨(t.val % 2 * 1408 + a.val) % 2816 / 1408 * 2816 + (t.val % 2 * 1408 + a.val) % 2816 % 1408, by omega⟩ := Fin.ext (by dsimp only; omega)
  have e2 : (⟨(t.val % 2 * 2816 + (1408 + a.val)) % 5632, Nat.mod_lt _ (by decide)⟩ : Fin 5632) = ⟨(t.val % 2 * 1408 + a.val) % 2816 / 1408 * 2816 + 1408 + (t.val % 2 * 1408 + a.val) % 2816 % 1408, by omega⟩ := Fin.ext (by dsimp only; omega)
  have e3 : (⟨l.val % 1024, Nat.mod_lt _ (by decide)⟩ : Fin 1024) = l := Fin.ext (Nat.mod_eq_of_lt hl)
  dsimp only
  rw [e1, e2, e3]

/-- The two chunks add up to the reference's product. -/
theorem two_parts (n : Fin 9216) (l : Fin 1024) : part m c n 0 l + part m c n 1 l = Cert.Reference9Ideal.Chain.r62 (au m c) (ac m c) (ab m c) (aw m c) (ix2 n l) := by
  rw [Cert.Reference9Ideal.Chain.r62_at, Fin.sum_univ_two_halves 1408 1408 rfl]
  unfold part
  refine congrArg₂ (fun a b : EReal => a + b) (Finset.sum_congr rfl fun a _ => ?_) (Finset.sum_congr rfl fun a _ => ?_)
  · have ha := a.isLt
    exact congrArg (fun z : Fin 2816 => Cert.Reference9Ideal.Chain.act (au m c) (ac m c) (ab m c) n z * aw m c (ix2 z l)) (Fin.ext (by show (0 * 1408 + a.val) % 2816 = a.val; omega))
  · have ha := a.isLt
    exact congrArg (fun z : Fin 2816 => Cert.Reference9Ideal.Chain.act (au m c) (ac m c) (ab m c) n z * aw m c (ix2 z l)) (Fin.ext (by show (1 * 1408 + a.val) % 2816 = 1408 + a.val; omega))

/-- The convolution's block a point leaves. -/
theorem out12 (t : Fin cfg0.N) (r : Fin 256) (k : Fin 2816) :
    (outsAt0 (F := Ideal) m c t.val t.isLt).2.2.1 (ix2 r k) = blkC (grid0.coords t) (iblk (F := Ideal) m c 0 t) (iblk (F := Ideal) m c 1 t) (iblk (F := Ideal) m c 2 t) (iblk (F := Ideal) m c 3 t) (iblk (F := Ideal) m c 4 t) r k := by
  by_cases h0 : t.val % 2 = 0
  · have h1 : ¬t.val % 2 = 1 := by omega
    have e := congrFun (congrArg (fun p => p.2.2.1) (outsAt0_A (F := Ideal) m c t h0 h1)) (ix2 r k)
    dsimp only at e
    exact e.trans (body12_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) r k)
  · have h1 : t.val % 2 = 1 := by omega
    have e := congrFun (congrArg (fun p => p.2.2.1) (outsAt0_B (F := Ideal) m c t h0 h1)) (ix2 r k)
    dsimp only at e
    exact e.trans (body12_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ r k)

/-- The first chunk's product, kept for the second chunk's point. -/
theorem outS (t : Fin cfg0.N) (h0 : t.val % 2 = 0) (r : Fin 256) (l : Fin 1024) :
    (outsAt0 (F := Ideal) m c t.val t.isLt).2.2.2 (ix2 r l) = part m c (⟨(t.val / 2 * 256 + r.val) % 9216, Nat.mod_lt _ (by decide)⟩ : Fin 9216) 0 l := by
  have h1 : ¬t.val % 2 = 1 := by omega
  have e := congrFun (congrArg (fun p => p.2.2.2) (outsAt0_A (F := Ideal) m c t h0 h1)) (ix2 r l)
  dsimp only at e
  refine (e.trans (bodyS_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) r l)).trans ?_
  rw [part_blk, h0]

/-- What the second chunk's point adds its product to. -/
theorem acc_blk (t : Fin cfg0.N) (h1 : t.val % 2 = 1) (r : Fin 256) (l : Fin 1024) :
    (outsAt0 (F := Ideal) m c (t.val - 1) (Nat.lt_of_le_of_lt (Nat.sub_le _ _) t.isLt)).2.2.2 (ix2 r l) + blkP (grid0.coords t) (iblk (F := Ideal) m c 0 t) (iblk (F := Ideal) m c 1 t) (iblk (F := Ideal) m c 2 t) (iblk (F := Ideal) m c 3 t) (iblk (F := Ideal) m c 4 t) (iblk (F := Ideal) m c 5 t) r l
      = Cert.Reference9Ideal.Chain.r62 (au m c) (ac m c) (ab m c) (aw m c) (ix2 (⟨(t.val / 2 * 256 + r.val) % 9216, Nat.mod_lt _ (by decide)⟩ : Fin 9216) l) := by
  have e := outS m c ⟨t.val - 1, Nat.lt_of_le_of_lt (Nat.sub_le _ _) t.isLt⟩ (by show (t.val - 1) % 2 = 0; omega) r l
  have e1 : (⟨((t.val - 1) / 2 * 256 + r.val) % 9216, Nat.mod_lt _ (by decide)⟩ : Fin 9216) = ⟨(t.val / 2 * 256 + r.val) % 9216, Nat.mod_lt _ (by decide)⟩ := Fin.ext (by dsimp only; rw [show (t.val - 1) / 2 = t.val / 2 by omega])
  refine (congrArg₂ (fun a b : EReal => a + b) e (part_blk m c t r l)).trans ?_
  dsimp only
  rw [e1, h1, two_parts]

theorem out10 (t : Fin cfg0.N) (h1 : t.val % 2 = 1) (r : Fin 256) (l : Fin 1024) :
    (outsAt0 (F := Ideal) m c t.val t.isLt).1 (ix2 r l) = Cert.Reference9Ideal.Chain.r62 (au m c) (ac m c) (ab m c) (aw m c) (ix2 (⟨(t.val / 2 * 256 + r.val) % 9216, Nat.mod_lt _ (by decide)⟩ : Fin 9216) l) := by
  have h0 : ¬t.val % 2 = 0 := by omega
  have e := congrFun (congrArg (fun p => p.1) (outsAt0_B (F := Ideal) m c t h0 h1)) (ix2 r l)
  dsimp only at e
  exact (e.trans (body10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ r l)).trans (acc_blk m c t h1 r l)

theorem out11 (t : Fin cfg0.N) (h1 : t.val % 2 = 1) (r : Fin 256) (l : Fin 1024) :
    (outsAt0 (F := Ideal) m c t.val t.isLt).2.1 (ix2 r l) = Cert.Reference9Ideal.Chain.r94 (Cert.Reference9Ideal.Chain.r72 (au m c) (ac m c) (ab m c) (aw m c) (ax m c) (ad m c)) (ag m c) (ae m c) (ix2 (⟨(t.val / 2 * 256 + r.val) % 9216, Nat.mod_lt _ (by decide)⟩ : Fin 9216) l) := by
  have ht := ltN t
  have hr := r.isLt
  have h0 : ¬t.val % 2 = 0 := by omega
  have e := congrFun (congrArg (fun p => p.2.1) (outsAt0_B (F := Ideal) m c t h0 h1)) (ix2 r l)
  dsimp only at e
  refine (e.trans (body11_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ r l)).trans ?_
  rw [Cert.Reference9Ideal.Chain.r94_at, blk8, blk9]
  refine congrArg (fun z : Fin 1024 → EReal => Cert.Reference9Ideal.Chain.lnorm z (ag m c (ix2 0 l)) (ae m c (ix2 0 l)) l) (funext fun x => ?_)
  rw [Cert.Reference9Ideal.Chain.r72_at, acc_blk m c t h1 r x, blk6, blk7]
  have e3 : (⟨x.val % 1024, Nat.mod_lt _ (by decide)⟩ : Fin 1024) = x := Fin.ext (Nat.mod_eq_of_lt x.isLt)
  have e4 : (⟨t.val / 2 % 36, by omega⟩ : Fin 36) = ⟨(t.val / 2 * 256 + r.val) % 9216 / 256, by omega⟩ := Fin.ext (by dsimp only; omega)
  rw [e3, e4]

theorem res12 : (dats (F := Ideal) m 0 c).arrAt 12 cfg0.N = Cert.Reference9Ideal.Chain.r95 (au m c) (ac m c) (ab m c) := by
  refine (dats m 0 c).arrAt_eq_of_covers 12 _ (by decide +kernel) fun t hf y => ?_
  blk_simp
  rw [after0_12]
  have ht := ltN t
  obtain ⟨r, k, rfl⟩ : ∃ (r : Fin 256) (k : Fin 2816), y = ix2 r k := ⟨y 0, y 1, by funext x; fin_cases x <;> rfl⟩
  have hr := r.isLt
  have hk := k.isLt
  have e : (win0_12.blk t).view.emb (ix2 r k) = ix2 (⟨(t.val / 2 * 256 + r.val) % 9216, Nat.mod_lt _ (by decide)⟩ : Fin 9216) (⟨(t.val % 2 * 2816 + k.val) % 5632, Nat.mod_lt _ (by decide)⟩ : Fin 5632) := by
    rw [show (⟨(t.val / 2 * 256 + r.val) % 9216, Nat.mod_lt _ (by decide)⟩ : Fin 9216) = ⟨t.val / 2 * 256 + r.val, by omega⟩ from Fin.ext (Nat.mod_eq_of_lt (by omega)),
      show (⟨(t.val % 2 * 2816 + k.val) % 5632, Nat.mod_lt _ (by decide)⟩ : Fin 5632) = ⟨t.val % 2 * 2816 + k.val, by omega⟩ from Fin.ext (Nat.mod_eq_of_lt (by omega))]
    blk_ext [idx t]
  refine (out12 m c t r k).trans ?_
  refine Eq.trans ?_ (congrArg (Cert.Reference9Ideal.Chain.r95 (au m c) (ac m c) (ab m c)) e).symm
  rw [conv_blk]
  unfold Cert.Reference9Ideal.Chain.r95
  pointwise
  rw [Cert.Reference9Ideal.Chain.r52_at]

theorem res10 : (dats (F := Ideal) m 0 c).arrAt 10 cfg0.N = Cert.Reference9Ideal.Chain.r62 (au m c) (ac m c) (ab m c) (aw m c) := by
  refine (dats m 0 c).arrAt_eq_of_covers 10 _ (by decide +kernel) fun t hf y => ?_
  blk_simp
  rw [after0_10]
  have h1 : t.val % 2 = 1 := (flush0_10 t).mp hf
  have ht := ltN t
  obtain ⟨r, l, rfl⟩ : ∃ (r : Fin 256) (l : Fin 1024), y = ix2 r l := ⟨y 0, y 1, by funext x; fin_cases x <;> rfl⟩
  have hr := r.isLt
  have e : (win0_10.blk t).view.emb (ix2 r l) = ix2 (⟨(t.val / 2 * 256 + r.val) % 9216, Nat.mod_lt _ (by decide)⟩ : Fin 9216) l := by
    rw [show (⟨(t.val / 2 * 256 + r.val) % 9216, Nat.mod_lt _ (by decide)⟩ : Fin 9216) = ⟨t.val / 2 * 256 + r.val, by omega⟩ from Fin.ext (Nat.mod_eq_of_lt (by omega))]
    blk_ext [idx t]
  refine (out10 m c t h1 r l).trans ?_
  exact (congrArg (Cert.Reference9Ideal.Chain.r62 (au m c) (ac m c) (ab m c) (aw m c)) e).symm

theorem res11 : (dats (F := Ideal) m 0 c).arrAt 11 cfg0.N = Cert.Reference9Ideal.Chain.r94 (Cert.Reference9Ideal.Chain.r72 (au m c) (ac m c) (ab m c) (aw m c) (ax m c) (ad m c)) (ag m c) (ae m c) := by
  refine (dats m 0 c).arrAt_eq_of_covers 11 _ (by decide +kernel) fun t hf y => ?_
  blk_simp
  rw [after0_11]
  have h1 : t.val % 2 = 1 := (flush0_11 t).mp hf
  have ht := ltN t
  obtain ⟨r, l, rfl⟩ : ∃ (r : Fin 256) (l : Fin 1024), y = ix2 r l := ⟨y 0, y 1, by funext x; fin_cases x <;> rfl⟩
  have hr := r.isLt
  have e : (win0_11.blk t).view.emb (ix2 r l) = ix2 (⟨(t.val / 2 * 256 + r.val) % 9216, Nat.mod_lt _ (by decide)⟩ : Fin 9216) l := by
    rw [show (⟨(t.val / 2 * 256 + r.val) % 9216, Nat.mod_lt _ (by decide)⟩ : Fin 9216) = ⟨t.val / 2 * 256 + r.val, by omega⟩ from Fin.ext (Nat.mod_eq_of_lt (by omega))]
    blk_ext [idx t]
  refine (out11 m c t h1 r l).trans ?_
  exact (congrArg (Cert.Reference9Ideal.Chain.r94 (Cert.Reference9Ideal.Chain.r72 (au m c) (ac m c) (ab m c) (aw m c) (ax m c) (ad m c)) (ag m c) (ae m c)) e).symm

/-- The run with each result named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 10 cfg0.N
      ∧ r.2.mem ((c : Thread nD τ).loc main_v2_1) = (dats m 0 c).arrAt 11 cfg0.N
      ∧ r.2.mem ((c : Thread nD τ).loc main_v2_2) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 10, (h c).1 11, (h c).1 12,
    ((h c).2 main_arg0 (Pipeline.mem_restRefs_of main_arg0 (by decide) (by decide))).trans (V_main_arg0 m c),
    ((h c).1 3).trans (((dats m 0 c).arrAt_in 3 rfl _).trans ((A_eq m c 3).trans (V_main_arg1 m c))),
    ((h c).1 4).trans (((dats m 0 c).arrAt_in 4 rfl _).trans ((A_eq m c 4).trans (V_main_arg2 m c))),
    ((h c).2 main_arg3 (Pipeline.mem_restRefs_of main_arg3 (by decide) (by decide))).trans (V_main_arg3 m c),
    ((h c).1 6).trans (((dats m 0 c).arrAt_in 6 rfl _).trans ((A_eq m c 6).trans (V_main_arg4 m c))),
    ((h c).1 7).trans (((dats m 0 c).arrAt_in 7 rfl _).trans ((A_eq m c 7).trans (V_main_arg5 m c))),
    ((h c).1 8).trans (((dats m 0 c).arrAt_in 8 rfl _).trans ((A_eq m c 8).trans (V_main_arg6 m c))),
    ((h c).1 9).trans (((dats m 0 c).arrAt_in 9 rfl _).trans ((A_eq m c 9).trans (V_main_arg7 m c)))⟩)
    (run_main m ρ)

end Final
end Cert.Kernel9Ideal

namespace Cert.Value9
open Idealize.ShloMosaic Idealize.SL.Sem

/-- The kernel and the reference end with the same product, layer norm and saved convolution. -/
theorem value : Cert.algebraic_Kernel9Ideal_Reference9Ideal (hKernel9Ideal := Cert.Kernel9Ideal.Gen.facts) (hReference9Ideal := Cert.Reference9Ideal.Gen.facts) := by
  intro m g m' g' hpre hag
  refine ⟨fun c => (Cert.Kernel9Ideal.Gen.dats m 0 c).arrAt 10 Cert.Kernel9Ideal.cfg0.N, fun c => (Cert.Kernel9Ideal.Gen.dats m 0 c).arrAt 11 Cert.Kernel9Ideal.cfg0.N, fun c => (Cert.Kernel9Ideal.Gen.dats m 0 c).arrAt 12 Cert.Kernel9Ideal.cfg0.N, Cert.Kernel9Ideal.Final.run_blocks m g,
    (θ_run Cert.Reference9Ideal.defs _ _).mono (fun r h c => ?_) (Cert.Reference9Ideal.Value.run (F := Ideal) m' g')⟩
  obtain ⟨a, b, d, rest⟩ := h c
  obtain ⟨g0, g1, g2, g3, g4, g5, g6, g7⟩ := hag c
  have ea : Cert.Reference9Ideal.Chain.r62 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      = Cert.Reference9Ideal.Chain.r62 (Cert.Kernel9Ideal.Final.au m c) (Cert.Kernel9Ideal.Final.ac m c) (Cert.Kernel9Ideal.Final.ab m c) (Cert.Kernel9Ideal.Final.aw m c) := by
    rw [g0, g1, g2, g3]
  have eb : Cert.Reference9Ideal.Chain.r94 (Cert.Reference9Ideal.Chain.r72 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5))) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7))
      = Cert.Reference9Ideal.Chain.r94 (Cert.Reference9Ideal.Chain.r72 (Cert.Kernel9Ideal.Final.au m c) (Cert.Kernel9Ideal.Final.ac m c) (Cert.Kernel9Ideal.Final.ab m c) (Cert.Kernel9Ideal.Final.aw m c) (Cert.Kernel9Ideal.Final.ax m c) (Cert.Kernel9Ideal.Final.ad m c)) (Cert.Kernel9Ideal.Final.ag m c) (Cert.Kernel9Ideal.Final.ae m c) := by
    rw [g0, g1, g2, g3, g4, g5, g6, g7]
  have ed : Cert.Reference9Ideal.Chain.r95 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))
      = Cert.Reference9Ideal.Chain.r95 (Cert.Kernel9Ideal.Final.au m c) (Cert.Kernel9Ideal.Final.ac m c) (Cert.Kernel9Ideal.Final.ab m c) := by
    rw [g0, g1, g2]
  refine ⟨?_, ?_, ?_, rest⟩
  · exact a.trans (Eq.trans (Eq.trans rfl ea) (Cert.Kernel9Ideal.Final.res10 m c).symm)
  · exact b.trans (Eq.trans (Eq.trans rfl eb) (Cert.Kernel9Ideal.Final.res11 m c).symm)
  · exact d.trans (Eq.trans (Eq.trans rfl ed) (Cert.Kernel9Ideal.Final.res12 m c).symm)

end Cert.Value9
end
-- ==== Proof.M10.lean ====
/- The latent attention's forward call: its two results are the reference's softmax attention and row log-sums. -/
module

public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import proofs.«01_k».proof.Proof.Body
public import proofs.«01_k».proof.Proof.HostChain2
public import proofs.«01_k».proof.Proof.Pre

@[expose] public section

set_option maxRecDepth 16384

noncomputable section

namespace Cert.Reference10Ideal.Chain
open Cert.Attn Idealize.ShloMosaic Idealize.ShloMosaic.TcCoe Idealize.SL.Sem
open Cert.KernelIdeal (S9216x1024 S9216x512 S4x256x8x64 S4x2304x8x64)
open Cert.KernelIdeal.Chain

/-- The attention's result at row `r` and lane `e` of a head, of values that may be infinite. -/
def gO (Q K : ℕ → ℕ → ℝ) (v : FVec Ideal S9216x512 .f32) (b h r e : ℕ) : EReal :=
  if r < 256 then ∑ y : Fin 256, ((Pr Q K b h 256 r y.val : ℝ) : EReal) * v (ix2 (⟨(b * 2304 + y.val) % 9216, Nat.mod_lt _ (by decide)⟩ : Fin 9216) (⟨(h * 64 + e) % 512, Nat.mod_lt _ (by decide)⟩ : Fin 512))
  else ∑ y : Fin 2304, ((Pr Q K b h 2304 r y.val : ℝ) : EReal) * v (ix2 (⟨(b * 2304 + y.val) % 9216, Nat.mod_lt _ (by decide)⟩ : Fin 9216) (⟨(h * 64 + e) % 512, Nat.mod_lt _ (by decide)⟩ : Fin 512))

variable (q k : FVec Ideal S9216x1024 .f32) (v d : FVec Ideal S9216x512 .f32) (Q K : ℕ → ℕ → ℝ)
  (hq : ∀ i j, q (ix2 i j) = ((Q i.val j.val : ℝ) : EReal)) (hk : ∀ i j, k (ix2 i j) = ((K i.val j.val : ℝ) : EReal))

/-- An array of zeros. -/
def zed : FVec Ideal S9216x512 .f32 := fun _ => ((0 : ℝ) : EReal)

include hq hk in
theorem soft_ctx (b : Fin 4) (h : Fin 8) (r : Fin 256) (y : Fin 256) : hv15 q k v d (ix4 b h r y) = ((Pr Q K b.val h.val 256 r.val y.val : ℝ) : EReal) :=
  hv15_at q k zed zed Q K (fun _ _ => 0) (fun _ _ => 0) hq hk (fun _ _ => rfl) (fun _ _ => rfl) b h r y

include hq hk in
theorem soft_lat (b : Fin 4) (h : Fin 8) (r : Fin 2048) (y : Fin 2304) : hv31 q k v d (ix4 b h r y) = ((Pr Q K b.val h.val 2304 (256 + r.val) y.val : ℝ) : EReal) :=
  hv31_at q k zed zed Q K (fun _ _ => 0) (fun _ _ => 0) hq hk (fun _ _ => rfl) (fun _ _ => rfl) b h r y

include hq hk in
theorem lse_at (i : Fin 9216) (j : Fin 512) :
    hv41 q k v d (ix2 i j) = ((Real.log (Z Q K (i.val / 2304) (j.val / 64) (NK (i.val % 2304)) (i.val % 2304)) : ℝ) : EReal) :=
  hv41_at q k zed zed Q K (fun _ _ => 0) (fun _ _ => 0) hq hk (fun _ _ => rfl) (fun _ _ => rfl) i j

/-- The values, by sample, key, head and lane. -/
theorem val_lat (b : Fin 4) (y : Fin 2304) (h : Fin 8) (e : Fin 64) :
    hv2 q k v d (ix4 b y h e) = v (ix2 (⟨(b.val * 2304 + y.val) % 9216, Nat.mod_lt _ (by decide)⟩ : Fin 9216) (⟨(h.val * 64 + e.val) % 512, Nat.mod_lt _ (by decide)⟩ : Fin 512)) := by
  rw [show (⟨(b.val * 2304 + y.val) % 9216, Nat.mod_lt _ (by decide)⟩ : Fin 9216) = ⟨b.val * 2304 + y.val, by omega⟩ from Fin.ext (Nat.mod_eq_of_lt (by omega)),
    show (⟨(h.val * 64 + e.val) % 512, Nat.mod_lt _ (by decide)⟩ : Fin 512) = ⟨h.val * 64 + e.val, by omega⟩ from Fin.ext (Nat.mod_eq_of_lt (by omega))]
  unfold hv2
  pointwise

theorem val_ctx (b : Fin 4) (y : Fin 256) (h : Fin 8) (e : Fin 64) :
    hv5 q k v d (ix4 b y h e) = v (ix2 (⟨(b.val * 2304 + y.val) % 9216, Nat.mod_lt _ (by decide)⟩ : Fin 9216) (⟨(h.val * 64 + e.val) % 512, Nat.mod_lt _ (by decide)⟩ : Fin 512)) := by
  unfold hv5
  pointwise
  rw [val_lat]

include hq hk in
theorem out_ctx (b : Fin 4) (r : Fin 256) (h : Fin 8) (e : Fin 64) : hv17 q k v d (ix4 b r h e) = gO Q K v b.val h.val r.val e.val := by
  rw [gO, if_pos r.isLt]
  unfold hv17 hv16
  pointwise
  simp only [val_ctx, soft_ctx q k v d Q K hq hk]
  exact Finset.sum_congr rfl fun y _ => mul_comm _ _

include hq hk in
theorem out_lat (b : Fin 4) (r : Fin 2048) (h : Fin 8) (e : Fin 64) : hv33 q k v d (ix4 b r h e) = gO Q K v b.val h.val (256 + r.val) e.val := by
  rw [gO, if_neg (by omega)]
  unfold hv33 hv32
  pointwise
  simp only [val_lat, soft_lat q k v d Q K hq hk]
  exact Finset.sum_congr rfl fun y _ => mul_comm _ _

include hq hk in
theorem out_all (b : Fin 4) (r : Fin 2304) (h : Fin 8) (e : Fin 64) : hv37 q k v d (ix4 b r h e) = gO Q K v b.val h.val r.val e.val := by
  unfold hv37
  pointwise
  simp only [out_ctx q k v d Q K hq hk, out_lat q k v d Q K hq hk]
  by_cases hr : r.val < 256
  · rw [dif_pos hr]
  · rw [dif_neg hr, show 256 + (r.val - 256) = r.val by omega]

include hq hk in
theorem out_at (i : Fin 9216) (j : Fin 512) : hv38 q k v d (ix2 i j) = gO Q K v (i.val / 2304) (j.val / 64) (i.val % 2304) (j.val % 64) := by
  unfold hv38
  pointwise
  simp only [out_all q k v d Q K hq hk]

end Cert.Reference10Ideal.Chain

namespace Cert.Kernel10Ideal
namespace Final
open Cert.Attn
open Cert.KernelIdeal.Body (mask0 mask1 select_one select_zero)
open Cert.Kernel10Ideal Cert.Kernel10Ideal.Gen Idealize.ShloMosaic Idealize.ShloMosaic.TcCoe Idealize.SL.Sem

/-- A finite sum times a real that is not negative is the sum of the products. -/
theorem sum_mul_real {ι : Type*} (s : Finset ι) (f : ι → EReal) (x : ℝ) (hx : 0 ≤ x) : (∑ i ∈ s, f i) * (x : EReal) = ∑ i ∈ s, f i * (x : EReal) := by
  classical
  induction s using Finset.induction_on with
  | empty => simp
  | insert a s ha ih =>
    rw [Finset.sum_insert ha, Finset.sum_insert ha, EReal.right_distrib_of_nonneg_of_ne_top (by exact_mod_cast hx) (EReal.coe_ne_top x), ih]

section Cells
variable (c : Dev nD) (i : grid0.Coords) (arg3 : Memref sig .tc .vmem S256x256 .bf16) (harg3 : arg3.IsWhole) (arg4 : Memref sig .tc .vmem S2304x256 .bf16) (harg4 : arg4.IsWhole) (arg5 : Memref sig .tc .vmem S2304x128 .bf16) (harg5 : arg5.IsWhole) (arg6 : Memref sig .tc .vmem S256x128 .f32) (harg6 : arg6.IsWhole) (arg7 : Memref sig .tc .vmem S256x128 .f32) (harg7 : arg7.IsWhole)
 (x0 : Vec Ideal S256x256 .bf16) (x1 : Vec Ideal S2304x256 .bf16) (x2 : Vec Ideal S2304x128 .bf16)
 (X0 X1 : ℕ → ℕ → ℝ)
 (h0 : ∀ r l, x0 (ix2 r l) = ((X0 r.val l.val : ℝ) : EReal)) (h1 : ∀ r l, x1 (ix2 r l) = ((X1 r.val l.val : ℝ) : EReal))

theorem flag_a : IntOp.xori (IntOp.xori (IntOp.cmpi CmpIPredicate.slt 64#32 64#32) 1#1) 1#1 = 0#1 := by decide
theorem flag_b : IntOp.xori (IntOp.xori (IntOp.cmpi CmpIPredicate.slt 0#32 64#32) 0#1) 1#1 = 0#1 := by decide
/-- The word of the mask "the lane is one of the first 64". -/
theorem lane (x : Fin 128) : IntOp.cmpi CmpIPredicate.slt (BitVec.ofNat 32 x.val) 64#32 = if x.val < 64 then 1#1 else 0#1 := by
  revert x; decide +kernel

section Head
variable (X0 X1 : ℕ → ℕ → ℝ)
theorem S0 (r k : ℕ) : ∑ i : Fin 128, X0 r i.val * X1 k i.val = S X0 X1 0 0 r k := by simp [S]
theorem S1 (r k : ℕ) : ∑ i : Fin 128, X0 r (128 + i.val) * X1 k (128 + i.val) = S X0 X1 0 1 r k := by simp [S]

/-- The maximum plus the logarithm of the shifted exponentials' sum is the logarithm of the exponentials' sum. -/
theorem lse_eq (n h r : ℕ) (hn : 0 < n) :
    Finset.fold max (⊥ : EReal) (fun x : Fin n => ((S X0 X1 0 h r x.val : ℝ) : EReal)) Finset.univ
      + Ideal.log (∑ x : Fin n, Ideal.exp (((S X0 X1 0 h r x.val : ℝ) : EReal) - Finset.fold max (⊥ : EReal) (fun x : Fin n => ((S X0 X1 0 h r x.val : ℝ) : EReal)) Finset.univ) * 1)
      = ((Real.log (Z X0 X1 0 h n r) : ℝ) : EReal) := by
  haveI : Nonempty (Fin n) := ⟨⟨0, hn⟩⟩
  obtain ⟨m, hm⟩ := fold_max_real (Finset.univ : Finset (Fin n)) Finset.univ_nonempty (fun x : Fin n => S X0 X1 0 h r x.val)
  rw [hm]
  simp only [mul_one, ← EReal.coe_sub, Ideal.exp_coe, coe_sum]
  exact Cert.KernelIdeal.Chain.log_real n hn X0 X1 0 h r m

/-- The product with the shifted exponentials, over their sum, is the product with the softmax. -/
theorem out_eq (n h r : ℕ) (hn : 0 < n) (g : Fin n → EReal) :
    Ideal.div (∑ x : Fin n, Ideal.exp (((S X0 X1 0 h r x.val : ℝ) : EReal) - Finset.fold max (⊥ : EReal) (fun x : Fin n => ((S X0 X1 0 h r x.val : ℝ) : EReal)) Finset.univ) * g x)
      (∑ x : Fin n, Ideal.exp (((S X0 X1 0 h r x.val : ℝ) : EReal) - Finset.fold max (⊥ : EReal) (fun x : Fin n => ((S X0 X1 0 h r x.val : ℝ) : EReal)) Finset.univ) * 1)
      = ∑ x : Fin n, ((Pr X0 X1 0 h n r x.val : ℝ) : EReal) * g x := by
  haveI : Nonempty (Fin n) := ⟨⟨0, hn⟩⟩
  obtain ⟨m, hm⟩ := fold_max_real (Finset.univ : Finset (Fin n)) Finset.univ_nonempty (fun x : Fin n => S X0 X1 0 h r x.val)
  rw [hm]
  simp only [mul_one, ← EReal.coe_sub, Ideal.exp_coe, coe_sum]
  rw [Ideal.div_coe (Zs_pos X0 X1 0 h n r hn m).ne', sum_mul_real _ _ _ (one_div_pos.mpr (Zs_pos X0 X1 0 h n r hn m)).le]
  refine Finset.sum_congr rfl fun x _ => ?_
  rw [mul_right_comm, ← EReal.coe_mul, mul_one_div, Pr_shift]
end Head

include h0 h1 in
/-- Result 0 of the call at a point of case A. -/
theorem outA3 (hc0 : cond0_0 i) (hc1 : ¬cond0_1 i) (r : Fin 256) (l : Fin 128) : out0_A_3 (F := Ideal) c i arg3 harg3 arg4 harg4 arg5 harg5 arg6 harg6 arg7 harg7 hc0 hc1 x0 x1 x2 (ix2 r l) = ∑ k : Fin 256, ((Pr X0 X1 0 (l.val / 64) 256 r.val k.val : ℝ) : EReal) * x2 (ix2 (⟨k.val, by omega⟩ : Fin 2304) l) := by
  frame_out
  unfold_payloads
  pointwise
  simp only [h0, h1, ← EReal.coe_mul, coe_sum, neg_inf, S0 X0 X1, S1 X0 X1, flag_a, flag_b, lane, mask0, mask1]
  by_cases hl : l.val < 64
  · rw [show l.val / 64 = 0 by omega]
    simp only [if_pos hl, select_one, select_zero]
    exact out_eq X0 X1 256 0 r.val (by omega) _
  · rw [show l.val / 64 = 1 by omega]
    simp only [if_neg hl, select_one, select_zero]
    exact out_eq X0 X1 256 1 r.val (by omega) _

include h0 h1 in
/-- Result 1 of the call at a point of case A. -/
theorem outA4 (hc0 : cond0_0 i) (hc1 : ¬cond0_1 i) (r : Fin 256) (l : Fin 128) : out0_A_4 (F := Ideal) c i arg3 harg3 arg4 harg4 arg5 harg5 arg6 harg6 arg7 harg7 hc0 hc1 x0 x1 x2 (ix2 r l) = ((Real.log (Z X0 X1 0 (l.val / 64) 256 r.val) : ℝ) : EReal) := by
  frame_out
  unfold_payloads
  pointwise
  simp only [h0, h1, ← EReal.coe_mul, coe_sum, neg_inf, S0 X0 X1, S1 X0 X1, flag_a, flag_b, lane, mask0, mask1]
  by_cases hl : l.val < 64
  · rw [show l.val / 64 = 0 by omega]
    simp only [if_pos hl, select_one, select_zero]
    exact lse_eq X0 X1 256 0 r.val (by omega)
  · rw [show l.val / 64 = 1 by omega]
    simp only [if_neg hl, select_one, select_zero]
    exact lse_eq X0 X1 256 1 r.val (by omega)

include h0 h1 in
/-- Result 0 of the call at a point of case B. -/
theorem outB3 (hc0 : ¬cond0_0 i) (hc1 : cond0_1 i) (r : Fin 256) (l : Fin 128) : out0_B_3 (F := Ideal) c i arg3 harg3 arg4 harg4 arg5 harg5 arg6 harg6 arg7 harg7 hc0 hc1 x0 x1 x2 (ix2 r l) = ∑ k : Fin 2304, ((Pr X0 X1 0 (l.val / 64) 2304 r.val k.val : ℝ) : EReal) * x2 (ix2 (⟨k.val, by omega⟩ : Fin 2304) l) := by
  frame_out
  unfold_payloads
  pointwise
  simp only [h0, h1, ← EReal.coe_mul, coe_sum, neg_inf, S0 X0 X1, S1 X0 X1, flag_a, flag_b, lane, mask0, mask1]
  by_cases hl : l.val < 64
  · rw [show l.val / 64 = 0 by omega]
    simp only [if_pos hl, select_one, select_zero]
    exact out_eq X0 X1 2304 0 r.val (by omega) _
  · rw [show l.val / 64 = 1 by omega]
    simp only [if_neg hl, select_one, select_zero]
    exact out_eq X0 X1 2304 1 r.val (by omega) _

include h0 h1 in
/-- Result 1 of the call at a point of case B. -/
theorem outB4 (hc0 : ¬cond0_0 i) (hc1 : cond0_1 i) (r : Fin 256) (l : Fin 128) : out0_B_4 (F := Ideal) c i arg3 harg3 arg4 harg4 arg5 harg5 arg6 harg6 arg7 harg7 hc0 hc1 x0 x1 x2 (ix2 r l) = ((Real.log (Z X0 X1 0 (l.val / 64) 2304 r.val) : ℝ) : EReal) := by
  frame_out
  unfold_payloads
  pointwise
  simp only [h0, h1, ← EReal.coe_mul, coe_sum, neg_inf, S0 X0 X1, S1 X0 X1, flag_a, flag_b, lane, mask0, mask1]
  by_cases hl : l.val < 64
  · rw [show l.val / 64 = 0 by omega]
    simp only [if_pos hl, select_one, select_zero]
    exact lse_eq X0 X1 2304 0 r.val (by omega)
  · rw [show l.val / 64 = 1 by omega]
    simp only [if_neg hl, select_one, select_zero]
    exact lse_eq X0 X1 2304 1 r.val (by omega)

end Cells
/-- Which block each window reads or writes at a point. -/
theorem idx : ∀ t : Fin cfg0.N,
    win0_0.index t = ![t.val / 36 * 9 + t.val % 9, t.val / 9 % 4] ∧ win0_1.index t = ![t.val / 36, t.val / 9 % 4] ∧ win0_2.index t = ![t.val / 36, t.val / 9 % 4]
      ∧ win0_3.index t = ![t.val / 36 * 9 + t.val % 9, t.val / 9 % 4] ∧ win0_4.index t = ![t.val / 36 * 9 + t.val % 9, t.val / 9 % 4] :=
  (by decide +kernel : ∀ t : Fin grid0.N, _)

/-- The arguments of the program on a device. -/
abbrev aq (m : (ℓ : Loc nD τ sig) → Buf (Elt Ideal) ℓ) (c : Dev nD) : FVec Ideal S9216x1024 .f32 := m ((c : Thread nD τ).loc main_arg0)
abbrev ak (m : (ℓ : Loc nD τ sig) → Buf (Elt Ideal) ℓ) (c : Dev nD) : FVec Ideal S9216x1024 .f32 := m ((c : Thread nD τ).loc main_arg1)
abbrev av (m : (ℓ : Loc nD τ sig) → Buf (Elt Ideal) ℓ) (c : Dev nD) : FVec Ideal S9216x512 .f32 := m ((c : Thread nD τ).loc main_arg2)

variable (m : (ℓ : Loc nD τ sig) → Buf (Elt Ideal) ℓ) (c : Dev nD)

theorem ltN (t : Fin cfg0.N) : t.val < 144 := lt_of_lt_of_eq t.isLt N_0

theorem blk0 (t : Fin cfg0.N) (r : Fin 256) (l : Fin 256) :
    ((iblk (F := Ideal) m c 0 t : FVec Ideal S256x256 .bf16) (ix2 r l) : EReal) = aq m c (ix2 (⟨(t.val / 36 * 2304 + (t.val % 9 * 256 + r.val)) % 9216, Nat.mod_lt _ (by decide)⟩ : Fin 9216) (⟨(t.val / 9 % 4 * 256 + l.val) % 1024, Nat.mod_lt _ (by decide)⟩ : Fin 1024)) := by
  have ht := ltN t
  have hr := r.isLt
  have hl := l.isLt
  have e : (win0_0.blk t).view.emb (ix2 r l) = ix2 (⟨(t.val / 36 * 2304 + (t.val % 9 * 256 + r.val)) % 9216, Nat.mod_lt _ (by decide)⟩ : Fin 9216) (⟨(t.val / 9 % 4 * 256 + l.val) % 1024, Nat.mod_lt _ (by decide)⟩ : Fin 1024) := by
    rw [show (⟨(t.val / 36 * 2304 + (t.val % 9 * 256 + r.val)) % 9216, Nat.mod_lt _ (by decide)⟩ : Fin 9216) = ⟨t.val / 36 * 2304 + (t.val % 9 * 256 + r.val), by omega⟩ from Fin.ext (Nat.mod_eq_of_lt (by omega)),
      show (⟨(t.val / 9 % 4 * 256 + l.val) % 1024, Nat.mod_lt _ (by decide)⟩ : Fin 1024) = ⟨t.val / 9 % 4 * 256 + l.val, by omega⟩ from Fin.ext (Nat.mod_eq_of_lt (by omega))]
    blk_ext [idx t]
  blk_simp [iblk, idx t]
  rw [e]
  entry_read
  pointwise

theorem blk1 (t : Fin cfg0.N) (r : Fin 2304) (l : Fin 256) :
    ((iblk (F := Ideal) m c 1 t : FVec Ideal S2304x256 .bf16) (ix2 r l) : EReal) = ak m c (ix2 (⟨(t.val / 36 * 2304 + r.val) % 9216, Nat.mod_lt _ (by decide)⟩ : Fin 9216) (⟨(t.val / 9 % 4 * 256 + l.val) % 1024, Nat.mod_lt _ (by decide)⟩ : Fin 1024)) := by
  have ht := ltN t
  have hr := r.isLt
  have hl := l.isLt
  have e : (win0_1.blk t).view.emb (ix2 r l) = ix2 (⟨(t.val / 36 * 2304 + r.val) % 9216, Nat.mod_lt _ (by decide)⟩ : Fin 9216) (⟨(t.val / 9 % 4 * 256 + l.val) % 1024, Nat.mod_lt _ (by decide)⟩ : Fin 1024) := by
    rw [show (⟨(t.val / 36 * 2304 + r.val) % 9216, Nat.mod_lt _ (by decide)⟩ : Fin 9216) = ⟨t.val / 36 * 2304 + r.val, by omega⟩ from Fin.ext (Nat.mod_eq_of_lt (by omega)),
      show (⟨(t.val / 9 % 4 * 256 + l.val) % 1024, Nat.mod_lt _ (by decide)⟩ : Fin 1024) = ⟨t.val / 9 % 4 * 256 + l.val, by omega⟩ from Fin.ext (Nat.mod_eq_of_lt (by omega))]
    blk_ext [idx t]
  blk_simp [iblk, idx t]
  rw [e]
  entry_read
  pointwise

theorem blk2 (t : Fin cfg0.N) (r : Fin 2304) (l : Fin 128) :
    ((iblk (F := Ideal) m c 2 t : FVec Ideal S2304x128 .bf16) (ix2 r l) : EReal) = av m c (ix2 (⟨(t.val / 36 * 2304 + r.val) % 9216, Nat.mod_lt _ (by decide)⟩ : Fin 9216) (⟨(t.val / 9 % 4 * 128 + l.val) % 512, Nat.mod_lt _ (by decide)⟩ : Fin 512)) := by
  have ht := ltN t
  have hr := r.isLt
  have hl := l.isLt
  have e : (win0_2.blk t).view.emb (ix2 r l) = ix2 (⟨(t.val / 36 * 2304 + r.val) % 9216, Nat.mod_lt _ (by decide)⟩ : Fin 9216) (⟨(t.val / 9 % 4 * 128 + l.val) % 512, Nat.mod_lt _ (by decide)⟩ : Fin 512) := by
    rw [show (⟨(t.val / 36 * 2304 + r.val) % 9216, Nat.mod_lt _ (by decide)⟩ : Fin 9216) = ⟨t.val / 36 * 2304 + r.val, by omega⟩ from Fin.ext (Nat.mod_eq_of_lt (by omega)),
      show (⟨(t.val / 9 % 4 * 128 + l.val) % 512, Nat.mod_lt _ (by decide)⟩ : Fin 512) = ⟨t.val / 9 % 4 * 128 + l.val, by omega⟩ from Fin.ext (Nat.mod_eq_of_lt (by omega))]
    blk_ext [idx t]
  blk_simp [iblk, idx t]
  rw [e]
  entry_read
  pointwise

variable (Q K : ℕ → ℕ → ℝ) (hq : ∀ i j, aq m c (ix2 i j) = ((Q i.val j.val : ℝ) : EReal)) (hk : ∀ i j, ak m c (ix2 i j) = ((K i.val j.val : ℝ) : EReal))

/-- The block of queries at a point, and the block of keys, over the reals. -/
abbrev bq (t : Fin cfg0.N) : ℕ → ℕ → ℝ := fun r l => Q ((t.val / 36 * 2304 + (t.val % 9 * 256 + r)) % 9216) ((t.val / 9 % 4 * 256 + l) % 1024)
abbrev bk (t : Fin cfg0.N) : ℕ → ℕ → ℝ := fun r l => K ((t.val / 36 * 2304 + r) % 9216) ((t.val / 9 % 4 * 256 + l) % 1024)

/-- A block's score is the arrays' score. -/
theorem score (t : Fin cfg0.N) (h r y : ℕ) (hh : h < 2) (hr : r < 256) (hy : y < 2304) :
    S (bq Q t) (bk K t) 0 h r y = S Q K (t.val / 36) (t.val / 9 % 4 * 2 + h) (t.val % 9 * 256 + r) y := by
  have ht := ltN t
  unfold S
  refine Finset.sum_congr rfl fun d _ => ?_
  have hd := d.isLt
  dsimp only [bq, bk]
  rw [show (t.val / 36 * 2304 + (t.val % 9 * 256 + (0 * 2304 + r))) % 9216 = t.val / 36 * 2304 + (t.val % 9 * 256 + r) by omega,
    show (t.val / 36 * 2304 + (0 * 2304 + y)) % 9216 = t.val / 36 * 2304 + y by omega,
    show (t.val / 9 % 4 * 256 + (h * 128 + d.val)) % 1024 = (t.val / 9 % 4 * 2 + h) * 128 + d.val by omega]

theorem mass (t : Fin cfg0.N) (n h r : ℕ) (hn : n ≤ 2304) (hh : h < 2) (hr : r < 256) :
    Z (bq Q t) (bk K t) 0 h n r = Z Q K (t.val / 36) (t.val / 9 % 4 * 2 + h) n (t.val % 9 * 256 + r) := by
  unfold Z
  exact Finset.sum_congr rfl fun y _ => by rw [score Q K t h r y.val hh hr (by omega)]

theorem soft (t : Fin cfg0.N) (n h r y : ℕ) (hn : n ≤ 2304) (hh : h < 2) (hr : r < 256) (hy : y < 2304) :
    Pr (bq Q t) (bk K t) 0 h n r y = Pr Q K (t.val / 36) (t.val / 9 % 4 * 2 + h) n (t.val % 9 * 256 + r) y := by
  unfold Pr
  rw [score Q K t h r y hh hr hy, mass Q K t n h r hn hh hr]

include hq in
theorem hbq (t : Fin cfg0.N) (r : Fin 256) (l : Fin 256) : (iblk (F := Ideal) m c 0 t : FVec Ideal S256x256 .bf16) (ix2 r l) = ((bq Q t r.val l.val : ℝ) : EReal) :=
  (blk0 m c t r l).trans (hq _ _)
include hk in
theorem hbk (t : Fin cfg0.N) (r : Fin 2304) (l : Fin 256) : (iblk (F := Ideal) m c 1 t : FVec Ideal S2304x256 .bf16) (ix2 r l) = ((bk K t r.val l.val : ℝ) : EReal) :=
  (blk1 m c t r l).trans (hk _ _)

include hq hk in
/-- Result 0 at a point. -/
theorem at3 (t : Fin cfg0.N) (r : Fin 256) (l : Fin 128) : (outsAt0 (F := Ideal) m c t.val t.isLt).1 (ix2 r l) = Cert.Reference10Ideal.Chain.gO Q K (av m c) (t.val / 36) (t.val / 9 % 4 * 2 + l.val / 64) (t.val % 9 * 256 + r.val) (l.val % 64) := by
  have ht := ltN t
  have hr := r.isLt
  have hl := l.isLt
  by_cases h0 : t.val % 9 = 0
  · have h1 : ¬1 ≤ t.val % 9 := by omega
    have e := congrFun (congrArg (fun p => p.1) (outsAt0_A (F := Ideal) m c t h0 h1)) (ix2 r l)
    dsimp only at e
    refine (e.trans (outA3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (bq Q t) (bk K t) (hbq m c Q hq t) (hbk m c K hk t) ((hcond0_0 t).mpr h0) (fun h => h1 ((hcond0_1 t).mp h)) r l)).trans ?_
    rw [Cert.Reference10Ideal.Chain.gO, if_pos (show t.val % 9 * 256 + r.val < 256 by omega)]
    refine Finset.sum_congr rfl fun y _ => ?_
    have hy := y.isLt
    rw [soft Q K t 256 (l.val / 64) r.val y.val (by omega) (by omega) (by omega) (by omega), blk2]
    dsimp only
    rw [show t.val / 9 % 4 * 128 + l.val = (t.val / 9 % 4 * 2 + l.val / 64) * 64 + l.val % 64 by omega]
  · have h1 : 1 ≤ t.val % 9 := by omega
    have e := congrFun (congrArg (fun p => p.1) (outsAt0_B (F := Ideal) m c t h0 h1)) (ix2 r l)
    dsimp only at e
    refine (e.trans (outB3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (bq Q t) (bk K t) (hbq m c Q hq t) (hbk m c K hk t) (fun h => h0 ((hcond0_0 t).mp h)) ((hcond0_1 t).mpr h1) r l)).trans ?_
    rw [Cert.Reference10Ideal.Chain.gO, if_neg (show ¬t.val % 9 * 256 + r.val < 256 by omega)]
    refine Finset.sum_congr rfl fun y _ => ?_
    have hy := y.isLt
    rw [soft Q K t 2304 (l.val / 64) r.val y.val (by omega) (by omega) (by omega) (by omega), blk2]
    dsimp only
    rw [show t.val / 9 % 4 * 128 + l.val = (t.val / 9 % 4 * 2 + l.val / 64) * 64 + l.val % 64 by omega]

include hq hk in
/-- Result 1 at a point. -/
theorem at4 (t : Fin cfg0.N) (r : Fin 256) (l : Fin 128) : (outsAt0 (F := Ideal) m c t.val t.isLt).2 (ix2 r l) = ((Real.log (Z Q K (t.val / 36) (t.val / 9 % 4 * 2 + l.val / 64) (Cert.KernelIdeal.Chain.NK (t.val % 9 * 256 + r.val)) (t.val % 9 * 256 + r.val)) : ℝ) : EReal) := by
  have ht := ltN t
  have hr := r.isLt
  have hl := l.isLt
  by_cases h0 : t.val % 9 = 0
  · have h1 : ¬1 ≤ t.val % 9 := by omega
    have e := congrFun (congrArg (fun p => p.2) (outsAt0_A (F := Ideal) m c t h0 h1)) (ix2 r l)
    dsimp only at e
    refine (e.trans (outA4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (bq Q t) (bk K t) (hbq m c Q hq t) (hbk m c K hk t) ((hcond0_0 t).mpr h0) (fun h => h1 ((hcond0_1 t).mp h)) r l)).trans ?_
    rw [Cert.KernelIdeal.Chain.NK, if_pos (show t.val % 9 * 256 + r.val < 256 by omega), mass Q K t 256 (l.val / 64) r.val (by omega) (by omega) (by omega)]
  · have h1 : 1 ≤ t.val % 9 := by omega
    have e := congrFun (congrArg (fun p => p.2) (outsAt0_B (F := Ideal) m c t h0 h1)) (ix2 r l)
    dsimp only at e
    refine (e.trans (outB4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (bq Q t) (bk K t) (hbq m c Q hq t) (hbk m c K hk t) (fun h => h0 ((hcond0_0 t).mp h)) ((hcond0_1 t).mpr h1) r l)).trans ?_
    rw [Cert.KernelIdeal.Chain.NK, if_neg (show ¬t.val % 9 * 256 + r.val < 256 by omega), mass Q K t 2304 (l.val / 64) r.val (by omega) (by omega) (by omega)]

include hq hk in
theorem res3 (d : FVec Ideal S9216x512 .f32) : (dats (F := Ideal) m 0 c).arrAt 3 cfg0.N = Cert.KernelIdeal.Chain.hv38 (aq m c) (ak m c) (av m c) d := by
  refine (dats m 0 c).arrAt_eq_of_covers 3 _ (by decide +kernel) fun t hf y => ?_
  blk_simp
  rw [after0_3]
  have ht := ltN t
  obtain ⟨r, l, rfl⟩ : ∃ (r : Fin 256) (l : Fin 128), y = ix2 r l := ⟨y 0, y 1, by funext x; fin_cases x <;> rfl⟩
  have hr := r.isLt
  have hl := l.isLt
  have e : (win0_3.blk t).view.emb (ix2 r l) = ix2 (⟨t.val / 36 * 2304 + (t.val % 9 * 256 + r.val), by omega⟩ : Fin 9216) (⟨t.val / 9 % 4 * 128 + l.val, by omega⟩ : Fin 512) := by
    blk_ext [idx t]
  refine (at3 m c Q K hq hk t r l).trans ?_
  refine Eq.trans ?_ (congrArg (Cert.KernelIdeal.Chain.hv38 (aq m c) (ak m c) (av m c) d) e).symm
  rw [Cert.Reference10Ideal.Chain.out_at (aq m c) (ak m c) (av m c) d Q K hq hk]
  dsimp only
  rw [show (t.val / 36 * 2304 + (t.val % 9 * 256 + r.val)) / 2304 = t.val / 36 by omega,
    show (t.val / 36 * 2304 + (t.val % 9 * 256 + r.val)) % 2304 = t.val % 9 * 256 + r.val by omega,
    show (t.val / 9 % 4 * 128 + l.val) / 64 = t.val / 9 % 4 * 2 + l.val / 64 by omega,
    show (t.val / 9 % 4 * 128 + l.val) % 64 = l.val % 64 by omega]

include hq hk in
theorem res4 (d : FVec Ideal S9216x512 .f32) : (dats (F := Ideal) m 0 c).arrAt 4 cfg0.N = Cert.KernelIdeal.Chain.hv41 (aq m c) (ak m c) (av m c) d := by
  refine (dats m 0 c).arrAt_eq_of_covers 4 _ (by decide +kernel) fun t hf y => ?_
  blk_simp
  rw [after0_4]
  have ht := ltN t
  obtain ⟨r, l, rfl⟩ : ∃ (r : Fin 256) (l : Fin 128), y = ix2 r l := ⟨y 0, y 1, by funext x; fin_cases x <;> rfl⟩
  have hr := r.isLt
  have hl := l.isLt
  have e : (win0_4.blk t).view.emb (ix2 r l) = ix2 (⟨t.val / 36 * 2304 + (t.val % 9 * 256 + r.val), by omega⟩ : Fin 9216) (⟨t.val / 9 % 4 * 128 + l.val, by omega⟩ : Fin 512) := by
    blk_ext [idx t]
  refine (at4 m c Q K hq hk t r l).trans ?_
  refine Eq.trans ?_ (congrArg (Cert.KernelIdeal.Chain.hv41 (aq m c) (ak m c) (av m c) d) e).symm
  rw [Cert.Reference10Ideal.Chain.lse_at (aq m c) (ak m c) (av m c) d Q K hq hk]
  dsimp only
  rw [show (t.val / 36 * 2304 + (t.val % 9 * 256 + r.val)) / 2304 = t.val / 36 by omega,
    show (t.val / 36 * 2304 + (t.val % 9 * 256 + r.val)) % 2304 = t.val % 9 * 256 + r.val by omega,
    show (t.val / 9 % 4 * 128 + l.val) / 64 = t.val / 9 % 4 * 2 + l.val / 64 by omega]

end Final
end Cert.Kernel10Ideal

namespace Cert.Value10
open Idealize.ShloMosaic Idealize.SL.Sem

/-- The shape relations of the precondition. -/
theorem facts : Cert.Pre_finite10.Facts := ⟨by decide⟩

theorem ref40 (m' : (ℓ : Loc Cert.Reference10Ideal.nD Cert.Reference10Ideal.τ Cert.Reference10Ideal.sig) → Buf (Elt Ideal) ℓ) (c : Dev Cert.Reference10Ideal.nD) (d : FVec Ideal Cert.KernelIdeal.S9216x512 .f32) :
    Cert.Reference10Ideal.Value.res_main_v40 m' c = Cert.KernelIdeal.Chain.hv38 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) d := by
  unfold Cert.Reference10Ideal.Value.res_main_v40
  rfl

theorem ref41 (m' : (ℓ : Loc Cert.Reference10Ideal.nD Cert.Reference10Ideal.τ Cert.Reference10Ideal.sig) → Buf (Elt Ideal) ℓ) (c : Dev Cert.Reference10Ideal.nD) (d : FVec Ideal Cert.KernelIdeal.S9216x512 .f32) :
    Cert.Reference10Ideal.Value.res_main_v41 m' c = Cert.KernelIdeal.Chain.hv41 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) d := by
  unfold Cert.Reference10Ideal.Value.res_main_v41
  rfl

/-- On queries and keys without infinities the kernel and the reference end with the same attention and the same log-sums. -/
theorem value : Cert.algebraic_Kernel10Ideal_Reference10Ideal_pre_finite10 (hKernel10Ideal := Cert.Kernel10Ideal.Gen.facts) (hReference10Ideal := Cert.Reference10Ideal.Gen.facts) (hPre_finite10 := facts) := by
  intro m g m' g' hpre hag
  have fin := fun c => hpre c
  have hq := fun c => Cert.Pre.real_at (Cert.Kernel10Ideal.Final.aq m c) _ (fin c).1
  have hk := fun c => Cert.Pre.real_at (Cert.Kernel10Ideal.Final.ak m c) _ (fin c).2
  refine ⟨fun c => (Cert.Kernel10Ideal.Gen.dats m 0 c).arrAt 3 Cert.Kernel10Ideal.cfg0.N, fun c => (Cert.Kernel10Ideal.Gen.dats m 0 c).arrAt 4 Cert.Kernel10Ideal.cfg0.N, Cert.Kernel10Ideal.Value.run_blocks (F := Ideal) m g,
    (θ_run Cert.Reference10Ideal.defs _ _).mono (fun r h c => ?_) (Cert.Reference10Ideal.Value.run (F := Ideal) m' g')⟩
  obtain ⟨a, b, rest⟩ := h c
  obtain ⟨g0, g1, g2⟩ := hag c
  refine ⟨?_, ?_, rest⟩
  · refine a.trans (Eq.trans ?_ (Cert.Kernel10Ideal.Final.res3 m c _ _ (hq c) (hk c) Cert.Reference10Ideal.Chain.zed).symm)
    rw [ref40 m' c Cert.Reference10Ideal.Chain.zed, g0, g1, g2]
  · refine b.trans (Eq.trans ?_ (Cert.Kernel10Ideal.Final.res4 m c _ _ (hq c) (hk c) Cert.Reference10Ideal.Chain.zed).symm)
    rw [ref41 m' c Cert.Reference10Ideal.Chain.zed, g0, g1, g2]

end Cert.Value10
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Final
public import proofs.«01_k».proof.Proof.Pre
public import proofs.«01_k».proof.Proof.M2
public import proofs.«01_k».proof.Proof.M3
public import proofs.«01_k».proof.Proof.M4
public import proofs.«01_k».proof.Proof.M5
public import proofs.«01_k».proof.Proof.M6
public import proofs.«01_k».proof.Proof.M7
public import proofs.«01_k».proof.Proof.M8
public import proofs.«01_k».proof.Proof.M9
public import proofs.«01_k».proof.Proof.M10
public import Idealize.ShloMosaic.Adequacy
public import Idealize.ShloMosaic.Init

@[expose] public section

noncomputable section

namespace Cert.Proof

open Idealize.ShloMosaic Idealize.SL.Sem

/-- The three gradients the reference computes, as functions of the arguments. -/
theorem ref121 (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v121 (F := Ideal) m c = Cert.ReferenceIdeal.Chain.rv121
      (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) := rfl
theorem ref122 (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v122 (F := Ideal) m c = Cert.ReferenceIdeal.Chain.rv122
      (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) := rfl
theorem ref123 (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v123 (F := Ideal) m c = Cert.ReferenceIdeal.Chain.rv123
      (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) := rfl

/-- On arguments without infinities the kernel and the reference end with the same three gradients. -/
theorem value : Cert.algebraic_KernelIdeal_ReferenceIdeal_pre_finite (hKernelIdeal := Cert.KernelIdeal.Gen.facts)
    (hReferenceIdeal := Cert.ReferenceIdeal.Gen.facts) (hPre_finite := Cert.Pre.facts) := by
  intro m g m' g' hpre hag
  have fin := fun c => hpre c
  have e6 := fun c => Cert.KernelIdeal.Final.res6 m c _ _ _ _ (Cert.Pre.real_at _ _ (fin c).1) (Cert.Pre.real_at _ _ (fin c).2.1)
    (Cert.Pre.real_at _ _ (fin c).2.2.1) (Cert.Pre.real_at _ _ (fin c).2.2.2)
  have e7 := fun c => Cert.KernelIdeal.Final.res7 m c _ _ _ _ (Cert.Pre.real_at _ _ (fin c).1) (Cert.Pre.real_at _ _ (fin c).2.1)
    (Cert.Pre.real_at _ _ (fin c).2.2.1) (Cert.Pre.real_at _ _ (fin c).2.2.2)
  have e8 := fun c => Cert.KernelIdeal.Final.res8 m c _ _ _ _ (Cert.Pre.real_at _ _ (fin c).1) (Cert.Pre.real_at _ _ (fin c).2.1)
    (Cert.Pre.real_at _ _ (fin c).2.2.1) (Cert.Pre.real_at _ _ (fin c).2.2.2)
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks (F := Ideal) m g,
    (θ_run Cert.ReferenceIdeal.defs _ _).mono (fun r h c => ?_) (Cert.ReferenceIdeal.Value.run (F := Ideal) m' g')⟩
  obtain ⟨a, b, d, rest⟩ := h c
  obtain ⟨g0, g1, g2, g3⟩ := hag c
  refine ⟨?_, ?_, ?_, rest⟩
  · refine a.trans (((ref123 m' c).trans ?_).trans (e6 c).symm)
    rw [g0, g1, g2, g3]
  · refine b.trans (((ref122 m' c).trans ?_).trans (e7 c).symm)
    rw [g0, g1, g2, g3]
  · refine d.trans (((ref121 m' c).trans ?_).trans (e8 c).symm)
    rw [g0, g1, g2, g3]

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Pre.facts,
  Cert.Value4.facts,
  Cert.Value10.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2.2.2, Idealize.ShloMosaic.sem_eq_zero_of_no_sems (by decide) r.2⟩) (Cert.ReferenceIdeal.Value.run (F := Ideal) m ρ),
  fun m ρ _ => (θ_run Cert.ReferenceIdeal.defs _ _).mono
    (fun r h => ⟨fun c => (h c).2.2.2, Idealize.ShloMosaic.sem_eq_zero_of_no_sems (by decide) r.2⟩) (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2, Idealize.ShloMosaic.sem_eq_zero_of_no_sems (by decide) r.2⟩) (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2.2, Idealize.ShloMosaic.sem_eq_zero_of_no_sems (by decide) r.2⟩) (Cert.Reference3Ideal.Value.run (F := Ideal) m ρ),
  fun m ρ _ => Cert.Kernel4.Gen.frame m ρ,
  fun m ρ _ => Cert.Kernel4Ideal.Gen.frame m ρ,
  fun m ρ _ => Cert.Kernel4Ideal.Gen.frame m ρ,
  fun m ρ _ => (θ_run Cert.Reference4Ideal.defs _ _).mono
    (fun r h => ⟨fun c => (h c).2.2, Idealize.ShloMosaic.sem_eq_zero_of_no_sems (by decide) r.2⟩) (Cert.Reference4Ideal.Value.run (F := Ideal) m ρ),
  fun m ρ _ => (θ_run Cert.Reference4Ideal.defs _ _).mono
    (fun r h => ⟨fun c => (h c).2.2, Idealize.ShloMosaic.sem_eq_zero_of_no_sems (by decide) r.2⟩) (Cert.Reference4Ideal.Value.run (F := Ideal) m ρ),
  fun m ρ _ => Cert.Kernel5.Gen.frame m ρ,
  fun m ρ _ => Cert.Kernel5Ideal.Gen.frame m ρ,
  fun m ρ _ => (θ_run Cert.Reference5Ideal.defs _ _).mono
    (fun r h => ⟨fun c => (h c).2, Idealize.ShloMosaic.sem_eq_zero_of_no_sems (by decide) r.2⟩) (Cert.Reference5Ideal.Value.run (F := Ideal) m ρ),
  fun m ρ _ => Cert.Kernel6.Gen.frame m ρ,
  fun m ρ _ => Cert.Kernel6Ideal.Gen.frame m ρ,
  fun m ρ _ => (θ_run Cert.Reference6Ideal.defs _ _).mono
    (fun r h => ⟨fun c => (h c).2.2, Idealize.ShloMosaic.sem_eq_zero_of_no_sems (by decide) r.2⟩) (Cert.Reference6Ideal.Value.run (F := Ideal) m ρ),
  fun m ρ _ => Cert.Kernel7.Gen.frame m ρ,
  fun m ρ _ => Cert.Kernel7Ideal.Gen.frame m ρ,
  fun m ρ _ => (θ_run Cert.Reference7Ideal.defs _ _).mono
    (fun r h => ⟨fun c => (h c).2, Idealize.ShloMosaic.sem_eq_zero_of_no_sems (by decide) r.2⟩) (Cert.Reference7Ideal.Value.run (F := Ideal) m ρ),
  fun m ρ _ => Cert.Kernel8.Gen.frame m ρ,
  fun m ρ _ => Cert.Kernel8Ideal.Gen.frame m ρ,
  fun m ρ _ => (θ_run Cert.Reference8Ideal.defs _ _).mono
    (fun r h => ⟨fun c => (h c).2, Idealize.ShloMosaic.sem_eq_zero_of_no_sems (by decide) r.2⟩) (Cert.Reference8Ideal.Value.run (F := Ideal) m ρ),
  fun m ρ _ => Cert.Kernel9.Gen.frame m ρ,
  fun m ρ _ => Cert.Kernel9Ideal.Gen.frame m ρ,
  fun m ρ _ => (θ_run Cert.Reference9Ideal.defs _ _).mono
    (fun r h => ⟨fun c => (h c).2.2.2, Idealize.ShloMosaic.sem_eq_zero_of_no_sems (by decide) r.2⟩) (Cert.Reference9Ideal.Value.run (F := Ideal) m ρ),
  fun m ρ _ => Cert.Kernel10.Gen.frame m ρ,
  fun m ρ _ => Cert.Kernel10Ideal.Gen.frame m ρ,
  fun m ρ _ => Cert.Kernel10Ideal.Gen.frame m ρ,
  fun m ρ _ => (θ_run Cert.Reference10Ideal.defs _ _).mono
    (fun r h => ⟨fun c => (h c).2.2, Idealize.ShloMosaic.sem_eq_zero_of_no_sems (by decide) r.2⟩) (Cert.Reference10Ideal.Value.run (F := Ideal) m ρ),
  fun m ρ _ => (θ_run Cert.Reference10Ideal.defs _ _).mono
    (fun r h => ⟨fun c => (h c).2.2, Idealize.ShloMosaic.sem_eq_zero_of_no_sems (by decide) r.2⟩) (Cert.Reference10Ideal.Value.run (F := Ideal) m ρ),
  trivial,
  value,
  trivial,
  Cert.Value2.value,
  trivial,
  Cert.Value3.value,
  trivial,
  Cert.Value4.value,
  trivial,
  Cert.Value5.value,
  trivial,
  Cert.Value6.value,
  trivial,
  Cert.Value7.value,
  trivial,
  Cert.Value8.value,
  trivial,
  Cert.Value9.value,
  trivial,
  Cert.Value10.value⟩

end Cert.Proof

end
